-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_scheduled : Cert.Pre_scheduled.Facts] (m : (ℓ : Loc Cert.Kernel4.nD Cert.Kernel4.τ Cert.Kernel4.sig) → Buf (Elt Bits) ℓ) : Prop :=
  ∀ c : Dev Cert.Kernel4.nD,
    (Cert.Pre_scheduled.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_scheduled : Cert.Pre_scheduled.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_scheduled.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_scheduled [hPre_scheduled : Cert.Pre_scheduled.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_scheduled.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 [hPre_scheduled_up : Cert.Pre_scheduled_up.Facts] (m : (ℓ : Loc Cert.Kernel5.nD Cert.Kernel5.τ Cert.Kernel5.sig) → Buf (Elt Bits) ℓ) : Prop :=
  ∀ c : Dev Cert.Kernel5.nD,
    (Cert.Pre_scheduled_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_scheduled_up : Cert.Pre_scheduled_up.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_scheduled_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_scheduled_up [hPre_scheduled_up : Cert.Pre_scheduled_up.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_scheduled_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] [hPre_scheduled : Cert.Pre_scheduled.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_scheduled : Cert.Pre_scheduled.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_scheduled [hReference4Ideal : Cert.Reference4Ideal.Facts] [hPre_scheduled : Cert.Pre_scheduled.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_scheduled m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] [hPre_scheduled_up : Cert.Pre_scheduled_up.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_scheduled_up : Cert.Pre_scheduled_up.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_scheduled_up [hReference5Ideal : Cert.Reference5Ideal.Facts] [hPre_scheduled_up : Cert.Pre_scheduled_up.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_scheduled_up m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v67)) (v1 : (c : Dev Cert.Kernel2Ideal.nD) → Buf (Elt Ideal) ((c.tc : Thread Cert.Kernel2Ideal.nD Cert.Kernel2Ideal.τ).loc Cert.Kernel2Ideal.main_v68)) (v2 : (c : Dev Cert.Kernel2Ideal.nD) → Buf (Elt Ideal) ((c.tc : Thread Cert.Kernel2Ideal.nD Cert.Kernel2Ideal.τ).loc Cert.Kernel2Ideal.main_v69)) (v3 : (c : Dev Cert.Kernel2Ideal.nD) → Buf (Elt Ideal) ((c.tc : Thread Cert.Kernel2Ideal.nD Cert.Kernel2Ideal.τ).loc Cert.Kernel2Ideal.main_v70)) (v4 : (c : Dev Cert.Kernel2Ideal.nD) → Buf (Elt Ideal) ((c.tc : Thread Cert.Kernel2Ideal.nD Cert.Kernel2Ideal.τ).loc Cert.Kernel2Ideal.main_v71)) (v5 : (c : Dev Cert.Kernel2Ideal.nD) → Buf (Elt Ideal) ((c.tc : Thread Cert.Kernel2Ideal.nD Cert.Kernel2Ideal.τ).loc Cert.Kernel2Ideal.main_v72)) (v6 : (c : Dev Cert.Kernel2Ideal.nD) → Buf (Elt Ideal) ((c.tc : Thread Cert.Kernel2Ideal.nD Cert.Kernel2Ideal.τ).loc Cert.Kernel2Ideal.main_v73)) (v7 : (c : Dev Cert.Kernel2Ideal.nD) → Buf (Elt Ideal) ((c.tc : Thread Cert.Kernel2Ideal.nD Cert.Kernel2Ideal.τ).loc Cert.Kernel2Ideal.main_v18)) (v8 : (c : Dev Cert.Kernel2Ideal.nD) → Buf (Elt Ideal) ((c.tc : Thread Cert.Kernel2Ideal.nD Cert.Kernel2Ideal.τ).loc Cert.Kernel2Ideal.main_v76)) (v9 : (c : Dev Cert.Kernel2Ideal.nD) → Buf (Elt Ideal) ((c.tc : Thread Cert.Kernel2Ideal.nD Cert.Kernel2Ideal.τ).loc Cert.Kernel2Ideal.main_v79)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v67) = v0 c
          ∧ r.2.mem ((c.tc : Thread Cert.Kernel2Ideal.nD Cert.Kernel2Ideal.τ).loc Cert.Kernel2Ideal.main_v68) = v1 c
          ∧ r.2.mem ((c.tc : Thread Cert.Kernel2Ideal.nD Cert.Kernel2Ideal.τ).loc Cert.Kernel2Ideal.main_v69) = v2 c
          ∧ r.2.mem ((c.tc : Thread Cert.Kernel2Ideal.nD Cert.Kernel2Ideal.τ).loc Cert.Kernel2Ideal.main_v70) = v3 c
          ∧ r.2.mem ((c.tc : Thread Cert.Kernel2Ideal.nD Cert.Kernel2Ideal.τ).loc Cert.Kernel2Ideal.main_v71) = v4 c
          ∧ r.2.mem ((c.tc : Thread Cert.Kernel2Ideal.nD Cert.Kernel2Ideal.τ).loc Cert.Kernel2Ideal.main_v72) = v5 c
          ∧ r.2.mem ((c.tc : Thread Cert.Kernel2Ideal.nD Cert.Kernel2Ideal.τ).loc Cert.Kernel2Ideal.main_v73) = v6 c
          ∧ r.2.mem ((c.tc : Thread Cert.Kernel2Ideal.nD Cert.Kernel2Ideal.τ).loc Cert.Kernel2Ideal.main_v18) = v7 c
          ∧ r.2.mem ((c.tc : Thread Cert.Kernel2Ideal.nD Cert.Kernel2Ideal.τ).loc Cert.Kernel2Ideal.main_v76) = v8 c
          ∧ r.2.mem ((c.tc : Thread Cert.Kernel2Ideal.nD Cert.Kernel2Ideal.τ).loc Cert.Kernel2Ideal.main_v79) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_v51) = v3 c
          ∧ r.2.mem ((c.tc : Thread Cert.Reference2Ideal.nD Cert.Reference2Ideal.τ).loc Cert.Reference2Ideal.main_v35) = v4 c
          ∧ r.2.mem ((c.tc : Thread Cert.Reference2Ideal.nD Cert.Reference2Ideal.τ).loc Cert.Reference2Ideal.main_v41) = v5 c
          ∧ r.2.mem ((c.tc : Thread Cert.Reference2Ideal.nD Cert.Reference2Ideal.τ).loc Cert.Reference2Ideal.main_v47) = v6 c
          ∧ r.2.mem ((c.tc : Thread Cert.Reference2Ideal.nD Cert.Reference2Ideal.τ).loc Cert.Reference2Ideal.main_v78) = v7 c
          ∧ r.2.mem ((c.tc : Thread Cert.Reference2Ideal.nD Cert.Reference2Ideal.τ).loc Cert.Reference2Ideal.main_v81) = v8 c
          ∧ r.2.mem ((c.tc : Thread Cert.Reference2Ideal.nD Cert.Reference2Ideal.τ).loc Cert.Reference2Ideal.main_v84) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v22_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] [hPre_scheduled : Cert.Pre_scheduled.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] [hPre_scheduled_up : Cert.Pre_scheduled_up.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_scheduled : Cert.Pre_scheduled.Facts) (hPre_scheduled_up : Cert.Pre_scheduled_up.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_scheduled := hPre_scheduled)
    ∧ quiescent_Kernel4Ideal (hKernel4Ideal := hKernel4Ideal) (hPre_scheduled := hPre_scheduled)
    ∧ quiescent_Reference4Ideal (hReference4Ideal := hReference4Ideal)
    ∧ quiescent_Reference4Ideal_pre_scheduled (hReference4Ideal := hReference4Ideal) (hPre_scheduled := hPre_scheduled)
    ∧ quiescent_Kernel5 (hKernel5 := hKernel5) (hPre_scheduled_up := hPre_scheduled_up)
    ∧ quiescent_Kernel5Ideal (hKernel5Ideal := hKernel5Ideal) (hPre_scheduled_up := hPre_scheduled_up)
    ∧ quiescent_Reference5Ideal (hReference5Ideal := hReference5Ideal)
    ∧ quiescent_Reference5Ideal_pre_scheduled_up (hReference5Ideal := hReference5Ideal) (hPre_scheduled_up := hPre_scheduled_up)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_scheduled := hPre_scheduled)
    ∧ preserves_Kernel5_Kernel5Ideal
    ∧ algebraic_Kernel5Ideal_Reference5Ideal (hKernel5Ideal := hKernel5Ideal) (hReference5Ideal := hReference5Ideal) (hPre_scheduled_up := hPre_scheduled_up)
-- ==== Pre_scheduled.lean ====
abbrev S43008x2048 : Shape := ⟨2, ![43008, 2048]⟩
abbrev S2352 : Shape := ⟨1, ![2352]⟩
abbrev S168 : Shape := ⟨1, ![168]⟩
abbrev S32x2048x2048 : Shape := ⟨3, ![32, 2048, 2048]⟩
abbrev S32x1x2048 : Shape := ⟨3, ![32, 1, 2048]⟩
abbrev S336x7 : Shape := ⟨2, ![336, 7]⟩
abbrev S336 : Shape := ⟨1, ![336]⟩
abbrev S_ : Shape := ⟨0, ![]⟩
abbrev S335x7 : Shape := ⟨2, ![335, 7]⟩
abbrev S335x1 : Shape := ⟨2, ![335, 1]⟩
abbrev S335 : Shape := ⟨1, ![335]⟩
abbrev S1x1 : Shape := ⟨2, ![1, 1]⟩

class Facts : Prop where
  shapeCasts_S2352_S336x7 : S2352.ShapeCasts S336x7
  concatenates_S168_S168_S336_d0 : Shape.Concatenates [S168, S168] S336 0
  bcast_S_S336 : S_.BroadcastsInDim S336 (![] : Fin 0 → Fin S336.rank)
  slices_S336x7_S335x7_0_0 : S336x7.Slices ![0, 0] S335x7
  slices_S336x7_S335x7_1_0 : S336x7.Slices ![1, 0] S335x7
  slices_S335x7_S335x1_0_0 : S335x7.Slices ![0, 0] S335x1
  shapeCasts_S335x1_S335 : S335x1.ShapeCasts S335
  bcast_S_S335 : S_.BroadcastsInDim S335 (![] : Fin 0 → Fin S335.rank)
  slices_S336_S335_0 : S336.Slices ![0] S335
  slices_S336_S335_1 : S336.Slices ![1] S335
  slices_S335x7_S335x1_0_2 : S335x7.Slices ![0, 2] S335x1
  slices_S335x7_S335x1_0_3 : S335x7.Slices ![0, 3] S335x1
  slices_S336x7_S1x1_0_0 : S336x7.Slices ![0, 0] S1x1
  shapeCasts_S1x1_S_ : S1x1.ShapeCasts S_
  slices_S336x7_S1x1_0_1 : S336x7.Slices ![0, 1] S1x1
  slices_S336x7_S1x1_335_4 : S336x7.Slices ![335, 4] S1x1
  slices_S335x7_S335x1_0_1 : S335x7.Slices ![0, 1] S335x1
  slices_S335x7_S335x1_0_4 : S335x7.Slices ![0, 4] S335x1
  slices_S335x7_S335x1_0_5 : S335x7.Slices ![0, 5] S335x1
  slices_S335x7_S335x1_0_6 : S335x7.Slices ![0, 6] S335x1

variable [Facts]

def fn_where {F : FTy → Type} [FloatOps F] (arg0 : IVec S336 1) (arg1 : IVec S_ 32) (arg2 : IVec S_ 32) : IVec S336 32 :=
  let v0 : IVec S336 32 := broadcastInDim S336 ![] bcast_S_S336 arg1
  let v1 : IVec S336 32 := broadcastInDim S336 ![] bcast_S_S336 arg2
  let v2 : IVec S336 32 := select arg0 v0 v1
  v2

def fn_where_0 {F : FTy → Type} [FloatOps F] (arg0 : IVec S335 1) (arg1 : IVec S335 32) (arg2 : IVec S335 32) : IVec S335 32 :=
  let v0 : IVec S335 32 := select arg0 arg1 arg2
  v0

def fn_where_1 {F : FTy → Type} [FloatOps F] (arg0 : IVec S335 1) (arg1 : IVec S_ 32) (arg2 : IVec S335 32) : IVec S335 32 :=
  let v0 : IVec S_ 32 := id arg1
  let v1 : IVec S335 32 := broadcastInDim S335 ![] bcast_S_S335 v0
  let v2 : IVec S335 32 := select arg0 v1 arg2
  v2

def fn_part5 {F : FTy → Type} [FloatOps F] (main_v6 : IVec S335x7 32) (main_v7 : IVec S335x7 32) (main_v11 : IVec S335 1) (main_v100 : IVec S335 1) (main_v102 : IVec S335 32) (main_v104 : IVec S335 32) (main_v105 : IVec S335x1 32) : IVec S335 1 :=
  let main_v106 : IVec S335 32 := shapeCast S335 main_v105 shapeCasts_S335x1_S335
  let main_v107 : IVec S335 32 := fn_where_0 (F := F) main_v11 main_v104 main_v106
  let main_v108 : IVec S335 1 := cmpi .eq main_v102 main_v107
  let main_v109 : IVec S335 1 := andi main_v100 main_v108
  let main_v110 : IVec S335x1 32 := (extractStridedSlice S335x1 ![0, 6] · slices_S335x7_S335x1_0_6) main_v6
  let main_v111 : IVec S335 32 := shapeCast S335 main_v110 shapeCasts_S335x1_S335
  let main_v112 : IVec S335x1 32 := (extractStridedSlice S335x1 ![0, 3] · slices_S335x7_S335x1_0_3) main_v7
  let main_v113 : IVec S335 32 := shapeCast S335 main_v112 shapeCasts_S335x1_S335
  let main_v114 : IVec S335x1 32 := (extractStridedSlice S335x1 ![0, 6] · slices_S335x7_S335x1_0_6) main_v7
  let main_v115 : IVec S335 32 := shapeCast S335 main_v114 shapeCasts_S335x1_S335
  let main_v116 : IVec S335 32 := fn_where_0 (F := F) main_v11 main_v113 main_v115
  let main_v117 : IVec S335 1 := cmpi .eq main_v111 main_v116
  let main_v118 : IVec S335 1 := andi main_v109 main_v117
  main_v118

def fn_part4 {F : FTy → Type} [FloatOps F] (main_v6 : IVec S335x7 32) (main_v7 : IVec S335x7 32) (main_v11 : IVec S335 1) (main_v80 : IVec S335 1) (main_v82 : IVec S335 32) : IVec S335 1 :=
  let main_v83 : IVec S335x1 32 := (extractStridedSlice S335x1 ![0, 2] · slices_S335x7_S335x1_0_2) main_v6
  let main_v84 : IVec S335 32 := shapeCast S335 main_v83 shapeCasts_S335x1_S335
  let main_v85 : IVec S335 1 := cmpi .eq main_v82 main_v84
  let main_v86 : IVec S335x1 32 := (extractStridedSlice S335x1 ![0, 3] · slices_S335x7_S335x1_0_3) main_v7
  let main_v87 : IVec S335 32 := shapeCast S335 main_v86 shapeCasts_S335x1_S335
  let main_v88 : IVec S335x1 32 := (extractStridedSlice S335x1 ![0, 3] · slices_S335x7_S335x1_0_3) main_v6
  let main_v89 : IVec S335 32 := shapeCast S335 main_v88 shapeCasts_S335x1_S335
  let main_v90 : IVec S335 1 := cmpi .eq main_v87 main_v89
  let main_v91 : IVec S335 1 := andi main_v85 main_v90
  let main_v92 : IVec S335 1 := ori main_v11 main_v91
  let main_v93 : IVec S335 1 := andi main_v80 main_v92
  let main_v94 : IVec S335x1 32 := (extractStridedSlice S335x1 ![0, 4] · slices_S335x7_S335x1_0_4) main_v6
  let main_v95 : IVec S335 32 := shapeCast S335 main_v94 shapeCasts_S335x1_S335
  let main_v96 : IVec S335x1 32 := (extractStridedSlice S335x1 ![0, 4] · slices_S335x7_S335x1_0_4) main_v7
  let main_v97 : IVec S335 32 := shapeCast S335 main_v96 shapeCasts_S335x1_S335
  let main_c_12 : IVec S_ 32 := constantI S_ 32 1#32
  let main_v98 : IVec S335 32 := fn_where_1 (F := F) main_v11 main_c_12 main_v97
  let main_v99 : IVec S335 1 := cmpi .eq main_v95 main_v98
  let main_v100 : IVec S335 1 := andi main_v93 main_v99
  let main_v101 : IVec S335x1 32 := (extractStridedSlice S335x1 ![0, 5] · slices_S335x7_S335x1_0_5) main_v6
  let main_v102 : IVec S335 32 := shapeCast S335 main_v101 shapeCasts_S335x1_S335
  let main_v103 : IVec S335x1 32 := (extractStridedSlice S335x1 ![0, 2] · slices_S335x7_S335x1_0_2) main_v7
  let main_v104 : IVec S335 32 := shapeCast S335 main_v103 shapeCasts_S335x1_S335
  let main_v105 : IVec S335x1 32 := (extractStridedSlice S335x1 ![0, 5] · slices_S335x7_S335x1_0_5) main_v7
  fn_part5 (F := F) main_v6 main_v7 main_v11 main_v100 main_v102 main_v104 main_v105

def fn_part3 {F : FTy → Type} [FloatOps F] (main_v6 : IVec S335x7 32) (main_v7 : IVec S335x7 32) (main_v11 : IVec S335 1) (main_v58 : IVec S335 1) (main_v60 : IVec S_ 32) (main_c_9 : IVec S_ 32) : IVec S335 1 :=
  let main_v61 : IVec S_ 1 := cmpi .eq main_v60 main_c_9
  let main_v62 : IVec S335 1 := broadcastInDim S335 ![] bcast_S_S335 main_v61
  let main_v63 : IVec S335 1 := andi main_v58 main_v62
  let main_v64 : IVec S335x1 32 := (extractStridedSlice S335x1 ![0, 0] · slices_S335x7_S335x1_0_0) main_v7
  let main_v65 : IVec S335 32 := shapeCast S335 main_v64 shapeCasts_S335x1_S335
  let main_c_10 : IVec S_ 32 := constantI S_ 32 0#32
  let main_v66 : IVec S335 32 := broadcastInDim S335 ![] bcast_S_S335 main_c_10
  let main_v67 : IVec S335 1 := cmpi .eq main_v65 main_v66
  let main_v68 : IVec S335 1 := ori main_v11 main_v67
  let main_v69 : IVec S335 1 := andi main_v63 main_v68
  let main_v70 : IVec S335x1 32 := (extractStridedSlice S335x1 ![0, 1] · slices_S335x7_S335x1_0_1) main_v7
  let main_v71 : IVec S335 32 := shapeCast S335 main_v70 shapeCasts_S335x1_S335
  let main_v72 : IVec S335x1 32 := (extractStridedSlice S335x1 ![0, 1] · slices_S335x7_S335x1_0_1) main_v6
  let main_v73 : IVec S335 32 := shapeCast S335 main_v72 shapeCasts_S335x1_S335
  let main_c_11 : IVec S_ 32 := constantI S_ 32 1#32
  let main_v74 : IVec S335 32 := broadcastInDim S335 ![] bcast_S_S335 main_c_11
  let main_v75 : IVec S335 32 := subi main_v74 main_v73
  let main_v76 : IVec S335x1 32 := (extractStridedSlice S335x1 ![0, 1] · slices_S335x7_S335x1_0_1) main_v6
  let main_v77 : IVec S335 32 := shapeCast S335 main_v76 shapeCasts_S335x1_S335
  let main_v78 : IVec S335 32 := fn_where_0 (F := F) main_v11 main_v75 main_v77
  let main_v79 : IVec S335 1 := cmpi .eq main_v71 main_v78
  let main_v80 : IVec S335 1 := andi main_v69 main_v79
  let main_v81 : IVec S335x1 32 := (extractStridedSlice S335x1 ![0, 2] · slices_S335x7_S335x1_0_2) main_v7
  let main_v82 : IVec S335 32 := shapeCast S335 main_v81 shapeCasts_S335x1_S335
  fn_part4 (F := F) main_v6 main_v7 main_v11 main_v80 main_v82

def fn_part2 {F : FTy → Type} [FloatOps F] (main_v0 : IVec S336x7 32) (main_v5 : IVec S336 32) (main_v6 : IVec S335x7 32) (main_v7 : IVec S335x7 32) (main_v11 : IVec S335 1) (main_v36 : IVec S335 1) (main_v38 : IVec S335 32) (main_v39 : IVec S335 32) : IVec S335 1 :=
  let main_v40 : IVec S335 32 := id main_v39
  let main_v41 : IVec S335 1 := cmpi .eq main_v38 main_v40
  let main_v42 : IVec S335 1 := andi main_v36 main_v41
  let main_v43 : IVec S335x1 32 := (extractStridedSlice S335x1 ![0, 3] · slices_S335x7_S335x1_0_3) main_v7
  let main_v44 : IVec S335 32 := shapeCast S335 main_v43 shapeCasts_S335x1_S335
  let main_v45 : IVec S335 32 := (extractStridedSlice S335 ![1] · slices_S336_S335_1) main_v5
  let main_v46 : IVec S335 32 := id main_v45
  let main_v47 : IVec S335 1 := cmpi .eq main_v44 main_v46
  let main_v48 : IVec S335 1 := andi main_v42 main_v47
  let main_v49 : IVec S1x1 32 := (extractStridedSlice S1x1 ![0, 0] · slices_S336x7_S1x1_0_0) main_v0
  let main_v50 : IVec S_ 32 := shapeCast S_ main_v49 shapeCasts_S1x1_S_
  let main_c_7 : IVec S_ 32 := constantI S_ 32 1#32
  let main_v51 : IVec S_ 1 := cmpi .eq main_v50 main_c_7
  let main_v52 : IVec S335 1 := broadcastInDim S335 ![] bcast_S_S335 main_v51
  let main_v53 : IVec S335 1 := andi main_v48 main_v52
  let main_v54 : IVec S1x1 32 := (extractStridedSlice S1x1 ![0, 1] · slices_S336x7_S1x1_0_1) main_v0
  let main_v55 : IVec S_ 32 := shapeCast S_ main_v54 shapeCasts_S1x1_S_
  let main_c_8 : IVec S_ 32 := constantI S_ 32 0#32
  let main_v56 : IVec S_ 1 := cmpi .eq main_v55 main_c_8
  let main_v57 : IVec S335 1 := broadcastInDim S335 ![] bcast_S_S335 main_v56
  let main_v58 : IVec S335 1 := andi main_v53 main_v57
  let main_v59 : IVec S1x1 32 := (extractStridedSlice S1x1 ![335, 4] · slices_S336x7_S1x1_335_4) main_v0
  let main_v60 : IVec S_ 32 := shapeCast S_ main_v59 shapeCasts_S1x1_S_
  let main_c_9 : IVec S_ 32 := constantI S_ 32 0#32
  fn_part3 (F := F) main_v6 main_v7 main_v11 main_v58 main_v60 main_c_9

def fn_part1 {F : FTy → Type} [FloatOps F] (main_v0 : IVec S336x7 32) (main_v1 : IVec S336 32) (main_v5 : IVec S336 32) (main_v6 : IVec S335x7 32) (main_v7 : IVec S335x7 32) (main_v11 : IVec S335 1) (main_v14 : IVec S335 1) (main_v17 : IVec S335 1) : IVec S335 1 :=
  let main_v18 : IVec S335 1 := andi main_v14 main_v17
  let main_v19 : IVec S335 32 := (extractStridedSlice S335 ![1] · slices_S336_S335_1) main_v1
  let main_c_5 : IVec S_ 32 := constantI S_ 32 0#32
  let main_v20 : IVec S335 32 := broadcastInDim S335 ![] bcast_S_S335 main_c_5
  let main_v21 : IVec S335 1 := cmpi .sge main_v19 main_v20
  let main_v22 : IVec S335 1 := andi main_v18 main_v21
  let main_v23 : IVec S335 32 := (extractStridedSlice S335 ![1] · slices_S336_S335_1) main_v1
  let main_c_6 : IVec S_ 32 := constantI S_ 32 32#32
  let main_v24 : IVec S335 32 := broadcastInDim S335 ![] bcast_S_S335 main_c_6
  let main_v25 : IVec S335 1 := cmpi .slt main_v23 main_v24
  let main_v26 : IVec S335 1 := andi main_v22 main_v25
  let main_v27 : IVec S335x1 32 := (extractStridedSlice S335x1 ![0, 2] · slices_S335x7_S335x1_0_2) main_v6
  let main_v28 : IVec S335 32 := shapeCast S335 main_v27 shapeCasts_S335x1_S335
  let main_v29 : IVec S335 32 := (extractStridedSlice S335 ![0] · slices_S336_S335_0) main_v1
  let main_v30 : IVec S335 1 := cmpi .eq main_v28 main_v29
  let main_v31 : IVec S335 1 := andi main_v26 main_v30
  let main_v32 : IVec S335x1 32 := (extractStridedSlice S335x1 ![0, 2] · slices_S335x7_S335x1_0_2) main_v7
  let main_v33 : IVec S335 32 := shapeCast S335 main_v32 shapeCasts_S335x1_S335
  let main_v34 : IVec S335 32 := (extractStridedSlice S335 ![1] · slices_S336_S335_1) main_v1
  let main_v35 : IVec S335 1 := cmpi .eq main_v33 main_v34
  let main_v36 : IVec S335 1 := andi main_v31 main_v35
  let main_v37 : IVec S335x1 32 := (extractStridedSlice S335x1 ![0, 3] · slices_S335x7_S335x1_0_3) main_v6
  let main_v38 : IVec S335 32 := shapeCast S335 main_v37 shapeCasts_S335x1_S335
  let main_v39 : IVec S335 32 := (extractStridedSlice S335 ![0] · slices_S336_S335_0) main_v5
  fn_part2 (F := F) main_v0 main_v5 main_v6 main_v7 main_v11 main_v36 main_v38 main_v39

def fn {F : FTy → Type} [FloatOps F] (main_arg0 : FVec F S43008x2048 .bf16) (main_arg1 : IVec S2352 32) (main_arg2 : IVec S168 32) (main_arg3 : IVec S168 32) (main_arg4 : FVec F S32x2048x2048 .f32) (main_arg5 : FVec F S32x1x2048 .f32) : IVec S335 1 :=
  let main_v0 : IVec S336x7 32 := shapeCast S336x7 main_arg1 shapeCasts_S2352_S336x7
  let main_v1 : IVec S336 32 := (fun a b => concatenate S336 0 [⟨S168, a⟩, ⟨S168, b⟩] concatenates_S168_S168_S336_d0) main_arg2 main_arg2
  let main_v2 : IVec S336 32 := iotaInDim S336 32 0
  let main_c : IVec S_ 32 := constantI S_ 32 168#32
  let main_v3 : IVec S336 32 := broadcastInDim S336 ![] bcast_S_S336 main_c
  let main_v4 : IVec S336 1 := cmpi .slt main_v2 main_v3
  let main_c_0 : IVec S_ 32 := constantI S_ 32 0#32
  let main_c_1 : IVec S_ 32 := constantI S_ 32 1024#32
  let main_v5 : IVec S336 32 := fn_where (F := F) main_v4 main_c_0 main_c_1
  let main_v6 : IVec S335x7 32 := (extractStridedSlice S335x7 ![0, 0] · slices_S336x7_S335x7_0_0) main_v0
  let main_v7 : IVec S335x7 32 := (extractStridedSlice S335x7 ![1, 0] · slices_S336x7_S335x7_1_0) main_v0
  let main_v8 : IVec S335x1 32 := (extractStridedSlice S335x1 ![0, 0] · slices_S335x7_S335x1_0_0) main_v7
  let main_v9 : IVec S335 32 := shapeCast S335 main_v8 shapeCasts_S335x1_S335
  let main_c_2 : IVec S_ 32 := constantI S_ 32 1#32
  let main_v10 : IVec S335 32 := broadcastInDim S335 ![] bcast_S_S335 main_c_2
  let main_v11 : IVec S335 1 := cmpi .eq main_v9 main_v10
  let main_v12 : IVec S335 32 := (extractStridedSlice S335 ![0] · slices_S336_S335_0) main_v1
  let main_c_3 : IVec S_ 32 := constantI S_ 32 0#32
  let main_v13 : IVec S335 32 := broadcastInDim S335 ![] bcast_S_S335 main_c_3
  let main_v14 : IVec S335 1 := cmpi .sge main_v12 main_v13
  let main_v15 : IVec S335 32 := (extractStridedSlice S335 ![0] · slices_S336_S335_0) main_v1
  let main_c_4 : IVec S_ 32 := constantI S_ 32 32#32
  let main_v16 : IVec S335 32 := broadcastInDim S335 ![] bcast_S_S335 main_c_4
  let main_v17 : IVec S335 1 := cmpi .slt main_v15 main_v16
  fn_part1 (F := F) main_v0 main_v1 main_v5 main_v6 main_v7 main_v11 main_v14 main_v17
-- ==== Pre_scheduled_up.lean ====
abbrev S43008x2048 : Shape := ⟨2, ![43008, 2048]⟩
abbrev S2352 : Shape := ⟨1, ![2352]⟩
abbrev S168 : Shape := ⟨1, ![168]⟩
abbrev S32x2048x4096 : Shape := ⟨3, ![32, 2048, 4096]⟩
abbrev S32x1x4096 : Shape := ⟨3, ![32, 1, 4096]⟩
abbrev S336x7 : Shape := ⟨2, ![336, 7]⟩
abbrev S336 : Shape := ⟨1, ![336]⟩
abbrev S_ : Shape := ⟨0, ![]⟩
abbrev S335x7 : Shape := ⟨2, ![335, 7]⟩
abbrev S335x1 : Shape := ⟨2, ![335, 1]⟩
abbrev S335 : Shape := ⟨1, ![335]⟩
abbrev S1x1 : Shape := ⟨2, ![1, 1]⟩

class Facts : Prop where
  shapeCasts_S2352_S336x7 : S2352.ShapeCasts S336x7
  concatenates_S168_S168_S336_d0 : Shape.Concatenates [S168, S168] S336 0
  bcast_S_S336 : S_.BroadcastsInDim S336 (![] : Fin 0 → Fin S336.rank)
  slices_S336x7_S335x7_0_0 : S336x7.Slices ![0, 0] S335x7
  slices_S336x7_S335x7_1_0 : S336x7.Slices ![1, 0] S335x7
  slices_S335x7_S335x1_0_0 : S335x7.Slices ![0, 0] S335x1
  shapeCasts_S335x1_S335 : S335x1.ShapeCasts S335
  bcast_S_S335 : S_.BroadcastsInDim S335 (![] : Fin 0 → Fin S335.rank)
  slices_S336_S335_0 : S336.Slices ![0] S335
  slices_S336_S335_1 : S336.Slices ![1] S335
  slices_S335x7_S335x1_0_2 : S335x7.Slices ![0, 2] S335x1
  slices_S335x7_S335x1_0_3 : S335x7.Slices ![0, 3] S335x1
  slices_S336x7_S1x1_0_0 : S336x7.Slices ![0, 0] S1x1
  shapeCasts_S1x1_S_ : S1x1.ShapeCasts S_
  slices_S336x7_S1x1_0_1 : S336x7.Slices ![0, 1] S1x1
  slices_S336x7_S1x1_335_4 : S336x7.Slices ![335, 4] S1x1
  slices_S335x7_S335x1_0_1 : S335x7.Slices ![0, 1] S335x1
  slices_S335x7_S335x1_0_4 : S335x7.Slices ![0, 4] S335x1
  slices_S335x7_S335x1_0_5 : S335x7.Slices ![0, 5] S335x1
  slices_S335x7_S335x1_0_6 : S335x7.Slices ![0, 6] S335x1

variable [Facts]

def fn_where {F : FTy → Type} [FloatOps F] (arg0 : IVec S336 1) (arg1 : IVec S_ 32) (arg2 : IVec S_ 32) : IVec S336 32 :=
  let v0 : IVec S336 32 := broadcastInDim S336 ![] bcast_S_S336 arg1
  let v1 : IVec S336 32 := broadcastInDim S336 ![] bcast_S_S336 arg2
  let v2 : IVec S336 32 := select arg0 v0 v1
  v2

def fn_where_0 {F : FTy → Type} [FloatOps F] (arg0 : IVec S335 1) (arg1 : IVec S335 32) (arg2 : IVec S335 32) : IVec S335 32 :=
  let v0 : IVec S335 32 := select arg0 arg1 arg2
  v0

def fn_where_1 {F : FTy → Type} [FloatOps F] (arg0 : IVec S335 1) (arg1 : IVec S_ 32) (arg2 : IVec S335 32) : IVec S335 32 :=
  let v0 : IVec S_ 32 := id arg1
  let v1 : IVec S335 32 := broadcastInDim S335 ![] bcast_S_S335 v0
  let v2 : IVec S335 32 := select arg0 v1 arg2
  v2

def fn_part5 {F : FTy → Type} [FloatOps F] (main_v6 : IVec S335x7 32) (main_v7 : IVec S335x7 32) (main_v11 : IVec S335 1) (main_v100 : IVec S335 1) (main_v102 : IVec S335 32) (main_v104 : IVec S335 32) (main_v105 : IVec S335x1 32) : IVec S335 1 :=
  let main_v106 : IVec S335 32 := shapeCast S335 main_v105 shapeCasts_S335x1_S335
  let main_v107 : IVec S335 32 := fn_where_0 (F := F) main_v11 main_v104 main_v106
  let main_v108 : IVec S335 1 := cmpi .eq main_v102 main_v107
  let main_v109 : IVec S335 1 := andi main_v100 main_v108
  let main_v110 : IVec S335x1 32 := (extractStridedSlice S335x1 ![0, 6] · slices_S335x7_S335x1_0_6) main_v6
  let main_v111 : IVec S335 32 := shapeCast S335 main_v110 shapeCasts_S335x1_S335
  let main_v112 : IVec S335x1 32 := (extractStridedSlice S335x1 ![0, 3] · slices_S335x7_S335x1_0_3) main_v7
  let main_v113 : IVec S335 32 := shapeCast S335 main_v112 shapeCasts_S335x1_S335
  let main_v114 : IVec S335x1 32 := (extractStridedSlice S335x1 ![0, 6] · slices_S335x7_S335x1_0_6) main_v7
  let main_v115 : IVec S335 32 := shapeCast S335 main_v114 shapeCasts_S335x1_S335
  let main_v116 : IVec S335 32 := fn_where_0 (F := F) main_v11 main_v113 main_v115
  let main_v117 : IVec S335 1 := cmpi .eq main_v111 main_v116
  let main_v118 : IVec S335 1 := andi main_v109 main_v117
  main_v118

def fn_part4 {F : FTy → Type} [FloatOps F] (main_v6 : IVec S335x7 32) (main_v7 : IVec S335x7 32) (main_v11 : IVec S335 1) (main_v80 : IVec S335 1) (main_v82 : IVec S335 32) : IVec S335 1 :=
  let main_v83 : IVec S335x1 32 := (extractStridedSlice S335x1 ![0, 2] · slices_S335x7_S335x1_0_2) main_v6
  let main_v84 : IVec S335 32 := shapeCast S335 main_v83 shapeCasts_S335x1_S335
  let main_v85 : IVec S335 1 := cmpi .eq main_v82 main_v84
  let main_v86 : IVec S335x1 32 := (extractStridedSlice S335x1 ![0, 3] · slices_S335x7_S335x1_0_3) main_v7
  let main_v87 : IVec S335 32 := shapeCast S335 main_v86 shapeCasts_S335x1_S335
  let main_v88 : IVec S335x1 32 := (extractStridedSlice S335x1 ![0, 3] · slices_S335x7_S335x1_0_3) main_v6
  let main_v89 : IVec S335 32 := shapeCast S335 main_v88 shapeCasts_S335x1_S335
  let main_v90 : IVec S335 1 := cmpi .eq main_v87 main_v89
  let main_v91 : IVec S335 1 := andi main_v85 main_v90
  let main_v92 : IVec S335 1 := ori main_v11 main_v91
  let main_v93 : IVec S335 1 := andi main_v80 main_v92
  let main_v94 : IVec S335x1 32 := (extractStridedSlice S335x1 ![0, 4] · slices_S335x7_S335x1_0_4) main_v6
  let main_v95 : IVec S335 32 := shapeCast S335 main_v94 shapeCasts_S335x1_S335
  let main_v96 : IVec S335x1 32 := (extractStridedSlice S335x1 ![0, 4] · slices_S335x7_S335x1_0_4) main_v7
  let main_v97 : IVec S335 32 := shapeCast S335 main_v96 shapeCasts_S335x1_S335
  let main_c_12 : IVec S_ 32 := constantI S_ 32 1#32
  let main_v98 : IVec S335 32 := fn_where_1 (F := F) main_v11 main_c_12 main_v97
  let main_v99 : IVec S335 1 := cmpi .eq main_v95 main_v98
  let main_v100 : IVec S335 1 := andi main_v93 main_v99
  let main_v101 : IVec S335x1 32 := (extractStridedSlice S335x1 ![0, 5] · slices_S335x7_S335x1_0_5) main_v6
  let main_v102 : IVec S335 32 := shapeCast S335 main_v101 shapeCasts_S335x1_S335
  let main_v103 : IVec S335x1 32 := (extractStridedSlice S335x1 ![0, 2] · slices_S335x7_S335x1_0_2) main_v7
  let main_v104 : IVec S335 32 := shapeCast S335 main_v103 shapeCasts_S335x1_S335
  let main_v105 : IVec S335x1 32 := (extractStridedSlice S335x1 ![0, 5] · slices_S335x7_S335x1_0_5) main_v7
  fn_part5 (F := F) main_v6 main_v7 main_v11 main_v100 main_v102 main_v104 main_v105

def fn_part3 {F : FTy → Type} [FloatOps F] (main_v6 : IVec S335x7 32) (main_v7 : IVec S335x7 32) (main_v11 : IVec S335 1) (main_v58 : IVec S335 1) (main_v60 : IVec S_ 32) (main_c_9 : IVec S_ 32) : IVec S335 1 :=
  let main_v61 : IVec S_ 1 := cmpi .eq main_v60 main_c_9
  let main_v62 : IVec S335 1 := broadcastInDim S335 ![] bcast_S_S335 main_v61
  let main_v63 : IVec S335 1 := andi main_v58 main_v62
  let main_v64 : IVec S335x1 32 := (extractStridedSlice S335x1 ![0, 0] · slices_S335x7_S335x1_0_0) main_v7
  let main_v65 : IVec S335 32 := shapeCast S335 main_v64 shapeCasts_S335x1_S335
  let main_c_10 : IVec S_ 32 := constantI S_ 32 0#32
  let main_v66 : IVec S335 32 := broadcastInDim S335 ![] bcast_S_S335 main_c_10
  let main_v67 : IVec S335 1 := cmpi .eq main_v65 main_v66
  let main_v68 : IVec S335 1 := ori main_v11 main_v67
  let main_v69 : IVec S335 1 := andi main_v63 main_v68
  let main_v70 : IVec S335x1 32 := (extractStridedSlice S335x1 ![0, 1] · slices_S335x7_S335x1_0_1) main_v7
  let main_v71 : IVec S335 32 := shapeCast S335 main_v70 shapeCasts_S335x1_S335
  let main_v72 : IVec S335x1 32 := (extractStridedSlice S335x1 ![0, 1] · slices_S335x7_S335x1_0_1) main_v6
  let main_v73 : IVec S335 32 := shapeCast S335 main_v72 shapeCasts_S335x1_S335
  let main_c_11 : IVec S_ 32 := constantI S_ 32 1#32
  let main_v74 : IVec S335 32 := broadcastInDim S335 ![] bcast_S_S335 main_c_11
  let main_v75 : IVec S335 32 := subi main_v74 main_v73
  let main_v76 : IVec S335x1 32 := (extractStridedSlice S335x1 ![0, 1] · slices_S335x7_S335x1_0_1) main_v6
  let main_v77 : IVec S335 32 := shapeCast S335 main_v76 shapeCasts_S335x1_S335
  let main_v78 : IVec S335 32 := fn_where_0 (F := F) main_v11 main_v75 main_v77
  let main_v79 : IVec S335 1 := cmpi .eq main_v71 main_v78
  let main_v80 : IVec S335 1 := andi main_v69 main_v79
  let main_v81 : IVec S335x1 32 := (extractStridedSlice S335x1 ![0, 2] · slices_S335x7_S335x1_0_2) main_v7
  let main_v82 : IVec S335 32 := shapeCast S335 main_v81 shapeCasts_S335x1_S335
  fn_part4 (F := F) main_v6 main_v7 main_v11 main_v80 main_v82

def fn_part2 {F : FTy → Type} [FloatOps F] (main_v0 : IVec S336x7 32) (main_v5 : IVec S336 32) (main_v6 : IVec S335x7 32) (main_v7 : IVec S335x7 32) (main_v11 : IVec S335 1) (main_v36 : IVec S335 1) (main_v38 : IVec S335 32) (main_v39 : IVec S335 32) : IVec S335 1 :=
  let main_v40 : IVec S335 32 := id main_v39
  let main_v41 : IVec S335 1 := cmpi .eq main_v38 main_v40
  let main_v42 : IVec S335 1 := andi main_v36 main_v41
  let main_v43 : IVec S335x1 32 := (extractStridedSlice S335x1 ![0, 3] · slices_S335x7_S335x1_0_3) main_v7
  let main_v44 : IVec S335 32 := shapeCast S335 main_v43 shapeCasts_S335x1_S335
  let main_v45 : IVec S335 32 := (extractStridedSlice S335 ![1] · slices_S336_S335_1) main_v5
  let main_v46 : IVec S335 32 := id main_v45
  let main_v47 : IVec S335 1 := cmpi .eq main_v44 main_v46
  let main_v48 : IVec S335 1 := andi main_v42 main_v47
  let main_v49 : IVec S1x1 32 := (extractStridedSlice S1x1 ![0, 0] · slices_S336x7_S1x1_0_0) main_v0
  let main_v50 : IVec S_ 32 := shapeCast S_ main_v49 shapeCasts_S1x1_S_
  let main_c_7 : IVec S_ 32 := constantI S_ 32 1#32
  let main_v51 : IVec S_ 1 := cmpi .eq main_v50 main_c_7
  let main_v52 : IVec S335 1 := broadcastInDim S335 ![] bcast_S_S335 main_v51
  let main_v53 : IVec S335 1 := andi main_v48 main_v52
  let main_v54 : IVec S1x1 32 := (extractStridedSlice S1x1 ![0, 1] · slices_S336x7_S1x1_0_1) main_v0
  let main_v55 : IVec S_ 32 := shapeCast S_ main_v54 shapeCasts_S1x1_S_
  let main_c_8 : IVec S_ 32 := constantI S_ 32 0#32
  let main_v56 : IVec S_ 1 := cmpi .eq main_v55 main_c_8
  let main_v57 : IVec S335 1 := broadcastInDim S335 ![] bcast_S_S335 main_v56
  let main_v58 : IVec S335 1 := andi main_v53 main_v57
  let main_v59 : IVec S1x1 32 := (extractStridedSlice S1x1 ![335, 4] · slices_S336x7_S1x1_335_4) main_v0
  let main_v60 : IVec S_ 32 := shapeCast S_ main_v59 shapeCasts_S1x1_S_
  let main_c_9 : IVec S_ 32 := constantI S_ 32 0#32
  fn_part3 (F := F) main_v6 main_v7 main_v11 main_v58 main_v60 main_c_9

def fn_part1 {F : FTy → Type} [FloatOps F] (main_v0 : IVec S336x7 32) (main_v1 : IVec S336 32) (main_v5 : IVec S336 32) (main_v6 : IVec S335x7 32) (main_v7 : IVec S335x7 32) (main_v11 : IVec S335 1) (main_v14 : IVec S335 1) (main_v17 : IVec S335 1) : IVec S335 1 :=
  let main_v18 : IVec S335 1 := andi main_v14 main_v17
  let main_v19 : IVec S335 32 := (extractStridedSlice S335 ![1] · slices_S336_S335_1) main_v1
  let main_c_5 : IVec S_ 32 := constantI S_ 32 0#32
  let main_v20 : IVec S335 32 := broadcastInDim S335 ![] bcast_S_S335 main_c_5
  let main_v21 : IVec S335 1 := cmpi .sge main_v19 main_v20
  let main_v22 : IVec S335 1 := andi main_v18 main_v21
  let main_v23 : IVec S335 32 := (extractStridedSlice S335 ![1] · slices_S336_S335_1) main_v1
  let main_c_6 : IVec S_ 32 := constantI S_ 32 32#32
  let main_v24 : IVec S335 32 := broadcastInDim S335 ![] bcast_S_S335 main_c_6
  let main_v25 : IVec S335 1 := cmpi .slt main_v23 main_v24
  let main_v26 : IVec S335 1 := andi main_v22 main_v25
  let main_v27 : IVec S335x1 32 := (extractStridedSlice S335x1 ![0, 2] · slices_S335x7_S335x1_0_2) main_v6
  let main_v28 : IVec S335 32 := shapeCast S335 main_v27 shapeCasts_S335x1_S335
  let main_v29 : IVec S335 32 := (extractStridedSlice S335 ![0] · slices_S336_S335_0) main_v1
  let main_v30 : IVec S335 1 := cmpi .eq main_v28 main_v29
  let main_v31 : IVec S335 1 := andi main_v26 main_v30
  let main_v32 : IVec S335x1 32 := (extractStridedSlice S335x1 ![0, 2] · slices_S335x7_S335x1_0_2) main_v7
  let main_v33 : IVec S335 32 := shapeCast S335 main_v32 shapeCasts_S335x1_S335
  let main_v34 : IVec S335 32 := (extractStridedSlice S335 ![1] · slices_S336_S335_1) main_v1
  let main_v35 : IVec S335 1 := cmpi .eq main_v33 main_v34
  let main_v36 : IVec S335 1 := andi main_v31 main_v35
  let main_v37 : IVec S335x1 32 := (extractStridedSlice S335x1 ![0, 3] · slices_S335x7_S335x1_0_3) main_v6
  let main_v38 : IVec S335 32 := shapeCast S335 main_v37 shapeCasts_S335x1_S335
  let main_v39 : IVec S335 32 := (extractStridedSlice S335 ![0] · slices_S336_S335_0) main_v5
  fn_part2 (F := F) main_v0 main_v5 main_v6 main_v7 main_v11 main_v36 main_v38 main_v39

def fn {F : FTy → Type} [FloatOps F] (main_arg0 : FVec F S43008x2048 .f32) (main_arg1 : IVec S2352 32) (main_arg2 : IVec S168 32) (main_arg3 : IVec S168 32) (main_arg4 : FVec F S32x2048x4096 .f32) (main_arg5 : FVec F S32x1x4096 .f32) : IVec S335 1 :=
  let main_v0 : IVec S336x7 32 := shapeCast S336x7 main_arg1 shapeCasts_S2352_S336x7
  let main_v1 : IVec S336 32 := (fun a b => concatenate S336 0 [⟨S168, a⟩, ⟨S168, b⟩] concatenates_S168_S168_S336_d0) main_arg2 main_arg2
  let main_v2 : IVec S336 32 := iotaInDim S336 32 0
  let main_c : IVec S_ 32 := constantI S_ 32 168#32
  let main_v3 : IVec S336 32 := broadcastInDim S336 ![] bcast_S_S336 main_c
  let main_v4 : IVec S336 1 := cmpi .slt main_v2 main_v3
  let main_c_0 : IVec S_ 32 := constantI S_ 32 0#32
  let main_c_1 : IVec S_ 32 := constantI S_ 32 1024#32
  let main_v5 : IVec S336 32 := fn_where (F := F) main_v4 main_c_0 main_c_1
  let main_v6 : IVec S335x7 32 := (extractStridedSlice S335x7 ![0, 0] · slices_S336x7_S335x7_0_0) main_v0
  let main_v7 : IVec S335x7 32 := (extractStridedSlice S335x7 ![1, 0] · slices_S336x7_S335x7_1_0) main_v0
  let main_v8 : IVec S335x1 32 := (extractStridedSlice S335x1 ![0, 0] · slices_S335x7_S335x1_0_0) main_v7
  let main_v9 : IVec S335 32 := shapeCast S335 main_v8 shapeCasts_S335x1_S335
  let main_c_2 : IVec S_ 32 := constantI S_ 32 1#32
  let main_v10 : IVec S335 32 := broadcastInDim S335 ![] bcast_S_S335 main_c_2
  let main_v11 : IVec S335 1 := cmpi .eq main_v9 main_v10
  let main_v12 : IVec S335 32 := (extractStridedSlice S335 ![0] · slices_S336_S335_0) main_v1
  let main_c_3 : IVec S_ 32 := constantI S_ 32 0#32
  let main_v13 : IVec S335 32 := broadcastInDim S335 ![] bcast_S_S335 main_c_3
  let main_v14 : IVec S335 1 := cmpi .sge main_v12 main_v13
  let main_v15 : IVec S335 32 := (extractStridedSlice S335 ![0] · slices_S336_S335_0) main_v1
  let main_c_4 : IVec S_ 32 := constantI S_ 32 32#32
  let main_v16 : IVec S335 32 := broadcastInDim S335 ![] bcast_S_S335 main_c_4
  let main_v17 : IVec S335 1 := cmpi .slt main_v15 main_v16
  fn_part1 (F := F) main_v0 main_v1 main_v5 main_v6 main_v7 main_v11 main_v14 main_v17
-- ==== Kernel.lean ====
abbrev S8192x5120 : Shape := ⟨2, ![8192, 5120]⟩
abbrev S8192x128 : Shape := ⟨2, ![8192, 128]⟩
abbrev S128x128 : Shape := ⟨2, ![128, 128]⟩
abbrev S128x64 : Shape := ⟨2, ![128, 64]⟩
abbrev S128 : Shape := ⟨1, ![128]⟩
abbrev S128x1 : Shape := ⟨2, ![128, 1]⟩

abbrev nBuf : Space → Nat
  | .hbm => 5
  | .vmem => 28
  | .smem => 0
  | _ => 0

abbrev bufTy : (tb : Table) → Fin (tcTables nBuf tb) → BufTy
  | .hbm, ⟨0, _⟩ => ⟨S8192x5120, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c6_i32 : BitVec 32 := 6#32
  let c0_i32_0 : BitVec 32 := 0#32
  ![v3.toNat, c6_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c12_i32 : BitVec 32 := 12#32
  let c0_i32 : BitVec 32 := 0#32
  ![v1.toNat, c12_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c12_i32 : BitVec 32 := 12#32
  let c0_i32_0 : BitVec 32 := 0#32
  ![v3.toNat, c12_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c7_i32 : BitVec 32 := 7#32
  let c0_i32_0 : BitVec 32 := 0#32
  ![v3.toNat, c7_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c13_i32 : BitVec 32 := 13#32
  let c0_i32 : BitVec 32 := 0#32
  ![v1.toNat, c13_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c13_i32 : BitVec 32 := 13#32
  let c0_i32_0 : BitVec 32 := 0#32
  ![v3.toNat, c13_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x5120 : Shape := ⟨2, ![8192, 5120]⟩
abbrev S4x2048x5120 : Shape := ⟨3, ![4, 2048, 5120]⟩
abbrev S4x2048x256 : Shape := ⟨3, ![4, 2048, 256]⟩
abbrev S4x2048x4x64 : Shape := ⟨4, ![4, 2048, 4, 64]⟩
abbrev S_ : Shape := ⟨0, ![]⟩
abbrev S4 : Shape := ⟨1, ![4]⟩
abbrev S2048x2048 : Shape := ⟨2, ![2048, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S4x4x2048x2048 : Shape := ⟨4, ![4, 4, 2048, 2048]⟩
abbrev S1x4x2048x2048 : Shape := ⟨4, ![1, 4, 2048, 2048]⟩
abbrev S1x1x2048x2048 : Shape := ⟨4, ![1, 1, 2048, 2048]⟩
abbrev S4x4x2048 : Shape := ⟨3, ![4, 4, 2048]⟩
abbrev S4x4x2048x1 : Shape := ⟨4, ![4, 4, 2048, 1]⟩
abbrev S4x4x2048x64 : Shape := ⟨4, ![4, 4, 2048, 64]⟩
abbrev S8192x256 : Shape := ⟨2, ![8192, 256]⟩
abbrev S8192x128 : Shape := ⟨2, ![8192, 128]⟩

abbrev nBuf : Space → Nat
  | .hbm => 91
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S4x2048x5120, .f32⟩
  | .hbm, ⟨2, _⟩ => ⟨S4x2048x256, .f32⟩
  | .hbm, ⟨3, _⟩ => ⟨S4x2048x4x64, .f32⟩
  | .hbm, ⟨4, _⟩ => ⟨S4x2048x256, .f32⟩
  | .hbm, ⟨5, _⟩ => ⟨S4x2048x4x64, .f32⟩
  | .hbm, ⟨6, _⟩ => ⟨S4x2048x256, .f32⟩
  | .hbm, ⟨7, _⟩ => ⟨S4x2048x4x64, .f32⟩
  | .hbm, ⟨8, _⟩ => ⟨S_, .f32⟩
  | .hbm, ⟨9, _⟩ => ⟨S4, .f32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i1⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S4, .i32⟩
  | .hbm, ⟨18, _⟩ => ⟨S_, .i32⟩
  | .hbm, ⟨19, _⟩ => ⟨S4, .i32⟩
  | .hbm, ⟨20, _⟩ => ⟨S4, .i1⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S4, .i32⟩
  | .hbm, ⟨25, _⟩ => ⟨S_, .i32⟩
  | .hbm, ⟨26, _⟩ => ⟨S4, .i32⟩
  | .hbm, ⟨27, _⟩ => ⟨S4, .i1⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .i32⟩
  | .hbm, ⟨32, _⟩ => ⟨S_, .i32⟩
  | .hbm, ⟨33, _⟩ => ⟨S4, .i32⟩
  | .hbm, ⟨34, _⟩ => ⟨S4, .i1⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S2048x2048, .i32⟩
  | .hbm, ⟨39, _⟩ => ⟨S2048x2048, .i32⟩
  | .hbm, ⟨40, _⟩ => ⟨S2048x2048, .i32⟩
  | .hbm, ⟨41, _⟩ => ⟨S_, .i32⟩
  | .hbm, ⟨42, _⟩ => ⟨S2048x2048, .i32⟩
  | .hbm, ⟨43, _⟩ => ⟨S2048x2048, .i1⟩
  | .hbm, ⟨44, _⟩ => ⟨S_, .i32⟩
  | .hbm, ⟨45, _⟩ => ⟨S2048x2048, .i32⟩
  | .hbm, ⟨46, _⟩ => ⟨S2048x2048, .i1⟩
  | .hbm, ⟨47, _⟩ => ⟨S2048x2048, .i1⟩
  | .hbm, ⟨48, _⟩ => ⟨S4x1x1, .f32⟩
  | .hbm, ⟨49, _⟩ => ⟨S4x1x1, .f32⟩
  | .hbm, ⟨50, _⟩ => ⟨S2048x2048, .f32⟩
  | .hbm, ⟨51, _⟩ => ⟨S1x2048x2048, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S4x4x2048x2048, .f32⟩
  | .hbm, ⟨56, _⟩ => ⟨S_, .f32⟩
  | .hbm, ⟨57, _⟩ => ⟨S4x4x2048x2048, .f32⟩
  | .hbm, ⟨58, _⟩ => ⟨S4x4x2048x2048, .f32⟩
  | .hbm, ⟨59, _⟩ => ⟨S1x4x2048x2048, .f32⟩
  | .hbm, ⟨60, _⟩ => ⟨S4x4x2048x2048, .f32⟩
  | .hbm, ⟨61, _⟩ => ⟨S4x4x2048x2048, .f32⟩
  | .hbm, ⟨62, _⟩ => ⟨S1x1x2048x2048, .i1⟩
  | .hbm, ⟨63, _⟩ => ⟨S_, .f32⟩
  | .hbm, ⟨64, _⟩ => ⟨S_, .f32⟩
  | .hbm, ⟨65, _⟩ => ⟨S4x4x2048x2048, .i1⟩
  | .hbm, ⟨66, _⟩ => ⟨S4x4x2048x2048, .f32⟩
  | .hbm, ⟨67, _⟩ => ⟨S4x4x2048x2048, .f32⟩
  | .hbm, ⟨68, _⟩ => ⟨S_, .f32⟩
  | .hbm, ⟨69, _⟩ => ⟨S4x4x2048, .f32⟩
  | .hbm, ⟨70, _⟩ => ⟨S4x4x2048x1, .f32⟩
  | .hbm, ⟨71, _⟩ => ⟨S4x4x2048x2048, .f32⟩
  | .hbm, ⟨72, _⟩ => ⟨S4x4x2048x2048, .f32⟩
  | .hbm, ⟨73, _⟩ => ⟨S4x4x2048x2048, .f32⟩
  | .hbm, ⟨74, _⟩ => ⟨S_, .f32⟩
  | .hbm, ⟨75, _⟩ => ⟨S4x4x2048, .f32⟩
  | .hbm, ⟨76, _⟩ => ⟨S4x4x2048x1, .f32⟩
  | .hbm, ⟨77, _⟩ => ⟨S4x4x2048x64, .f32⟩
  | .hbm, ⟨78, _⟩ => ⟨S4x4x2048x64, .f32⟩
  | .hbm, ⟨79, _⟩ => ⟨S4x4x2048x64, .f32⟩
  | .hbm, ⟨80, _⟩ => ⟨S4x4x2048x1, .f32⟩
  | .hbm, ⟨81, _⟩ => ⟨S4x4x2048x1, .f32⟩
  | .hbm, ⟨82, _⟩ => ⟨S4x4x2048x64, .f32⟩
  | .hbm, ⟨83, _⟩ => ⟨S4x2048x4x64, .f32⟩
  | .hbm, ⟨84, _⟩ => ⟨S8192x256, .f32⟩
  | .hbm, ⟨85, _⟩ => ⟨S4x2048x4x64, .f32⟩
  | .hbm, ⟨86, _⟩ => ⟨S8192x256, .f32⟩
  | .hbm, ⟨87, _⟩ => ⟨S8192x128, .f32⟩
  | .hbm, ⟨88, _⟩ => ⟨S8192x128, .f32⟩
  | .hbm, ⟨89, _⟩ => ⟨S8192x128, .f32⟩
  | .hbm, ⟨90, _⟩ => ⟨S8192x128, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_call2_v0 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_call3_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_c_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Kernel2.lean ====
abbrev S4x2048x2048 : Shape := ⟨3, ![4, 2048, 2048]⟩
abbrev S128x4x2048 : Shape := ⟨3, ![128, 4, 2048]⟩
abbrev S4x256x2048 : Shape := ⟨3, ![4, 256, 2048]⟩
abbrev S1x2048x5120 : Shape := ⟨3, ![1, 2048, 5120]⟩
abbrev S1x2048x1024 : Shape := ⟨3, ![1, 2048, 1024]⟩
abbrev S1x2048x6144 : Shape := ⟨3, ![1, 2048, 6144]⟩
abbrev S1x6144 : Shape := ⟨2, ![1, 6144]⟩
abbrev S8192x2048 : Shape := ⟨2, ![8192, 2048]⟩
abbrev S512x2048 : Shape := ⟨2, ![512, 2048]⟩
abbrev S8704x2048 : Shape := ⟨2, ![8704, 2048]⟩
abbrev S2048x5120 : Shape := ⟨2, ![2048, 5120]⟩
abbrev S_ : Shape := ⟨0, ![]⟩
abbrev S5120 : Shape := ⟨1, ![5120]⟩
abbrev S1x5120 : Shape := ⟨2, ![1, 5120]⟩
abbrev S8192x5120 : Shape := ⟨2, ![8192, 5120]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S512x5120 : Shape := ⟨2, ![512, 5120]⟩
abbrev S512x512 : Shape := ⟨2, ![512, 512]⟩
abbrev S2048x6144 : Shape := ⟨2, ![2048, 6144]⟩
abbrev S6144 : Shape := ⟨1, ![6144]⟩
abbrev S8704x6144 : Shape := ⟨2, ![8704, 6144]⟩
abbrev S1088x2048 : Shape := ⟨2, ![1088, 2048]⟩
abbrev S1088x512 : Shape := ⟨2, ![1088, 512]⟩
abbrev S2048x1024 : Shape := ⟨2, ![2048, 1024]⟩
abbrev S1024 : Shape := ⟨1, ![1024]⟩
abbrev S1x1024 : Shape := ⟨2, ![1, 1024]⟩
abbrev S1024x1024 : Shape := ⟨2, ![1024, 1024]⟩
abbrev S4x2048x5120 : Shape := ⟨3, ![4, 2048, 5120]⟩
abbrev S128x4x5120 : Shape := ⟨3, ![128, 4, 5120]⟩
abbrev S4x2048x768 : Shape := ⟨3, ![4, 2048, 768]⟩
abbrev S4x2048x12x64 : Shape := ⟨4, ![4, 2048, 12, 64]⟩
abbrev S128x4x768 : Shape := ⟨3, ![128, 4, 768]⟩
abbrev S128x4x12x64 : Shape := ⟨4, ![128, 4, 12, 64]⟩
abbrev S4x128x4x64 : Shape := ⟨4, ![4, 128, 4, 64]⟩
abbrev S4x128x1x4x64 : Shape := ⟨5, ![4, 128, 1, 4, 64]⟩
abbrev S4x128x2x4x64 : Shape := ⟨5, ![4, 128, 2, 4, 64]⟩
abbrev S128x4x4x64 : Shape := ⟨4, ![128, 4, 4, 64]⟩
abbrev S128x4x1x4x64 : Shape := ⟨5, ![128, 4, 1, 4, 64]⟩
abbrev S128x4x2x4x64 : Shape := ⟨5, ![128, 4, 2, 4, 64]⟩
abbrev S4x512x4x64 : Shape := ⟨4, ![4, 512, 4, 64]⟩
abbrev S4x512x1x4x64 : Shape := ⟨5, ![4, 512, 1, 4, 64]⟩
abbrev S4x512x2x4x64 : Shape := ⟨5, ![4, 512, 2, 4, 64]⟩
abbrev S4x2048x4x64 : Shape := ⟨4, ![4, 2048, 4, 64]⟩
abbrev S4x2048x1x4x64 : Shape := ⟨5, ![4, 2048, 1, 4, 64]⟩
abbrev S4x2048x2x4x64 : Shape := ⟨5, ![4, 2048, 2, 4, 64]⟩
abbrev S4x256x2x4x128 : Shape := ⟨5, ![4, 256, 2, 4, 128]⟩
abbrev S1x4x128x2x4x64 : Shape := ⟨6, ![1, 4, 128, 2, 4, 64]⟩
abbrev S1x4x512x2x4x64 : Shape := ⟨6, ![1, 4, 512, 2, 4, 64]⟩
abbrev S1x4x2048x2x4x64 : Shape := ⟨6, ![1, 4, 2048, 2, 4, 64]⟩
abbrev S1x4x256x2x4x128 : Shape := ⟨6, ![1, 4, 256, 2, 4, 128]⟩
abbrev S1x128x4x2x4x64 : Shape := ⟨6, ![1, 128, 4, 2, 4, 64]⟩
abbrev S4x1x2048 : Shape := ⟨3, ![4, 1, 2048]⟩
abbrev S4x2048 : Shape := ⟨2, ![4, 2048]⟩
abbrev S1x4x2048 : Shape := ⟨3, ![1, 4, 2048]⟩
abbrev S128x1x2048 : Shape := ⟨3, ![128, 1, 2048]⟩
abbrev S128x2048 : Shape := ⟨2, ![128, 2048]⟩
abbrev S1x128x2048 : Shape := ⟨3, ![1, 128, 2048]⟩

abbrev nBuf : Space → Nat
  | .hbm => 90
  | .vmem => 30
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S4x256x2048, .f32⟩
  | .hbm, ⟨3, _⟩ => ⟨S1x2048x5120, .f32⟩
  | .hbm, ⟨4, _⟩ => ⟨S1x2048x1024, .f32⟩
  | .hbm, ⟨5, _⟩ => ⟨S1x2048x6144, .f32⟩
  | .hbm, ⟨6, _⟩ => ⟨S1x6144, .f32⟩
  | .hbm, ⟨7, _⟩ => ⟨S8192x2048, .f32⟩
  | .hbm, ⟨8, _⟩ => ⟨S512x2048, .f32⟩
  | .hbm, ⟨9, _⟩ => ⟨S8704x2048, .f32⟩
  | .hbm, ⟨10, _⟩ => ⟨S2048x5120, .f32⟩
  | .hbm, ⟨11, _⟩ => ⟨S2048x5120, .bf16⟩
  | .hbm, ⟨12, _⟩ => ⟨S8192x2048, .bf16⟩
  | .hbm, ⟨13, _⟩ => ⟨S_, .f32⟩
  | .hbm, ⟨14, _⟩ => ⟨S5120, .f32⟩
  | .hbm, ⟨15, _⟩ => ⟨S1x5120, .f32⟩
  | .hbm, ⟨16, _⟩ => ⟨S8192x5120, .f32⟩
  | .hbm, ⟨17, _⟩ => ⟨S512x2048, .bf16⟩
  | .hbm, ⟨18, _⟩ => ⟨S_, .f32⟩
  | .hbm, ⟨19, _⟩ => ⟨S5120, .f32⟩
  | .hbm, ⟨20, _⟩ => ⟨S1x5120, .f32⟩
  | .hbm, ⟨21, _⟩ => ⟨S512x5120, .f32⟩
  | .hbm, ⟨22, _⟩ => ⟨S8704x2048, .bf16⟩
  | .hbm, ⟨23, _⟩ => ⟨S2048x6144, .f32⟩
  | .hbm, ⟨24, _⟩ => ⟨S2048x6144, .bf16⟩
  | .hbm, ⟨25, _⟩ => ⟨S6144, .f32⟩
  | .hbm, ⟨26, _⟩ => ⟨S1x6144, .f32⟩
  | .hbm, ⟨27, _⟩ => ⟨S8704x6144, .f32⟩
  | .hbm, ⟨28, _⟩ => ⟨S1024x2048, .f32⟩
  | .hbm, ⟨29, _⟩ => ⟨S1024x2048, .bf16⟩
  | .hbm, ⟨30, _⟩ => ⟨S2048x1024, .f32⟩
  | .hbm, ⟨31, _⟩ => ⟨S2048x1024, .bf16⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S1024x1024, .f32⟩
  | .hbm, ⟨36, _⟩ => ⟨S4x2048x5120, .f32⟩
  | .hbm, ⟨37, _⟩ => ⟨S128x4x5120, .f32⟩
  | .hbm, ⟨38, _⟩ => ⟨S4x2048x768, .f32⟩
  | .hbm, ⟨39, _⟩ => ⟨S4x2048x12x64, .f32⟩
  | .hbm, ⟨40, _⟩ => ⟨S4x2048x768, .f32⟩
  | .hbm, ⟨41, _⟩ => ⟨S4x2048x12x64, .f32⟩
  | .hbm, ⟨42, _⟩ => ⟨S128x4x768, .f32⟩
  | .hbm, ⟨43, _⟩ => ⟨S128x4x12x64, .f32⟩
  | .hbm, ⟨44, _⟩ => ⟨S128x4x768, .f32⟩
  | .hbm, ⟨45, _⟩ => ⟨S128x4x12x64, .f32⟩
  | .hbm, ⟨46, _⟩ => ⟨S4x128x4x64, .f32⟩
  | .hbm, ⟨47, _⟩ => ⟨S4x128x4x64, .f32⟩
  | .hbm, ⟨48, _⟩ => ⟨S4x128x1x4x64, .f32⟩
  | .hbm, ⟨49, _⟩ => ⟨S4x128x1x4x64, .f32⟩
  | .hbm, ⟨50, _⟩ => ⟨S4x128x2x4x64, .f32⟩
  | .hbm, ⟨51, _⟩ => ⟨S128x4x4x64, .f32⟩
  | .hbm, ⟨52, _⟩ => ⟨S128x4x4x64, .f32⟩
  | .hbm, ⟨53, _⟩ => ⟨S128x4x1x4x64, .f32⟩
  | .hbm, ⟨54, _⟩ => ⟨S128x4x1x4x64, .f32⟩
  | .hbm, ⟨55, _⟩ => ⟨S128x4x2x4x64, .f32⟩
  | .hbm, ⟨56, _⟩ => ⟨S4x512x4x64, .f32⟩
  | .hbm, ⟨57, _⟩ => ⟨S4x512x4x64, .f32⟩
  | .hbm, ⟨58, _⟩ => ⟨S4x512x1x4x64, .f32⟩
  | .hbm, ⟨59, _⟩ => ⟨S4x512x1x4x64, .f32⟩
  | .hbm, ⟨60, _⟩ => ⟨S4x512x2x4x64, .f32⟩
  | .hbm, ⟨61, _⟩ => ⟨S128x4x4x64, .f32⟩
  | .hbm, ⟨62, _⟩ => ⟨S128x4x4x64, .f32⟩
  | .hbm, ⟨63, _⟩ => ⟨S128x4x1x4x64, .f32⟩
  | .hbm, ⟨64, _⟩ => ⟨S128x4x1x4x64, .f32⟩
  | .hbm, ⟨65, _⟩ => ⟨S128x4x2x4x64, .f32⟩
  | .hbm, ⟨66, _⟩ => ⟨S4x2048x4x64, .f32⟩
  | .hbm, ⟨67, _⟩ => ⟨S4x2048x4x64, .f32⟩
  | .hbm, ⟨68, _⟩ => ⟨S4x2048x1x4x64, .f32⟩
  | .hbm, ⟨69, _⟩ => ⟨S4x2048x1x4x64, .f32⟩
  | .hbm, ⟨70, _⟩ => ⟨S4x2048x2x4x64, .f32⟩
  | .hbm, ⟨71, _⟩ => ⟨S128x4x4x64, .f32⟩
  | .hbm, ⟨72, _⟩ => ⟨S128x4x4x64, .f32⟩
  | .hbm, ⟨73, _⟩ => ⟨S128x4x1x4x64, .f32⟩
  | .hbm, ⟨74, _⟩ => ⟨S128x4x1x4x64, .f32⟩
  | .hbm, ⟨75, _⟩ => ⟨S128x4x2x4x64, .f32⟩
  | .hbm, ⟨76, _⟩ => ⟨S4x256x2x4x128, .f32⟩
  | .hbm, ⟨77, _⟩ => ⟨S1x4x128x2x4x64, .f32⟩
  | .hbm, ⟨78, _⟩ => ⟨S1x4x512x2x4x64, .f32⟩
  | .hbm, ⟨79, _⟩ => ⟨S1x4x2048x2x4x64, .f32⟩
  | .hbm, ⟨80, _⟩ => ⟨S1x4x256x2x4x128, .f32⟩
  | .hbm, ⟨81, _⟩ => ⟨S1x128x4x2x4x64, .f32⟩
  | .hbm, ⟨82, _⟩ => ⟨S1x128x4x2x4x64, .f32⟩
  | .hbm, ⟨83, _⟩ => ⟨S1x128x4x2x4x64, .f32⟩
  | .hbm, ⟨84, _⟩ => ⟨S4x1x2048, .f32⟩
  | .hbm, ⟨85, _⟩ => ⟨S4x2048, .f32⟩
  | .hbm, ⟨86, _⟩ => ⟨S1x4x2048, .f32⟩
  | .hbm, ⟨87, _⟩ => ⟨S128x1x2048, .f32⟩
  | .hbm, ⟨88, _⟩ => ⟨S128x2048, .f32⟩
  | .hbm, ⟨89, _⟩ => ⟨S1x128x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S512x2048, .bf16⟩
  | .local _ .vmem, ⟨9, _⟩ => ⟨S2048x512, .bf16⟩
  | .local _ .vmem, ⟨10, _⟩ => ⟨S2048x512, .bf16⟩
  | .local _ .vmem, ⟨11, _⟩ => ⟨S1x512, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | .local _ .vmem, ⟨15, _⟩ => ⟨S1088x2048, .bf16⟩
  | .local _ .vmem, ⟨16, _⟩ => ⟨S1088x2048, .bf16⟩
  | .local _ .vmem, ⟨17, _⟩ => ⟨S2048x512, .bf16⟩
  | .local _ .vmem, ⟨18, _⟩ => ⟨S2048x512, .bf16⟩
  | .local _ .vmem, ⟨19, _⟩ => ⟨S1x512, .f32⟩
  | .local _ .vmem, ⟨20, _⟩ => ⟨S1x512, .f32⟩
  | .local _ .vmem, ⟨21, _⟩ => ⟨S1088x512, .f32⟩
  | .local _ .vmem, ⟨22, _⟩ => ⟨S1088x512, .f32⟩
  | .local _ .vmem, ⟨23, _⟩ => ⟨S1024x2048, .bf16⟩
  | .local _ .vmem, ⟨24, _⟩ => ⟨S2048x512, .bf16⟩
  | .local _ .vmem, ⟨25, _⟩ => ⟨S2048x512, .bf16⟩
  | .local _ .vmem, ⟨26, _⟩ => ⟨S1x512, .f32⟩
  | .local _ .vmem, ⟨27, _⟩ => ⟨S1x512, .f32⟩
  | .local _ .vmem, ⟨28, _⟩ => ⟨S1024x512, .f32⟩
  | .local _ .vmem, ⟨29, _⟩ => ⟨S1024x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![10, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![12, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1088x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1088x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S1024x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== Reference2Ideal.lean ====
abbrev S4x2048x2048 : Shape := ⟨3, ![4, 2048, 2048]⟩
abbrev S128x4x2048 : Shape := ⟨3, ![128, 4, 2048]⟩
abbrev S4x256x2048 : Shape := ⟨3, ![4, 256, 2048]⟩
abbrev S1x2048x5120 : Shape := ⟨3, ![1, 2048, 5120]⟩
abbrev S1x2048x1024 : Shape := ⟨3, ![1, 2048, 1024]⟩
abbrev S1x2048x6144 : Shape := ⟨3, ![1, 2048, 6144]⟩
abbrev S1x6144 : Shape := ⟨2, ![1, 6144]⟩
abbrev S2048x5120 : Shape := ⟨2, ![2048, 5120]⟩
abbrev S4x2048x5120 : Shape := ⟨3, ![4, 2048, 5120]⟩
abbrev S4x2048x768 : Shape := ⟨3, ![4, 2048, 768]⟩
abbrev S4x2048x12x64 : Shape := ⟨4, ![4, 2048, 12, 64]⟩
abbrev S4x128x4x64 : Shape := ⟨4, ![4, 128, 4, 64]⟩
abbrev S4x128x1x4x64 : Shape := ⟨5, ![4, 128, 1, 4, 64]⟩
abbrev S4x128x2x4x64 : Shape := ⟨5, ![4, 128, 2, 4, 64]⟩
abbrev S1x4x128x2x4x64 : Shape := ⟨6, ![1, 4, 128, 2, 4, 64]⟩
abbrev S4x512x4x64 : Shape := ⟨4, ![4, 512, 4, 64]⟩
abbrev S4x512x1x4x64 : Shape := ⟨5, ![4, 512, 1, 4, 64]⟩
abbrev S4x512x2x4x64 : Shape := ⟨5, ![4, 512, 2, 4, 64]⟩
abbrev S1x4x512x2x4x64 : Shape := ⟨6, ![1, 4, 512, 2, 4, 64]⟩
abbrev S4x2048x4x64 : Shape := ⟨4, ![4, 2048, 4, 64]⟩
abbrev S4x2048x1x4x64 : Shape := ⟨5, ![4, 2048, 1, 4, 64]⟩
abbrev S4x2048x2x4x64 : Shape := ⟨5, ![4, 2048, 2, 4, 64]⟩
abbrev S1x4x2048x2x4x64 : Shape := ⟨6, ![1, 4, 2048, 2, 4, 64]⟩
abbrev S128x4x5120 : Shape := ⟨3, ![128, 4, 5120]⟩
abbrev S128x4x768 : Shape := ⟨3, ![128, 4, 768]⟩
abbrev S128x4x12x64 : Shape := ⟨4, ![128, 4, 12, 64]⟩
abbrev S128x4x4x64 : Shape := ⟨4, ![128, 4, 4, 64]⟩
abbrev S128x4x1x4x64 : Shape := ⟨5, ![128, 4, 1, 4, 64]⟩
abbrev S128x4x2x4x64 : Shape := ⟨5, ![128, 4, 2, 4, 64]⟩
abbrev S1x128x4x2x4x64 : Shape := ⟨6, ![1, 128, 4, 2, 4, 64]⟩
abbrev S2048x1024 : Shape := ⟨2, ![2048, 1024]⟩
abbrev S4x256x1024 : Shape := ⟨3, ![4, 256, 1024]⟩
abbrev S4x256x2x4x128 : Shape := ⟨5, ![4, 256, 2, 4, 128]⟩
abbrev S1x4x256x2x4x128 : Shape := ⟨6, ![1, 4, 256, 2, 4, 128]⟩
abbrev S2048x6144 : Shape := ⟨2, ![2048, 6144]⟩
abbrev S4x2048x6144 : Shape := ⟨3, ![4, 2048, 6144]⟩
abbrev S6144 : Shape := ⟨1, ![6144]⟩
abbrev S1x1x6144 : Shape := ⟨3, ![1, 1, 6144]⟩
abbrev S_ : Shape := ⟨0, ![]⟩
abbrev S8192x6144 : Shape := ⟨2, ![8192, 6144]⟩
abbrev S128x4x6144 : Shape := ⟨3, ![128, 4, 6144]⟩
abbrev S512x6144 : Shape := ⟨2, ![512, 6144]⟩
abbrev S8704x6144 : Shape := ⟨2, ![8704, 6144]⟩
abbrev S4x1x2048 : Shape := ⟨3, ![4, 1, 2048]⟩
abbrev S4x2048 : Shape := ⟨2, ![4, 2048]⟩
abbrev S1x4x2048 : Shape := ⟨3, ![1, 4, 2048]⟩
abbrev S128x1x2048 : Shape := ⟨3, ![128, 1, 2048]⟩
abbrev S128x2048 : Shape := ⟨2, ![128, 2048]⟩
abbrev S1x128x2048 : Shape := ⟨3, ![1, 128, 2048]⟩

abbrev nBuf : Space → Nat
  | .hbm => 96
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S4x256x2048, .f32⟩
  | .hbm, ⟨3, _⟩ => ⟨S1x2048x5120, .f32⟩
  | .hbm, ⟨4, _⟩ => ⟨S1x2048x1024, .f32⟩
  | .hbm, ⟨5, _⟩ => ⟨S1x2048x6144, .f32⟩
  | .hbm, ⟨6, _⟩ => ⟨S1x6144, .f32⟩
  | .hbm, ⟨7, _⟩ => ⟨S2048x5120, .f32⟩
  | .hbm, ⟨8, _⟩ => ⟨S4x2048x5120, .f32⟩
  | .hbm, ⟨9, _⟩ => ⟨S4x2048x768, .f32⟩
  | .hbm, ⟨10, _⟩ => ⟨S4x2048x12x64, .f32⟩
  | .hbm, ⟨11, _⟩ => ⟨S4x2048x768, .f32⟩
  | .hbm, ⟨12, _⟩ => ⟨S4x2048x12x64, .f32⟩
  | .hbm, ⟨13, _⟩ => ⟨S4x128x4x64, .f32⟩
  | .hbm, ⟨14, _⟩ => ⟨S4x128x4x64, .f32⟩
  | .hbm, ⟨15, _⟩ => ⟨S4x128x1x4x64, .f32⟩
  | .hbm, ⟨16, _⟩ => ⟨S4x128x1x4x64, .f32⟩
  | .hbm, ⟨17, _⟩ => ⟨S4x128x2x4x64, .f32⟩
  | .hbm, ⟨18, _⟩ => ⟨S1x4x128x2x4x64, .f32⟩
  | .hbm, ⟨19, _⟩ => ⟨S4x512x4x64, .f32⟩
  | .hbm, ⟨20, _⟩ => ⟨S4x512x4x64, .f32⟩
  | .hbm, ⟨21, _⟩ => ⟨S4x512x1x4x64, .f32⟩
  | .hbm, ⟨22, _⟩ => ⟨S4x512x1x4x64, .f32⟩
  | .hbm, ⟨23, _⟩ => ⟨S4x512x2x4x64, .f32⟩
  | .hbm, ⟨24, _⟩ => ⟨S1x4x512x2x4x64, .f32⟩
  | .hbm, ⟨25, _⟩ => ⟨S4x2048x4x64, .f32⟩
  | .hbm, ⟨26, _⟩ => ⟨S4x2048x4x64, .f32⟩
  | .hbm, ⟨27, _⟩ => ⟨S4x2048x1x4x64, .f32⟩
  | .hbm, ⟨28, _⟩ => ⟨S4x2048x1x4x64, .f32⟩
  | .hbm, ⟨29, _⟩ => ⟨S4x2048x2x4x64, .f32⟩
  | .hbm, ⟨30, _⟩ => ⟨S1x4x2048x2x4x64, .f32⟩
  | .hbm, ⟨31, _⟩ => ⟨S2048x5120, .f32⟩
  | .hbm, ⟨32, _⟩ => ⟨S128x4x5120, .f32⟩
  | .hbm, ⟨33, _⟩ => ⟨S128x4x768, .f32⟩
  | .hbm, ⟨34, _⟩ => ⟨S128x4x12x64, .f32⟩
  | .hbm, ⟨35, _⟩ => ⟨S128x4x768, .f32⟩
  | .hbm, ⟨36, _⟩ => ⟨S128x4x12x64, .f32⟩
  | .hbm, ⟨37, _⟩ => ⟨S128x4x4x64, .f32⟩
  | .hbm, ⟨38, _⟩ => ⟨S128x4x4x64, .f32⟩
  | .hbm, ⟨39, _⟩ => ⟨S128x4x1x4x64, .f32⟩
  | .hbm, ⟨40, _⟩ => ⟨S128x4x1x4x64, .f32⟩
  | .hbm, ⟨41, _⟩ => ⟨S128x4x2x4x64, .f32⟩
  | .hbm, ⟨42, _⟩ => ⟨S1x128x4x2x4x64, .f32⟩
  | .hbm, ⟨43, _⟩ => ⟨S128x4x4x64, .f32⟩
  | .hbm, ⟨44, _⟩ => ⟨S128x4x4x64, .f32⟩
  | .hbm, ⟨45, _⟩ => ⟨S128x4x1x4x64, .f32⟩
  | .hbm, ⟨46, _⟩ => ⟨S128x4x1x4x64, .f32⟩
  | .hbm, ⟨47, _⟩ => ⟨S128x4x2x4x64, .f32⟩
  | .hbm, ⟨48, _⟩ => ⟨S1x128x4x2x4x64, .f32⟩
  | .hbm, ⟨49, _⟩ => ⟨S128x4x4x64, .f32⟩
  | .hbm, ⟨50, _⟩ => ⟨S128x4x4x64, .f32⟩
  | .hbm, ⟨51, _⟩ => ⟨S128x4x1x4x64, .f32⟩
  | .hbm, ⟨52, _⟩ => ⟨S128x4x1x4x64, .f32⟩
  | .hbm, ⟨53, _⟩ => ⟨S128x4x2x4x64, .f32⟩
  | .hbm, ⟨54, _⟩ => ⟨S1x128x4x2x4x64, .f32⟩
  | .hbm, ⟨55, _⟩ => ⟨S2048x1024, .f32⟩
  | .hbm, ⟨56, _⟩ => ⟨S4x256x1024, .f32⟩
  | .hbm, ⟨57, _⟩ => ⟨S4x256x2x4x128, .f32⟩
  | .hbm, ⟨58, _⟩ => ⟨S1x4x256x2x4x128, .f32⟩
  | .hbm, ⟨59, _⟩ => ⟨S2048x6144, .f32⟩
  | .hbm, ⟨60, _⟩ => ⟨S4x2048x6144, .f32⟩
  | .hbm, ⟨61, _⟩ => ⟨S6144, .f32⟩
  | .hbm, ⟨62, _⟩ => ⟨S1x1x6144, .f32⟩
  | .hbm, ⟨63, _⟩ => ⟨S4x2048x6144, .f32⟩
  | .hbm, ⟨64, _⟩ => ⟨S4x2048x6144, .f32⟩
  | .hbm, ⟨65, _⟩ => ⟨S4x2048x6144, .f32⟩
  | .hbm, ⟨66, _⟩ => ⟨S4x2048x6144, .f32⟩
  | .hbm, ⟨67, _⟩ => ⟨S_, .f32⟩
  | .hbm, ⟨68, _⟩ => ⟨S4x2048x6144, .f32⟩
  | .hbm, ⟨69, _⟩ => ⟨S4x2048x6144, .f32⟩
  | .hbm, ⟨70, _⟩ => ⟨S_, .f32⟩
  | .hbm, ⟨71, _⟩ => ⟨S4x2048x6144, .f32⟩
  | .hbm, ⟨72, _⟩ => ⟨S4x2048x6144, .f32⟩
  | .hbm, ⟨73, _⟩ => ⟨S8192x6144, .f32⟩
  | .hbm, ⟨74, _⟩ => ⟨S2048x6144, .f32⟩
  | .hbm, ⟨75, _⟩ => ⟨S128x4x6144, .f32⟩
  | .hbm, ⟨76, _⟩ => ⟨S6144, .f32⟩
  | .hbm, ⟨77, _⟩ => ⟨S1x1x6144, .f32⟩
  | .hbm, ⟨78, _⟩ => ⟨S128x4x6144, .f32⟩
  | .hbm, ⟨79, _⟩ => ⟨S128x4x6144, .f32⟩
  | .hbm, ⟨80, _⟩ => ⟨S128x4x6144, .f32⟩
  | .hbm, ⟨81, _⟩ => ⟨S128x4x6144, .f32⟩
  | .hbm, ⟨82, _⟩ => ⟨S_, .f32⟩
  | .hbm, ⟨83, _⟩ => ⟨S128x4x6144, .f32⟩
  | .hbm, ⟨84, _⟩ => ⟨S128x4x6144, .f32⟩
  | .hbm, ⟨85, _⟩ => ⟨S_, .f32⟩
  | .hbm, ⟨86, _⟩ => ⟨S128x4x6144, .f32⟩
  | .hbm, ⟨87, _⟩ => ⟨S128x4x6144, .f32⟩
  | .hbm, ⟨88, _⟩ => ⟨S512x6144, .f32⟩
  | .hbm, ⟨89, _⟩ => ⟨S8704x6144, .f32⟩
  | .hbm, ⟨90, _⟩ => ⟨S4x1x2048, .f32⟩
  | .hbm, ⟨91, _⟩ => ⟨S4x2048, .f32⟩
  | .hbm, ⟨92, _⟩ => ⟨S1x4x2048, .f32⟩
  | .hbm, ⟨93, _⟩ => ⟨S128x1x2048, .f32⟩
  | .hbm, ⟨94, _⟩ => ⟨S128x2048, .f32⟩
  | .hbm, ⟨95, _⟩ => ⟨S1x128x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst : Ref sig .tc := ⟨.hbm, 67, rfl⟩
abbrev main_v60 : Ref sig .tc := ⟨.hbm, 68, rfl⟩
abbrev main_v61 : Ref sig .tc := ⟨.hbm, 69, rfl⟩
abbrev main_cst_0 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_1 : Ref sig .tc := ⟨.hbm, 82, rfl⟩
abbrev main_v73 : Ref sig .tc := ⟨.hbm, 83, rfl⟩
abbrev main_v74 : Ref sig .tc := ⟨.hbm, 84, rfl⟩
abbrev main_cst_2 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩

abbrev nD : Nat := 1
abbrev τ : Topo := Topo.v7x

variable {F : FTy → Type} [FloatOps F]
-- ==== Kernel3.lean ====
abbrev S8704x256 : Shape := ⟨2, ![8704, 256]⟩
abbrev S8704x768 : Shape := ⟨2, ![8704, 768]⟩
abbrev S8704x512 : Shape := ⟨2, ![8704, 512]⟩
abbrev S8704x6144 : Shape := ⟨2, ![8704, 6144]⟩
abbrev S8704x2048 : Shape := ⟨2, ![8704, 2048]⟩
abbrev S1x1536x2048 : Shape := ⟨3, ![1, 1536, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S1536x2048 : Shape := ⟨2, ![1536, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S8704x128 : Shape := ⟨2, ![8704, 128]⟩
abbrev S256x256 : Shape := ⟨2, ![256, 256]⟩
abbrev S256x768 : Shape := ⟨2, ![256, 768]⟩
abbrev S256x512 : Shape := ⟨2, ![256, 512]⟩
abbrev S256x6144 : Shape := ⟨2, ![256, 6144]⟩
abbrev S256x2048 : Shape := ⟨2, ![256, 2048]⟩
abbrev S256x128 : Shape := ⟨2, ![256, 128]⟩
abbrev S768x2048 : Shape := ⟨2, ![768, 2048]⟩
abbrev S512x2048 : Shape := ⟨2, ![512, 2048]⟩
abbrev S256 : Shape := ⟨1, ![256]⟩
abbrev S256x1 : Shape := ⟨2, ![256, 1]⟩

abbrev nBuf : Space → Nat
  | .hbm => 41
  | .vmem => 23
  | .smem => 0
  | _ => 0

abbrev bufTy : (tb : Table) → Fin (tcTables nBuf tb) → BufTy
  | .hbm, ⟨0, _⟩ => ⟨S8704x256, .f32⟩
  | .hbm, ⟨1, _⟩ => ⟨S8704x768, .f32⟩
  | .hbm, ⟨2, _⟩ => ⟨S8704x512, .f32⟩
  | .hbm, ⟨3, _⟩ => ⟨S8704x6144, .f32⟩
  | .hbm, ⟨4, _⟩ => ⟨S8704x2048, .f32⟩
  | .hbm, ⟨5, _⟩ => ⟨S1x1536x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S1x2048x32, .f32⟩
  | .hbm, ⟨10, _⟩ => ⟨S1x32, .f32⟩
  | .hbm, ⟨11, _⟩ => ⟨S1536x2048, .f32⟩
  | .hbm, ⟨12, _⟩ => ⟨S1536x2048, .bf16⟩
  | .hbm, ⟨13, _⟩ => ⟨S2048x2048, .f32⟩
  | .hbm, ⟨14, _⟩ => ⟨S2048x2048, .bf16⟩
  | .hbm, ⟨15, _⟩ => ⟨S2048, .f32⟩
  | .hbm, ⟨16, _⟩ => ⟨S2048, .f32⟩
  | .hbm, ⟨17, _⟩ => ⟨S2048x32, .f32⟩
  | .hbm, ⟨18, _⟩ => ⟨S32, .f32⟩
  | .hbm, ⟨19, _⟩ => ⟨S_, .f32⟩
  | .hbm, ⟨20, _⟩ => ⟨S2048x128, .f32⟩
  | .hbm, ⟨21, _⟩ => ⟨S_, .i32⟩
  | .hbm, ⟨22, _⟩ => ⟨S1, .i32⟩
  | .hbm, ⟨23, _⟩ => ⟨S2048x128, .f32⟩
  | .hbm, ⟨24, _⟩ => ⟨S2048x128, .bf16⟩
  | .hbm, ⟨25, _⟩ => ⟨S2048x128, .f32⟩
  | .hbm, ⟨26, _⟩ => ⟨S2048x128, .f32⟩
  | .hbm, ⟨27, _⟩ => ⟨S2048x128, .bf16⟩
  | .hbm, ⟨28, _⟩ => ⟨S_, .f32⟩
  | .hbm, ⟨29, _⟩ => ⟨S1x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S1x2048, .f32⟩
  | .hbm, ⟨37, _⟩ => ⟨S1x2048, .f32⟩
  | .hbm, ⟨38, _⟩ => ⟨S8704x2048, .f32⟩
  | .hbm, ⟨39, _⟩ => ⟨S8704x128, .f32⟩
  | .hbm, ⟨40, _⟩ => ⟨S8704x128, .i32⟩
  | .local _ .vmem, ⟨0, _⟩ => ⟨S256x256, .f32⟩
  | .local _ .vmem, ⟨1, _⟩ => ⟨S256x256, .f32⟩
  | .local _ .vmem, ⟨2, _⟩ => ⟨S256x768, .f32⟩
  | .local _ .vmem, ⟨3, _⟩ => ⟨S256x768, .f32⟩
  | .local _ .vmem, ⟨4, _⟩ => ⟨S256x512, .f32⟩
  | .local _ .vmem, ⟨5, _⟩ => ⟨S256x512, .f32⟩
  | .local _ .vmem, ⟨6, _⟩ => ⟨S256x6144, .f32⟩
  | .local _ .vmem, ⟨7, _⟩ => ⟨S256x6144, .f32⟩
  | .local _ .vmem, ⟨8, _⟩ => ⟨S256x2048, .f32⟩
  | .local _ .vmem, ⟨9, _⟩ => ⟨S256x2048, .f32⟩
  | .local _ .vmem, ⟨10, _⟩ => ⟨S1536x2048, .bf16⟩
  | .local _ .vmem, ⟨11, _⟩ => ⟨S2048x2048, .bf16⟩
  | .local _ .vmem, ⟨12, _⟩ => ⟨S1x2048, .f32⟩
  | .local _ .vmem, ⟨13, _⟩ => ⟨S1x2048, .f32⟩
  | .local _ .vmem, ⟨14, _⟩ => ⟨S2048x128, .bf16⟩
  | .local _ .vmem, ⟨15, _⟩ => ⟨S2048x128, .bf16⟩
  | .local _ .vmem, ⟨16, _⟩ => ⟨S1x128, .f32⟩
  | .local _ .vmem, ⟨17, _⟩ => ⟨S256x2048, .f32⟩
  | .local _ .vmem, ⟨18, _⟩ => ⟨S256x2048, .f32⟩
  | .local _ .vmem, ⟨19, _⟩ => ⟨S256x128, .f32⟩
  | .local _ .vmem, ⟨20, _⟩ => ⟨S256x128, .f32⟩
  | .local _ .vmem, ⟨21, _⟩ => ⟨S256x128, .i32⟩
  | .local _ .vmem, ⟨22, _⟩ => ⟨S256x128, .i32⟩
  | _, _ => ⟨S8704x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_v22_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8704x256 : Shape := ⟨2, ![8704, 256]⟩
abbrev S8704x768 : Shape := ⟨2, ![8704, 768]⟩
abbrev S8704x512 : Shape := ⟨2, ![8704, 512]⟩
abbrev S8704x6144 : Shape := ⟨2, ![8704, 6144]⟩
abbrev S8704x2048 : Shape := ⟨2, ![8704, 2048]⟩
abbrev S1x1536x2048 : Shape := ⟨3, ![1, 1536, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S1536x2048 : Shape := ⟨2, ![1536, 2048]⟩
abbrev S256x2048 : Shape := ⟨2, ![256, 2048]⟩
abbrev S768x2048 : Shape := ⟨2, ![768, 2048]⟩
abbrev S512x2048 : Shape := ⟨2, ![512, 2048]⟩
abbrev S8704x3x2048 : Shape := ⟨3, ![8704, 3, 2048]⟩
abbrev S8704x1x2048 : Shape := ⟨3, ![8704, 1, 2048]⟩
abbrev S_ : Shape := ⟨0, ![]⟩
abbrev S2048x2048 : Shape := ⟨2, ![2048, 2048]⟩
abbrev S8704 : Shape := ⟨1, ![8704]⟩
abbrev S8704x1 : Shape := ⟨2, ![8704, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S8704x256, .f32⟩
  | .hbm, ⟨1, _⟩ => ⟨S8704x768, .f32⟩
  | .hbm, ⟨2, _⟩ => ⟨S8704x512, .f32⟩
  | .hbm, ⟨3, _⟩ => ⟨S8704x6144, .f32⟩
  | .hbm, ⟨4, _⟩ => ⟨S8704x2048, .f32⟩
  | .hbm, ⟨5, _⟩ => ⟨S1x1536x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S1x2048x32, .f32⟩
  | .hbm, ⟨10, _⟩ => ⟨S1x32, .f32⟩
  | .hbm, ⟨11, _⟩ => ⟨S1536x2048, .f32⟩
  | .hbm, ⟨12, _⟩ => ⟨S256x2048, .f32⟩
  | .hbm, ⟨13, _⟩ => ⟨S8704x2048, .f32⟩
  | .hbm, ⟨14, _⟩ => ⟨S768x2048, .f32⟩
  | .hbm, ⟨15, _⟩ => ⟨S8704x2048, .f32⟩
  | .hbm, ⟨16, _⟩ => ⟨S512x2048, .f32⟩
  | .hbm, ⟨17, _⟩ => ⟨S8704x2048, .f32⟩
  | .hbm, ⟨18, _⟩ => ⟨S8704x3x2048, .f32⟩
  | .hbm, ⟨19, _⟩ => ⟨S8704x1x2048, .f32⟩
  | .hbm, ⟨20, _⟩ => ⟨S8704x2048, .f32⟩
  | .hbm, ⟨21, _⟩ => ⟨S8704x2048, .f32⟩
  | .hbm, ⟨22, _⟩ => ⟨S8704x1x2048, .f32⟩
  | .hbm, ⟨23, _⟩ => ⟨S8704x2048, .f32⟩
  | .hbm, ⟨24, _⟩ => ⟨S8704x2048, .f32⟩
  | .hbm, ⟨25, _⟩ => ⟨S8704x2048, .f32⟩
  | .hbm, ⟨26, _⟩ => ⟨S8704x1x2048, .f32⟩
  | .hbm, ⟨27, _⟩ => ⟨S8704x2048, .f32⟩
  | .hbm, ⟨28, _⟩ => ⟨S8704x2048, .f32⟩
  | .hbm, ⟨29, _⟩ => ⟨S8704x2048, .f32⟩
  | .hbm, ⟨30, _⟩ => ⟨S_, .f32⟩
  | .hbm, ⟨31, _⟩ => ⟨S8704x2048, .f32⟩
  | .hbm, ⟨32, _⟩ => ⟨S8704x2048, .f32⟩
  | .hbm, ⟨33, _⟩ => ⟨S2048x2048, .f32⟩
  | .hbm, ⟨34, _⟩ => ⟨S8704x2048, .f32⟩
  | .hbm, ⟨35, _⟩ => ⟨S8704x2048, .f32⟩
  | .hbm, ⟨36, _⟩ => ⟨S_, .f32⟩
  | .hbm, ⟨37, _⟩ => ⟨S8704, .f32⟩
  | .hbm, ⟨38, _⟩ => ⟨S8704x1, .f32⟩
  | .hbm, ⟨39, _⟩ => ⟨S_, .f32⟩
  | .hbm, ⟨40, _⟩ => ⟨S8704x1, .f32⟩
  | .hbm, ⟨41, _⟩ => ⟨S8704x1, .f32⟩
  | .hbm, ⟨42, _⟩ => ⟨S8704x2048, .f32⟩
  | .hbm, ⟨43, _⟩ => ⟨S8704x2048, .f32⟩
  | .hbm, ⟨44, _⟩ => ⟨S8704x2048, .f32⟩
  | .hbm, ⟨45, _⟩ => ⟨S_, .f32⟩
  | .hbm, ⟨46, _⟩ => ⟨S8704, .f32⟩
  | .hbm, ⟨47, _⟩ => ⟨S8704x1, .f32⟩
  | .hbm, ⟨48, _⟩ => ⟨S_, .f32⟩
  | .hbm, ⟨49, _⟩ => ⟨S8704x1, .f32⟩
  | .hbm, ⟨50, _⟩ => ⟨S8704x1, .f32⟩
  | .hbm, ⟨51, _⟩ => ⟨S8704x2048, .f32⟩
  | .hbm, ⟨52, _⟩ => ⟨S8704x2048, .f32⟩
  | .hbm, ⟨53, _⟩ => ⟨S_, .f32⟩
  | .hbm, ⟨54, _⟩ => ⟨S8704x1, .f32⟩
  | .hbm, ⟨55, _⟩ => ⟨S8704x1, .f32⟩
  | .hbm, ⟨56, _⟩ => ⟨S8704x1, .f32⟩
  | .hbm, ⟨57, _⟩ => ⟨S8704x2048, .f32⟩
  | .hbm, ⟨58, _⟩ => ⟨S8704x2048, .f32⟩
  | .hbm, ⟨59, _⟩ => ⟨S2048, .f32⟩
  | .hbm, ⟨60, _⟩ => ⟨S1x2048, .f32⟩
  | .hbm, ⟨61, _⟩ => ⟨S8704x2048, .f32⟩
  | .hbm, ⟨62, _⟩ => ⟨S8704x2048, .f32⟩
  | .hbm, ⟨63, _⟩ => ⟨S2048, .f32⟩
  | .hbm, ⟨64, _⟩ => ⟨S1x2048, .f32⟩
  | .hbm, ⟨65, _⟩ => ⟨S8704x2048, .f32⟩
  | .hbm, ⟨66, _⟩ => ⟨S8704x2048, .f32⟩
  | _, _ => ⟨S8704x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel4.lean ====
abbrev S43008x2048 : Shape := ⟨2, ![43008, 2048]⟩
abbrev S2352 : Shape := ⟨1, ![2352]⟩
abbrev S168 : Shape := ⟨1, ![168]⟩
abbrev S32x2048x2048 : Shape := ⟨3, ![32, 2048, 2048]⟩
abbrev S32x1x2048 : Shape := ⟨3, ![32, 1, 2048]⟩
abbrev S256x2048 : Shape := ⟨2, ![256, 2048]⟩
abbrev S1x1x1024 : Shape := ⟨3, ![1, 1, 1024]⟩
abbrev S1 : Shape := ⟨1, ![1]⟩
abbrev S256x1024 : Shape := ⟨2, ![256, 1024]⟩
abbrev S2x1x2048x1024 : Shape := ⟨4, ![2, 1, 2048, 1024]⟩
abbrev S2 : Shape := ⟨1, ![2]⟩
abbrev S1x2048x1024 : Shape := ⟨3, ![1, 2048, 1024]⟩
abbrev S_ : Shape := ⟨0, ![]⟩
abbrev S1x1x2048x1024 : Shape := ⟨4, ![1, 1, 2048, 1024]⟩
abbrev S2048x1024 : Shape := ⟨2, ![2048, 1024]⟩
abbrev S1x1024 : Shape := ⟨2, ![1, 1024]⟩

abbrev nBuf : Space → Nat
  | .hbm => 5
  | .vmem => 8
  | .smem => 2
  | _ => 0

abbrev bufTy : (tb : Table) → Fin (tcTables nBuf tb) → BufTy
  | .hbm, ⟨0, _⟩ => ⟨S43008x2048, .bf16⟩
  | .hbm, ⟨1, _⟩ => ⟨S168, .i32⟩
  | .hbm, ⟨2, _⟩ => ⟨S32x2048x2048, .f32⟩
  | .hbm, ⟨3, _⟩ => ⟨S32x1x2048, .f32⟩
  | .hbm, ⟨4, _⟩ => ⟨S43008x2048, .f32⟩
  | .local _ .vmem, ⟨0, _⟩ => ⟨S256x2048, .bf16⟩
  | .local _ .vmem, ⟨1, _⟩ => ⟨S256x2048, .bf16⟩
  | .local _ .vmem, ⟨2, _⟩ => ⟨S1x1x1024, .f32⟩
  | .local _ .vmem, ⟨3, _⟩ => ⟨S1x1x1024, .f32⟩
  | .local _ .vmem, ⟨4, _⟩ => ⟨S256x1024, .f32⟩
  | .local _ .vmem, ⟨5, _⟩ => ⟨S256x1024, .f32⟩
  | .local _ .vmem, ⟨6, _⟩ => ⟨S2x1x2048x1024, .f32⟩
  | .local _ .vmem, ⟨7, _⟩ => ⟨S1x2048x1024, .bf16⟩
  | .local _ .smem, ⟨0, _⟩ => ⟨S2352, .i32⟩
  | .local _ .smem, ⟨1, _⟩ => ⟨S168, .i32⟩
  | _, _ => ⟨S43008x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 168], ![false, false]⟩

abbrev pre0 : Pipeline.Prefetch sig := ⟨2, ![main_arg1.idx, main_arg3.idx], fun | 0 => main_arg1.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c2_i32 : BitVec 32) : Fin 1 → Nat :=
  let arg0 : BitVec 32 := BitVec.ofNat 32 (i 0).val
  let c168_i32 : BitVec 32 := 168#32
  let v0 : BitVec 32 := Scalar.muli arg0 c168_i32
  let arg1 : BitVec 32 := BitVec.ofNat 32 (i 1).val
  let v1 : BitVec 32 := Scalar.addi v0 arg1
  let c7_i32 : BitVec 32 := 7#32
  let v2 : BitVec 32 := Scalar.muli v1 c7_i32
  let v3 : BitVec 32 := Scalar.addi v2 c2_i32
  let v4 : Index := Scalar.indexCast v3
  ![v4.toNat]
def k0_off2 (i : grid0.Coords) (c1_i32 : BitVec 32) : Fin 1 → Nat :=
  let arg0 : BitVec 32 := BitVec.ofNat 32 (i 0).val
  let c168_i32 : BitVec 32 := 168#32
  let v0 : BitVec 32 := Scalar.muli arg0 c168_i32
  let arg1 : BitVec 32 := BitVec.ofNat 32 (i 1).val
  let v1 : BitVec 32 := Scalar.addi v0 arg1
  let c7_i32_6 : BitVec 32 := 7#32
  let v19 : BitVec 32 := Scalar.muli v1 c7_i32_6
  let v20 : BitVec 32 := Scalar.addi v19 c1_i32
  let v21 : Index := Scalar.indexCast v20
  ![v21.toNat]
def k0_mult1 (v30 : BitVec 32) : BitVec 32 :=
  let c0_i32_9 : BitVec 32 := 0#32
  let v31 : BitVec 32 := Scalar.addi v30 c0_i32_9
  v31
def k0_cond1 (v5 : BitVec 32) : BitVec 1 :=
  let c0_i32_0 : BitVec 32 := 0#32
  let v6 : BitVec 1 := Scalar.cmpi .ne v5 c0_i32_0
  let v7 : BitVec 32 := Scalar.extui v6
  let c0_i32_1 : BitVec 32 := 0#32
  let v8 : BitVec 1 := Scalar.cmpi .ne v7 c0_i32_1
  v8

def k0_cond2 (i : grid0.Coords) : BitVec 1 :=
  let arg0 : BitVec 32 := BitVec.ofNat 32 (i 0).val
  let c168_i32 : BitVec 32 := 168#32
  let v0 : BitVec 32 := Scalar.muli arg0 c168_i32
  let arg1 : BitVec 32 := BitVec.ofNat 32 (i 1).val
  let v1 : BitVec 32 := Scalar.addi v0 arg1
  let c0_i32_10 : BitVec 32 := 0#32
  let v33 : BitVec 1 := Scalar.cmpi .eq v1 c0_i32_10
  let v34 : BitVec 32 := Scalar.extui v33
  let c0_i32_12 : BitVec 32 := 0#32
  let v35 : BitVec 1 := Scalar.cmpi .ne v34 c0_i32_12
  v35

def k0_off3 (v22 : BitVec 32) : Fin 1 → Nat :=
  ![v22.toNat]

def k0_off4 (v22 : BitVec 32) : Fin 4 → Nat :=
  let c0_i32_11 : BitVec 32 := 0#32
  let c0_i32_25 : BitVec 32 := 0#32
  let c0_i32_26 : BitVec 32 := 0#32
  ![v22.toNat, 0, 0, 0]
def k0_off5 (v26 : BitVec 32) (v30 : BitVec 32) : Fin 3 → Nat :=
  let c0_i32_27 : BitVec 32 := 0#32
  let c0_i32_9 : BitVec 32 := 0#32
  let v31 : BitVec 32 := Scalar.addi v30 c0_i32_9
  let v32 : BitVec 32 := v31
  ![v26.toNat, 0, v32.toNat]
def k0_off6 (v22 : BitVec 32) : Fin 1 → Nat :=
  ![v22.toNat]
def k0_off7 (v22 : BitVec 32) : Fin 4 → Nat :=
  let c0_i32_13 : BitVec 32 := 0#32
  let c0_i32_14 : BitVec 32 := 0#32
  let c0_i32_15 : BitVec 32 := 0#32
  ![v22.toNat, 0, 0, 0]
def k0_off8 (v26 : BitVec 32) (v30 : BitVec 32) : Fin 3 → Nat :=
  let c0_i32_16 : BitVec 32 := 0#32
  let c0_i32_9 : BitVec 32 := 0#32
  let v31 : BitVec 32 := Scalar.addi v30 c0_i32_9
  let v32 : BitVec 32 := v31
  ![v26.toNat, 0, v32.toNat]

def k0_chk1 (i : grid0.Coords) (v5 : BitVec 32) (v26 : BitVec 32) (v30 : BitVec 32) : Prop :=
  (∀ (k0_h1 : k0_cond1 v5 = 1#1), 128 ∣ (k0_mult1 v30).toNat) ∧
  (∀ (k0_h1 : k0_cond1 v5 = 1#1), ∀ (k0_h2 : k0_cond2 i = 1#1), ∀ a, (k0_off5 v26 v30) a + S1x2048x1024.size a ≤ S32x2048x2048.size a) ∧
  (∀ (k0_h1 : k0_cond1 v5 = 1#1), ∀ a, (k0_off8 v26 v30) a + S1x2048x1024.size a ≤ S32x2048x2048.size a)
theorem k0_mult1_dvd : ∀ (i : grid0.Coords) (v5 : BitVec 32) (v26 : BitVec 32) (v30 : BitVec 32) (k0_hw1 : k0_chk1 i v5 v26 v30), ∀ (k0_h1 : k0_cond1 v5 = 1#1), 128 ∣ (k0_mult1 v30).toNat := fun i v5 v26 v30 k0_hw1 k0_h1 => k0_hw1.1 k0_h1
theorem k0_off5_inb : ∀ (i : grid0.Coords) (v5 : BitVec 32) (v26 : BitVec 32) (v30 : BitVec 32) (k0_hw1 : k0_chk1 i v5 v26 v30), ∀ (k0_h1 : k0_cond1 v5 = 1#1), ∀ (k0_h2 : k0_cond2 i = 1#1), ∀ a, (k0_off5 v26 v30) a + S1x2048x1024.size a ≤ S32x2048x2048.size a := fun i v5 v26 v30 k0_hw1 k0_h1 k0_h2 => k0_hw1.2.1 k0_h1 k0_h2
theorem k0_off8_inb : ∀ (i : grid0.Coords) (v5 : BitVec 32) (v26 : BitVec 32) (v30 : BitVec 32) (k0_hw1 : k0_chk1 i v5 v26 v30), ∀ (k0_h1 : k0_cond1 v5 = 1#1), ∀ a, (k0_off8 v26 v30) a + S1x2048x1024.size a ≤ S32x2048x2048.size a := fun i v5 v26 v30 k0_hw1 k0_h1 => k0_hw1.2.2 k0_h1

def k0_off9 (v22 : BitVec 32) : Fin 4 → Nat :=
  let v42 : Index := Scalar.indexCast v22
  let c0 : Index := 0#32
  let c0_17 : Index := 0#32
  let c0_18 : Index := 0#32
  ![v42.toNat, 0, 0, 0]

def k0_chk2 (i : grid0.Coords) (v5 : BitVec 32) (v22 : BitVec 32) : Prop :=
  (∀ (k0_h1 : k0_cond1 v5 = 1#1), ∀ (k0_h2 : k0_cond2 i = 1#1), ∀ a, (k0_off3 v22) a + S1.size a ≤ S2.size a) ∧
  (∀ (k0_h1 : k0_cond1 v5 = 1#1), ∀ (k0_h2 : k0_cond2 i = 1#1), ∀ a, (k0_off4 v22) a + S1x1x2048x1024.size a ≤ S2x1x2048x1024.size a) ∧
  (∀ (k0_h1 : k0_cond1 v5 = 1#1), ∀ a, (k0_off6 v22) a + S1.size a ≤ S2.size a) ∧
  (∀ (k0_h1 : k0_cond1 v5 = 1#1), ∀ a, (k0_off7 v22) a + S1x1x2048x1024.size a ≤ S2x1x2048x1024.size a) ∧
  (∀ (k0_h1 : k0_cond1 v5 = 1#1), ∀ a, (k0_off9 v22) a + S1x1x2048x1024.size a ≤ S2x1x2048x1024.size a)
theorem k0_off3_inb : ∀ (i : grid0.Coords) (v5 : BitVec 32) (v22 : BitVec 32) (k0_hw2 : k0_chk2 i v5 v22), ∀ (k0_h1 : k0_cond1 v5 = 1#1), ∀ (k0_h2 : k0_cond2 i = 1#1), ∀ a, (k0_off3 v22) a + S1.size a ≤ S2.size a := fun i v5 v22 k0_hw2 k0_h1 k0_h2 => k0_hw2.1 k0_h1 k0_h2
theorem k0_off4_inb : ∀ (i : grid0.Coords) (v5 : BitVec 32) (v22 : BitVec 32) (k0_hw2 : k0_chk2 i v5 v22), ∀ (k0_h1 : k0_cond1 v5 = 1#1), ∀ (k0_h2 : k0_cond2 i = 1#1), ∀ a, (k0_off4 v22) a + S1x1x2048x1024.size a ≤ S2x1x2048x1024.size a := fun i v5 v22 k0_hw2 k0_h1 k0_h2 => k0_hw2.2.1 k0_h1 k0_h2
theorem k0_off6_inb : ∀ (i : grid0.Coords) (v5 : BitVec 32) (v22 : BitVec 32) (k0_hw2 : k0_chk2 i v5 v22), ∀ (k0_h1 : k0_cond1 v5 = 1#1), ∀ a, (k0_off6 v22) a + S1.size a ≤ S2.size a := fun i v5 v22 k0_hw2 k0_h1 => k0_hw2.2.2.1 k0_h1
theorem k0_off7_inb : ∀ (i : grid0.Coords) (v5 : BitVec 32) (v22 : BitVec 32) (k0_hw2 : k0_chk2 i v5 v22), ∀ (k0_h1 : k0_cond1 v5 = 1#1), ∀ a, (k0_off7 v22) a + S1x1x2048x1024.size a ≤ S2x1x2048x1024.size a := fun i v5 v22 k0_hw2 k0_h1 => k0_hw2.2.2.2.1 k0_h1
theorem k0_off9_inb : ∀ (i : grid0.Coords) (v5 : BitVec 32) (v22 : BitVec 32) (k0_hw2 : k0_chk2 i v5 v22), ∀ (k0_h1 : k0_cond1 v5 = 1#1), ∀ a, (k0_off9 v22) a + S1x1x2048x1024.size a ≤ S2x1x2048x1024.size a := fun i v5 v22 k0_hw2 k0_h1 => k0_hw2.2.2.2.2 k0_h1

def k0_off10 (i : grid0.Coords) : Fin 1 → Nat :=
  let arg0 : BitVec 32 := BitVec.ofNat 32 (i 0).val
  let c168_i32 : BitVec 32 := 168#32
  let v0 : BitVec 32 := Scalar.muli arg0 c168_i32
  let arg1 : BitVec 32 := BitVec.ofNat 32 (i 1).val
  let v1 : BitVec 32 := Scalar.addi v0 arg1
  let c7_i32_22 : BitVec 32 := 7#32
  let v49 : BitVec 32 := Scalar.muli v1 c7_i32_22
  let c4_i32 : BitVec 32 := 4#32
  let v50 : BitVec 32 := Scalar.addi v49 c4_i32
  let v51 : Index := Scalar.indexCast v50
  ![v51.toNat]
def k0_off11 (i : grid0.Coords) (c5_i32 : BitVec 32) : Fin 1 → Nat :=
  let arg0 : BitVec 32 := BitVec.ofNat 32 (i 0).val
  let c168_i32 : BitVec 32 := 168#32
  let v0 : BitVec 32 := Scalar.muli arg0 c168_i32
  let arg1 : BitVec 32 := BitVec.ofNat 32 (i 1).val
  let v1 : BitVec 32 := Scalar.addi v0 arg1
  let c7_i32_25 : BitVec 32 := 7#32
  let v56 : BitVec 32 := Scalar.muli v1 c7_i32_25
  let v57 : BitVec 32 := Scalar.addi v56 c5_i32
  let v58 : Index := Scalar.indexCast v57
  ![v58.toNat]
def k0_mult2 (v63 : BitVec 32) : BitVec 32 :=
  let c0_i32_28 : BitVec 32 := 0#32
  let v65 : BitVec 32 := Scalar.addi v63 c0_i32_28
  v65
def k0_cond3 (v52 : BitVec 32) : BitVec 1 :=
  let c0_i32_23 : BitVec 32 := 0#32
  let v53 : BitVec 1 := Scalar.cmpi .ne v52 c0_i32_23
  let v54 : BitVec 32 := Scalar.extui v53
  let c0_i32_24 : BitVec 32 := 0#32
  let v55 : BitVec 1 := Scalar.cmpi .ne v54 c0_i32_24
  v55

def k0_off12 (v22 : BitVec 32) : Fin 1 → Nat :=
  let c1_i32_27 : BitVec 32 := 1#32
  let v64 : BitVec 32 := Scalar.subi c1_i32_27 v22
  ![v64.toNat]

def k0_off13 (v22 : BitVec 32) : Fin 4 → Nat :=
  let c1_i32_27 : BitVec 32 := 1#32
  let v64 : BitVec 32 := Scalar.subi c1_i32_27 v22
  let c0_i32_29 : BitVec 32 := 0#32
  let c0_i32_30 : BitVec 32 := 0#32
  let c0_i32_31 : BitVec 32 := 0#32
  ![v64.toNat, 0, 0, 0]

def k0_chk4 (v5 : BitVec 32) (v22 : BitVec 32) (v52 : BitVec 32) : Prop :=
  (∀ (k0_h1 : k0_cond1 v5 = 1#1), ∀ (k0_h3 : k0_cond3 v52 = 1#1), ∀ a, (k0_off12 v22) a + S1.size a ≤ S2.size a) ∧
  (∀ (k0_h1 : k0_cond1 v5 = 1#1), ∀ (k0_h3 : k0_cond3 v52 = 1#1), ∀ a, (k0_off13 v22) a + S1x1x2048x1024.size a ≤ S2x1x2048x1024.size a)
theorem k0_off12_inb : ∀ (v5 : BitVec 32) (v22 : BitVec 32) (v52 : BitVec 32) (k0_hw4 : k0_chk4 v5 v22 v52), ∀ (k0_h1 : k0_cond1 v5 = 1#1), ∀ (k0_h3 : k0_cond3 v52 = 1#1), ∀ a, (k0_off12 v22) a + S1.size a ≤ S2.size a := fun v5 v22 v52 k0_hw4 k0_h1 k0_h3 => k0_hw4.1 k0_h1 k0_h3
theorem k0_off13_inb : ∀ (v5 : BitVec 32) (v22 : BitVec 32) (v52 : BitVec 32) (k0_hw4 : k0_chk4 v5 v22 v52), ∀ (k0_h1 : k0_cond1 v5 = 1#1), ∀ (k0_h3 : k0_cond3 v52 = 1#1), ∀ a, (k0_off13 v22) a + S1x1x2048x1024.size a ≤ S2x1x2048x1024.size a := fun v5 v22 v52 k0_hw4 k0_h1 k0_h3 => k0_hw4.2 k0_h1 k0_h3

def k0_off14 (v59 : BitVec 32) (v63 : BitVec 32) : Fin 3 → Nat :=
  let c0_i32_32 : BitVec 32 := 0#32
  let c0_i32_28 : BitVec 32 := 0#32
  let v65 : BitVec 32 := Scalar.addi v63 c0_i32_28
  let v66 : BitVec 32 := v65
  ![v59.toNat, 0, v66.toNat]

def k0_chk3 (v5 : BitVec 32) (v52 : BitVec 32) (v59 : BitVec 32) (v63 : BitVec 32) : Prop :=
  (∀ (k0_h1 : k0_cond1 v5 = 1#1), ∀ (k0_h3 : k0_cond3 v52 = 1#1), 128 ∣ (k0_mult2 v63).toNat) ∧
  (∀ (k0_h1 : k0_cond1 v5 = 1#1), ∀ (k0_h3 : k0_cond3 v52 = 1#1), ∀ a, (k0_off14 v59 v63) a + S1x2048x1024.size a ≤ S32x2048x2048.size a)
theorem k0_mult2_dvd : ∀ (v5 : BitVec 32) (v52 : BitVec 32) (v59 : BitVec 32) (v63 : BitVec 32) (k0_hw3 : k0_chk3 v5 v52 v59 v63), ∀ (k0_h1 : k0_cond1 v5 = 1#1), ∀ (k0_h3 : k0_cond3 v52 = 1#1), 128 ∣ (k0_mult2 v63).toNat := fun v5 v52 v59 v63 k0_hw3 k0_h1 k0_h3 => k0_hw3.1 k0_h1 k0_h3
theorem k0_off14_inb : ∀ (v5 : BitVec 32) (v52 : BitVec 32) (v59 : BitVec 32) (v63 : BitVec 32) (k0_hw3 : k0_chk3 v5 v52 v59 v63), ∀ (k0_h1 : k0_cond1 v5 = 1#1), ∀ (k0_h3 : k0_cond3 v52 = 1#1), ∀ a, (k0_off14 v59 v63) a + S1x2048x1024.size a ≤ S32x2048x2048.size a := fun v5 v52 v59 v63 k0_hw3 k0_h1 k0_h3 => k0_hw3.2 k0_h1 k0_h3

def k0_off15 (i : grid0.Coords) : Fin 1 → Nat :=
  let arg1 : BitVec 32 := BitVec.ofNat 32 (i 1).val
  let v9 : Index := Scalar.indexCast arg1
  ![v9.toNat]
def k0_off16 (i : grid0.Coords) : Fin 1 → Nat :=
  let arg1 : BitVec 32 := BitVec.ofNat 32 (i 1).val
  let v14 : Index := Scalar.indexCast arg1
  ![v14.toNat]
def k0_cond4 (v10 : BitVec 32) : BitVec 1 :=
  let c0_i32_2 : BitVec 32 := 0#32
  let v11 : BitVec 1 := Scalar.cmpi .ne v10 c0_i32_2
  let v12 : BitVec 32 := Scalar.extui v11
  let c0_i32_3 : BitVec 32 := 0#32
  let v13 : BitVec 1 := Scalar.cmpi .ne v12 c0_i32_3
  v13

def k0_cond5 (v15 : BitVec 32) : BitVec 1 :=
  let c0_i32_4 : BitVec 32 := 0#32
  let v16 : BitVec 1 := Scalar.cmpi .eq v15 c0_i32_4
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ (r : Fin 2), ∀ a, (k0_off1 i (BitVec.ofNat 32 (2 * r.val))) a + S1.size a ≤ S2352.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c168_i32 : BitVec 32 := 168#32
  let v0 : BitVec 32 := Scalar.muli arg0 c168_i32
  let v1 : BitVec 32 := Scalar.addi v0 arg1
  let c7_i32 : BitVec 32 := 7#32
  let v2 : BitVec 32 := Scalar.muli v1 c7_i32
  let c2_i32 : BitVec 32 := 2#32
  let v3 : BitVec 32 := Scalar.addi v2 c2_i32
  let v4 : Index := Scalar.indexCast v3
  let v5 : BitVec 32 := pf.at 0 (Rect.unit (s := S2352) ![v4.toNat] S1.size (k0_off1_inb i 1)) numel1_S1
  let c0_i32 : BitVec 32 := 0#32
  let c0_i32_0 : BitVec 32 := 0#32
  ![v5.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S43008x2048 : Shape := ⟨2, ![43008, 2048]⟩
abbrev S2352 : Shape := ⟨1, ![2352]⟩
abbrev S168 : Shape := ⟨1, ![168]⟩
abbrev S32x2048x2048 : Shape := ⟨3, ![32, 2048, 2048]⟩
abbrev S32x1x2048 : Shape := ⟨3, ![32, 1, 2048]⟩
abbrev S168x256x2048 : Shape := ⟨3, ![168, 256, 2048]⟩
abbrev S_ : Shape := ⟨0, ![]⟩
abbrev S168x1 : Shape := ⟨2, ![168, 1]⟩
abbrev S168x2048x2048 : Shape := ⟨3, ![168, 2048, 2048]⟩
abbrev S32x2048 : Shape := ⟨2, ![32, 2048]⟩
abbrev S168x2048 : Shape := ⟨2, ![168, 2048]⟩
abbrev S168x1x2048 : Shape := ⟨3, ![168, 1, 2048]⟩
abbrev S168x1x1 : Shape := ⟨3, ![168, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S43008x2048, .bf16⟩
  | .hbm, ⟨1, _⟩ => ⟨S2352, .i32⟩
  | .hbm, ⟨2, _⟩ => ⟨S168, .i32⟩
  | .hbm, ⟨3, _⟩ => ⟨S168, .i32⟩
  | .hbm, ⟨4, _⟩ => ⟨S32x2048x2048, .f32⟩
  | .hbm, ⟨5, _⟩ => ⟨S32x1x2048, .f32⟩
  | .hbm, ⟨6, _⟩ => ⟨S43008x2048, .f32⟩
  | .hbm, ⟨7, _⟩ => ⟨S168x256x2048, .f32⟩
  | .hbm, ⟨8, _⟩ => ⟨S_, .i32⟩
  | .hbm, ⟨9, _⟩ => ⟨S168, .i32⟩
  | .hbm, ⟨10, _⟩ => ⟨S168, .i1⟩
  | .hbm, ⟨11, _⟩ => ⟨S_, .i32⟩
  | .hbm, ⟨12, _⟩ => ⟨S168, .i32⟩
  | .hbm, ⟨13, _⟩ => ⟨S168, .i32⟩
  | .hbm, ⟨14, _⟩ => ⟨S168, .i32⟩
  | .hbm, ⟨15, _⟩ => ⟨S168x1, .i32⟩
  | .hbm, ⟨16, _⟩ => ⟨S168x2048x2048, .f32⟩
  | .hbm, ⟨17, _⟩ => ⟨S32x2048, .f32⟩
  | .hbm, ⟨18, _⟩ => ⟨S_, .i32⟩
  | .hbm, ⟨19, _⟩ => ⟨S168, .i32⟩
  | .hbm, ⟨20, _⟩ => ⟨S168, .i1⟩
  | .hbm, ⟨21, _⟩ => ⟨S_, .i32⟩
  | .hbm, ⟨22, _⟩ => ⟨S168, .i32⟩
  | .hbm, ⟨23, _⟩ => ⟨S168, .i32⟩
  | .hbm, ⟨24, _⟩ => ⟨S168, .i32⟩
  | .hbm, ⟨25, _⟩ => ⟨S168x1, .i32⟩
  | .hbm, ⟨26, _⟩ => ⟨S168x2048, .f32⟩
  | .hbm, ⟨27, _⟩ => ⟨S168x256x2048, .f32⟩
  | .hbm, ⟨28, _⟩ => ⟨S168x1x2048, .f32⟩
  | .hbm, ⟨29, _⟩ => ⟨S168x256x2048, .f32⟩
  | .hbm, ⟨30, _⟩ => ⟨S168x256x2048, .f32⟩
  | .hbm, ⟨31, _⟩ => ⟨S_, .i32⟩
  | .hbm, ⟨32, _⟩ => ⟨S168, .i32⟩
  | .hbm, ⟨33, _⟩ => ⟨S168, .i1⟩
  | .hbm, ⟨34, _⟩ => ⟨S168x1x1, .i1⟩
  | .hbm, ⟨35, _⟩ => ⟨S_, .f32⟩
  | .hbm, ⟨36, _⟩ => ⟨S_, .f32⟩
  | .hbm, ⟨37, _⟩ => ⟨S168x256x2048, .i1⟩
  | .hbm, ⟨38, _⟩ => ⟨S168x256x2048, .f32⟩
  | .hbm, ⟨39, _⟩ => ⟨S168x256x2048, .f32⟩
  | .hbm, ⟨40, _⟩ => ⟨S43008x2048, .f32⟩
  | _, _ => ⟨S43008x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel5.lean ====
abbrev S43008x2048 : Shape := ⟨2, ![43008, 2048]⟩
abbrev S2352 : Shape := ⟨1, ![2352]⟩
abbrev S168 : Shape := ⟨1, ![168]⟩
abbrev S32x2048x4096 : Shape := ⟨3, ![32, 2048, 4096]⟩
abbrev S32x1x4096 : Shape := ⟨3, ![32, 1, 4096]⟩
abbrev S256x2048 : Shape := ⟨2, ![256, 2048]⟩
abbrev S1x1x1024 : Shape := ⟨3, ![1, 1, 1024]⟩
abbrev S1 : Shape := ⟨1, ![1]⟩
abbrev S256x1024 : Shape := ⟨2, ![256, 1024]⟩
abbrev S2x2x2048x1024 : Shape := ⟨4, ![2, 2, 2048, 1024]⟩
abbrev S2 : Shape := ⟨1, ![2]⟩
abbrev S2x2048x1024 : Shape := ⟨3, ![2, 2048, 1024]⟩
abbrev S_ : Shape := ⟨0, ![]⟩
abbrev S1x1x2048x1024 : Shape := ⟨4, ![1, 1, 2048, 1024]⟩
abbrev S2048x1024 : Shape := ⟨2, ![2048, 1024]⟩
abbrev S1x2048x1024 : Shape := ⟨3, ![1, 2048, 1024]⟩
abbrev S1x1024 : Shape := ⟨2, ![1, 1024]⟩

abbrev nBuf : Space → Nat
  | .hbm => 5
  | .vmem => 10
  | .smem => 2
  | _ => 0

abbrev bufTy : (tb : Table) → Fin (tcTables nBuf tb) → BufTy
  | .hbm, ⟨0, _⟩ => ⟨S43008x2048, .f32⟩
  | .hbm, ⟨1, _⟩ => ⟨S168, .i32⟩
  | .hbm, ⟨2, _⟩ => ⟨S32x2048x4096, .f32⟩
  | .hbm, ⟨3, _⟩ => ⟨S32x1x4096, .f32⟩
  | .hbm, ⟨4, _⟩ => ⟨S43008x2048, .bf16⟩
  | .local _ .vmem, ⟨0, _⟩ => ⟨S256x2048, .f32⟩
  | .local _ .vmem, ⟨1, _⟩ => ⟨S256x2048, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .bf16⟩
  | .local _ .vmem, ⟨7, _⟩ => ⟨S256x1024, .bf16⟩
  | .local _ .vmem, ⟨8, _⟩ => ⟨S2x2x2048x1024, .f32⟩
  | .local _ .vmem, ⟨9, _⟩ => ⟨S2x2048x1024, .bf16⟩
  | .local _ .smem, ⟨0, _⟩ => ⟨S2352, .i32⟩
  | .local _ .smem, ⟨1, _⟩ => ⟨S168, .i32⟩
  | _, _ => ⟨S43008x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 168], ![false, false]⟩

abbrev pre0 : Pipeline.Prefetch sig := ⟨2, ![main_arg1.idx, main_arg3.idx], fun | 0 => main_arg1.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c2_i32 : BitVec 32) : Fin 1 → Nat :=
  let arg0 : BitVec 32 := BitVec.ofNat 32 (i 0).val
  let c168_i32 : BitVec 32 := 168#32
  let v0 : BitVec 32 := Scalar.muli arg0 c168_i32
  let arg1 : BitVec 32 := BitVec.ofNat 32 (i 1).val
  let v1 : BitVec 32 := Scalar.addi v0 arg1
  let c7_i32 : BitVec 32 := 7#32
  let v2 : BitVec 32 := Scalar.muli v1 c7_i32
  let v3 : BitVec 32 := Scalar.addi v2 c2_i32
  let v4 : Index := Scalar.indexCast v3
  ![v4.toNat]
def k0_off2 (i : grid0.Coords) (c1_i32 : BitVec 32) : Fin 1 → Nat :=
  let arg0 : BitVec 32 := BitVec.ofNat 32 (i 0).val
  let c168_i32 : BitVec 32 := 168#32
  let v0 : BitVec 32 := Scalar.muli arg0 c168_i32
  let arg1 : BitVec 32 := BitVec.ofNat 32 (i 1).val
  let v1 : BitVec 32 := Scalar.addi v0 arg1
  let c7_i32_6 : BitVec 32 := 7#32
  let v19 : BitVec 32 := Scalar.muli v1 c7_i32_6
  let v20 : BitVec 32 := Scalar.addi v19 c1_i32
  let v21 : Index := Scalar.indexCast v20
  ![v21.toNat]
def k0_mult1 (v30 : BitVec 32) : BitVec 32 :=
  let c0_i32_9 : BitVec 32 := 0#32
  let v31 : BitVec 32 := Scalar.addi v30 c0_i32_9
  v31
def k0_cond1 (v5 : BitVec 32) : BitVec 1 :=
  let c0_i32_0 : BitVec 32 := 0#32
  let v6 : BitVec 1 := Scalar.cmpi .ne v5 c0_i32_0
  let v7 : BitVec 32 := Scalar.extui v6
  let c0_i32_1 : BitVec 32 := 0#32
  let v8 : BitVec 1 := Scalar.cmpi .ne v7 c0_i32_1
  v8

def k0_mult2 (v30 : BitVec 32) : BitVec 32 :=
  let c2048_i32 : BitVec 32 := 2048#32
  let v33 : BitVec 32 := Scalar.addi v30 c2048_i32
  v33
def k0_cond2 (i : grid0.Coords) : BitVec 1 :=
  let arg0 : BitVec 32 := BitVec.ofNat 32 (i 0).val
  let c168_i32 : BitVec 32 := 168#32
  let v0 : BitVec 32 := Scalar.muli arg0 c168_i32
  let arg1 : BitVec 32 := BitVec.ofNat 32 (i 1).val
  let v1 : BitVec 32 := Scalar.addi v0 arg1
  let c0_i32_10 : BitVec 32 := 0#32
  let v35 : BitVec 1 := Scalar.cmpi .eq v1 c0_i32_10
  let v36 : BitVec 32 := Scalar.extui v35
  let c0_i32_13 : BitVec 32 := 0#32
  let v37 : BitVec 1 := Scalar.cmpi .ne v36 c0_i32_13
  v37

def k0_off3 (v22 : BitVec 32) : Fin 1 → Nat :=
  ![v22.toNat]

def k0_off4 (v22 : BitVec 32) : Fin 4 → Nat :=
  let c0_i32_11 : BitVec 32 := 0#32
  let c0_i32_35 : BitVec 32 := 0#32
  let c0_i32_36 : BitVec 32 := 0#32
  ![v22.toNat, 0, 0, 0]
def k0_off5 (v26 : BitVec 32) (v30 : BitVec 32) (c0_i32_9 : BitVec 32) : Fin 3 → Nat :=
  let c0_i32_37 : BitVec 32 := 0#32
  let v31 : BitVec 32 := Scalar.addi v30 c0_i32_9
  let v32 : BitVec 32 := v31
  ![v26.toNat, 0, v32.toNat]
def k0_off6 (v22 : BitVec 32) : Fin 1 → Nat :=
  ![v22.toNat]
def k0_off7 (v22 : BitVec 32) : Fin 4 → Nat :=
  let c1_i32_12 : BitVec 32 := 1#32
  let c0_i32_38 : BitVec 32 := 0#32
  let c0_i32_39 : BitVec 32 := 0#32
  ![v22.toNat, 1, 0, 0]
def k0_off8 (v22 : BitVec 32) : Fin 1 → Nat :=
  ![v22.toNat]
def k0_off9 (v22 : BitVec 32) : Fin 4 → Nat :=
  let c0_i32_14 : BitVec 32 := 0#32
  let c0_i32_15 : BitVec 32 := 0#32
  let c0_i32_16 : BitVec 32 := 0#32
  ![v22.toNat, 0, 0, 0]
def k0_off10 (v26 : BitVec 32) (v30 : BitVec 32) (c0_i32_9 : BitVec 32) : Fin 3 → Nat :=
  let c0_i32_17 : BitVec 32 := 0#32
  let v31 : BitVec 32 := Scalar.addi v30 c0_i32_9
  let v32 : BitVec 32 := v31
  ![v26.toNat, 0, v32.toNat]

def k0_chk1 (i : grid0.Coords) (v5 : BitVec 32) (v26 : BitVec 32) (v30 : BitVec 32) : Prop :=
  (∀ (k0_h1 : k0_cond1 v5 = 1#1), 128 ∣ (k0_mult1 v30).toNat) ∧
  (∀ (k0_h1 : k0_cond1 v5 = 1#1), 128 ∣ (k0_mult2 v30).toNat) ∧
  (∀ (k0_h1 : k0_cond1 v5 = 1#1), ∀ (k0_h2 : k0_cond2 i = 1#1), ∀ (r : Fin 2), ∀ a, (k0_off5 v26 v30 (BitVec.ofNat 32 (2048 * r.val))) a + S1x2048x1024.size a ≤ S32x2048x4096.size a) ∧
  (∀ (k0_h1 : k0_cond1 v5 = 1#1), ∀ (r : Fin 2), ∀ a, (k0_off10 v26 v30 (BitVec.ofNat 32 (2048 * r.val))) a + S1x2048x1024.size a ≤ S32x2048x4096.size a)
theorem k0_mult1_dvd : ∀ (i : grid0.Coords) (v5 : BitVec 32) (v26 : BitVec 32) (v30 : BitVec 32) (k0_hw1 : k0_chk1 i v5 v26 v30), ∀ (k0_h1 : k0_cond1 v5 = 1#1), 128 ∣ (k0_mult1 v30).toNat := fun i v5 v26 v30 k0_hw1 k0_h1 => k0_hw1.1 k0_h1
theorem k0_mult2_dvd : ∀ (i : grid0.Coords) (v5 : BitVec 32) (v26 : BitVec 32) (v30 : BitVec 32) (k0_hw1 : k0_chk1 i v5 v26 v30), ∀ (k0_h1 : k0_cond1 v5 = 1#1), 128 ∣ (k0_mult2 v30).toNat := fun i v5 v26 v30 k0_hw1 k0_h1 => k0_hw1.2.1 k0_h1
theorem k0_off5_inb : ∀ (i : grid0.Coords) (v5 : BitVec 32) (v26 : BitVec 32) (v30 : BitVec 32) (k0_hw1 : k0_chk1 i v5 v26 v30), ∀ (k0_h1 : k0_cond1 v5 = 1#1), ∀ (k0_h2 : k0_cond2 i = 1#1), ∀ (r : Fin 2), ∀ a, (k0_off5 v26 v30 (BitVec.ofNat 32 (2048 * r.val))) a + S1x2048x1024.size a ≤ S32x2048x4096.size a := fun i v5 v26 v30 k0_hw1 k0_h1 k0_h2 r => k0_hw1.2.2.1 k0_h1 k0_h2 r
theorem k0_off10_inb : ∀ (i : grid0.Coords) (v5 : BitVec 32) (v26 : BitVec 32) (v30 : BitVec 32) (k0_hw1 : k0_chk1 i v5 v26 v30), ∀ (k0_h1 : k0_cond1 v5 = 1#1), ∀ (r : Fin 2), ∀ a, (k0_off10 v26 v30 (BitVec.ofNat 32 (2048 * r.val))) a + S1x2048x1024.size a ≤ S32x2048x4096.size a := fun i v5 v26 v30 k0_hw1 k0_h1 r => k0_hw1.2.2.2 k0_h1 r

def k0_off11 (v22 : BitVec 32) : Fin 4 → Nat :=
  let c1_i32_18 : BitVec 32 := 1#32
  let c0_i32_19 : BitVec 32 := 0#32
  let c0_i32_20 : BitVec 32 := 0#32
  ![v22.toNat, 1, 0, 0]
def k0_off12 (v22 : BitVec 32) : Fin 4 → Nat :=
  let v50 : Index := Scalar.indexCast v22
  let c0 : Index := 0#32
  let c0_22 : Index := 0#32
  let c0_23 : Index := 0#32
  ![v50.toNat, 0, 0, 0]
def k0_off13 (v22 : BitVec 32) : Fin 4 → Nat :=
  let v57 : Index := Scalar.indexCast v22
  let c1 : Index := 1#32
  let c0_27 : Index := 0#32
  let c0_28 : Index := 0#32
  ![v57.toNat, 1, 0, 0]

def k0_chk2 (i : grid0.Coords) (v5 : BitVec 32) (v22 : BitVec 32) : Prop :=
  (∀ (k0_h1 : k0_cond1 v5 = 1#1), ∀ (k0_h2 : k0_cond2 i = 1#1), ∀ a, (k0_off3 v22) a + S1.size a ≤ S2.size a) ∧
  (∀ (k0_h1 : k0_cond1 v5 = 1#1), ∀ (k0_h2 : k0_cond2 i = 1#1), ∀ a, (k0_off4 v22) a + S1x1x2048x1024.size a ≤ S2x2x2048x1024.size a) ∧
  (∀ (k0_h1 : k0_cond1 v5 = 1#1), ∀ (k0_h2 : k0_cond2 i = 1#1), ∀ a, (k0_off6 v22) a + S1.size a ≤ S2.size a) ∧
  (∀ (k0_h1 : k0_cond1 v5 = 1#1), ∀ (k0_h2 : k0_cond2 i = 1#1), ∀ a, (k0_off7 v22) a + S1x1x2048x1024.size a ≤ S2x2x2048x1024.size a) ∧
  (∀ (k0_h1 : k0_cond1 v5 = 1#1), ∀ a, (k0_off8 v22) a + S1.size a ≤ S2.size a) ∧
  (∀ (k0_h1 : k0_cond1 v5 = 1#1), ∀ a, (k0_off9 v22) a + S1x1x2048x1024.size a ≤ S2x2x2048x1024.size a) ∧
  (∀ (k0_h1 : k0_cond1 v5 = 1#1), ∀ a, (k0_off11 v22) a + S1x1x2048x1024.size a ≤ S2x2x2048x1024.size a) ∧
  (∀ (k0_h1 : k0_cond1 v5 = 1#1), ∀ a, (k0_off12 v22) a + S1x1x2048x1024.size a ≤ S2x2x2048x1024.size a) ∧
  (∀ (k0_h1 : k0_cond1 v5 = 1#1), ∀ a, (k0_off13 v22) a + S1x1x2048x1024.size a ≤ S2x2x2048x1024.size a)
theorem k0_off3_inb : ∀ (i : grid0.Coords) (v5 : BitVec 32) (v22 : BitVec 32) (k0_hw2 : k0_chk2 i v5 v22), ∀ (k0_h1 : k0_cond1 v5 = 1#1), ∀ (k0_h2 : k0_cond2 i = 1#1), ∀ a, (k0_off3 v22) a + S1.size a ≤ S2.size a := fun i v5 v22 k0_hw2 k0_h1 k0_h2 => k0_hw2.1 k0_h1 k0_h2
theorem k0_off4_inb : ∀ (i : grid0.Coords) (v5 : BitVec 32) (v22 : BitVec 32) (k0_hw2 : k0_chk2 i v5 v22), ∀ (k0_h1 : k0_cond1 v5 = 1#1), ∀ (k0_h2 : k0_cond2 i = 1#1), ∀ a, (k0_off4 v22) a + S1x1x2048x1024.size a ≤ S2x2x2048x1024.size a := fun i v5 v22 k0_hw2 k0_h1 k0_h2 => k0_hw2.2.1 k0_h1 k0_h2
theorem k0_off6_inb : ∀ (i : grid0.Coords) (v5 : BitVec 32) (v22 : BitVec 32) (k0_hw2 : k0_chk2 i v5 v22), ∀ (k0_h1 : k0_cond1 v5 = 1#1), ∀ (k0_h2 : k0_cond2 i = 1#1), ∀ a, (k0_off6 v22) a + S1.size a ≤ S2.size a := fun i v5 v22 k0_hw2 k0_h1 k0_h2 => k0_hw2.2.2.1 k0_h1 k0_h2
theorem k0_off7_inb : ∀ (i : grid0.Coords) (v5 : BitVec 32) (v22 : BitVec 32) (k0_hw2 : k0_chk2 i v5 v22), ∀ (k0_h1 : k0_cond1 v5 = 1#1), ∀ (k0_h2 : k0_cond2 i = 1#1), ∀ a, (k0_off7 v22) a + S1x1x2048x1024.size a ≤ S2x2x2048x1024.size a := fun i v5 v22 k0_hw2 k0_h1 k0_h2 => k0_hw2.2.2.2.1 k0_h1 k0_h2
theorem k0_off8_inb : ∀ (i : grid0.Coords) (v5 : BitVec 32) (v22 : BitVec 32) (k0_hw2 : k0_chk2 i v5 v22), ∀ (k0_h1 : k0_cond1 v5 = 1#1), ∀ a, (k0_off8 v22) a + S1.size a ≤ S2.size a := fun i v5 v22 k0_hw2 k0_h1 => k0_hw2.2.2.2.2.1 k0_h1
theorem k0_off9_inb : ∀ (i : grid0.Coords) (v5 : BitVec 32) (v22 : BitVec 32) (k0_hw2 : k0_chk2 i v5 v22), ∀ (k0_h1 : k0_cond1 v5 = 1#1), ∀ a, (k0_off9 v22) a + S1x1x2048x1024.size a ≤ S2x2x2048x1024.size a := fun i v5 v22 k0_hw2 k0_h1 => k0_hw2.2.2.2.2.2.1 k0_h1
theorem k0_off11_inb : ∀ (i : grid0.Coords) (v5 : BitVec 32) (v22 : BitVec 32) (k0_hw2 : k0_chk2 i v5 v22), ∀ (k0_h1 : k0_cond1 v5 = 1#1), ∀ a, (k0_off11 v22) a + S1x1x2048x1024.size a ≤ S2x2x2048x1024.size a := fun i v5 v22 k0_hw2 k0_h1 => k0_hw2.2.2.2.2.2.2.1 k0_h1
theorem k0_off12_inb : ∀ (i : grid0.Coords) (v5 : BitVec 32) (v22 : BitVec 32) (k0_hw2 : k0_chk2 i v5 v22), ∀ (k0_h1 : k0_cond1 v5 = 1#1), ∀ a, (k0_off12 v22) a + S1x1x2048x1024.size a ≤ S2x2x2048x1024.size a := fun i v5 v22 k0_hw2 k0_h1 => k0_hw2.2.2.2.2.2.2.2.1 k0_h1
theorem k0_off13_inb : ∀ (i : grid0.Coords) (v5 : BitVec 32) (v22 : BitVec 32) (k0_hw2 : k0_chk2 i v5 v22), ∀ (k0_h1 : k0_cond1 v5 = 1#1), ∀ a, (k0_off13 v22) a + S1x1x2048x1024.size a ≤ S2x2x2048x1024.size a := fun i v5 v22 k0_hw2 k0_h1 => k0_hw2.2.2.2.2.2.2.2.2 k0_h1

def k0_off14 (i : grid0.Coords) : Fin 1 → Nat :=
  let arg0 : BitVec 32 := BitVec.ofNat 32 (i 0).val
  let c168_i32 : BitVec 32 := 168#32
  let v0 : BitVec 32 := Scalar.muli arg0 c168_i32
  let arg1 : BitVec 32 := BitVec.ofNat 32 (i 1).val
  let v1 : BitVec 32 := Scalar.addi v0 arg1
  let c7_i32_32 : BitVec 32 := 7#32
  let v64 : BitVec 32 := Scalar.muli v1 c7_i32_32
  let c4_i32 : BitVec 32 := 4#32
  let v65 : BitVec 32 := Scalar.addi v64 c4_i32
  let v66 : Index := Scalar.indexCast v65
  ![v66.toNat]
def k0_off15 (i : grid0.Coords) (c5_i32 : BitVec 32) : Fin 1 → Nat :=
  let arg0 : BitVec 32 := BitVec.ofNat 32 (i 0).val
  let c168_i32 : BitVec 32 := 168#32
  let v0 : BitVec 32 := Scalar.muli arg0 c168_i32
  let arg1 : BitVec 32 := BitVec.ofNat 32 (i 1).val
  let v1 : BitVec 32 := Scalar.addi v0 arg1
  let c7_i32_35 : BitVec 32 := 7#32
  let v71 : BitVec 32 := Scalar.muli v1 c7_i32_35
  let v72 : BitVec 32 := Scalar.addi v71 c5_i32
  let v73 : Index := Scalar.indexCast v72
  ![v73.toNat]
def k0_mult3 (v78 : BitVec 32) : BitVec 32 :=
  let c0_i32_38 : BitVec 32 := 0#32
  let v80 : BitVec 32 := Scalar.addi v78 c0_i32_38
  v80
def k0_cond3 (v67 : BitVec 32) : BitVec 1 :=
  let c0_i32_33 : BitVec 32 := 0#32
  let v68 : BitVec 1 := Scalar.cmpi .ne v67 c0_i32_33
  let v69 : BitVec 32 := Scalar.extui v68
  let c0_i32_34 : BitVec 32 := 0#32
  let v70 : BitVec 1 := Scalar.cmpi .ne v69 c0_i32_34
  v70

def k0_mult4 (v78 : BitVec 32) : BitVec 32 :=
  let c2048_i32_39 : BitVec 32 := 2048#32
  let v82 : BitVec 32 := Scalar.addi v78 c2048_i32_39
  v82
def k0_off16 (v22 : BitVec 32) : Fin 1 → Nat :=
  let c1_i32_37 : BitVec 32 := 1#32
  let v79 : BitVec 32 := Scalar.subi c1_i32_37 v22
  ![v79.toNat]

def k0_off17 (v22 : BitVec 32) : Fin 4 → Nat :=
  let c1_i32_37 : BitVec 32 := 1#32
  let v79 : BitVec 32 := Scalar.subi c1_i32_37 v22
  let c0_i32_40 : BitVec 32 := 0#32
  let c0_i32_41 : BitVec 32 := 0#32
  let c0_i32_42 : BitVec 32 := 0#32
  ![v79.toNat, 0, 0, 0]
def k0_off18 (v74 : BitVec 32) (v78 : BitVec 32) (c0_i32_38 : BitVec 32) : Fin 3 → Nat :=
  let c0_i32_43 : BitVec 32 := 0#32
  let v80 : BitVec 32 := Scalar.addi v78 c0_i32_38
  let v81 : BitVec 32 := v80
  ![v74.toNat, 0, v81.toNat]

def k0_chk3 (v5 : BitVec 32) (v67 : BitVec 32) (v74 : BitVec 32) (v78 : BitVec 32) : Prop :=
  (∀ (k0_h1 : k0_cond1 v5 = 1#1), ∀ (k0_h3 : k0_cond3 v67 = 1#1), 128 ∣ (k0_mult3 v78).toNat) ∧
  (∀ (k0_h1 : k0_cond1 v5 = 1#1), ∀ (k0_h3 : k0_cond3 v67 = 1#1), 128 ∣ (k0_mult4 v78).toNat) ∧
  (∀ (k0_h1 : k0_cond1 v5 = 1#1), ∀ (k0_h3 : k0_cond3 v67 = 1#1), ∀ (r : Fin 2), ∀ a, (k0_off18 v74 v78 (BitVec.ofNat 32 (2048 * r.val))) a + S1x2048x1024.size a ≤ S32x2048x4096.size a)
theorem k0_mult3_dvd : ∀ (v5 : BitVec 32) (v67 : BitVec 32) (v74 : BitVec 32) (v78 : BitVec 32) (k0_hw3 : k0_chk3 v5 v67 v74 v78), ∀ (k0_h1 : k0_cond1 v5 = 1#1), ∀ (k0_h3 : k0_cond3 v67 = 1#1), 128 ∣ (k0_mult3 v78).toNat := fun v5 v67 v74 v78 k0_hw3 k0_h1 k0_h3 => k0_hw3.1 k0_h1 k0_h3
theorem k0_mult4_dvd : ∀ (v5 : BitVec 32) (v67 : BitVec 32) (v74 : BitVec 32) (v78 : BitVec 32) (k0_hw3 : k0_chk3 v5 v67 v74 v78), ∀ (k0_h1 : k0_cond1 v5 = 1#1), ∀ (k0_h3 : k0_cond3 v67 = 1#1), 128 ∣ (k0_mult4 v78).toNat := fun v5 v67 v74 v78 k0_hw3 k0_h1 k0_h3 => k0_hw3.2.1 k0_h1 k0_h3
theorem k0_off18_inb : ∀ (v5 : BitVec 32) (v67 : BitVec 32) (v74 : BitVec 32) (v78 : BitVec 32) (k0_hw3 : k0_chk3 v5 v67 v74 v78), ∀ (k0_h1 : k0_cond1 v5 = 1#1), ∀ (k0_h3 : k0_cond3 v67 = 1#1), ∀ (r : Fin 2), ∀ a, (k0_off18 v74 v78 (BitVec.ofNat 32 (2048 * r.val))) a + S1x2048x1024.size a ≤ S32x2048x4096.size a := fun v5 v67 v74 v78 k0_hw3 k0_h1 k0_h3 r => k0_hw3.2.2 k0_h1 k0_h3 r

def k0_off19 (v22 : BitVec 32) : Fin 1 → Nat :=
  let c1_i32_37 : BitVec 32 := 1#32
  let v79 : BitVec 32 := Scalar.subi c1_i32_37 v22
  ![v79.toNat]
def k0_off20 (v22 : BitVec 32) : Fin 4 → Nat :=
  let c1_i32_37 : BitVec 32 := 1#32
  let v79 : BitVec 32 := Scalar.subi c1_i32_37 v22
  let c1_i32_44 : BitVec 32 := 1#32
  let c0_i32_45 : BitVec 32 := 0#32
  let c0_i32_46 : BitVec 32 := 0#32
  ![v79.toNat, 1, 0, 0]

def k0_chk4 (v5 : BitVec 32) (v22 : BitVec 32) (v67 : BitVec 32) : Prop :=
  (∀ (k0_h1 : k0_cond1 v5 = 1#1), ∀ (k0_h3 : k0_cond3 v67 = 1#1), ∀ a, (k0_off16 v22) a + S1.size a ≤ S2.size a) ∧
  (∀ (k0_h1 : k0_cond1 v5 = 1#1), ∀ (k0_h3 : k0_cond3 v67 = 1#1), ∀ a, (k0_off17 v22) a + S1x1x2048x1024.size a ≤ S2x2x2048x1024.size a) ∧
  (∀ (k0_h1 : k0_cond1 v5 = 1#1), ∀ (k0_h3 : k0_cond3 v67 = 1#1), ∀ a, (k0_off19 v22) a + S1.size a ≤ S2.size a) ∧
  (∀ (k0_h1 : k0_cond1 v5 = 1#1), ∀ (k0_h3 : k0_cond3 v67 = 1#1), ∀ a, (k0_off20 v22) a + S1x1x2048x1024.size a ≤ S2x2x2048x1024.size a)
theorem k0_off16_inb : ∀ (v5 : BitVec 32) (v22 : BitVec 32) (v67 : BitVec 32) (k0_hw4 : k0_chk4 v5 v22 v67), ∀ (k0_h1 : k0_cond1 v5 = 1#1), ∀ (k0_h3 : k0_cond3 v67 = 1#1), ∀ a, (k0_off16 v22) a + S1.size a ≤ S2.size a := fun v5 v22 v67 k0_hw4 k0_h1 k0_h3 => k0_hw4.1 k0_h1 k0_h3
theorem k0_off17_inb : ∀ (v5 : BitVec 32) (v22 : BitVec 32) (v67 : BitVec 32) (k0_hw4 : k0_chk4 v5 v22 v67), ∀ (k0_h1 : k0_cond1 v5 = 1#1), ∀ (k0_h3 : k0_cond3 v67 = 1#1), ∀ a, (k0_off17 v22) a + S1x1x2048x1024.size a ≤ S2x2x2048x1024.size a := fun v5 v22 v67 k0_hw4 k0_h1 k0_h3 => k0_hw4.2.1 k0_h1 k0_h3
theorem k0_off19_inb : ∀ (v5 : BitVec 32) (v22 : BitVec 32) (v67 : BitVec 32) (k0_hw4 : k0_chk4 v5 v22 v67), ∀ (k0_h1 : k0_cond1 v5 = 1#1), ∀ (k0_h3 : k0_cond3 v67 = 1#1), ∀ a, (k0_off19 v22) a + S1.size a ≤ S2.size a := fun v5 v22 v67 k0_hw4 k0_h1 k0_h3 => k0_hw4.2.2.1 k0_h1 k0_h3
theorem k0_off20_inb : ∀ (v5 : BitVec 32) (v22 : BitVec 32) (v67 : BitVec 32) (k0_hw4 : k0_chk4 v5 v22 v67), ∀ (k0_h1 : k0_cond1 v5 = 1#1), ∀ (k0_h3 : k0_cond3 v67 = 1#1), ∀ a, (k0_off20 v22) a + S1x1x2048x1024.size a ≤ S2x2x2048x1024.size a := fun v5 v22 v67 k0_hw4 k0_h1 k0_h3 => k0_hw4.2.2.2 k0_h1 k0_h3

def k0_off21 (i : grid0.Coords) : Fin 1 → Nat :=
  let arg1 : BitVec 32 := BitVec.ofNat 32 (i 1).val
  let v9 : Index := Scalar.indexCast arg1
  ![v9.toNat]
def k0_off22 (i : grid0.Coords) : Fin 1 → Nat :=
  let arg1 : BitVec 32 := BitVec.ofNat 32 (i 1).val
  let v14 : Index := Scalar.indexCast arg1
  ![v14.toNat]
def k0_cond4 (v10 : BitVec 32) : BitVec 1 :=
  let c0_i32_2 : BitVec 32 := 0#32
  let v11 : BitVec 1 := Scalar.cmpi .ne v10 c0_i32_2
  let v12 : BitVec 32 := Scalar.extui v11
  let c0_i32_3 : BitVec 32 := 0#32
  let v13 : BitVec 1 := Scalar.cmpi .ne v12 c0_i32_3
  v13

def k0_cond5 (v15 : BitVec 32) : BitVec 1 :=
  let c0_i32_4 : BitVec 32 := 0#32
  let v16 : BitVec 1 := Scalar.cmpi .eq v15 c0_i32_4
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ (r : Fin 2), ∀ a, (k0_off1 i (BitVec.ofNat 32 (2 * r.val))) a + S1.size a ≤ S2352.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c168_i32 : BitVec 32 := 168#32
  let v0 : BitVec 32 := Scalar.muli arg0 c168_i32
  let v1 : BitVec 32 := Scalar.addi v0 arg1
  let c7_i32 : BitVec 32 := 7#32
  let v2 : BitVec 32 := Scalar.muli v1 c7_i32
  let c2_i32 : BitVec 32 := 2#32
  let v3 : BitVec 32 := Scalar.addi v2 c2_i32
  let v4 : Index := Scalar.indexCast v3
  let v5 : BitVec 32 := pf.at 0 (Rect.unit (s := S2352) ![v4.toNat] S1.size (k0_off1_inb i 1)) numel1_S1
  let c0_i32 : BitVec 32 := 0#32
  let c0_i32_0 : BitVec 32 := 0#32
  ![v5.toNat, c0_i32.toNat, arg0.toNat]

def cc0_transform_2 (k0_off1_inb : ∀ i : grid0.Coords, ∀ (r : Fin 2), ∀ a, (k0_off1 i (BitVec.ofNat 32 (2 * r.val))) a + S1.size a ≤ S2352.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c168_i32 : BitVec 32 := 168#32
  let v0 : BitVec 32 := Scalar.muli arg0 c168_i32
  let v1 : BitVec 32 := Scalar.addi v0 arg1
  let c7_i32 : BitVec 32 := 7#32
  let v2 : BitVec 32 := Scalar.muli v1 c7_i32
  let c2_i32 : BitVec 32 := 2#32
  let v3 : BitVec 32 := Scalar.addi v2 c2_i32
  let v4 : Index := Scalar.indexCast v3
  let v5 : BitVec 32 := pf.at 0 (Rect.unit (s := S2352) ![v4.toNat] S1.size (k0_off1_inb i 1)) numel1_S1
  let c2_i32_0 : BitVec 32 := 2#32
  let v6 : BitVec 32 := Scalar.addi c2_i32_0 arg0
  let c0_i32 : BitVec 32 := 0#32
  let c0_i32_1 : BitVec 32 := 0#32
  ![v5.toNat, c0_i32.toNat, v6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S43008x2048 : Shape := ⟨2, ![43008, 2048]⟩
abbrev S2352 : Shape := ⟨1, ![2352]⟩
abbrev S168 : Shape := ⟨1, ![168]⟩
abbrev S32x2048x4096 : Shape := ⟨3, ![32, 2048, 4096]⟩
abbrev S32x1x4096 : Shape := ⟨3, ![32, 1, 4096]⟩
abbrev S168x256x2048 : Shape := ⟨3, ![168, 256, 2048]⟩
abbrev S_ : Shape := ⟨0, ![]⟩
abbrev S168x1 : Shape := ⟨2, ![168, 1]⟩
abbrev S168x2048x4096 : Shape := ⟨3, ![168, 2048, 4096]⟩
abbrev S32x4096 : Shape := ⟨2, ![32, 4096]⟩
abbrev S168x4096 : Shape := ⟨2, ![168, 4096]⟩
abbrev S168x256x4096 : Shape := ⟨3, ![168, 256, 4096]⟩
abbrev S168x1x4096 : Shape := ⟨3, ![168, 1, 4096]⟩
abbrev S168x1x1 : Shape := ⟨3, ![168, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S43008x2048, .f32⟩
  | .hbm, ⟨1, _⟩ => ⟨S2352, .i32⟩
  | .hbm, ⟨2, _⟩ => ⟨S168, .i32⟩
  | .hbm, ⟨3, _⟩ => ⟨S168, .i32⟩
  | .hbm, ⟨4, _⟩ => ⟨S32x2048x4096, .f32⟩
  | .hbm, ⟨5, _⟩ => ⟨S32x1x4096, .f32⟩
  | .hbm, ⟨6, _⟩ => ⟨S168x256x2048, .f32⟩
  | .hbm, ⟨7, _⟩ => ⟨S_, .i32⟩
  | .hbm, ⟨8, _⟩ => ⟨S168, .i32⟩
  | .hbm, ⟨9, _⟩ => ⟨S168, .i1⟩
  | .hbm, ⟨10, _⟩ => ⟨S_, .i32⟩
  | .hbm, ⟨11, _⟩ => ⟨S168, .i32⟩
  | .hbm, ⟨12, _⟩ => ⟨S168, .i32⟩
  | .hbm, ⟨13, _⟩ => ⟨S168, .i32⟩
  | .hbm, ⟨14, _⟩ => ⟨S168x1, .i32⟩
  | .hbm, ⟨15, _⟩ => ⟨S168x2048x4096, .f32⟩
  | .hbm, ⟨16, _⟩ => ⟨S32x4096, .f32⟩
  | .hbm, ⟨17, _⟩ => ⟨S_, .i32⟩
  | .hbm, ⟨18, _⟩ => ⟨S168, .i32⟩
  | .hbm, ⟨19, _⟩ => ⟨S168, .i1⟩
  | .hbm, ⟨20, _⟩ => ⟨S_, .i32⟩
  | .hbm, ⟨21, _⟩ => ⟨S168, .i32⟩
  | .hbm, ⟨22, _⟩ => ⟨S168, .i32⟩
  | .hbm, ⟨23, _⟩ => ⟨S168, .i32⟩
  | .hbm, ⟨24, _⟩ => ⟨S168x1, .i32⟩
  | .hbm, ⟨25, _⟩ => ⟨S168x4096, .f32⟩
  | .hbm, ⟨26, _⟩ => ⟨S168x256x4096, .f32⟩
  | .hbm, ⟨27, _⟩ => ⟨S168x1x4096, .f32⟩
  | .hbm, ⟨28, _⟩ => ⟨S168x256x4096, .f32⟩
  | .hbm, ⟨29, _⟩ => ⟨S168x256x4096, .f32⟩
  | .hbm, ⟨30, _⟩ => ⟨S168x256x2048, .f32⟩
  | .hbm, ⟨31, _⟩ => ⟨S_, .f32⟩
  | .hbm, ⟨32, _⟩ => ⟨S168x256x2048, .f32⟩
  | .hbm, ⟨33, _⟩ => ⟨S168x256x2048, .f32⟩
  | .hbm, ⟨34, _⟩ => ⟨S168x256x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S168x256x2048, .f32⟩
  | .hbm, ⟨39, _⟩ => ⟨S168x256x2048, .f32⟩
  | .hbm, ⟨40, _⟩ => ⟨S_, .f32⟩
  | .hbm, ⟨41, _⟩ => ⟨S168x256x2048, .f32⟩
  | .hbm, ⟨42, _⟩ => ⟨S168x256x2048, .f32⟩
  | .hbm, ⟨43, _⟩ => ⟨S_, .f32⟩
  | .hbm, ⟨44, _⟩ => ⟨S168x256x2048, .f32⟩
  | .hbm, ⟨45, _⟩ => ⟨S168x256x2048, .f32⟩
  | .hbm, ⟨46, _⟩ => ⟨S168x256x2048, .f32⟩
  | .hbm, ⟨47, _⟩ => ⟨S_, .f32⟩
  | .hbm, ⟨48, _⟩ => ⟨S168x256x2048, .f32⟩
  | .hbm, ⟨49, _⟩ => ⟨S168x256x2048, .f32⟩
  | .hbm, ⟨50, _⟩ => ⟨S168x256x2048, .f32⟩
  | .hbm, ⟨51, _⟩ => ⟨S168x256x2048, .f32⟩
  | .hbm, ⟨52, _⟩ => ⟨S_, .f32⟩
  | .hbm, ⟨53, _⟩ => ⟨S168x256x2048, .f32⟩
  | .hbm, ⟨54, _⟩ => ⟨S168x256x2048, .f32⟩
  | .hbm, ⟨55, _⟩ => ⟨S_, .f32⟩
  | .hbm, ⟨56, _⟩ => ⟨S168x256x2048, .f32⟩
  | .hbm, ⟨57, _⟩ => ⟨S168x256x2048, .f32⟩
  | .hbm, ⟨58, _⟩ => ⟨S168x256x2048, .f32⟩
  | .hbm, ⟨59, _⟩ => ⟨S_, .i32⟩
  | .hbm, ⟨60, _⟩ => ⟨S168, .i32⟩
  | .hbm, ⟨61, _⟩ => ⟨S168, .i1⟩
  | .hbm, ⟨62, _⟩ => ⟨S168x1x1, .i1⟩
  | .hbm, ⟨63, _⟩ => ⟨S_, .f32⟩
  | .hbm, ⟨64, _⟩ => ⟨S_, .f32⟩
  | .hbm, ⟨65, _⟩ => ⟨S168x256x2048, .i1⟩
  | .hbm, ⟨66, _⟩ => ⟨S168x256x2048, .f32⟩
  | .hbm, ⟨67, _⟩ => ⟨S168x256x2048, .f32⟩
  | .hbm, ⟨68, _⟩ => ⟨S43008x2048, .f32⟩
  | .hbm, ⟨69, _⟩ => ⟨S43008x2048, .bf16⟩
  | _, _ => ⟨S43008x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]
-- ==== Proof.Soft.lean ====
module

public import Idealize.ShloMosaic.PureOps.Ideal
public import Idealize.ShloMosaic.PureOps.Ideal.Laws

@[expose] public section

noncomputable section

/-! The softmax of a finite family of scores over the extended reals, and the fact that it depends only on the
    scores that are not `⊥`: a masked key may be left out, or put in any number of times. -/

namespace Cert.Soft

open Idealize.ShloMosaic

variable {ι κ : Type} [Fintype ι] [Fintype κ]

/-- The greatest score. -/
def top (S : ι → EReal) : EReal := Finset.univ.sup S

/-- The weight of a key before the division. -/
def ex (S : ι → EReal) (s : ι) : EReal := Ideal.exp (S s - top S)

/-- The sum of the weights. -/
def den (S : ι → EReal) : EReal := ∑ s, ex S s

/-- The weighted sum of the values over the sum of the weights. -/
def out (S v : ι → EReal) : EReal := Ideal.div (∑ s, ex S s * v s) (den S)

/-- The logarithm of the sum of the exponentials. -/
def lse (S : ι → EReal) : EReal := top S + Ideal.log (den S)

/-- A masked key has weight zero. -/
theorem ex_of_bot {S : ι → EReal} {s : ι} (h : S s = ⊥) : ex S s = 0 := by
  unfold ex
  rw [h, EReal.bot_sub]; rfl

/-- `f` carries the unmasked keys of `S'` one to one onto the unmasked keys of `S`, with their scores. -/
structure Same (S : ι → EReal) (S' : κ → EReal) (f : κ → ι) : Prop where
  score : ∀ k, S' k ≠ ⊥ → S (f k) = S' k
  inj : ∀ k l, S' k ≠ ⊥ → S' l ≠ ⊥ → f k = f l → k = l
  onto : ∀ s, S s ≠ ⊥ → ∃ k, S' k ≠ ⊥ ∧ f k = s

variable {S : ι → EReal} {S' : κ → EReal} {f : κ → ι}

/-- The maxima agree. -/
theorem Same.top (h : Same S S' f) : Soft.top S' = Soft.top S := by
  unfold Soft.top
  refine le_antisymm (Finset.sup_le fun k _ => ?_) (Finset.sup_le fun s _ => ?_)
  · by_cases hk : S' k = ⊥
    · rw [hk]; exact bot_le
    · rw [← h.score k hk]; exact Finset.le_sup (f := S) (Finset.mem_univ _)
  · by_cases hs : S s = ⊥
    · rw [hs]; exact bot_le
    · obtain ⟨k, hk, rfl⟩ := h.onto s hs
      rw [h.score k hk]; exact Finset.le_sup (f := S') (Finset.mem_univ _)

/-- Each unmasked key keeps its weight. -/
theorem Same.ex (h : Same S S' f) {k : κ} (hk : S' k ≠ ⊥) : Soft.ex S' k = Soft.ex S (f k) := by
  unfold Soft.ex; rw [h.top, h.score k hk]

/-- A weighted sum over the keys of one family is the weighted sum over the keys of the other. -/
theorem Same.sum (h : Same S S' f) (v : ι → EReal) (v' : κ → EReal) (hv : ∀ k, S' k ≠ ⊥ → v' k = v (f k)) :
    ∑ k, Soft.ex S' k * v' k = ∑ s, Soft.ex S s * v s := by
  refine Finset.sum_bij_ne_zero (fun k _ _ => f k) (fun _ _ _ => Finset.mem_univ _) ?_ ?_ ?_
  · intro k _ hk l _ hl e
    have hk' : S' k ≠ ⊥ := fun e => hk (by rw [ex_of_bot e, zero_mul])
    have hl' : S' l ≠ ⊥ := fun e => hl (by rw [ex_of_bot e, zero_mul])
    exact h.inj k l hk' hl' e
  · intro s _ hs
    have hs' : S s ≠ ⊥ := fun e => hs (by rw [ex_of_bot e, zero_mul])
    obtain ⟨k, hk, rfl⟩ := h.onto s hs'
    exact ⟨k, Finset.mem_univ _, by rw [h.ex hk, hv k hk]; exact hs, rfl⟩
  · intro k _ hk
    have hk' : S' k ≠ ⊥ := fun e => hk (by rw [ex_of_bot e, zero_mul])
    rw [h.ex hk', hv k hk']

/-- The denominators agree. -/
theorem Same.den (h : Same S S' f) : Soft.den S' = Soft.den S := by
  have := h.sum (fun _ => 1) (fun _ => 1) (fun _ _ => rfl)
  unfold Soft.den
  simpa only [mul_one] using this

/-- The outputs agree. -/
theorem Same.out (h : Same S S' f) (v : ι → EReal) (v' : κ → EReal) (hv : ∀ k, S' k ≠ ⊥ → v' k = v (f k)) :
    Soft.out S' v' = Soft.out S v := by
  unfold Soft.out; rw [h.sum v v' hv, h.den]

/-- The log-sum-exps agree. -/
theorem Same.lse (h : Same S S' f) : Soft.lse S' = Soft.lse S := by
  unfold Soft.lse; rw [h.top, h.den]

/-- The maximum over two families laid side by side. -/
theorem top_sum (S₁ : ι → EReal) (S₂ : κ → EReal) : top (Sum.elim S₁ S₂) = max (top S₁) (top S₂) := by
  unfold top
  refine le_antisymm (Finset.sup_le fun k _ => ?_) (max_le (Finset.sup_le fun k _ => ?_) (Finset.sup_le fun k _ => ?_))
  · cases k with
    | inl k => exact le_max_of_le_left (Finset.le_sup (f := S₁) (Finset.mem_univ k))
    | inr k => exact le_max_of_le_right (Finset.le_sup (f := S₂) (Finset.mem_univ k))
  · exact Finset.le_sup (f := Sum.elim S₁ S₂) (Finset.mem_univ (Sum.inl k))
  · exact Finset.le_sup (f := Sum.elim S₁ S₂) (Finset.mem_univ (Sum.inr k))

/-- The fold by `max` from `⊥` is the greatest score. -/
theorem fold_max (S : ι → EReal) : Finset.univ.fold max ⊥ S = top S := rfl

end Cert.Soft

end
-- ==== Proof.Heads.lean ====
module

public import proofs.«01_k».proof.Proof.Gen.KernelIdeal.Frame
public import Idealize.ShloMosaic.Lib.Pointwise
public import proofs.«01_k».proof.Proof.Soft

@[expose] public section

noncomputable section

/-! One head of the attention body as two functions of vectors: the masked scores of a 128 × 128 pair of
    blocks, and the head's output and log-sum-exp from the scores of the current and the previous block. -/

namespace Cert.Att

open Cert.KernelIdeal Cert.KernelIdeal.Gen Idealize.ShloMosaic

/-- The masked scores of one block pair: `q kᵀ / 8 - slope * distance` where the mask holds, the mask value elsewhere. -/
def scoreV (w : BitVec 32) (d : IVec S128x128 32) (val : IVec S128x128 1) (q k : FVec Ideal S128x64 .bf16) :
    FVec Ideal S128x128 .f32 :=
  select val
    (subf (mulf (matmul dot_S128x64_S128x64_S128x128_1_1_0_0_n_n none q k (constant S128x128 .f32 0x00000000#32))
        (broadcast S128x128 (Scalar.ofBits .f32 0x3E000000#32 : Ideal .f32)))
      (mulf (broadcast S128x128 (Scalar.ofBits .f32 w : Ideal .f32)) (sitofp .f32 d)))
    (broadcast S128x128 (Named.named κ "mask" 0xF149F2CA#32 : Ideal .f32))

/-- The row maximum over both blocks. -/
def maxV (sc sp : FVec Ideal S128x128 .f32) : FVec Ideal S128x1 .f32 :=
  maximumf (shapeCast S128x1 (multiReduction .maximumf [1] S128 sc 0xFF800000#32 reduces_S128x128_S128 (.inl rfl) rfl) shapeCasts_S128_S128x1)
    (shapeCast S128x1 (multiReduction .maximumf [1] S128 sp 0xFF800000#32 reduces_S128x128_S128 (.inl rfl) rfl) shapeCasts_S128_S128x1)

/-- The exponentials of one block's scores less the row maximum. -/
def expV (s : FVec Ideal S128x128 .f32) (m : FVec Ideal S128x1 .f32) : FVec Ideal S128x128 .f32 :=
  exp (subf s (broadcastTo S128x128 m broadcasts_S128x1_S128x128))

/-- The softmax denominator. -/
def denV (ec ep : FVec Ideal S128x128 .f32) : FVec Ideal S128x1 .f32 :=
  addf (shapeCast S128x1 (multiReduction .add [1] S128 ec 0x00000000#32 reduces_S128x128_S128 (.inl rfl) rfl) shapeCasts_S128_S128x1)
    (shapeCast S128x1 (multiReduction .add [1] S128 ep 0x00000000#32 reduces_S128x128_S128 (.inl rfl) rfl) shapeCasts_S128_S128x1)

/-- The head's output. -/
def outV (sc sp : FVec Ideal S128x128 .f32) (v vp : FVec Ideal S128x64 .bf16) : FVec Ideal S128x64 .f32 :=
  divf (addf (matmul dot_S128x128_S128x64_S128x64_1_0_0_1_n_n none (truncf .bf16 (expV sc (maxV sc sp)) bitsLt_bf16_f32) v (constant S128x64 .f32 0x00000000#32))
      (matmul dot_S128x128_S128x64_S128x64_1_0_0_1_n_n none (truncf .bf16 (expV sp (maxV sc sp)) bitsLt_bf16_f32) vp (constant S128x64 .f32 0x00000000#32)))
    (broadcastTo S128x64 (denV (expV sc (maxV sc sp)) (expV sp (maxV sc sp))) broadcasts_S128x1_S128x64)

/-- The head's log-sum-exp, repeated along the head's lanes. -/
def lseV (sc sp : FVec Ideal S128x128 .f32) : FVec Ideal S128x64 .f32 :=
  broadcastTo S128x64 (shapeCast S128x1 (addf (maxV sc sp) (log (denV (expV sc (maxV sc sp)) (expV sp (maxV sc sp))))) shapeCasts_S128x1_S128x1)
    broadcasts_S128x1_S128x64

/-- The pattern of −∞ denotes `⊥`. -/
theorem negInf : Ideal.ofBits .f32 4286578688#32 = ⊥ := by simp [Ideal.ofBits, Ideal.ieee]

/-- The named mask value is `⊥`. -/
theorem mask_eq : (Named.named κ "mask" 0xF149F2CA#32 : Ideal .f32) = ⊥ :=
  IdealRules.named_const.ideal_named_scalar _ _ _ _ rfl

/-- The masked scores of a block pair at an index. -/
theorem scoreV_apply (w : BitVec 32) (d : IVec S128x128 32) (val : IVec S128x128 1) (q k : FVec Ideal S128x64 .bf16)
    (a b : Fin 128) : scoreV w d val q k (ix2 a b)
      = if val (ix2 a b) = 1#1 then (∑ e : Fin 64, q (ix2 a e) * k (ix2 b e)) * Ideal.ofBits .f32 1040187392#32
          - Ideal.ofBits .f32 w * (((d (ix2 a b)).toInt : ℝ) : EReal) else ⊥ := by
  have e := mask_eq
  pointwise [scoreV]
  rw [e]
  rfl

/-- The row maximum at a row. -/
theorem maxV_apply (sc sp : FVec Ideal S128x128 .f32) (a : Fin 128) (b : Fin 1) : maxV sc sp (ix2 a b)
    = Soft.top (Sum.elim (fun x : Fin 128 => sc (ix2 a x)) (fun x : Fin 128 => sp (ix2 a x))) := by
  pointwise [maxV]
  rw [negInf, Soft.fold_max, Soft.fold_max, Soft.top_sum]

/-- The exponentials at an index. -/
theorem expV_apply (s : FVec Ideal S128x128 .f32) (m : FVec Ideal S128x1 .f32) (a b : Fin 128) :
    expV s m (ix2 a b) = Ideal.exp (s (ix2 a b) - m (ix2 a 0)) := by
  pointwise [expV]

/-- The denominator at a row. -/
theorem denV_apply (sc sp : FVec Ideal S128x128 .f32) (a : Fin 128) (b : Fin 1) :
    denV (expV sc (maxV sc sp)) (expV sp (maxV sc sp)) (ix2 a b)
      = Soft.den (Sum.elim (fun x : Fin 128 => sc (ix2 a x)) (fun x : Fin 128 => sp (ix2 a x))) := by
  pointwise [denV]
  simp only [expV_apply, maxV_apply]
  rw [Soft.den, Fintype.sum_sum_type]
  rfl

/-- A head's output at an index: the softmax over the keys of the two blocks. -/
theorem outV_apply (sc sp : FVec Ideal S128x128 .f32) (v vp : FVec Ideal S128x64 .bf16) (a : Fin 128) (b : Fin 64) :
    outV sc sp v vp (ix2 a b)
      = Soft.out (Sum.elim (fun x : Fin 128 => sc (ix2 a x)) (fun x : Fin 128 => sp (ix2 a x)))
          (Sum.elim (fun x : Fin 128 => v (ix2 x b)) (fun x : Fin 128 => vp (ix2 x b))) := by
  pointwise [outV]
  simp only [expV_apply, maxV_apply, denV_apply]
  rw [Soft.out, Fintype.sum_sum_type]
  rfl

/-- A head's log-sum-exp at an index. -/
theorem lseV_apply (sc sp : FVec Ideal S128x128 .f32) (a : Fin 128) (b : Fin 64) :
    lseV sc sp (ix2 a b)
      = Soft.lse (Sum.elim (fun x : Fin 128 => sc (ix2 a x)) (fun x : Fin 128 => sp (ix2 a x))) := by
  pointwise [lseV]
  rw [maxV_apply, denV_apply]
  rfl

end Cert.Att

end
-- ==== Proof.Spec.lean ====
module

public import proofs.«01_k».proof.Proof.Soft
public import Idealize.ShloMosaic.Lib.Pointwise

@[expose] public section
noncomputable section

/-! The dilated-window attention of head group 0, read off the projected array: which elements of it are query, key
    and value, the score of a query and a key, and the two results. -/

namespace Cert.Att

open Idealize.ShloMosaic

/-- The projected array: 8192 token rows of 5120 columns. -/
abbrev Proj : Type := (⟨2, ![8192, 5120]⟩ : Shape).Idx → EReal

/-- The row of token `t` of batch row `b`. -/
abbrev row (b : Fin 4) (t : Fin 2048) : Fin 8192 := ⟨2048 * b.val + t.val, by omega⟩

/-- The column of lane `e` of head `h`: queries (part 0), keys (part 1), values (part 2). -/
abbrev col (p : Fin 3) (h : Fin 4) (e : Fin 64) : Fin 5120 := ⟨768 * p.val + 64 * h.val + e.val, by omega⟩

/-- The word of a head's distance penalty, `2 ^ (-8 (h + 1) / 12)` rounded to f32. -/
abbrev slopeWord : Fin 4 → BitVec 32
  | 0 => 0x3F214518#32
  | 1 => 0x3ECB2FF5#32
  | 2 => 0x3E800000#32
  | 3 => 0x3E214518#32

/-- The score of query `t` and key `s`: `q · k / 8` less the penalty of their distance where the key lies in the window
    of the 129 tokens ending at the query, `⊥` elsewhere. -/
def score (x : Proj) (b h : Fin 4) (t s : Fin 2048) : EReal :=
  if s.val ≤ t.val ∧ t.val ≤ s.val + 128 then
    (∑ e : Fin 64, x (ix2 (row b t) (col 0 h e)) * x (ix2 (row b s) (col 1 h e))) * Ideal.ofBits .f32 1040187392#32
      - Ideal.ofBits .f32 (slopeWord h) * ((((t.val : ℤ) - (s.val : ℤ) : ℤ) : ℝ) : EReal)
  else ⊥

/-- Lane `e` of the value of key `s`. -/
def value (x : Proj) (b h : Fin 4) (e : Fin 64) (s : Fin 2048) : EReal := x (ix2 (row b s) (col 2 h e))

/-- The attention output of token `t`, head `h`, lane `e`. -/
def attOut (x : Proj) (b h : Fin 4) (t : Fin 2048) (e : Fin 64) : EReal :=
  Soft.out (score x b h t) (value x b h e)

/-- The log-sum-exp of token `t`, head `h`. -/
def attLse (x : Proj) (b h : Fin 4) (t : Fin 2048) : EReal := Soft.lse (score x b h t)

/-- The difference of two small naturals as 32-bit words, read signed. -/
theorem toInt_sub (a b : ℕ) (ha : a < 65536) (hb : b < 65536) :
    (BitVec.ofNat 32 a - BitVec.ofNat 32 b).toInt = (a : ℤ) - b := by
  rw [BitVec.toInt_sub, BitVec.toInt_eq_toNat_of_lt (by simp; omega), BitVec.toInt_eq_toNat_of_lt (by simp; omega)]
  simp only [Int.bmod_def, BitVec.toNat_ofNat]
  omega

end Cert.Att

end
-- ==== Proof.Body.lean ====
module

public import proofs.«01_k».proof.Proof.Heads
public import proofs.«01_k».proof.Proof.Spec
public import Idealize.ShloMosaic.Lib.Pipeline.Value
public import Idealize.ShloMosaic.Lib.WordCmp

@[expose] public section

set_option maxRecDepth 20000

noncomputable section

/-! What the attention body stores, from the blocks it loads: each of its four result blocks holds two heads side by side,
    and a head is the softmax over the keys of the current and the previous block. -/

namespace Cert.Att

open Cert.KernelIdeal Cert.KernelIdeal.Gen Idealize.ShloMosaic

/-- A block of 128 rows and two heads. -/
abbrev Blk : Type := Vec Ideal S128x128 .f32

/-- The lanes of the block's first head. -/
def cut0 (x : Blk) : FVec Ideal S128x64 .bf16 :=
  extractStridedSlice S128x64 ![0, 0] (truncf .bf16 x bitsLt_bf16_f32) slices_S128x128_o0_0_S128x64

/-- The lanes of the block's second head. -/
def cut1 (x : Blk) : FVec Ideal S128x64 .bf16 :=
  extractStridedSlice S128x64 ![0, 64] (truncf .bf16 x bitsLt_bf16_f32) slices_S128x128_o0_64_S128x64

theorem hz : (![0, 0] : Fin 2 → Nat) = fun _ => 0 := funext fun a => by fin_cases a <;> rfl

/-- A load of the whole block is the block. -/
theorem ld_whole (x : Blk) : View.ld x r0_0 = x := View.ld_unit_zero hz _ x

/-- Two heads' outputs side by side. -/
def pairOut (i : grid0.Coords) (w w' : BitVec 32) (q k kp v vp : Blk) : FVec Ideal S128x128 .f32 :=
  concatenate S128x128 1 [
    ⟨S128x64, outV (scoreV w k0_pay5 k0_pay7 (cut0 q) (cut0 k)) (scoreV w k0_pay6 (k0_pay8 i) (cut0 q) (cut0 kp)) (cut0 v) (cut0 vp)⟩,
    ⟨S128x64, outV (scoreV w' k0_pay5 k0_pay7 (cut1 q) (cut1 k)) (scoreV w' k0_pay6 (k0_pay8 i) (cut1 q) (cut1 kp)) (cut1 v) (cut1 vp)⟩]
    concatenates_S128x64_S128x64_S128x128_d1

/-- Two heads' log-sum-exps side by side. -/
def pairLse (i : grid0.Coords) (w w' : BitVec 32) (q k kp : Blk) : FVec Ideal S128x128 .f32 :=
  concatenate S128x128 1 [
    ⟨S128x64, lseV (scoreV w k0_pay5 k0_pay7 (cut0 q) (cut0 k)) (scoreV w k0_pay6 (k0_pay8 i) (cut0 q) (cut0 kp))⟩,
    ⟨S128x64, lseV (scoreV w' k0_pay5 k0_pay7 (cut1 q) (cut1 k)) (scoreV w' k0_pay6 (k0_pay8 i) (cut1 q) (cut1 kp))⟩]
    concatenates_S128x64_S128x64_S128x128_d1

/-- The first result block: the outputs of heads 0 and 1. -/
theorem out10_eq (i : grid0.Coords) (x0 x1 x2 x3 x4 x5 x6 x7 x8 x9 : Blk) : out0_10 i x0 x1 x2 x3 x4 x5 x6 x7 x8 x9
    = pairOut i 0x3F214518#32 0x3ECB2FF5#32 x0 x1 x2 x3 x4 := by
  unfold_out out0_10
  rw [View.canon_unit_zero hz]
  simp only [ld_whole]
  rfl

/-- The second result block: the outputs of heads 2 and 3. -/
theorem out11_eq (i : grid0.Coords) (x0 x1 x2 x3 x4 x5 x6 x7 x8 x9 : Blk) : out0_11 i x0 x1 x2 x3 x4 x5 x6 x7 x8 x9
    = pairOut i 0x3E800000#32 0x3E214518#32 x5 x6 x7 x8 x9 := by
  unfold_out out0_11
  rw [View.canon_unit_zero hz]
  simp only [ld_whole]
  rfl

/-- The third result block: the log-sum-exps of heads 0 and 1. -/
theorem out12_eq (i : grid0.Coords) (x0 x1 x2 x3 x4 x5 x6 x7 x8 x9 : Blk) : out0_12 i x0 x1 x2 x3 x4 x5 x6 x7 x8 x9
    = pairLse i 0x3F214518#32 0x3ECB2FF5#32 x0 x1 x2 := by
  unfold_out out0_12
  rw [View.canon_unit_zero hz]
  simp only [ld_whole]
  rfl

/-- The fourth result block: the log-sum-exps of heads 2 and 3. -/
theorem out13_eq (i : grid0.Coords) (x0 x1 x2 x3 x4 x5 x6 x7 x8 x9 : Blk) : out0_13 i x0 x1 x2 x3 x4 x5 x6 x7 x8 x9
    = pairLse i 0x3E800000#32 0x3E214518#32 x5 x6 x7 := by
  unfold_out out0_13
  rw [View.canon_unit_zero hz]
  simp only [ld_whole]
  rfl

/-- The lane of a block's head. -/
abbrev lane (hh : Fin 2) (e : Fin 64) : Fin 128 := ⟨64 * hh.val + e.val, by omega⟩

/-- The scores of query row `j` of a block against the current block's keys and the previous block's keys. -/
def blkScore (i : grid0.Coords) (w : BitVec 32) (hh : Fin 2) (q k kp : Blk) (j : Fin 128) : Fin 128 ⊕ Fin 128 → EReal :=
  Sum.elim
    (fun a => if a.val ≤ j.val then (∑ e : Fin 64, q (ix2 j (lane hh e)) * k (ix2 a (lane hh e))) * Ideal.ofBits .f32 1040187392#32
        - Ideal.ofBits .f32 w * ((((j.val : ℤ) - (a.val : ℤ) : ℤ) : ℝ) : EReal) else ⊥)
    (fun a => if j.val ≤ a.val ∧ 0 < (i 1).val then (∑ e : Fin 64, q (ix2 j (lane hh e)) * kp (ix2 a (lane hh e))) * Ideal.ofBits .f32 1040187392#32
        - Ideal.ofBits .f32 w * ((((j.val : ℤ) + 128 - (a.val : ℤ) : ℤ) : ℝ) : EReal) else ⊥)

theorem cut0_apply (x : Blk) (a : Fin 128) (e : Fin 64) : cut0 x (ix2 a e) = x (ix2 a (lane 0 e)) := by
  pointwise [cut0]
  refine congrArg _ (funext fun b => Fin.ext ?_)
  match b with
  | ⟨0, _⟩ => rfl
  | ⟨1, _⟩ => simp

theorem cut1_apply (x : Blk) (a : Fin 128) (e : Fin 64) : cut1 x (ix2 a e) = x (ix2 a (lane 1 e)) := by
  pointwise [cut1]
  refine congrArg _ (funext fun b => Fin.ext ?_)
  match b with
  | ⟨0, _⟩ => rfl
  | ⟨1, _⟩ => simp

/-- The distance of a query row and a key row of the current block. -/
theorem dist_cur (j a : Fin 128) : (k0_pay5 (ix2 j a)).toInt = (j.val : ℤ) - a.val := by
  pointwise [k0_pay5]
  exact toInt_sub _ _ (by omega) (by omega)

/-- The distance of a query row and a key row of the previous block. -/
theorem dist_prev (j a : Fin 128) : (k0_pay6 (ix2 j a)).toInt = (j.val : ℤ) + 128 - a.val := by
  have e : k0_pay6 (ix2 j a) = BitVec.ofNat 32 (j.val + 128) - BitVec.ofNat 32 a.val := by
    pointwise [k0_pay6, k0_pay5]
    apply BitVec.eq_of_toNat_eq
    simp only [IntOp.addi, IntOp.subi, BitVec.toNat_add, BitVec.toNat_sub, BitVec.toNat_ofNat]
    omega
  rw [e, toInt_sub _ _ (by omega) (by omega)]
  push_cast; ring

/-- The mask of the current block. -/
theorem valid_cur (j a : Fin 128) : k0_pay7 (ix2 j a) = 1#1 ↔ a.val ≤ j.val := by
  have e : k0_pay7 (ix2 j a) = IntOp.cmpi .sge (k0_pay5 (ix2 j a)) 0#32 := by pointwise [k0_pay7]
  rw [e, WordCmp.cmpi_sge_eq, dist_cur]
  have : (0#32 : BitVec 32).toInt = 0 := by decide
  rw [this]
  by_cases h : a.val ≤ j.val
  · have : (0 : ℤ) ≤ (j.val : ℤ) - a.val := by omega
    simp [h, this]
  · have : ¬ (0 : ℤ) ≤ (j.val : ℤ) - a.val := by omega
    simp only [h, iff_false]
    rw [decide_eq_false this]; decide

/-- The mask of the previous block. -/
theorem valid_prev (i : grid0.Coords) (hi : (i 1).val < 16) (j a : Fin 128) :
    k0_pay8 i (ix2 j a) = 1#1 ↔ j.val ≤ a.val ∧ 0 < (i 1).val := by
  have e : k0_pay8 i (ix2 j a) = IntOp.cmpi .sle (k0_pay6 (ix2 j a)) 128#32 &&& IntOp.cmpi .sgt (BitVec.ofNat 32 (i 1).val) 0#32 := by
    pointwise [k0_pay8]
    rfl
  rw [e, WordCmp.cmpi_sle_eq, dist_prev, WordCmp.cmpi_sgt_eq]
  have h1 : (128#32 : BitVec 32).toInt = 128 := by decide
  have h2 : (0#32 : BitVec 32).toInt = 0 := by decide
  have h3 : (BitVec.ofNat 32 (i 1).val).toInt = (i 1).val := by
    rw [BitVec.toInt_eq_toNat_of_lt (by simp; omega)]; simp; omega
  rw [h1, h2, h3]
  have d1 : decide ((j.val : ℤ) + 128 - a.val ≤ 128) = decide (j.val ≤ a.val) := by rw [decide_eq_decide]; omega
  have d2 : decide ((0 : ℤ) < ((i 1).val : ℤ)) = decide (0 < (i 1).val) := by rw [decide_eq_decide]; omega
  rw [d1, d2]
  by_cases g1 : j.val ≤ a.val <;> by_cases g2 : 0 < (i 1).val <;>
    simp only [g1, g2, decide_true, decide_false, true_and, false_and, and_true, and_false, iff_true, iff_false] <;> decide

/-- A head's scores of the two blocks, read at a query row. -/
theorem scores_row (i : grid0.Coords) (hi : (i 1).val < 16) (w : BitVec 32) (hh : Fin 2) (q k kp : Blk) (j : Fin 128)
    (cut : Blk → FVec Ideal S128x64 .bf16) (hc : ∀ x a e, cut x (ix2 a e) = x (ix2 a (lane hh e))) :
    Sum.elim (fun x : Fin 128 => scoreV w k0_pay5 k0_pay7 (cut q) (cut k) (ix2 j x))
      (fun x : Fin 128 => scoreV w k0_pay6 (k0_pay8 i) (cut q) (cut kp) (ix2 j x)) = blkScore i w hh q k kp j := by
  unfold blkScore
  refine congrArg₂ _ (funext fun a => ?_) (funext fun a => ?_)
  · rw [scoreV_apply, dist_cur]
    simp only [hc, valid_cur]
  · rw [scoreV_apply, dist_prev]
    simp only [hc, valid_prev i hi]

/-- Two heads' outputs at a row and a head's lane. -/
theorem pairOut_apply (i : grid0.Coords) (hi : (i 1).val < 16) (w : Fin 2 → BitVec 32) (q k kp v vp : Blk) (j : Fin 128) (hh : Fin 2) (e : Fin 64) :
    pairOut i (w 0) (w 1) q k kp v vp (ix2 j (lane hh e))
      = Soft.out (blkScore i (w hh) hh q k kp j)
          (Sum.elim (fun a : Fin 128 => v (ix2 a (lane hh e))) (fun a : Fin 128 => vp (ix2 a (lane hh e)))) := by
  match hh with
  | 0 =>
    have h1 : pairOut i (w 0) (w 1) q k kp v vp (ix2 j (lane 0 e)) = outV (scoreV (w 0) k0_pay5 k0_pay7 (cut0 q) (cut0 k))
        (scoreV (w 0) k0_pay6 (k0_pay8 i) (cut0 q) (cut0 kp)) (cut0 v) (cut0 vp) (ix2 j e) := by
      pointwise [pairOut]
    rw [h1, outV_apply, scores_row i hi (w 0) 0 q k kp j cut0 cut0_apply]
    simp only [cut0_apply]
  | 1 =>
    have h1 : pairOut i (w 0) (w 1) q k kp v vp (ix2 j (lane 1 e)) = outV (scoreV (w 1) k0_pay5 k0_pay7 (cut1 q) (cut1 k))
        (scoreV (w 1) k0_pay6 (k0_pay8 i) (cut1 q) (cut1 kp)) (cut1 v) (cut1 vp) (ix2 j e) := by
      pointwise [pairOut]
    rw [h1, outV_apply, scores_row i hi (w 1) 1 q k kp j cut1 cut1_apply]
    simp only [cut1_apply]

/-- Two heads' log-sum-exps at a row and a head's lane. -/
theorem pairLse_apply (i : grid0.Coords) (hi : (i 1).val < 16) (w : Fin 2 → BitVec 32) (q k kp : Blk) (j : Fin 128) (hh : Fin 2) (e : Fin 64) :
    pairLse i (w 0) (w 1) q k kp (ix2 j (lane hh e)) = Soft.lse (blkScore i (w hh) hh q k kp j) := by
  match hh with
  | 0 =>
    have h1 : pairLse i (w 0) (w 1) q k kp (ix2 j (lane 0 e)) = lseV (scoreV (w 0) k0_pay5 k0_pay7 (cut0 q) (cut0 k))
        (scoreV (w 0) k0_pay6 (k0_pay8 i) (cut0 q) (cut0 kp)) (ix2 j e) := by
      pointwise [pairLse]
    rw [h1, lseV_apply, scores_row i hi (w 0) 0 q k kp j cut0 cut0_apply]
  | 1 =>
    have h1 : pairLse i (w 0) (w 1) q k kp (ix2 j (lane 1 e)) = lseV (scoreV (w 1) k0_pay5 k0_pay7 (cut1 q) (cut1 k))
        (scoreV (w 1) k0_pay6 (k0_pay8 i) (cut1 q) (cut1 kp)) (ix2 j e) := by
      pointwise [pairLse]
    rw [h1, lseV_apply, scores_row i hi (w 1) 1 q k kp j cut1 cut1_apply]

end Cert.Att

end
-- ==== Proof.Point.lean ====
module

public import proofs.«01_k».proof.Proof.Gen.KernelIdeal.Value
public import proofs.«01_k».proof.Proof.Body

@[expose] public section

noncomputable section

/-! The blocks a grid point loads, read at an index of the projected array, and what the point stores: the attention of
    the 128 tokens of its block. -/

namespace Cert.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- The batch row of a grid point. -/
abbrev bat (t : Fin grid0.N) : Fin 4 := ⟨(grid0.coords t 0).val, (grid0.coords t 0).isLt⟩

/-- The number of a grid point's block of 128 tokens in its batch row. -/
abbrev blkNo (t : Fin grid0.N) : Fin 16 := ⟨(grid0.coords t 1).val, (grid0.coords t 1).isLt⟩

/-- The token of row `a` of block `i`. -/
abbrev tok (i : Fin 16) (a : Fin 128) : Fin 2048 := ⟨128 * i.val + a.val, by omega⟩

/-- The block before block `i`, the first block being before itself. -/
abbrev prev (i : Fin 16) : Fin 16 := ⟨i.val - 1, by omega⟩

/-- The column of lane `l` of column block `p`. -/
abbrev lcol (p : Fin 40) (l : Fin 128) : Fin 5120 := ⟨128 * p.val + l.val, by omega⟩

/-- The projected array of the run's arguments. -/
abbrev X : Proj := m ((c : Thread nD τ).loc main_arg0)

theorem idx0 : ∀ t : Fin grid0.N, win0_0.index t 0 = 16 * (grid0.coords t 0).val + (grid0.coords t 1).val ∧ win0_0.index t 1 = 0 := by
  decide +kernel

/-- Input block 0 at a row and a lane. -/
theorem blk0 (t : Fin grid0.N) (a l : Fin 128) :
    (iblk m c 0 t : Blk) (ix2 a l) = X m c (ix2 (row (bat t) (tok (blkNo t) a)) (lcol 0 l)) := by
  show X m c ((win0_0.rect t).emb (ix2 a l)) = _
  refine congrArg _ (funext fun b => Fin.ext ?_)
  match b with
  | ⟨0, _⟩ =>
    refine (win0_0.rect_emb_val t (ix2 a l) 0).trans ?_
    rw [(idx0 t).1]
    show (16 * (grid0.coords t 0).val + (grid0.coords t 1).val) * 128 + a.val = 2048 * (grid0.coords t 0).val + (128 * (grid0.coords t 1).val + a.val)
    omega
  | ⟨1, _⟩ =>
    refine (win0_0.rect_emb_val t (ix2 a l) 1).trans ?_
    rw [(idx0 t).2]
    show 0 * 128 + l.val = 128 * 0 + l.val
    omega

theorem idx1 : ∀ t : Fin grid0.N, win0_1.index t 0 = 16 * (grid0.coords t 0).val + (grid0.coords t 1).val ∧ win0_1.index t 1 = 6 := by
  decide +kernel

/-- Input block 1 at a row and a lane. -/
theorem blk1 (t : Fin grid0.N) (a l : Fin 128) :
    (iblk m c 1 t : Blk) (ix2 a l) = X m c (ix2 (row (bat t) (tok (blkNo t) a)) (lcol 6 l)) := by
  show X m c ((win0_1.rect t).emb (ix2 a l)) = _
  refine congrArg _ (funext fun b => Fin.ext ?_)
  match b with
  | ⟨0, _⟩ =>
    refine (win0_1.rect_emb_val t (ix2 a l) 0).trans ?_
    rw [(idx1 t).1]
    show (16 * (grid0.coords t 0).val + (grid0.coords t 1).val) * 128 + a.val = 2048 * (grid0.coords t 0).val + (128 * (grid0.coords t 1).val + a.val)
    omega
  | ⟨1, _⟩ =>
    refine (win0_1.rect_emb_val t (ix2 a l) 1).trans ?_
    rw [(idx1 t).2]
    show 6 * 128 + l.val = 128 * 6 + l.val
    omega

theorem idx2 : ∀ t : Fin grid0.N, win0_2.index t 0 = 16 * (grid0.coords t 0).val + ((grid0.coords t 1).val - 1) ∧ win0_2.index t 1 = 6 := by
  decide +kernel

/-- Input block 2 at a row and a lane. -/
theorem blk2 (t : Fin grid0.N) (a l : Fin 128) :
    (iblk m c 2 t : Blk) (ix2 a l) = X m c (ix2 (row (bat t) (tok (prev (blkNo t)) a)) (lcol 6 l)) := by
  show X m c ((win0_2.rect t).emb (ix2 a l)) = _
  refine congrArg _ (funext fun b => Fin.ext ?_)
  match b with
  | ⟨0, _⟩ =>
    refine (win0_2.rect_emb_val t (ix2 a l) 0).trans ?_
    rw [(idx2 t).1]
    show (16 * (grid0.coords t 0).val + ((grid0.coords t 1).val - 1)) * 128 + a.val = 2048 * (grid0.coords t 0).val + (128 * ((grid0.coords t 1).val - 1) + a.val)
    omega
  | ⟨1, _⟩ =>
    refine (win0_2.rect_emb_val t (ix2 a l) 1).trans ?_
    rw [(idx2 t).2]
    show 6 * 128 + l.val = 128 * 6 + l.val
    omega

theorem idx3 : ∀ t : Fin grid0.N, win0_3.index t 0 = 16 * (grid0.coords t 0).val + (grid0.coords t 1).val ∧ win0_3.index t 1 = 12 := by
  decide +kernel

/-- Input block 3 at a row and a lane. -/
theorem blk3 (t : Fin grid0.N) (a l : Fin 128) :
    (iblk m c 3 t : Blk) (ix2 a l) = X m c (ix2 (row (bat t) (tok (blkNo t) a)) (lcol 12 l)) := by
  show X m c ((win0_3.rect t).emb (ix2 a l)) = _
  refine congrArg _ (funext fun b => Fin.ext ?_)
  match b with
  | ⟨0, _⟩ =>
    refine (win0_3.rect_emb_val t (ix2 a l) 0).trans ?_
    rw [(idx3 t).1]
    show (16 * (grid0.coords t 0).val + (grid0.coords t 1).val) * 128 + a.val = 2048 * (grid0.coords t 0).val + (128 * (grid0.coords t 1).val + a.val)
    omega
  | ⟨1, _⟩ =>
    refine (win0_3.rect_emb_val t (ix2 a l) 1).trans ?_
    rw [(idx3 t).2]
    show 12 * 128 + l.val = 128 * 12 + l.val
    omega

theorem idx4 : ∀ t : Fin grid0.N, win0_4.index t 0 = 16 * (grid0.coords t 0).val + ((grid0.coords t 1).val - 1) ∧ win0_4.index t 1 = 12 := by
  decide +kernel

/-- Input block 4 at a row and a lane. -/
theorem blk4 (t : Fin grid0.N) (a l : Fin 128) :
    (iblk m c 4 t : Blk) (ix2 a l) = X m c (ix2 (row (bat t) (tok (prev (blkNo t)) a)) (lcol 12 l)) := by
  show X m c ((win0_4.rect t).emb (ix2 a l)) = _
  refine congrArg _ (funext fun b => Fin.ext ?_)
  match b with
  | ⟨0, _⟩ =>
    refine (win0_4.rect_emb_val t (ix2 a l) 0).trans ?_
    rw [(idx4 t).1]
    show (16 * (grid0.coords t 0).val + ((grid0.coords t 1).val - 1)) * 128 + a.val = 2048 * (grid0.coords t 0).val + (128 * ((grid0.coords t 1).val - 1) + a.val)
    omega
  | ⟨1, _⟩ =>
    refine (win0_4.rect_emb_val t (ix2 a l) 1).trans ?_
    rw [(idx4 t).2]
    show 12 * 128 + l.val = 128 * 12 + l.val
    omega

theorem idx5 : ∀ t : Fin grid0.N, win0_5.index t 0 = 16 * (grid0.coords t 0).val + (grid0.coords t 1).val ∧ win0_5.index t 1 = 1 := by
  decide +kernel

/-- Input block 5 at a row and a lane. -/
theorem blk5 (t : Fin grid0.N) (a l : Fin 128) :
    (iblk m c 5 t : Blk) (ix2 a l) = X m c (ix2 (row (bat t) (tok (blkNo t) a)) (lcol 1 l)) := by
  show X m c ((win0_5.rect t).emb (ix2 a l)) = _
  refine congrArg _ (funext fun b => Fin.ext ?_)
  match b with
  | ⟨0, _⟩ =>
    refine (win0_5.rect_emb_val t (ix2 a l) 0).trans ?_
    rw [(idx5 t).1]
    show (16 * (grid0.coords t 0).val + (grid0.coords t 1).val) * 128 + a.val = 2048 * (grid0.coords t 0).val + (128 * (grid0.coords t 1).val + a.val)
    omega
  | ⟨1, _⟩ =>
    refine (win0_5.rect_emb_val t (ix2 a l) 1).trans ?_
    rw [(idx5 t).2]
    show 1 * 128 + l.val = 128 * 1 + l.val
    omega

theorem idx6 : ∀ t : Fin grid0.N, win0_6.index t 0 = 16 * (grid0.coords t 0).val + (grid0.coords t 1).val ∧ win0_6.index t 1 = 7 := by
  decide +kernel

/-- Input block 6 at a row and a lane. -/
theorem blk6 (t : Fin grid0.N) (a l : Fin 128) :
    (iblk m c 6 t : Blk) (ix2 a l) = X m c (ix2 (row (bat t) (tok (blkNo t) a)) (lcol 7 l)) := by
  show X m c ((win0_6.rect t).emb (ix2 a l)) = _
  refine congrArg _ (funext fun b => Fin.ext ?_)
  match b with
  | ⟨0, _⟩ =>
    refine (win0_6.rect_emb_val t (ix2 a l) 0).trans ?_
    rw [(idx6 t).1]
    show (16 * (grid0.coords t 0).val + (grid0.coords t 1).val) * 128 + a.val = 2048 * (grid0.coords t 0).val + (128 * (grid0.coords t 1).val + a.val)
    omega
  | ⟨1, _⟩ =>
    refine (win0_6.rect_emb_val t (ix2 a l) 1).trans ?_
    rw [(idx6 t).2]
    show 7 * 128 + l.val = 128 * 7 + l.val
    omega

theorem idx7 : ∀ t : Fin grid0.N, win0_7.index t 0 = 16 * (grid0.coords t 0).val + ((grid0.coords t 1).val - 1) ∧ win0_7.index t 1 = 7 := by
  decide +kernel

/-- Input block 7 at a row and a lane. -/
theorem blk7 (t : Fin grid0.N) (a l : Fin 128) :
    (iblk m c 7 t : Blk) (ix2 a l) = X m c (ix2 (row (bat t) (tok (prev (blkNo t)) a)) (lcol 7 l)) := by
  show X m c ((win0_7.rect t).emb (ix2 a l)) = _
  refine congrArg _ (funext fun b => Fin.ext ?_)
  match b with
  | ⟨0, _⟩ =>
    refine (win0_7.rect_emb_val t (ix2 a l) 0).trans ?_
    rw [(idx7 t).1]
    show (16 * (grid0.coords t 0).val + ((grid0.coords t 1).val - 1)) * 128 + a.val = 2048 * (grid0.coords t 0).val + (128 * ((grid0.coords t 1).val - 1) + a.val)
    omega
  | ⟨1, _⟩ =>
    refine (win0_7.rect_emb_val t (ix2 a l) 1).trans ?_
    rw [(idx7 t).2]
    show 7 * 128 + l.val = 128 * 7 + l.val
    omega

theorem idx8 : ∀ t : Fin grid0.N, win0_8.index t 0 = 16 * (grid0.coords t 0).val + (grid0.coords t 1).val ∧ win0_8.index t 1 = 13 := by
  decide +kernel

/-- Input block 8 at a row and a lane. -/
theorem blk8 (t : Fin grid0.N) (a l : Fin 128) :
    (iblk m c 8 t : Blk) (ix2 a l) = X m c (ix2 (row (bat t) (tok (blkNo t) a)) (lcol 13 l)) := by
  show X m c ((win0_8.rect t).emb (ix2 a l)) = _
  refine congrArg _ (funext fun b => Fin.ext ?_)
  match b with
  | ⟨0, _⟩ =>
    refine (win0_8.rect_emb_val t (ix2 a l) 0).trans ?_
    rw [(idx8 t).1]
    show (16 * (grid0.coords t 0).val + (grid0.coords t 1).val) * 128 + a.val = 2048 * (grid0.coords t 0).val + (128 * (grid0.coords t 1).val + a.val)
    omega
  | ⟨1, _⟩ =>
    refine (win0_8.rect_emb_val t (ix2 a l) 1).trans ?_
    rw [(idx8 t).2]
    show 13 * 128 + l.val = 128 * 13 + l.val
    omega

theorem idx9 : ∀ t : Fin grid0.N, win0_9.index t 0 = 16 * (grid0.coords t 0).val + ((grid0.coords t 1).val - 1) ∧ win0_9.index t 1 = 13 := by
  decide +kernel

/-- Input block 9 at a row and a lane. -/
theorem blk9 (t : Fin grid0.N) (a l : Fin 128) :
    (iblk m c 9 t : Blk) (ix2 a l) = X m c (ix2 (row (bat t) (tok (prev (blkNo t)) a)) (lcol 13 l)) := by
  show X m c ((win0_9.rect t).emb (ix2 a l)) = _
  refine congrArg _ (funext fun b => Fin.ext ?_)
  match b with
  | ⟨0, _⟩ =>
    refine (win0_9.rect_emb_val t (ix2 a l) 0).trans ?_
    rw [(idx9 t).1]
    show (16 * (grid0.coords t 0).val + ((grid0.coords t 1).val - 1)) * 128 + a.val = 2048 * (grid0.coords t 0).val + (128 * ((grid0.coords t 1).val - 1) + a.val)
    omega
  | ⟨1, _⟩ =>
    refine (win0_9.rect_emb_val t (ix2 a l) 1).trans ?_
    rw [(idx9 t).2]
    show 13 * 128 + l.val = 128 * 13 + l.val
    omega

/-- A key of the two blocks as a token of the batch row. -/
def keyTok (i : Fin 16) : Fin 128 ⊕ Fin 128 → Fin 2048 := Sum.elim (tok i) (tok (prev i))

/-- The scores a grid point computes are the reference's scores of the two blocks' tokens; every unmasked token lies in
    one of the two blocks. -/
theorem same (x : Proj) (b h : Fin 4) (hh : Fin 2) (p : Fin 2) (hp : h.val = 2 * p.val + hh.val) (g : grid0.Coords) (i : Fin 16) (hi : (g 1).val = i.val)
    (q k kp : Blk)
    (hq : ∀ a l, q (ix2 a l) = x (ix2 (row b (tok i a)) (lcol ⟨p.val, by omega⟩ l)))
    (hk : ∀ a l, k (ix2 a l) = x (ix2 (row b (tok i a)) (lcol ⟨6 + p.val, by omega⟩ l)))
    (hkp : ∀ a l, kp (ix2 a l) = x (ix2 (row b (tok (prev i) a)) (lcol ⟨6 + p.val, by omega⟩ l))) (j : Fin 128) :
    Soft.Same (score x b h (tok i j)) (blkScore g (slopeWord h) hh q k kp j) (keyTok i) := by
  have ec0 : ∀ e, lcol ⟨p.val, by omega⟩ (lane hh e) = col 0 h e := fun e => Fin.ext (by simp; omega)
  have ec1 : ∀ e, lcol ⟨6 + p.val, by omega⟩ (lane hh e) = col 1 h e := fun e => Fin.ext (by simp; omega)
  -- a masked key is one whose condition fails
  have hl : ∀ a, blkScore g (slopeWord h) hh q k kp j (Sum.inl a) = score x b h (tok i j) (tok i a) := by
    intro a
    unfold blkScore score
    simp only [Sum.elim_inl, hq, hk, ec0, ec1]
    have e1 : (a.val ≤ j.val) = ((tok i a).val ≤ (tok i j).val ∧ (tok i j).val ≤ (tok i a).val + 128) := by
      refine propext ?_
      show _ ↔ 128 * i.val + a.val ≤ 128 * i.val + j.val ∧ 128 * i.val + j.val ≤ 128 * i.val + a.val + 128
      omega
    have e2 : ((j.val : ℤ) - (a.val : ℤ)) = ((tok i j).val : ℤ) - ((tok i a).val : ℤ) := by push_cast; ring
    simp only [e1, e2]
  have hr : ∀ a, 0 < i.val → blkScore g (slopeWord h) hh q k kp j (Sum.inr a) = score x b h (tok i j) (tok (prev i) a) := by
    intro a h0
    unfold blkScore score
    simp only [Sum.elim_inr, hq, hkp, ec0, ec1]
    have e1 : (j.val ≤ a.val ∧ 0 < (g 1).val) = ((tok (prev i) a).val ≤ (tok i j).val ∧ (tok i j).val ≤ (tok (prev i) a).val + 128) := by
      refine propext ?_
      show _ ↔ 128 * (i.val - 1) + a.val ≤ 128 * i.val + j.val ∧ 128 * i.val + j.val ≤ 128 * (i.val - 1) + a.val + 128
      omega
    have e2 : ((j.val : ℤ) + 128 - (a.val : ℤ)) = ((tok i j).val : ℤ) - ((tok (prev i) a).val : ℤ) := by
      show _ = ((128 * i.val + j.val : ℕ) : ℤ) - ((128 * (i.val - 1) + a.val : ℕ) : ℤ)
      omega
    simp only [e1, e2]
  have hr0 : ∀ a, i.val = 0 → blkScore g (slopeWord h) hh q k kp j (Sum.inr a) = ⊥ := by
    intro a h0
    unfold blkScore
    simp only [Sum.elim_inr]
    rw [if_neg (by omega)]
  refine ⟨?_, ?_, ?_⟩
  · rintro (a | a) hka
    · exact (hl a).symm
    · by_cases h0 : i.val = 0
      · exact absurd (hr0 a h0) hka
      · exact (hr a (by omega)).symm
  · rintro (a | a) (a' | a') hka hka' e
    · have : 128 * i.val + a.val = 128 * i.val + a'.val := congrArg Fin.val e
      exact congrArg _ (Fin.ext (by omega))
    · by_cases h0 : i.val = 0
      · exact absurd (hr0 a' h0) hka'
      · have : 128 * i.val + a.val = 128 * (i.val - 1) + a'.val := congrArg Fin.val e
        omega
    · by_cases h0 : i.val = 0
      · exact absurd (hr0 a h0) hka
      · have : 128 * (i.val - 1) + a.val = 128 * i.val + a'.val := congrArg Fin.val e
        omega
    · have : 128 * (i.val - 1) + a.val = 128 * (i.val - 1) + a'.val := congrArg Fin.val e
      exact congrArg _ (Fin.ext (by omega))
  · intro s hs
    have hw : s.val ≤ 128 * i.val + j.val ∧ 128 * i.val + j.val ≤ s.val + 128 := by
      by_contra hn
      exact hs (if_neg hn)
    by_cases hc : 128 * i.val ≤ s.val
    · have es : tok i ⟨s.val - 128 * i.val, by omega⟩ = s := Fin.ext (by simp; omega)
      refine ⟨Sum.inl ⟨s.val - 128 * i.val, by omega⟩, ?_, es⟩
      rw [hl, es]; exact hs
    · have es : tok (prev i) ⟨s.val - 128 * (i.val - 1), by omega⟩ = s := Fin.ext (by simp; omega)
      refine ⟨Sum.inr ⟨s.val - 128 * (i.val - 1), by omega⟩, ?_, es⟩
      rw [hr _ (by omega), es]; exact hs

/-- A pair of heads' stored outputs are the attention outputs of the block's tokens. -/
theorem pair_att (x : Proj) (b : Fin 4) (hh p : Fin 2) (g : grid0.Coords) (i : Fin 16) (hi : (g 1).val = i.val) (q k kp v vp : Blk)
    (hq : ∀ a l, q (ix2 a l) = x (ix2 (row b (tok i a)) (lcol ⟨p.val, by omega⟩ l)))
    (hk : ∀ a l, k (ix2 a l) = x (ix2 (row b (tok i a)) (lcol ⟨6 + p.val, by omega⟩ l)))
    (hkp : ∀ a l, kp (ix2 a l) = x (ix2 (row b (tok (prev i) a)) (lcol ⟨6 + p.val, by omega⟩ l)))
    (hv : ∀ a l, v (ix2 a l) = x (ix2 (row b (tok i a)) (lcol ⟨12 + p.val, by omega⟩ l)))
    (hvp : ∀ a l, vp (ix2 a l) = x (ix2 (row b (tok (prev i) a)) (lcol ⟨12 + p.val, by omega⟩ l))) (j : Fin 128) (e : Fin 64) :
    pairOut g (slopeWord ⟨2 * p.val + (0 : Fin 2).val, by omega⟩) (slopeWord ⟨2 * p.val + (1 : Fin 2).val, by omega⟩) q k kp v vp (ix2 j (lane hh e))
      = attOut x b ⟨2 * p.val + hh.val, by omega⟩ (tok i j) e := by
  refine (pairOut_apply g (by omega) (fun hh => slopeWord ⟨2 * p.val + hh.val, by omega⟩) q k kp v vp j hh e).trans ?_
  refine (same x b ⟨2 * p.val + hh.val, by omega⟩ hh p rfl g i hi q k kp hq hk hkp j).out _ _ ?_
  rintro (a | a) _
  · show v (ix2 a (lane hh e)) = x _
    rw [hv]
    exact congrArg x (congrArg (ix2 _) (Fin.ext (by simp; omega)))
  · show vp (ix2 a (lane hh e)) = x _
    rw [hvp]
    exact congrArg x (congrArg (ix2 _) (Fin.ext (by simp; omega)))

/-- A pair of heads' stored log-sum-exps are those of the block's tokens. -/
theorem pair_lse (x : Proj) (b : Fin 4) (hh p : Fin 2) (g : grid0.Coords) (i : Fin 16) (hi : (g 1).val = i.val) (q k kp : Blk)
    (hq : ∀ a l, q (ix2 a l) = x (ix2 (row b (tok i a)) (lcol ⟨p.val, by omega⟩ l)))
    (hk : ∀ a l, k (ix2 a l) = x (ix2 (row b (tok i a)) (lcol ⟨6 + p.val, by omega⟩ l)))
    (hkp : ∀ a l, kp (ix2 a l) = x (ix2 (row b (tok (prev i) a)) (lcol ⟨6 + p.val, by omega⟩ l))) (j : Fin 128) (e : Fin 64) :
    pairLse g (slopeWord ⟨2 * p.val + (0 : Fin 2).val, by omega⟩) (slopeWord ⟨2 * p.val + (1 : Fin 2).val, by omega⟩) q k kp (ix2 j (lane hh e))
      = attLse x b ⟨2 * p.val + hh.val, by omega⟩ (tok i j) := by
  refine (pairLse_apply g (by omega) (fun hh => slopeWord ⟨2 * p.val + hh.val, by omega⟩) q k kp j hh e).trans ?_
  exact (same x b ⟨2 * p.val + hh.val, by omega⟩ hh p rfl g i hi q k kp hq hk hkp j).lse

end Cert.Att

end
-- ==== Proof.RefRead.lean ====
module

public import proofs.«01_k».proof.Proof.Gen.ReferenceIdeal.Read
public import proofs.«01_k».proof.Proof.Spec
public import Idealize.ShloMosaic.Lib.Pointwise
public import Idealize.ShloMosaic.Lib.WordCmp

@[expose] public section
noncomputable section

/-! The reference read at an index: its two results are `attOut` and `attLse` of the projected array. -/

namespace Cert.Att

open Cert.ReferenceIdeal Cert.ReferenceIdeal.Gen Cert.ReferenceIdeal.Read Idealize.ShloMosaic

/-- The pattern of −∞ denotes `⊥`. -/
theorem negInf' : Ideal.ofBits .f32 4286578688#32 = ⊥ := by simp [Ideal.ofBits, Ideal.ieee]

/-- The query elements. -/
theorem ref_q (x : Proj) (b h : Fin 4) (t : Fin 2048) (e : Fin 64) :
    val_main_v2 (F := Ideal) x (ix4 b t h e) = x (ix2 (row b t) (col 0 h e)) := by
  rw [val_main_v2_apply, val_main_v1_apply, val_main_v0_apply]
  refine congrArg x (funext fun a => Fin.ext ?_)
  match a with
  | ⟨0, _⟩ => simp; omega
  | ⟨1, _⟩ => simp; omega

/-- The key elements. -/
theorem ref_k (x : Proj) (b h : Fin 4) (t : Fin 2048) (e : Fin 64) :
    val_main_v4 (F := Ideal) x (ix4 b t h e) = x (ix2 (row b t) (col 1 h e)) := by
  rw [val_main_v4_apply, val_main_v3_apply, val_main_v0_apply]
  refine congrArg x (funext fun a => Fin.ext ?_)
  match a with
  | ⟨0, _⟩ => simp; omega
  | ⟨1, _⟩ => simp; omega

/-- The value elements. -/
theorem ref_v (x : Proj) (b h : Fin 4) (t : Fin 2048) (e : Fin 64) :
    val_main_v6 (F := Ideal) x (ix4 b t h e) = x (ix2 (row b t) (col 2 h e)) := by
  rw [val_main_v6_apply, val_main_v5_apply, val_main_v0_apply]
  refine congrArg x (funext fun a => Fin.ext ?_)
  match a with
  | ⟨0, _⟩ => simp; omega
  | ⟨1, _⟩ => simp; omega

/-- The table of the heads' penalties. -/
theorem ref_slope (h : Fin 4) : val_main_v23 (F := Ideal) (ix1 h) = Ideal.ofBits .f32 (slopeWord h) := by
  fin_cases h <;> rfl

/-- The masked scores. -/
theorem ref_score (x : Proj) (b h : Fin 4) (t s : Fin 2048) :
    val_main_v46 (F := Ideal) x (ix4 b h t s) = score x b h t s := by
  have hq := ref_q x b h t
  have hk := ref_k x b h s
  have hs := ref_slope h
  pointwise [val_main_v46, val_main_v44, val_main_v41, val_main_v39, val_main_v43, val_main_v42, val_main_v38, val_main_v36, val_main_v33, val_main_v32,
    val_main_v40, val_main_cst_9, val_main_v37, val_main_v35, val_main_v34, val_main_v26, val_main_v25, val_main_v24, val_main_call4_v1, val_main_v45, val_main_v31, val_main_v30, val_main_v29, val_main_v28, val_main_v27, val_main_c_7, val_main_c_8, val_main_call4_v2, val_main_call4_v0, val_main_cst_10]
  simp only [hq, hk, hs, id]
  unfold score
  have hd := toInt_sub t.val s.val (by omega) (by omega)
  have hc : (IntOp.andi (IntOp.cmpi CmpIPredicate.sge (IntOp.subi (BitVec.ofNat 32 t.val) (BitVec.ofNat 32 s.val)) 0#32)
      (IntOp.cmpi CmpIPredicate.sle (IntOp.subi (BitVec.ofNat 32 t.val) (BitVec.ofNat 32 s.val)) 128#32)) = 1#1
      ↔ s.val ≤ t.val ∧ t.val ≤ s.val + 128 := by
    rw [IntOp.andi, Idealize.ShloMosaic.WordCmp.cmpi_sge_eq, Idealize.ShloMosaic.WordCmp.cmpi_sle_eq, IntOp.subi, hd]
    have e0 : (0#32).toInt = 0 := rfl
    have e1 : (128#32).toInt = 128 := rfl
    rw [e0, e1]
    have d1 : decide ((0 : ℤ) ≤ (t.val : ℤ) - (s.val : ℤ)) = decide (s.val ≤ t.val) := by rw [decide_eq_decide]; omega
    have d2 : decide ((t.val : ℤ) - (s.val : ℤ) ≤ 128) = decide (t.val ≤ s.val + 128) := by rw [decide_eq_decide]; omega
    rw [d1, d2]
    by_cases h1 : s.val ≤ t.val <;> by_cases h2 : t.val ≤ s.val + 128 <;>
      simp only [h1, h2, decide_true, decide_false, true_and, false_and, and_true, and_false, iff_true, iff_false] <;> decide
  unfold Scalar.select
  rw [show (1 : BitVec 1) = 1#1 from rfl]
  by_cases hm : s.val ≤ t.val ∧ t.val ≤ s.val + 128
  · rw [if_pos (hc.2 hm), if_pos hm, EReal.neg_mul, sub_eq_add_neg]
    show _ + -(_ * ((((BitVec.ofNat 32 t.val - BitVec.ofNat 32 s.val).toInt : ℝ)) : EReal)) = _
    rw [hd]
  · rw [if_neg (fun e => hm (hc.1 e)), if_neg hm]
    exact negInf'

/-- The row maxima. -/
theorem ref_max (x : Proj) (b h : Fin 4) (t : Fin 2048) :
    val_main_v47 (F := Ideal) x (ix3 b h t) = Soft.top (score x b h t) := by
  pointwise [val_main_v47, val_main_cst_11]
  simp only [ref_score, negInf', Soft.fold_max]

/-- The weights. -/
theorem ref_exp (x : Proj) (b h : Fin 4) (t s : Fin 2048) :
    val_main_v51 (F := Ideal) x (ix4 b h t s) = Soft.ex (score x b h t) s := by
  pointwise [val_main_v51, val_main_v50, val_main_v49, val_main_v48]
  rw [ref_score, ref_max]
  unfold Soft.ex
  rfl

/-- The denominators. -/
theorem ref_den (x : Proj) (b h : Fin 4) (t : Fin 2048) :
    val_main_v52 (F := Ideal) x (ix3 b h t) = Soft.den (score x b h t) := by
  pointwise [val_main_v52, val_main_cst_12]
  simp only [ref_exp]
  rfl

/-- The output before it is laid out by rows. -/
theorem ref_out (x : Proj) (b h : Fin 4) (t : Fin 2048) (e : Fin 64) :
    val_main_v56 (F := Ideal) x (ix4 b h t e) = attOut x b h t e := by
  pointwise [val_main_v56, val_main_v54, val_main_v55, val_main_v53]
  simp only [ref_exp, ref_den, ref_v]
  unfold attOut Soft.out value
  rfl

/-- The log-sum-exp before it is laid out by rows. -/
theorem ref_lse (x : Proj) (b h : Fin 4) (t : Fin 2048) (e : Fin 64) :
    val_main_v59 (F := Ideal) x (ix4 b h t e) = attLse x b h t := by
  rw [val_main_v59_apply, val_main_v58_apply, val_main_v48_apply, val_main_v57_apply, val_main_v53_apply]
  have e1 : idx_main_v48 (idx_main_v59 (ix4 b h t e)) = ix3 b h t := funext fun a => match a with
    | ⟨0, _⟩ => rfl | ⟨1, _⟩ => rfl | ⟨2, _⟩ => rfl
  have e2 : idx_main_v53 (idx_main_v59 (ix4 b h t e)) = ix3 b h t := funext fun a => match a with
    | ⟨0, _⟩ => rfl | ⟨1, _⟩ => rfl | ⟨2, _⟩ => rfl
  rw [e1, e2, ref_max, ref_den]
  unfold attLse Soft.lse
  generalize Soft.top (score x b h t) = u
  generalize Soft.den (score x b h t) = w
  rfl

/-- The lower lane half of the output. -/
theorem ref_out_lo (x : Proj) (b : Fin 4) (t : Fin 2048) (hh : Fin 2) (e : Fin 64) :
    val_main_v64 (F := Ideal) x (ix2 (row b t) ⟨64 * hh.val + e.val, by omega⟩) = attOut x b ⟨hh.val, by omega⟩ t e := by
  rw [← ref_out x b ⟨hh.val, by omega⟩ t e, val_main_v64_apply, val_main_v61_apply, val_main_v60_apply]
  refine congrArg _ (funext fun a => Fin.ext ?_)
  match a with
  | ⟨0, _⟩ => simp; omega
  | ⟨1, _⟩ => simp; omega
  | ⟨2, _⟩ => simp; omega
  | ⟨3, _⟩ => simp; omega

/-- The upper lane half of the output. -/
theorem ref_out_hi (x : Proj) (b : Fin 4) (t : Fin 2048) (hh : Fin 2) (e : Fin 64) :
    val_main_v65 (F := Ideal) x (ix2 (row b t) ⟨64 * hh.val + e.val, by omega⟩) = attOut x b ⟨2 + hh.val, by omega⟩ t e := by
  rw [← ref_out x b ⟨2 + hh.val, by omega⟩ t e, val_main_v65_apply, val_main_v61_apply, val_main_v60_apply]
  refine congrArg _ (funext fun a => Fin.ext ?_)
  match a with
  | ⟨0, _⟩ => simp; omega
  | ⟨1, _⟩ => simp; omega
  | ⟨2, _⟩ => simp; omega
  | ⟨3, _⟩ => simp; omega

/-- The lower lane half of the log-sum-exp. -/
theorem ref_lse_lo (x : Proj) (b : Fin 4) (t : Fin 2048) (hh : Fin 2) (e : Fin 64) :
    val_main_v66 (F := Ideal) x (ix2 (row b t) ⟨64 * hh.val + e.val, by omega⟩) = attLse x b ⟨hh.val, by omega⟩ t := by
  rw [← ref_lse x b ⟨hh.val, by omega⟩ t e, val_main_v66_apply, val_main_v63_apply, val_main_v62_apply]
  refine congrArg _ (funext fun a => Fin.ext ?_)
  match a with
  | ⟨0, _⟩ => simp; omega
  | ⟨1, _⟩ => simp; omega
  | ⟨2, _⟩ => simp; omega
  | ⟨3, _⟩ => simp; omega

/-- The upper lane half of the log-sum-exp. -/
theorem ref_lse_hi (x : Proj) (b : Fin 4) (t : Fin 2048) (hh : Fin 2) (e : Fin 64) :
    val_main_v67 (F := Ideal) x (ix2 (row b t) ⟨64 * hh.val + e.val, by omega⟩) = attLse x b ⟨2 + hh.val, by omega⟩ t := by
  rw [← ref_lse x b ⟨2 + hh.val, by omega⟩ t e, val_main_v67_apply, val_main_v63_apply, val_main_v62_apply]
  refine congrArg _ (funext fun a => Fin.ext ?_)
  match a with
  | ⟨0, _⟩ => simp; omega
  | ⟨1, _⟩ => simp; omega
  | ⟨2, _⟩ => simp; omega
  | ⟨3, _⟩ => simp; omega

end Cert.Att

end
-- ==== Proof.Final.lean ====
module

public import proofs.«01_k».proof.Defs
public import proofs.«01_k».proof.Proof.Point
public import proofs.«01_k».proof.Proof.RefRead

@[expose] public section

noncomputable section

/-! The four arrays the attention kernel writes are the reference's, and the value claim of the attention. -/

namespace Cert.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- A lane of a block is a lane of one of its two heads. -/
theorem exists_lane (l : Fin 128) : ∃ (hh : Fin 2) (e : Fin 64), l = lane hh e :=
  ⟨⟨l.val / 64, by omega⟩, ⟨l.val % 64, by omega⟩, Fin.ext (by simp; omega)⟩

/-! ## the outputs of heads 0 and 1 -/

/-- The block a grid point writes back of the outputs of heads 0 and 1. -/
theorem idx10 : ∀ t : Fin grid0.N, win0_10.index t 0 = t.val ∧ win0_10.index t 1 = 0
    ∧ t.val = 16 * (grid0.coords t 0).val + (grid0.coords t 1).val := by
  decide +kernel

/-- A block of a whole array, read at a row and a head's lane. -/
theorem read10 (G : S8192x128.Idx → EReal) (t : Fin cfg0.N) (j : Fin 128) (hh : Fin 2) (e : Fin 64) :
    (win0_10.blk t).view.read (Elt Ideal) G (ix2 j (lane hh e)) = G (ix2 (row (bat t) (tok (blkNo t) j)) (lane hh e)) := by
  show G ((win0_10.rect t).emb (ix2 j (lane hh e))) = _
  refine congrArg G (funext fun a => Fin.ext ?_)
  match a with
  | ⟨0, _⟩ =>
    refine (win0_10.rect_emb_val t (ix2 j (lane hh e)) 0).trans ?_
    rw [(idx10 t).1]
    have := (idx10 t).2.2
    show t.val * 128 + j.val = 2048 * (grid0.coords t 0).val + (128 * (grid0.coords t 1).val + j.val)
    omega
  | ⟨1, _⟩ =>
    refine (win0_10.rect_emb_val t (ix2 j (lane hh e)) 1).trans ?_
    rw [(idx10 t).2.1]
    show 0 * 128 + (lane hh e).val = (lane hh e).val
    omega

/-- What a grid point writes back of the outputs of heads 0 and 1 is its block of any array that holds them. -/
theorem written10 (G : S8192x128.Idx → EReal)
    (hG : ∀ (b : Fin 4) (t : Fin 2048) (hh : Fin 2) (e : Fin 64), G (ix2 (row b t) (lane hh e)) = attOut (X m c) b ⟨hh.val, by omega⟩ t e)
    (t : Fin cfg0.N) : (dats m 0 c).flushed 10 t = (win0_10.blk t).view.read (Elt Ideal) G := by
  rw [Cert.KernelIdeal.Value.flushed10]
  show out0_10 (grid0.coords t) (iblk m c 0 t) (iblk m c 1 t) (iblk m c 2 t) (iblk m c 3 t) (iblk m c 4 t) (iblk m c 5 t) (iblk m c 6 t) (iblk m c 7 t) (iblk m c 8 t) (iblk m c 9 t) = _
  rw [out10_eq]
  refine funext fun y => ?_
  obtain ⟨j, l, rfl⟩ : ∃ (j l : Fin 128), y = (ix2 j l : S128x128.Idx) := ⟨y 0, y 1, funext fun a => by match a with | ⟨0, _⟩ => rfl | ⟨1, _⟩ => rfl⟩
  obtain ⟨hh, e, rfl⟩ := exists_lane l
  refine Eq.trans ?_ (read10 G t j hh e).symm
  rw [hG]
  refine (pair_att (X m c) (bat t) hh 0 (grid0.coords t) (blkNo t) rfl (iblk m c 0 t) (iblk m c 1 t) (iblk m c 2 t) (iblk m c 3 t) (iblk m c 4 t)
      (blk0 m c t) (blk1 m c t) (blk2 m c t) (blk3 m c t) (blk4 m c t) j e).trans ?_
  exact congrArg (fun h => attOut (X m c) (bat t) h (tok (blkNo t) j) e) (Fin.ext (by simp))

/-- The blocks cover the array of the outputs of heads 0 and 1. -/
theorem cover10 (i : S8192x128.Idx) : ∃ t : Fin cfg0.N, (cfg0.win 10).flush t = true ∧ i ∈ ((cfg0.win 10).blk t).view.set := by
  have h0 : (i 0 : Nat) < 8192 := (i 0).isLt
  have h1 : (i 1 : Nat) < 128 := (i 1).isLt
  have ht : (i 0 : Nat) / 128 < grid0.N := by rw [show grid0.N = 64 from rfl]; omega
  obtain ⟨t, et⟩ : ∃ t : Fin grid0.N, t.val = (i 0 : Nat) / 128 := ⟨⟨_, ht⟩, rfl⟩
  refine ⟨t, flush0_10 t, ?_⟩
  show i ∈ ((View.whole main_v0_0).slice (win0_10.rect t)).set
  rw [View.set_slice_whole, Rect.mem_set_unit]
  intro a
  match a with
  | ⟨0, _⟩ =>
    show win0_10.index t 0 * 128 ≤ (i 0 : Nat) ∧ (i 0 : Nat) < win0_10.index t 0 * 128 + 128
    rw [(idx10 t).1]; omega
  | ⟨1, _⟩ =>
    show win0_10.index t 1 * 128 ≤ (i 1 : Nat) ∧ (i 1 : Nat) < win0_10.index t 1 * 128 + 128
    rw [(idx10 t).2.1]; omega

/-- The array of the outputs of heads 0 and 1 after the run. -/
theorem final10 : (dats m 0 c).arrAt 10 cfg0.N = Cert.ReferenceIdeal.Read.val_main_v64 (F := Ideal) (X m c) :=
  (dats m 0 c).arrAt_eq_of_cover 10 _ (fun t _ => written10 m c _ (ref_out_lo (X m c)) t) cover10

/-! ## the outputs of heads 2 and 3 -/

/-- The block a grid point writes back of the outputs of heads 2 and 3. -/
theorem idx11 : ∀ t : Fin grid0.N, win0_11.index t 0 = t.val ∧ win0_11.index t 1 = 0
    ∧ t.val = 16 * (grid0.coords t 0).val + (grid0.coords t 1).val := by
  decide +kernel

/-- A block of a whole array, read at a row and a head's lane. -/
theorem read11 (G : S8192x128.Idx → EReal) (t : Fin cfg0.N) (j : Fin 128) (hh : Fin 2) (e : Fin 64) :
    (win0_11.blk t).view.read (Elt Ideal) G (ix2 j (lane hh e)) = G (ix2 (row (bat t) (tok (blkNo t) j)) (lane hh e)) := by
  show G ((win0_11.rect t).emb (ix2 j (lane hh e))) = _
  refine congrArg G (funext fun a => Fin.ext ?_)
  match a with
  | ⟨0, _⟩ =>
    refine (win0_11.rect_emb_val t (ix2 j (lane hh e)) 0).trans ?_
    rw [(idx11 t).1]
    have := (idx11 t).2.2
    show t.val * 128 + j.val = 2048 * (grid0.coords t 0).val + (128 * (grid0.coords t 1).val + j.val)
    omega
  | ⟨1, _⟩ =>
    refine (win0_11.rect_emb_val t (ix2 j (lane hh e)) 1).trans ?_
    rw [(idx11 t).2.1]
    show 0 * 128 + (lane hh e).val = (lane hh e).val
    omega

/-- What a grid point writes back of the outputs of heads 2 and 3 is its block of any array that holds them. -/
theorem written11 (G : S8192x128.Idx → EReal)
    (hG : ∀ (b : Fin 4) (t : Fin 2048) (hh : Fin 2) (e : Fin 64), G (ix2 (row b t) (lane hh e)) = attOut (X m c) b ⟨2 + hh.val, by omega⟩ t e)
    (t : Fin cfg0.N) : (dats m 0 c).flushed 11 t = (win0_11.blk t).view.read (Elt Ideal) G := by
  rw [Cert.KernelIdeal.Value.flushed11]
  show out0_11 (grid0.coords t) (iblk m c 0 t) (iblk m c 1 t) (iblk m c 2 t) (iblk m c 3 t) (iblk m c 4 t) (iblk m c 5 t) (iblk m c 6 t) (iblk m c 7 t) (iblk m c 8 t) (iblk m c 9 t) = _
  rw [out11_eq]
  refine funext fun y => ?_
  obtain ⟨j, l, rfl⟩ : ∃ (j l : Fin 128), y = (ix2 j l : S128x128.Idx) := ⟨y 0, y 1, funext fun a => by match a with | ⟨0, _⟩ => rfl | ⟨1, _⟩ => rfl⟩
  obtain ⟨hh, e, rfl⟩ := exists_lane l
  refine Eq.trans ?_ (read11 G t j hh e).symm
  rw [hG]
  refine (pair_att (X m c) (bat t) hh 1 (grid0.coords t) (blkNo t) rfl (iblk m c 5 t) (iblk m c 6 t) (iblk m c 7 t) (iblk m c 8 t) (iblk m c 9 t)
      (blk5 m c t) (blk6 m c t) (blk7 m c t) (blk8 m c t) (blk9 m c t) j e).trans ?_
  exact congrArg (fun h => attOut (X m c) (bat t) h (tok (blkNo t) j) e) (Fin.ext (by simp))

/-- The blocks cover the array of the outputs of heads 2 and 3. -/
theorem cover11 (i : S8192x128.Idx) : ∃ t : Fin cfg0.N, (cfg0.win 11).flush t = true ∧ i ∈ ((cfg0.win 11).blk t).view.set := by
  have h0 : (i 0 : Nat) < 8192 := (i 0).isLt
  have h1 : (i 1 : Nat) < 128 := (i 1).isLt
  have ht : (i 0 : Nat) / 128 < grid0.N := by rw [show grid0.N = 64 from rfl]; omega
  obtain ⟨t, et⟩ : ∃ t : Fin grid0.N, t.val = (i 0 : Nat) / 128 := ⟨⟨_, ht⟩, rfl⟩
  refine ⟨t, flush0_11 t, ?_⟩
  show i ∈ ((View.whole main_v0_1).slice (win0_11.rect t)).set
  rw [View.set_slice_whole, Rect.mem_set_unit]
  intro a
  match a with
  | ⟨0, _⟩ =>
    show win0_11.index t 0 * 128 ≤ (i 0 : Nat) ∧ (i 0 : Nat) < win0_11.index t 0 * 128 + 128
    rw [(idx11 t).1]; omega
  | ⟨1, _⟩ =>
    show win0_11.index t 1 * 128 ≤ (i 1 : Nat) ∧ (i 1 : Nat) < win0_11.index t 1 * 128 + 128
    rw [(idx11 t).2.1]; omega

/-- The array of the outputs of heads 2 and 3 after the run. -/
theorem final11 : (dats m 0 c).arrAt 11 cfg0.N = Cert.ReferenceIdeal.Read.val_main_v65 (F := Ideal) (X m c) :=
  (dats m 0 c).arrAt_eq_of_cover 11 _ (fun t _ => written11 m c _ (ref_out_hi (X m c)) t) cover11

/-! ## the log-sum-exps of heads 0 and 1 -/

/-- The block a grid point writes back of the log-sum-exps of heads 0 and 1. -/
theorem idx12 : ∀ t : Fin grid0.N, win0_12.index t 0 = t.val ∧ win0_12.index t 1 = 0
    ∧ t.val = 16 * (grid0.coords t 0).val + (grid0.coords t 1).val := by
  decide +kernel

/-- A block of a whole array, read at a row and a head's lane. -/
theorem read12 (G : S8192x128.Idx → EReal) (t : Fin cfg0.N) (j : Fin 128) (hh : Fin 2) (e : Fin 64) :
    (win0_12.blk t).view.read (Elt Ideal) G (ix2 j (lane hh e)) = G (ix2 (row (bat t) (tok (blkNo t) j)) (lane hh e)) := by
  show G ((win0_12.rect t).emb (ix2 j (lane hh e))) = _
  refine congrArg G (funext fun a => Fin.ext ?_)
  match a with
  | ⟨0, _⟩ =>
    refine (win0_12.rect_emb_val t (ix2 j (lane hh e)) 0).trans ?_
    rw [(idx12 t).1]
    have := (idx12 t).2.2
    show t.val * 128 + j.val = 2048 * (grid0.coords t 0).val + (128 * (grid0.coords t 1).val + j.val)
    omega
  | ⟨1, _⟩ =>
    refine (win0_12.rect_emb_val t (ix2 j (lane hh e)) 1).trans ?_
    rw [(idx12 t).2.1]
    show 0 * 128 + (lane hh e).val = (lane hh e).val
    omega

/-- What a grid point writes back of the log-sum-exps of heads 0 and 1 is its block of any array that holds them. -/
theorem written12 (G : S8192x128.Idx → EReal)
    (hG : ∀ (b : Fin 4) (t : Fin 2048) (hh : Fin 2) (e : Fin 64), G (ix2 (row b t) (lane hh e)) = attLse (X m c) b ⟨hh.val, by omega⟩ t)
    (t : Fin cfg0.N) : (dats m 0 c).flushed 12 t = (win0_12.blk t).view.read (Elt Ideal) G := by
  rw [Cert.KernelIdeal.Value.flushed12]
  show out0_12 (grid0.coords t) (iblk m c 0 t) (iblk m c 1 t) (iblk m c 2 t) (iblk m c 3 t) (iblk m c 4 t) (iblk m c 5 t) (iblk m c 6 t) (iblk m c 7 t) (iblk m c 8 t) (iblk m c 9 t) = _
  rw [out12_eq]
  refine funext fun y => ?_
  obtain ⟨j, l, rfl⟩ : ∃ (j l : Fin 128), y = (ix2 j l : S128x128.Idx) := ⟨y 0, y 1, funext fun a => by match a with | ⟨0, _⟩ => rfl | ⟨1, _⟩ => rfl⟩
  obtain ⟨hh, e, rfl⟩ := exists_lane l
  refine Eq.trans ?_ (read12 G t j hh e).symm
  rw [hG]
  refine (pair_lse (X m c) (bat t) hh 0 (grid0.coords t) (blkNo t) rfl (iblk m c 0 t) (iblk m c 1 t) (iblk m c 2 t)
      (blk0 m c t) (blk1 m c t) (blk2 m c t) j e).trans ?_
  exact congrArg (fun h => attLse (X m c) (bat t) h (tok (blkNo t) j)) (Fin.ext (by simp))

/-- The blocks cover the array of the log-sum-exps of heads 0 and 1. -/
theorem cover12 (i : S8192x128.Idx) : ∃ t : Fin cfg0.N, (cfg0.win 12).flush t = true ∧ i ∈ ((cfg0.win 12).blk t).view.set := by
  have h0 : (i 0 : Nat) < 8192 := (i 0).isLt
  have h1 : (i 1 : Nat) < 128 := (i 1).isLt
  have ht : (i 0 : Nat) / 128 < grid0.N := by rw [show grid0.N = 64 from rfl]; omega
  obtain ⟨t, et⟩ : ∃ t : Fin grid0.N, t.val = (i 0 : Nat) / 128 := ⟨⟨_, ht⟩, rfl⟩
  refine ⟨t, flush0_12 t, ?_⟩
  show i ∈ ((View.whole main_v0_2).slice (win0_12.rect t)).set
  rw [View.set_slice_whole, Rect.mem_set_unit]
  intro a
  match a with
  | ⟨0, _⟩ =>
    show win0_12.index t 0 * 128 ≤ (i 0 : Nat) ∧ (i 0 : Nat) < win0_12.index t 0 * 128 + 128
    rw [(idx12 t).1]; omega
  | ⟨1, _⟩ =>
    show win0_12.index t 1 * 128 ≤ (i 1 : Nat) ∧ (i 1 : Nat) < win0_12.index t 1 * 128 + 128
    rw [(idx12 t).2.1]; omega

/-- The array of the log-sum-exps of heads 0 and 1 after the run. -/
theorem final12 : (dats m 0 c).arrAt 12 cfg0.N = Cert.ReferenceIdeal.Read.val_main_v66 (F := Ideal) (X m c) :=
  (dats m 0 c).arrAt_eq_of_cover 12 _ (fun t _ => written12 m c _ (ref_lse_lo (X m c)) t) cover12

/-! ## the log-sum-exps of heads 2 and 3 -/

/-- The block a grid point writes back of the log-sum-exps of heads 2 and 3. -/
theorem idx13 : ∀ t : Fin grid0.N, win0_13.index t 0 = t.val ∧ win0_13.index t 1 = 0
    ∧ t.val = 16 * (grid0.coords t 0).val + (grid0.coords t 1).val := by
  decide +kernel

/-- A block of a whole array, read at a row and a head's lane. -/
theorem read13 (G : S8192x128.Idx → EReal) (t : Fin cfg0.N) (j : Fin 128) (hh : Fin 2) (e : Fin 64) :
    (win0_13.blk t).view.read (Elt Ideal) G (ix2 j (lane hh e)) = G (ix2 (row (bat t) (tok (blkNo t) j)) (lane hh e)) := by
  show G ((win0_13.rect t).emb (ix2 j (lane hh e))) = _
  refine congrArg G (funext fun a => Fin.ext ?_)
  match a with
  | ⟨0, _⟩ =>
    refine (win0_13.rect_emb_val t (ix2 j (lane hh e)) 0).trans ?_
    rw [(idx13 t).1]
    have := (idx13 t).2.2
    show t.val * 128 + j.val = 2048 * (grid0.coords t 0).val + (128 * (grid0.coords t 1).val + j.val)
    omega
  | ⟨1, _⟩ =>
    refine (win0_13.rect_emb_val t (ix2 j (lane hh e)) 1).trans ?_
    rw [(idx13 t).2.1]
    show 0 * 128 + (lane hh e).val = (lane hh e).val
    omega

/-- What a grid point writes back of the log-sum-exps of heads 2 and 3 is its block of any array that holds them. -/
theorem written13 (G : S8192x128.Idx → EReal)
    (hG : ∀ (b : Fin 4) (t : Fin 2048) (hh : Fin 2) (e : Fin 64), G (ix2 (row b t) (lane hh e)) = attLse (X m c) b ⟨2 + hh.val, by omega⟩ t)
    (t : Fin cfg0.N) : (dats m 0 c).flushed 13 t = (win0_13.blk t).view.read (Elt Ideal) G := by
  rw [Cert.KernelIdeal.Value.flushed13]
  show out0_13 (grid0.coords t) (iblk m c 0 t) (iblk m c 1 t) (iblk m c 2 t) (iblk m c 3 t) (iblk m c 4 t) (iblk m c 5 t) (iblk m c 6 t) (iblk m c 7 t) (iblk m c 8 t) (iblk m c 9 t) = _
  rw [out13_eq]
  refine funext fun y => ?_
  obtain ⟨j, l, rfl⟩ : ∃ (j l : Fin 128), y = (ix2 j l : S128x128.Idx) := ⟨y 0, y 1, funext fun a => by match a with | ⟨0, _⟩ => rfl | ⟨1, _⟩ => rfl⟩
  obtain ⟨hh, e, rfl⟩ := exists_lane l
  refine Eq.trans ?_ (read13 G t j hh e).symm
  rw [hG]
  refine (pair_lse (X m c) (bat t) hh 1 (grid0.coords t) (blkNo t) rfl (iblk m c 5 t) (iblk m c 6 t) (iblk m c 7 t)
      (blk5 m c t) (blk6 m c t) (blk7 m c t) j e).trans ?_
  exact congrArg (fun h => attLse (X m c) (bat t) h (tok (blkNo t) j)) (Fin.ext (by simp))

/-- The blocks cover the array of the log-sum-exps of heads 2 and 3. -/
theorem cover13 (i : S8192x128.Idx) : ∃ t : Fin cfg0.N, (cfg0.win 13).flush t = true ∧ i ∈ ((cfg0.win 13).blk t).view.set := by
  have h0 : (i 0 : Nat) < 8192 := (i 0).isLt
  have h1 : (i 1 : Nat) < 128 := (i 1).isLt
  have ht : (i 0 : Nat) / 128 < grid0.N := by rw [show grid0.N = 64 from rfl]; omega
  obtain ⟨t, et⟩ : ∃ t : Fin grid0.N, t.val = (i 0 : Nat) / 128 := ⟨⟨_, ht⟩, rfl⟩
  refine ⟨t, flush0_13 t, ?_⟩
  show i ∈ ((View.whole main_v0_3).slice (win0_13.rect t)).set
  rw [View.set_slice_whole, Rect.mem_set_unit]
  intro a
  match a with
  | ⟨0, _⟩ =>
    show win0_13.index t 0 * 128 ≤ (i 0 : Nat) ∧ (i 0 : Nat) < win0_13.index t 0 * 128 + 128
    rw [(idx13 t).1]; omega
  | ⟨1, _⟩ =>
    show win0_13.index t 1 * 128 ≤ (i 1 : Nat) ∧ (i 1 : Nat) < win0_13.index t 1 * 128 + 128
    rw [(idx13 t).2.1]; omega

/-- The array of the log-sum-exps of heads 2 and 3 after the run. -/
theorem final13 : (dats m 0 c).arrAt 13 cfg0.N = Cert.ReferenceIdeal.Read.val_main_v67 (F := Ideal) (X m c) :=
  (dats m 0 c).arrAt_eq_of_cover 13 _ (fun t _ => written13 m c _ (ref_lse_hi (X m c)) t) cover13

/-- The attention kernel computes the reference's four arrays. -/
theorem agrees : Cert.algebraic_KernelIdeal_ReferenceIdeal := by
  intro m g m' g' _ hm
  refine ⟨fun c => Cert.ReferenceIdeal.Read.val_main_v64 (F := Ideal) (X m c), fun c => Cert.ReferenceIdeal.Read.val_main_v65 (F := Ideal) (X m c),
    fun c => Cert.ReferenceIdeal.Read.val_main_v66 (F := Ideal) (X m c), fun c => Cert.ReferenceIdeal.Read.val_main_v67 (F := Ideal) (X m c), ?_, ?_⟩
  · exact (θ_run Cert.KernelIdeal.defs _ _).mono (fun r h c => ⟨(h c).1.trans (final10 m c), (h c).2.1.trans (final11 m c),
      (h c).2.2.1.trans (final12 m c), (h c).2.2.2.1.trans (final13 m c), (h c).2.2.2.2⟩) (Cert.KernelIdeal.Value.run_blocks m g)
  · refine (θ_run Cert.ReferenceIdeal.defs _ _).mono (fun r h c => ?_) (Cert.ReferenceIdeal.Value.run m' g')
    obtain ⟨a0, a1, a2, a3, a4⟩ := h c
    have e : m' ((c.tc : Thread Cert.ReferenceIdeal.nD Cert.ReferenceIdeal.τ).loc Cert.ReferenceIdeal.main_arg0) = X m c := hm c
    refine ⟨a0.trans ?_, a1.trans ?_, a2.trans ?_, a3.trans ?_, a4⟩
    · rw [Cert.ReferenceIdeal.Read.val_main_v64_eq, e]
    · rw [Cert.ReferenceIdeal.Read.val_main_v65_eq, e]
    · rw [Cert.ReferenceIdeal.Read.val_main_v66_eq, e]
    · rw [Cert.ReferenceIdeal.Read.val_main_v67_eq, e]

end Cert.Att

end
-- ==== Proof.Proj0.lean ====
module

public import proofs.«01_k».proof.Proof.Gen.Kernel2Ideal.Frame
public import Idealize.ShloMosaic.Lib.Pointwise
public import Idealize.ShloMosaic.Lib.Pipeline.Value

@[expose] public section

set_option maxRecDepth 20000

noncomputable section

/-! What the call of the prompt tokens leaves in its result array: the rows times the weights, plus the bias. -/

namespace Cert.Proj

open Cert.Kernel2Ideal Cert.Kernel2Ideal.Gen Idealize.ShloMosaic Idealize.ShloMosaic.TcCoe Idealize.SL.Sem

variable (V : (c : Dev nD) → (b : Ref sig .tc) → Buf (Elt Ideal) ((c : Thread nD τ).loc b)) (c : Dev nD)

theorem hz0 : (![0, 0] : Fin 2 → Nat) = fun _ => 0 := funext fun a => by fin_cases a <;> rfl

/-- What the body stores at a row and a column of its block. -/
theorem out0_apply (x : Vec Ideal S1024x2048 .bf16) (w : Vec Ideal S2048x512 .bf16) (b : Vec Ideal S1x512 .f32) (r : Fin 1024) (n : Fin 512) :
    out0_3 x w b (ix2 r n) = ((∑ k : Fin 2048, x (ix2 r k) * w (ix2 k n)) + b (ix2 0 n)) := by
  unfold out0_3
  rw [View.canon_unit_zero hz0]
  rw [show View.ld x r0_0 = x from View.ld_unit_zero hz0 _ x, show View.ld w r0_1 = w from View.ld_unit_zero hz0 _ w,
    show View.ld b r0_2 = b from View.ld_unit_zero hz0 _ b]
  pointwise [k0_pay1]

/-- The positions of the windows' blocks at a grid point. -/
theorem at0 : ∀ t : Fin grid0.N, win0_0.index t 0 = (grid0.coords t 1).val ∧ win0_0.index t 1 = 0
    ∧ win0_1.index t 0 = 0 ∧ win0_1.index t 1 = (grid0.coords t 0).val
    ∧ win0_2.index t 0 = 0 ∧ win0_2.index t 1 = (grid0.coords t 0).val
    ∧ win0_3.index t 0 = (grid0.coords t 1).val ∧ win0_3.index t 1 = (grid0.coords t 0).val
    ∧ t.val = 8 * (grid0.coords t 0).val + (grid0.coords t 1).val := by
  decide +kernel

/-- The row of the whole array at a row of a grid point's block. -/
abbrev row0 (t : Fin grid0.N) (r : Fin 1024) : Fin 8192 :=
  ⟨1024 * (grid0.coords t 1).val + r.val, by have h : (grid0.coords t 1).val < 8 := (grid0.coords t 1).isLt; omega⟩

/-- The column of the whole array at a column of a grid point's block. -/
abbrev col0 (t : Fin grid0.N) (n : Fin 512) : Fin 5120 :=
  ⟨512 * (grid0.coords t 0).val + n.val, by have h : (grid0.coords t 0).val < 10 := (grid0.coords t 0).isLt; omega⟩

/-- The rows the call finds. -/
abbrev rows0 : S8192x2048.Idx → EReal := V c main_v5

/-- The weights the call finds. -/
abbrev weights0 : S2048x5120.Idx → EReal := V c main_v4

/-- The bias the call finds. -/
abbrev bias0 : S1x5120.Idx → EReal := V c main_v7

/-- The block of rows. -/
theorem inX0 (t : Fin cfg0.N) (r : Fin 1024) (k : Fin 2048) :
    (iblk0 V c 0 t : Vec Ideal S1024x2048 .bf16) (ix2 r k) = rows0 V c (ix2 (row0 t r) k) := by
  show rows0 V c ((win0_0.rect t).emb (ix2 r k)) = _
  refine congrArg _ (funext fun b => Fin.ext ?_)
  match b with
  | ⟨0, _⟩ =>
    refine (win0_0.rect_emb_val t (ix2 r k) 0).trans ?_
    rw [(at0 t).1]
    show (grid0.coords t 1).val * 1024 + r.val = 1024 * (grid0.coords t 1).val + r.val
    omega
  | ⟨1, _⟩ =>
    refine (win0_0.rect_emb_val t (ix2 r k) 1).trans ?_
    rw [(at0 t).2.1]
    show 0 * 2048 + k.val = k.val
    omega

/-- The block of the weights. -/
theorem inW0 (t : Fin cfg0.N) (k : Fin 2048) (n : Fin 512) :
    (iblk0 V c 1 t : Vec Ideal S2048x512 .bf16) (ix2 k n) = weights0 V c (ix2 k (col0 t n)) := by
  show weights0 V c ((win0_1.rect t).emb (ix2 k n)) = _
  refine congrArg _ (funext fun b => Fin.ext ?_)
  match b with
  | ⟨0, _⟩ =>
    refine (win0_1.rect_emb_val t (ix2 k n) 0).trans ?_
    rw [(at0 t).2.2.1]
    show 0 * 2048 + k.val = k.val
    omega
  | ⟨1, _⟩ =>
    refine (win0_1.rect_emb_val t (ix2 k n) 1).trans ?_
    rw [(at0 t).2.2.2.1]
    show (grid0.coords t 0).val * 512 + n.val = 512 * (grid0.coords t 0).val + n.val
    omega

/-- The block of the bias. -/
theorem inB0 (t : Fin cfg0.N) (n : Fin 512) :
    (iblk0 V c 2 t : Vec Ideal S1x512 .f32) (ix2 0 n) = bias0 V c (ix2 0 (col0 t n)) := by
  show bias0 V c ((win0_2.rect t).emb (ix2 0 n)) = _
  refine congrArg _ (funext fun b => Fin.ext ?_)
  match b with
  | ⟨0, _⟩ =>
    refine (win0_2.rect_emb_val t (ix2 0 n) 0).trans ?_
    rw [(at0 t).2.2.2.2.1]
    show 0 * 1 + 0 = 0
    omega
  | ⟨1, _⟩ =>
    refine (win0_2.rect_emb_val t (ix2 0 n) 1).trans ?_
    rw [(at0 t).2.2.2.2.2.1]
    show (grid0.coords t 0).val * 512 + n.val = 512 * (grid0.coords t 0).val + n.val
    omega

/-- A block of a whole result array. -/
theorem read0 (G : S8192x5120.Idx → EReal) (t : Fin cfg0.N) (r : Fin 1024) (n : Fin 512) :
    (win0_3.blk t).view.read (Elt Ideal) G (ix2 r n) = G (ix2 (row0 t r) (col0 t n)) := by
  show G ((win0_3.rect t).emb (ix2 r n)) = _
  refine congrArg G (funext fun b => Fin.ext ?_)
  match b with
  | ⟨0, _⟩ =>
    refine (win0_3.rect_emb_val t (ix2 r n) 0).trans ?_
    rw [(at0 t).2.2.2.2.2.2.1]
    show (grid0.coords t 1).val * 1024 + r.val = 1024 * (grid0.coords t 1).val + r.val
    omega
  | ⟨1, _⟩ =>
    refine (win0_3.rect_emb_val t (ix2 r n) 1).trans ?_
    rw [(at0 t).2.2.2.2.2.2.2.1]
    show (grid0.coords t 0).val * 512 + n.val = 512 * (grid0.coords t 0).val + n.val
    omega

/-- What a grid point writes back is its block of any array that holds the projection. -/
theorem written0 (G : S8192x5120.Idx → EReal)
    (hG : ∀ (r : Fin 8192) (n : Fin 5120), G (ix2 r n) = ((∑ k : Fin 2048, rows0 V c (ix2 r k) * weights0 V c (ix2 k n)) + bias0 V c (ix2 0 n)))
    (t : Fin cfg0.N) : (dat0 V c).flushed 3 t = (win0_3.blk t).view.read (Elt Ideal) G := by
  show (cfg0.win 3).cut (grid0.coords t) ((dat0 V c).after 3 t) = _
  rw [after0_3]
  show out0_3 (iblk0 V c 0 t) (iblk0 V c 1 t) (iblk0 V c 2 t) = _
  refine funext fun y => ?_
  obtain ⟨r, n, rfl⟩ : ∃ (r : Fin 1024) (n : Fin 512), y = (ix2 r n : S1024x512.Idx) := ⟨y 0, y 1, funext fun a => by match a with | ⟨0, _⟩ => rfl | ⟨1, _⟩ => rfl⟩
  refine Eq.trans ?_ (read0 G t r n).symm
  rw [hG]
  refine (out0_apply (iblk0 V c 0 t) (iblk0 V c 1 t) (iblk0 V c 2 t) r n).trans ?_
  simp only [inX0, inW0, inB0]

/-- The blocks cover the result array. -/
theorem cover0 (i : S8192x5120.Idx) : ∃ t : Fin cfg0.N, (cfg0.win 3).flush t = true ∧ i ∈ ((cfg0.win 3).blk t).view.set := by
  have h0 : (i 0 : Nat) < 8192 := (i 0).isLt
  have h1 : (i 1 : Nat) < 5120 := (i 1).isLt
  have ht : 8 * ((i 1 : Nat) / 512) + (i 0 : Nat) / 1024 < grid0.N := by rw [show grid0.N = 80 from rfl]; omega
  obtain ⟨t, et⟩ : ∃ t : Fin grid0.N, t.val = 8 * ((i 1 : Nat) / 512) + (i 0 : Nat) / 1024 := ⟨⟨_, ht⟩, rfl⟩
  have e := (at0 t).2.2.2.2.2.2.2.2
  have b1 : (grid0.coords t 1).val < 8 := (grid0.coords t 1).isLt
  refine ⟨t, flush0_3 t, ?_⟩
  show i ∈ ((View.whole main_v8).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [(at0 t).2.2.2.2.2.2.1]; omega
  | ⟨1, _⟩ =>
    show win0_3.index t 1 * 512 ≤ (i 1 : Nat) ∧ (i 1 : Nat) < win0_3.index t 1 * 512 + 512
    rw [(at0 t).2.2.2.2.2.2.2.1]; omega

/-- The result array of the call: any array that holds the projection of the arrays the call finds. -/
theorem arr0 (G : S8192x5120.Idx → EReal)
    (hG : ∀ (r : Fin 8192) (n : Fin 5120), G (ix2 r n) = ((∑ k : Fin 2048, rows0 V c (ix2 r k) * weights0 V c (ix2 k n)) + bias0 V c (ix2 0 n))) :
    (dat0 V c).arrAt 3 cfg0.N = G :=
  (dat0 V c).arrAt_eq_of_cover 3 _ (fun t _ => written0 V c G hG t) cover0

end Cert.Proj

end
-- ==== Proof.Proj1.lean ====
module

public import proofs.«01_k».proof.Proof.Gen.Kernel2Ideal.Frame
public import Idealize.ShloMosaic.Lib.Pointwise
public import Idealize.ShloMosaic.Lib.Pipeline.Value

@[expose] public section

set_option maxRecDepth 20000

noncomputable section

/-! What the call of the sample tokens leaves in its result array: the rows times the weights, plus the bias. -/

namespace Cert.Proj

open Cert.Kernel2Ideal Cert.Kernel2Ideal.Gen Idealize.ShloMosaic Idealize.ShloMosaic.TcCoe Idealize.SL.Sem

variable (V : (c : Dev nD) → (b : Ref sig .tc) → Buf (Elt Ideal) ((c : Thread nD τ).loc b)) (c : Dev nD)

theorem hz1 : (![0, 0] : Fin 2 → Nat) = fun _ => 0 := funext fun a => by fin_cases a <;> rfl

/-- What the body stores at a row and a column of its block. -/
theorem out1_apply (x : Vec Ideal S512x2048 .bf16) (w : Vec Ideal S2048x512 .bf16) (b : Vec Ideal S1x512 .f32) (r : Fin 512) (n : Fin 512) :
    out1_3 x w b (ix2 r n) = ((∑ k : Fin 2048, x (ix2 r k) * w (ix2 k n)) + b (ix2 0 n)) := by
  unfold out1_3
  rw [View.canon_unit_zero hz1]
  rw [show View.ld x r1_0 = x from View.ld_unit_zero hz1 _ x, show View.ld w r1_1 = w from View.ld_unit_zero hz1 _ w,
    show View.ld b r1_2 = b from View.ld_unit_zero hz1 _ b]
  pointwise [k1_pay1]

/-- The positions of the windows' blocks at a grid point. -/
theorem at1 : ∀ t : Fin grid1.N, win1_0.index t 0 = (grid1.coords t 1).val ∧ win1_0.index t 1 = 0
    ∧ win1_1.index t 0 = 0 ∧ win1_1.index t 1 = (grid1.coords t 0).val
    ∧ win1_2.index t 0 = 0 ∧ win1_2.index t 1 = (grid1.coords t 0).val
    ∧ win1_3.index t 0 = (grid1.coords t 1).val ∧ win1_3.index t 1 = (grid1.coords t 0).val
    ∧ t.val = 1 * (grid1.coords t 0).val + (grid1.coords t 1).val := by
  decide +kernel

/-- The row of the whole array at a row of a grid point's block. -/
abbrev row1 (t : Fin grid1.N) (r : Fin 512) : Fin 512 :=
  ⟨512 * (grid1.coords t 1).val + r.val, by have h : (grid1.coords t 1).val < 1 := (grid1.coords t 1).isLt; omega⟩

/-- The column of the whole array at a column of a grid point's block. -/
abbrev col1 (t : Fin grid1.N) (n : Fin 512) : Fin 5120 :=
  ⟨512 * (grid1.coords t 0).val + n.val, by have h : (grid1.coords t 0).val < 10 := (grid1.coords t 0).isLt; omega⟩

/-- The rows the call finds. -/
abbrev rows1 : S512x2048.Idx → EReal := V c main_v9

/-- The weights the call finds. -/
abbrev weights1 : S2048x5120.Idx → EReal := V c main_v4

/-- The bias the call finds. -/
abbrev bias1 : S1x5120.Idx → EReal := V c main_v11

/-- The block of rows. -/
theorem inX1 (t : Fin cfg1.N) (r : Fin 512) (k : Fin 2048) :
    (iblk1 V c 0 t : Vec Ideal S512x2048 .bf16) (ix2 r k) = rows1 V c (ix2 (row1 t r) k) := by
  show rows1 V c ((win1_0.rect t).emb (ix2 r k)) = _
  refine congrArg _ (funext fun b => Fin.ext ?_)
  match b with
  | ⟨0, _⟩ =>
    refine (win1_0.rect_emb_val t (ix2 r k) 0).trans ?_
    rw [(at1 t).1]
    show (grid1.coords t 1).val * 512 + r.val = 512 * (grid1.coords t 1).val + r.val
    omega
  | ⟨1, _⟩ =>
    refine (win1_0.rect_emb_val t (ix2 r k) 1).trans ?_
    rw [(at1 t).2.1]
    show 0 * 2048 + k.val = k.val
    omega

/-- The block of the weights. -/
theorem inW1 (t : Fin cfg1.N) (k : Fin 2048) (n : Fin 512) :
    (iblk1 V c 1 t : Vec Ideal S2048x512 .bf16) (ix2 k n) = weights1 V c (ix2 k (col1 t n)) := by
  show weights1 V c ((win1_1.rect t).emb (ix2 k n)) = _
  refine congrArg _ (funext fun b => Fin.ext ?_)
  match b with
  | ⟨0, _⟩ =>
    refine (win1_1.rect_emb_val t (ix2 k n) 0).trans ?_
    rw [(at1 t).2.2.1]
    show 0 * 2048 + k.val = k.val
    omega
  | ⟨1, _⟩ =>
    refine (win1_1.rect_emb_val t (ix2 k n) 1).trans ?_
    rw [(at1 t).2.2.2.1]
    show (grid1.coords t 0).val * 512 + n.val = 512 * (grid1.coords t 0).val + n.val
    omega

/-- The block of the bias. -/
theorem inB1 (t : Fin cfg1.N) (n : Fin 512) :
    (iblk1 V c 2 t : Vec Ideal S1x512 .f32) (ix2 0 n) = bias1 V c (ix2 0 (col1 t n)) := by
  show bias1 V c ((win1_2.rect t).emb (ix2 0 n)) = _
  refine congrArg _ (funext fun b => Fin.ext ?_)
  match b with
  | ⟨0, _⟩ =>
    refine (win1_2.rect_emb_val t (ix2 0 n) 0).trans ?_
    rw [(at1 t).2.2.2.2.1]
    show 0 * 1 + 0 = 0
    omega
  | ⟨1, _⟩ =>
    refine (win1_2.rect_emb_val t (ix2 0 n) 1).trans ?_
    rw [(at1 t).2.2.2.2.2.1]
    show (grid1.coords t 0).val * 512 + n.val = 512 * (grid1.coords t 0).val + n.val
    omega

/-- A block of a whole result array. -/
theorem read1 (G : S512x5120.Idx → EReal) (t : Fin cfg1.N) (r : Fin 512) (n : Fin 512) :
    (win1_3.blk t).view.read (Elt Ideal) G (ix2 r n) = G (ix2 (row1 t r) (col1 t n)) := by
  show G ((win1_3.rect t).emb (ix2 r n)) = _
  refine congrArg G (funext fun b => Fin.ext ?_)
  match b with
  | ⟨0, _⟩ =>
    refine (win1_3.rect_emb_val t (ix2 r n) 0).trans ?_
    rw [(at1 t).2.2.2.2.2.2.1]
    show (grid1.coords t 1).val * 512 + r.val = 512 * (grid1.coords t 1).val + r.val
    omega
  | ⟨1, _⟩ =>
    refine (win1_3.rect_emb_val t (ix2 r n) 1).trans ?_
    rw [(at1 t).2.2.2.2.2.2.2.1]
    show (grid1.coords t 0).val * 512 + n.val = 512 * (grid1.coords t 0).val + n.val
    omega

/-- What a grid point writes back is its block of any array that holds the projection. -/
theorem written1 (G : S512x5120.Idx → EReal)
    (hG : ∀ (r : Fin 512) (n : Fin 5120), G (ix2 r n) = ((∑ k : Fin 2048, rows1 V c (ix2 r k) * weights1 V c (ix2 k n)) + bias1 V c (ix2 0 n)))
    (t : Fin cfg1.N) : (dat1 V c).flushed 3 t = (win1_3.blk t).view.read (Elt Ideal) G := by
  show (cfg1.win 3).cut (grid1.coords t) ((dat1 V c).after 3 t) = _
  rw [after1_3]
  show out1_3 (iblk1 V c 0 t) (iblk1 V c 1 t) (iblk1 V c 2 t) = _
  refine funext fun y => ?_
  obtain ⟨r, n, rfl⟩ : ∃ (r : Fin 512) (n : Fin 512), y = (ix2 r n : S512x512.Idx) := ⟨y 0, y 1, funext fun a => by match a with | ⟨0, _⟩ => rfl | ⟨1, _⟩ => rfl⟩
  refine Eq.trans ?_ (read1 G t r n).symm
  rw [hG]
  refine (out1_apply (iblk1 V c 0 t) (iblk1 V c 1 t) (iblk1 V c 2 t) r n).trans ?_
  simp only [inX1, inW1, inB1]

/-- The blocks cover the result array. -/
theorem cover1 (i : S512x5120.Idx) : ∃ t : Fin cfg1.N, (cfg1.win 3).flush t = true ∧ i ∈ ((cfg1.win 3).blk t).view.set := by
  have h0 : (i 0 : Nat) < 512 := (i 0).isLt
  have h1 : (i 1 : Nat) < 5120 := (i 1).isLt
  have ht : 1 * ((i 1 : Nat) / 512) + (i 0 : Nat) / 512 < grid1.N := by rw [show grid1.N = 10 from rfl]; omega
  obtain ⟨t, et⟩ : ∃ t : Fin grid1.N, t.val = 1 * ((i 1 : Nat) / 512) + (i 0 : Nat) / 512 := ⟨⟨_, ht⟩, rfl⟩
  have e := (at1 t).2.2.2.2.2.2.2.2
  have b1 : (grid1.coords t 1).val < 1 := (grid1.coords t 1).isLt
  refine ⟨t, flush1_3 t, ?_⟩
  show i ∈ ((View.whole main_v12).slice (win1_3.rect t)).set
  rw [View.set_slice_whole, Rect.mem_set_unit]
  intro a
  match a with
  | ⟨0, _⟩ =>
    show win1_3.index t 0 * 512 ≤ (i 0 : Nat) ∧ (i 0 : Nat) < win1_3.index t 0 * 512 + 512
    rw [(at1 t).2.2.2.2.2.2.1]; omega
  | ⟨1, _⟩ =>
    show win1_3.index t 1 * 512 ≤ (i 1 : Nat) ∧ (i 1 : Nat) < win1_3.index t 1 * 512 + 512
    rw [(at1 t).2.2.2.2.2.2.2.1]; omega

/-- The result array of the call: any array that holds the projection of the arrays the call finds. -/
theorem arr1 (G : S512x5120.Idx → EReal)
    (hG : ∀ (r : Fin 512) (n : Fin 5120), G (ix2 r n) = ((∑ k : Fin 2048, rows1 V c (ix2 r k) * weights1 V c (ix2 k n)) + bias1 V c (ix2 0 n))) :
    (dat1 V c).arrAt 3 cfg1.N = G :=
  (dat1 V c).arrAt_eq_of_cover 3 _ (fun t _ => written1 V c G hG t) cover1

end Cert.Proj

end
-- ==== Proof.Proj2.lean ====
module

public import proofs.«01_k».proof.Proof.Gen.Kernel2Ideal.Frame
public import Idealize.ShloMosaic.Lib.Pointwise
public import Idealize.ShloMosaic.Lib.Pipeline.Value

@[expose] public section

set_option maxRecDepth 20000

noncomputable section

/-! What the call of the gates leaves in its result array: the rows times the weights, plus the bias, through the logistic function. -/

namespace Cert.Proj

open Cert.Kernel2Ideal Cert.Kernel2Ideal.Gen Idealize.ShloMosaic Idealize.ShloMosaic.TcCoe Idealize.SL.Sem

variable (V : (c : Dev nD) → (b : Ref sig .tc) → Buf (Elt Ideal) ((c : Thread nD τ).loc b)) (c : Dev nD)

theorem hz2 : (![0, 0] : Fin 2 → Nat) = fun _ => 0 := funext fun a => by fin_cases a <;> rfl

/-- What the body stores at a row and a column of its block. -/
theorem out2_apply (x : Vec Ideal S1088x2048 .bf16) (w : Vec Ideal S2048x512 .bf16) (b : Vec Ideal S1x512 .f32) (r : Fin 1088) (n : Fin 512) :
    out2_3 x w b (ix2 r n) = Ideal.logistic ((∑ k : Fin 2048, x (ix2 r k) * w (ix2 k n)) + b (ix2 0 n)) := by
  unfold out2_3
  rw [View.canon_unit_zero hz2]
  rw [show View.ld x r2_0 = x from View.ld_unit_zero hz2 _ x, show View.ld w r2_1 = w from View.ld_unit_zero hz2 _ w,
    show View.ld b r2_2 = b from View.ld_unit_zero hz2 _ b]
  pointwise [k2_pay1]

/-- The positions of the windows' blocks at a grid point. -/
theorem at2 : ∀ t : Fin grid2.N, win2_0.index t 0 = (grid2.coords t 1).val ∧ win2_0.index t 1 = 0
    ∧ win2_1.index t 0 = 0 ∧ win2_1.index t 1 = (grid2.coords t 0).val
    ∧ win2_2.index t 0 = 0 ∧ win2_2.index t 1 = (grid2.coords t 0).val
    ∧ win2_3.index t 0 = (grid2.coords t 1).val ∧ win2_3.index t 1 = (grid2.coords t 0).val
    ∧ t.val = 8 * (grid2.coords t 0).val + (grid2.coords t 1).val := by
  decide +kernel

/-- The row of the whole array at a row of a grid point's block. -/
abbrev row2 (t : Fin grid2.N) (r : Fin 1088) : Fin 8704 :=
  ⟨1088 * (grid2.coords t 1).val + r.val, by have h : (grid2.coords t 1).val < 8 := (grid2.coords t 1).isLt; omega⟩

/-- The column of the whole array at a column of a grid point's block. -/
abbrev col2 (t : Fin grid2.N) (n : Fin 512) : Fin 6144 :=
  ⟨512 * (grid2.coords t 0).val + n.val, by have h : (grid2.coords t 0).val < 12 := (grid2.coords t 0).isLt; omega⟩

/-- The rows the call finds. -/
abbrev rows2 : S8704x2048.Idx → EReal := V c main_v13

/-- The weights the call finds. -/
abbrev weights2 : S2048x6144.Idx → EReal := V c main_v15

/-- The bias the call finds. -/
abbrev bias2 : S1x6144.Idx → EReal := V c main_v17

/-- The block of rows. -/
theorem inX2 (t : Fin cfg2.N) (r : Fin 1088) (k : Fin 2048) :
    (iblk2 V c 0 t : Vec Ideal S1088x2048 .bf16) (ix2 r k) = rows2 V c (ix2 (row2 t r) k) := by
  show rows2 V c ((win2_0.rect t).emb (ix2 r k)) = _
  refine congrArg _ (funext fun b => Fin.ext ?_)
  match b with
  | ⟨0, _⟩ =>
    refine (win2_0.rect_emb_val t (ix2 r k) 0).trans ?_
    rw [(at2 t).1]
    show (grid2.coords t 1).val * 1088 + r.val = 1088 * (grid2.coords t 1).val + r.val
    omega
  | ⟨1, _⟩ =>
    refine (win2_0.rect_emb_val t (ix2 r k) 1).trans ?_
    rw [(at2 t).2.1]
    show 0 * 2048 + k.val = k.val
    omega

/-- The block of the weights. -/
theorem inW2 (t : Fin cfg2.N) (k : Fin 2048) (n : Fin 512) :
    (iblk2 V c 1 t : Vec Ideal S2048x512 .bf16) (ix2 k n) = weights2 V c (ix2 k (col2 t n)) := by
  show weights2 V c ((win2_1.rect t).emb (ix2 k n)) = _
  refine congrArg _ (funext fun b => Fin.ext ?_)
  match b with
  | ⟨0, _⟩ =>
    refine (win2_1.rect_emb_val t (ix2 k n) 0).trans ?_
    rw [(at2 t).2.2.1]
    show 0 * 2048 + k.val = k.val
    omega
  | ⟨1, _⟩ =>
    refine (win2_1.rect_emb_val t (ix2 k n) 1).trans ?_
    rw [(at2 t).2.2.2.1]
    show (grid2.coords t 0).val * 512 + n.val = 512 * (grid2.coords t 0).val + n.val
    omega

/-- The block of the bias. -/
theorem inB2 (t : Fin cfg2.N) (n : Fin 512) :
    (iblk2 V c 2 t : Vec Ideal S1x512 .f32) (ix2 0 n) = bias2 V c (ix2 0 (col2 t n)) := by
  show bias2 V c ((win2_2.rect t).emb (ix2 0 n)) = _
  refine congrArg _ (funext fun b => Fin.ext ?_)
  match b with
  | ⟨0, _⟩ =>
    refine (win2_2.rect_emb_val t (ix2 0 n) 0).trans ?_
    rw [(at2 t).2.2.2.2.1]
    show 0 * 1 + 0 = 0
    omega
  | ⟨1, _⟩ =>
    refine (win2_2.rect_emb_val t (ix2 0 n) 1).trans ?_
    rw [(at2 t).2.2.2.2.2.1]
    show (grid2.coords t 0).val * 512 + n.val = 512 * (grid2.coords t 0).val + n.val
    omega

/-- A block of a whole result array. -/
theorem read2 (G : S8704x6144.Idx → EReal) (t : Fin cfg2.N) (r : Fin 1088) (n : Fin 512) :
    (win2_3.blk t).view.read (Elt Ideal) G (ix2 r n) = G (ix2 (row2 t r) (col2 t n)) := by
  show G ((win2_3.rect t).emb (ix2 r n)) = _
  refine congrArg G (funext fun b => Fin.ext ?_)
  match b with
  | ⟨0, _⟩ =>
    refine (win2_3.rect_emb_val t (ix2 r n) 0).trans ?_
    rw [(at2 t).2.2.2.2.2.2.1]
    show (grid2.coords t 1).val * 1088 + r.val = 1088 * (grid2.coords t 1).val + r.val
    omega
  | ⟨1, _⟩ =>
    refine (win2_3.rect_emb_val t (ix2 r n) 1).trans ?_
    rw [(at2 t).2.2.2.2.2.2.2.1]
    show (grid2.coords t 0).val * 512 + n.val = 512 * (grid2.coords t 0).val + n.val
    omega

/-- What a grid point writes back is its block of any array that holds the projection. -/
theorem written2 (G : S8704x6144.Idx → EReal)
    (hG : ∀ (r : Fin 8704) (n : Fin 6144), G (ix2 r n) = Ideal.logistic ((∑ k : Fin 2048, rows2 V c (ix2 r k) * weights2 V c (ix2 k n)) + bias2 V c (ix2 0 n)))
    (t : Fin cfg2.N) : (dat2 V c).flushed 3 t = (win2_3.blk t).view.read (Elt Ideal) G := by
  show (cfg2.win 3).cut (grid2.coords t) ((dat2 V c).after 3 t) = _
  rw [after2_3]
  show out2_3 (iblk2 V c 0 t) (iblk2 V c 1 t) (iblk2 V c 2 t) = _
  refine funext fun y => ?_
  obtain ⟨r, n, rfl⟩ : ∃ (r : Fin 1088) (n : Fin 512), y = (ix2 r n : S1088x512.Idx) := ⟨y 0, y 1, funext fun a => by match a with | ⟨0, _⟩ => rfl | ⟨1, _⟩ => rfl⟩
  refine Eq.trans ?_ (read2 G t r n).symm
  rw [hG]
  refine (out2_apply (iblk2 V c 0 t) (iblk2 V c 1 t) (iblk2 V c 2 t) r n).trans ?_
  simp only [inX2, inW2, inB2]

/-- The blocks cover the result array. -/
theorem cover2 (i : S8704x6144.Idx) : ∃ t : Fin cfg2.N, (cfg2.win 3).flush t = true ∧ i ∈ ((cfg2.win 3).blk t).view.set := by
  have h0 : (i 0 : Nat) < 8704 := (i 0).isLt
  have h1 : (i 1 : Nat) < 6144 := (i 1).isLt
  have ht : 8 * ((i 1 : Nat) / 512) + (i 0 : Nat) / 1088 < grid2.N := by rw [show grid2.N = 96 from rfl]; omega
  obtain ⟨t, et⟩ : ∃ t : Fin grid2.N, t.val = 8 * ((i 1 : Nat) / 512) + (i 0 : Nat) / 1088 := ⟨⟨_, ht⟩, rfl⟩
  have e := (at2 t).2.2.2.2.2.2.2.2
  have b1 : (grid2.coords t 1).val < 8 := (grid2.coords t 1).isLt
  refine ⟨t, flush2_3 t, ?_⟩
  show i ∈ ((View.whole main_v18).slice (win2_3.rect t)).set
  rw [View.set_slice_whole, Rect.mem_set_unit]
  intro a
  match a with
  | ⟨0, _⟩ =>
    show win2_3.index t 0 * 1088 ≤ (i 0 : Nat) ∧ (i 0 : Nat) < win2_3.index t 0 * 1088 + 1088
    rw [(at2 t).2.2.2.2.2.2.1]; omega
  | ⟨1, _⟩ =>
    show win2_3.index t 1 * 512 ≤ (i 1 : Nat) ∧ (i 1 : Nat) < win2_3.index t 1 * 512 + 512
    rw [(at2 t).2.2.2.2.2.2.2.1]; omega

/-- The result array of the call: any array that holds the projection of the arrays the call finds. -/
theorem arr2 (G : S8704x6144.Idx → EReal)
    (hG : ∀ (r : Fin 8704) (n : Fin 6144), G (ix2 r n) = Ideal.logistic ((∑ k : Fin 2048, rows2 V c (ix2 r k) * weights2 V c (ix2 k n)) + bias2 V c (ix2 0 n))) :
    (dat2 V c).arrAt 3 cfg2.N = G :=
  (dat2 V c).arrAt_eq_of_cover 3 _ (fun t _ => written2 V c G hG t) cover2

end Cert.Proj

end
-- ==== Proof.Proj3.lean ====
module

public import proofs.«01_k».proof.Proof.Gen.Kernel2Ideal.Frame
public import Idealize.ShloMosaic.Lib.Pointwise
public import Idealize.ShloMosaic.Lib.Pipeline.Value

@[expose] public section

set_option maxRecDepth 20000

noncomputable section

/-! What the call of the memory tokens leaves in its result array: the rows times the weights, plus the bias. -/

namespace Cert.Proj

open Cert.Kernel2Ideal Cert.Kernel2Ideal.Gen Idealize.ShloMosaic Idealize.ShloMosaic.TcCoe Idealize.SL.Sem

variable (V : (c : Dev nD) → (b : Ref sig .tc) → Buf (Elt Ideal) ((c : Thread nD τ).loc b)) (c : Dev nD)

theorem hz3 : (![0, 0] : Fin 2 → Nat) = fun _ => 0 := funext fun a => by fin_cases a <;> rfl

/-- What the body stores at a row and a column of its block. -/
theorem out3_apply (x : Vec Ideal S1024x2048 .bf16) (w : Vec Ideal S2048x512 .bf16) (b : Vec Ideal S1x512 .f32) (r : Fin 1024) (n : Fin 512) :
    out3_3 x w b (ix2 r n) = ((∑ k : Fin 2048, x (ix2 r k) * w (ix2 k n)) + b (ix2 0 n)) := by
  unfold out3_3
  rw [View.canon_unit_zero hz3]
  rw [show View.ld x r3_0 = x from View.ld_unit_zero hz3 _ x, show View.ld w r3_1 = w from View.ld_unit_zero hz3 _ w,
    show View.ld b r3_2 = b from View.ld_unit_zero hz3 _ b]
  pointwise [k3_pay1]

/-- The positions of the windows' blocks at a grid point. -/
theorem at3 : ∀ t : Fin grid3.N, win3_0.index t 0 = (grid3.coords t 1).val ∧ win3_0.index t 1 = 0
    ∧ win3_1.index t 0 = 0 ∧ win3_1.index t 1 = (grid3.coords t 0).val
    ∧ win3_2.index t 0 = 0 ∧ win3_2.index t 1 = (grid3.coords t 0).val
    ∧ win3_3.index t 0 = (grid3.coords t 1).val ∧ win3_3.index t 1 = (grid3.coords t 0).val
    ∧ t.val = 1 * (grid3.coords t 0).val + (grid3.coords t 1).val := by
  decide +kernel

/-- The row of the whole array at a row of a grid point's block. -/
abbrev row3 (t : Fin grid3.N) (r : Fin 1024) : Fin 1024 :=
  ⟨1024 * (grid3.coords t 1).val + r.val, by have h : (grid3.coords t 1).val < 1 := (grid3.coords t 1).isLt; omega⟩

/-- The column of the whole array at a column of a grid point's block. -/
abbrev col3 (t : Fin grid3.N) (n : Fin 512) : Fin 1024 :=
  ⟨512 * (grid3.coords t 0).val + n.val, by have h : (grid3.coords t 0).val < 2 := (grid3.coords t 0).isLt; omega⟩

/-- The rows the call finds. -/
abbrev rows3 : S1024x2048.Idx → EReal := V c main_v20

/-- The weights the call finds. -/
abbrev weights3 : S2048x1024.Idx → EReal := V c main_v22

/-- The bias the call finds. -/
abbrev bias3 : S1x1024.Idx → EReal := V c main_v24

/-- The block of rows. -/
theorem inX3 (t : Fin cfg3.N) (r : Fin 1024) (k : Fin 2048) :
    (iblk3 V c 0 t : Vec Ideal S1024x2048 .bf16) (ix2 r k) = rows3 V c (ix2 (row3 t r) k) := by
  show rows3 V c ((win3_0.rect t).emb (ix2 r k)) = _
  refine congrArg _ (funext fun b => Fin.ext ?_)
  match b with
  | ⟨0, _⟩ =>
    refine (win3_0.rect_emb_val t (ix2 r k) 0).trans ?_
    rw [(at3 t).1]
    show (grid3.coords t 1).val * 1024 + r.val = 1024 * (grid3.coords t 1).val + r.val
    omega
  | ⟨1, _⟩ =>
    refine (win3_0.rect_emb_val t (ix2 r k) 1).trans ?_
    rw [(at3 t).2.1]
    show 0 * 2048 + k.val = k.val
    omega

/-- The block of the weights. -/
theorem inW3 (t : Fin cfg3.N) (k : Fin 2048) (n : Fin 512) :
    (iblk3 V c 1 t : Vec Ideal S2048x512 .bf16) (ix2 k n) = weights3 V c (ix2 k (col3 t n)) := by
  show weights3 V c ((win3_1.rect t).emb (ix2 k n)) = _
  refine congrArg _ (funext fun b => Fin.ext ?_)
  match b with
  | ⟨0, _⟩ =>
    refine (win3_1.rect_emb_val t (ix2 k n) 0).trans ?_
    rw [(at3 t).2.2.1]
    show 0 * 2048 + k.val = k.val
    omega
  | ⟨1, _⟩ =>
    refine (win3_1.rect_emb_val t (ix2 k n) 1).trans ?_
    rw [(at3 t).2.2.2.1]
    show (grid3.coords t 0).val * 512 + n.val = 512 * (grid3.coords t 0).val + n.val
    omega

/-- The block of the bias. -/
theorem inB3 (t : Fin cfg3.N) (n : Fin 512) :
    (iblk3 V c 2 t : Vec Ideal S1x512 .f32) (ix2 0 n) = bias3 V c (ix2 0 (col3 t n)) := by
  show bias3 V c ((win3_2.rect t).emb (ix2 0 n)) = _
  refine congrArg _ (funext fun b => Fin.ext ?_)
  match b with
  | ⟨0, _⟩ =>
    refine (win3_2.rect_emb_val t (ix2 0 n) 0).trans ?_
    rw [(at3 t).2.2.2.2.1]
    show 0 * 1 + 0 = 0
    omega
  | ⟨1, _⟩ =>
    refine (win3_2.rect_emb_val t (ix2 0 n) 1).trans ?_
    rw [(at3 t).2.2.2.2.2.1]
    show (grid3.coords t 0).val * 512 + n.val = 512 * (grid3.coords t 0).val + n.val
    omega

/-- A block of a whole result array. -/
theorem read3 (G : S1024x1024.Idx → EReal) (t : Fin cfg3.N) (r : Fin 1024) (n : Fin 512) :
    (win3_3.blk t).view.read (Elt Ideal) G (ix2 r n) = G (ix2 (row3 t r) (col3 t n)) := by
  show G ((win3_3.rect t).emb (ix2 r n)) = _
  refine congrArg G (funext fun b => Fin.ext ?_)
  match b with
  | ⟨0, _⟩ =>
    refine (win3_3.rect_emb_val t (ix2 r n) 0).trans ?_
    rw [(at3 t).2.2.2.2.2.2.1]
    show (grid3.coords t 1).val * 1024 + r.val = 1024 * (grid3.coords t 1).val + r.val
    omega
  | ⟨1, _⟩ =>
    refine (win3_3.rect_emb_val t (ix2 r n) 1).trans ?_
    rw [(at3 t).2.2.2.2.2.2.2.1]
    show (grid3.coords t 0).val * 512 + n.val = 512 * (grid3.coords t 0).val + n.val
    omega

/-- What a grid point writes back is its block of any array that holds the projection. -/
theorem written3 (G : S1024x1024.Idx → EReal)
    (hG : ∀ (r : Fin 1024) (n : Fin 1024), G (ix2 r n) = ((∑ k : Fin 2048, rows3 V c (ix2 r k) * weights3 V c (ix2 k n)) + bias3 V c (ix2 0 n)))
    (t : Fin cfg3.N) : (dat3 V c).flushed 3 t = (win3_3.blk t).view.read (Elt Ideal) G := by
  show (cfg3.win 3).cut (grid3.coords t) ((dat3 V c).after 3 t) = _
  rw [after3_3]
  show out3_3 (iblk3 V c 0 t) (iblk3 V c 1 t) (iblk3 V c 2 t) = _
  refine funext fun y => ?_
  obtain ⟨r, n, rfl⟩ : ∃ (r : Fin 1024) (n : Fin 512), y = (ix2 r n : S1024x512.Idx) := ⟨y 0, y 1, funext fun a => by match a with | ⟨0, _⟩ => rfl | ⟨1, _⟩ => rfl⟩
  refine Eq.trans ?_ (read3 G t r n).symm
  rw [hG]
  refine (out3_apply (iblk3 V c 0 t) (iblk3 V c 1 t) (iblk3 V c 2 t) r n).trans ?_
  simp only [inX3, inW3, inB3]

/-- The blocks cover the result array. -/
theorem cover3 (i : S1024x1024.Idx) : ∃ t : Fin cfg3.N, (cfg3.win 3).flush t = true ∧ i ∈ ((cfg3.win 3).blk t).view.set := by
  have h0 : (i 0 : Nat) < 1024 := (i 0).isLt
  have h1 : (i 1 : Nat) < 1024 := (i 1).isLt
  have ht : 1 * ((i 1 : Nat) / 512) + (i 0 : Nat) / 1024 < grid3.N := by rw [show grid3.N = 2 from rfl]; omega
  obtain ⟨t, et⟩ : ∃ t : Fin grid3.N, t.val = 1 * ((i 1 : Nat) / 512) + (i 0 : Nat) / 1024 := ⟨⟨_, ht⟩, rfl⟩
  have e := (at3 t).2.2.2.2.2.2.2.2
  have b1 : (grid3.coords t 1).val < 1 := (grid3.coords t 1).isLt
  refine ⟨t, flush3_3 t, ?_⟩
  show i ∈ ((View.whole main_v25).slice (win3_3.rect t)).set
  rw [View.set_slice_whole, Rect.mem_set_unit]
  intro a
  match a with
  | ⟨0, _⟩ =>
    show win3_3.index t 0 * 1024 ≤ (i 0 : Nat) ∧ (i 0 : Nat) < win3_3.index t 0 * 1024 + 1024
    rw [(at3 t).2.2.2.2.2.2.1]; omega
  | ⟨1, _⟩ =>
    show win3_3.index t 1 * 512 ≤ (i 1 : Nat) ∧ (i 1 : Nat) < win3_3.index t 1 * 512 + 512
    rw [(at3 t).2.2.2.2.2.2.2.1]; omega

/-- The result array of the call: any array that holds the projection of the arrays the call finds. -/
theorem arr3 (G : S1024x1024.Idx → EReal)
    (hG : ∀ (r : Fin 1024) (n : Fin 1024), G (ix2 r n) = ((∑ k : Fin 2048, rows3 V c (ix2 r k) * weights3 V c (ix2 k n)) + bias3 V c (ix2 0 n))) :
    (dat3 V c).arrAt 3 cfg3.N = G :=
  (dat3 V c).arrAt_eq_of_cover 3 _ (fun t _ => written3 V c G hG t) cover3

end Cert.Proj

end
-- ==== Proof.ProjEntry.lean ====
module

public import proofs.«01_k».proof.Proof.Gen.Kernel2Ideal.Frame
public import Idealize.ShloMosaic.PureOps.Ideal

@[expose] public section

noncomputable section

/-! What each of the four projection calls finds in its argument arrays, as host operations on the arrays of the launch. -/

namespace Cert.Proj

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg) (c : Dev nD)

/-- The prompt tokens. -/
abbrev prompt : FVec Ideal S4x2048x2048 .f32 := m ((c : Thread nD τ).loc main_arg0)

/-- The sample tokens. -/
abbrev sample : FVec Ideal S128x4x2048 .f32 := m ((c : Thread nD τ).loc main_arg1)

/-- The memory tokens. -/
abbrev memory : FVec Ideal S4x256x2048 .f32 := m ((c : Thread nD τ).loc main_arg2)

/-- The weights of the token projection. -/
abbrev wIn : FVec Ideal S1x2048x5120 .f32 := m ((c : Thread nD τ).loc main_arg3)

/-- The weights of the memory projection. -/
abbrev wMem : FVec Ideal S1x2048x1024 .f32 := m ((c : Thread nD τ).loc main_arg4)

/-- The weights of the gates. -/
abbrev wGate : FVec Ideal S1x2048x6144 .f32 := m ((c : Thread nD τ).loc main_arg5)

/-- The bias of the gates. -/
abbrev bGate : FVec Ideal S1x6144 .f32 := m ((c : Thread nD τ).loc main_arg6)

/-- The prompt tokens as rows. -/
def promptRows : FVec Ideal S8192x2048 .f32 := shapeCast S8192x2048 (prompt m c) shapeCasts_S4x2048x2048_S8192x2048

/-- The sample tokens as rows. -/
def sampleRows : FVec Ideal S512x2048 .f32 := shapeCast S512x2048 (sample m c) shapeCasts_S128x4x2048_S512x2048

/-- The prompt rows above the sample rows. -/
def allRows : FVec Ideal S8704x2048 .f32 :=
  concatenate S8704x2048 0 [⟨S8192x2048, promptRows m c⟩, ⟨S512x2048, sampleRows m c⟩] concatenates_S8192x2048_S512x2048_S8704x2048_d0

/-! ## the call of the prompt tokens -/

theorem entry0_rows : V1 m ρ c main_v5 = truncf .bf16 (promptRows m c) bitsLt_bf16_f32 := by
  show StableHlo.after hostOps0 (W0 m ρ c) (Proc.devRef .tc main_v5) = _
  after_results_simp <;> rfl

theorem entry0_sample : V1 m ρ c main_v1 = sampleRows m c := by
  show StableHlo.after hostOps0 (W0 m ρ c) (Proc.devRef .tc main_v1) = _
  after_results_simp <;> rfl

theorem entry0_all : V1 m ρ c main_v2 = allRows m c := by
  show StableHlo.after hostOps0 (W0 m ρ c) (Proc.devRef .tc main_v2) = _
  after_results_simp <;> rfl

theorem entry0_weights : V1 m ρ c main_v4
    = truncf .bf16 (shapeCast S2048x5120 (wIn m c) shapeCasts_S1x2048x5120_S2048x5120) bitsLt_bf16_f32 := by
  show StableHlo.after hostOps0 (W0 m ρ c) (Proc.devRef .tc main_v4) = _
  after_results_simp <;> rfl

/-- The zero bias of a token projection. -/
def zeroIn : FVec Ideal S1x5120 .f32 :=
  shapeCast S1x5120 (broadcastInDim S5120 ![] bcast_S_S5120 (constant S_ .f32 0x00000000#32)) shapeCasts_S5120_S1x5120

theorem entry0_bias : V1 m ρ c main_v7 = zeroIn := by
  show StableHlo.after hostOps0 (W0 m ρ c) (Proc.devRef .tc main_v7) = _
  after_results_simp <;> rfl

/-! ## the call of the sample tokens -/

/-- A buffer the first call does not write, past it. -/
theorem past0 (r : Ref sig .tc) (h : ∀ w : Fin cfg0.W, Pipeline.arrRef spec0 w = r → (cfg0.win w).isOut = false) :
    W2 m ρ c (Proc.devRef .tc r) = V1 m ρ c r := W2_of m ρ c r h

theorem entry1_rows : V3 m ρ c main_v9 = truncf .bf16 (sampleRows m c) bitsLt_bf16_f32 := by
  rw [← entry0_sample m ρ c, ← past0 m ρ c main_v1 (by decide)]
  show StableHlo.after hostOps1 (W2 m ρ c) (Proc.devRef .tc main_v9) = _
  after_results_simp <;> rfl

theorem entry1_weights : V3 m ρ c main_v4
    = truncf .bf16 (shapeCast S2048x5120 (wIn m c) shapeCasts_S1x2048x5120_S2048x5120) bitsLt_bf16_f32 :=
  ((W3_of m ρ c main_v4 (by decide)).trans (past0 m ρ c main_v4 (by decide))).trans (entry0_weights m ρ c)

theorem entry1_bias : V3 m ρ c main_v11 = zeroIn := by
  show StableHlo.after hostOps1 (W2 m ρ c) (Proc.devRef .tc main_v11) = _
  after_results_simp <;> rfl

/-! ## the call of the gates -/

/-- A buffer neither of the first two calls nor the host operations between write, past them. -/
theorem past1 (r : Ref sig .tc) (h0 : ∀ w : Fin cfg0.W, Pipeline.arrRef spec0 w = r → (cfg0.win w).isOut = false)
    (h : r ∉ hostOps1_W) (h1 : ∀ w : Fin cfg1.W, Pipeline.arrRef spec1 w = r → (cfg1.win w).isOut = false) :
    W4 m ρ c (Proc.devRef .tc r) = V1 m ρ c r :=
  (W4_of m ρ c r h1).trans ((W3_of m ρ c r h).trans (past0 m ρ c r h0))

theorem entry2_rows : V5 m ρ c main_v13 = truncf .bf16 (allRows m c) bitsLt_bf16_f32 := by
  rw [← entry0_all m ρ c, ← past1 m ρ c main_v2 (by decide) (by decide) (by decide)]
  show StableHlo.after hostOps2 (W4 m ρ c) (Proc.devRef .tc main_v13) = _
  after_results_simp <;> rfl

theorem entry2_weights : V5 m ρ c main_v15
    = truncf .bf16 (shapeCast S2048x6144 (wGate m c) shapeCasts_S1x2048x6144_S2048x6144) bitsLt_bf16_f32 := by
  rw [show wGate m c = W4 m ρ c (Proc.devRef .tc main_arg5) from (W4_args m ρ c main_arg5 (by decide)).symm]
  show StableHlo.after hostOps2 (W4 m ρ c) (Proc.devRef .tc main_v15) = _
  after_results_simp <;> rfl

theorem entry2_bias : V5 m ρ c main_v17
    = shapeCast S1x6144 (shapeCast S6144 (bGate m c) shapeCasts_S1x6144_S6144) shapeCasts_S6144_S1x6144 := by
  rw [show bGate m c = W4 m ρ c (Proc.devRef .tc main_arg6) from (W4_args m ρ c main_arg6 (by decide)).symm]
  show StableHlo.after hostOps2 (W4 m ρ c) (Proc.devRef .tc main_v17) = _
  after_results_simp <;> rfl

/-! ## the call of the memory tokens -/

theorem entry3_rows : V7 m ρ c main_v20
    = truncf .bf16 (shapeCast S1024x2048 (memory m c) shapeCasts_S4x256x2048_S1024x2048) bitsLt_bf16_f32 := by
  rw [show memory m c = W6 m ρ c (Proc.devRef .tc main_arg2) from (W6_args m ρ c main_arg2 (by decide)).symm]
  show StableHlo.after hostOps3 (W6 m ρ c) (Proc.devRef .tc main_v20) = _
  after_results_simp <;> rfl

theorem entry3_weights : V7 m ρ c main_v22
    = truncf .bf16 (shapeCast S2048x1024 (wMem m c) shapeCasts_S1x2048x1024_S2048x1024) bitsLt_bf16_f32 := by
  rw [show wMem m c = W6 m ρ c (Proc.devRef .tc main_arg4) from (W6_args m ρ c main_arg4 (by decide)).symm]
  show StableHlo.after hostOps3 (W6 m ρ c) (Proc.devRef .tc main_v22) = _
  after_results_simp <;> rfl

/-- The zero bias of the memory projection. -/
def zeroMem : FVec Ideal S1x1024 .f32 :=
  shapeCast S1x1024 (broadcastInDim S1024 ![] bcast_S_S1024 (constant S_ .f32 0x00000000#32)) shapeCasts_S1024_S1x1024

theorem entry3_bias : V7 m ρ c main_v24 = zeroMem := by
  show StableHlo.after hostOps3 (W6 m ρ c) (Proc.devRef .tc main_v24) = _
  after_results_simp <;> rfl

end Cert.Proj

end
-- ==== Proof.ProjMath.lean ====
module

public import proofs.«01_k».proof.Proof.ProjEntry
public import proofs.«01_k».proof.Proof.Gen.Reference2Ideal.Read
public import Idealize.ShloMosaic.Lib.Pointwise

@[expose] public section

set_option maxRecDepth 20000

noncomputable section

/-! The reference's projections, read at a row and a column of the array of all rows: the sums the calls leave. -/

namespace Cert.Proj

open Cert.Kernel2Ideal Cert.Kernel2Ideal.Gen Idealize.ShloMosaic

/-- The reference's projection of the prompt tokens, as rows. -/
theorem ref_prompt (x : FVec Ideal S4x2048x2048 .f32) (w : FVec Ideal S1x2048x5120 .f32) (h : S4x2048x5120.ShapeCasts S8192x5120)
    (r : Fin 8192) (n : Fin 5120) :
    (shapeCast S8192x5120 (Cert.Reference2Ideal.Read.val_main_v1 (F := Ideal) x w : FVec Ideal S4x2048x5120 .f32) h : FVec Ideal S8192x5120 .f32) (ix2 r n)
      = (∑ k : Fin 2048, (truncf .bf16 (shapeCast S8192x2048 x shapeCasts_S4x2048x2048_S8192x2048) bitsLt_bf16_f32 : FVec Ideal S8192x2048 .bf16) (ix2 r k)
          * (truncf .bf16 (shapeCast S2048x5120 w shapeCasts_S1x2048x5120_S2048x5120) bitsLt_bf16_f32 : FVec Ideal S2048x5120 .bf16) (ix2 k n))
        + zeroIn (ix2 0 n) := by
  pointwise [Cert.Reference2Ideal.Read.val_main_v1, Cert.Reference2Ideal.Read.val_main_v0, zeroIn]

/-- The reference's projection of the sample tokens, as rows. -/
theorem ref_sample (x : FVec Ideal S128x4x2048 .f32) (w : FVec Ideal S1x2048x5120 .f32) (h : S128x4x5120.ShapeCasts S512x5120)
    (r : Fin 512) (n : Fin 5120) :
    (shapeCast S512x5120 (Cert.Reference2Ideal.Read.val_main_v25 (F := Ideal) x w : FVec Ideal S128x4x5120 .f32) h : FVec Ideal S512x5120 .f32) (ix2 r n)
      = (∑ k : Fin 2048, (truncf .bf16 (shapeCast S512x2048 x shapeCasts_S128x4x2048_S512x2048) bitsLt_bf16_f32 : FVec Ideal S512x2048 .bf16) (ix2 r k)
          * (truncf .bf16 (shapeCast S2048x5120 w shapeCasts_S1x2048x5120_S2048x5120) bitsLt_bf16_f32 : FVec Ideal S2048x5120 .bf16) (ix2 k n))
        + zeroIn (ix2 0 n) := by
  pointwise [Cert.Reference2Ideal.Read.val_main_v25, Cert.Reference2Ideal.Read.val_main_v24, zeroIn]

/-- The reference's projection of the memory tokens, as rows. -/
theorem ref_memory (x : FVec Ideal S4x256x2048 .f32) (w : FVec Ideal S1x2048x1024 .f32) (h : Cert.Reference2Ideal.S4x256x1024.ShapeCasts S1024x1024)
    (r : Fin 1024) (n : Fin 1024) :
    (shapeCast S1024x1024 (Cert.Reference2Ideal.Read.val_main_v49 (F := Ideal) x w : FVec Ideal Cert.Reference2Ideal.S4x256x1024 .f32) h : FVec Ideal S1024x1024 .f32) (ix2 r n)
      = (∑ k : Fin 2048, (truncf .bf16 (shapeCast S1024x2048 x shapeCasts_S4x256x2048_S1024x2048) bitsLt_bf16_f32 : FVec Ideal S1024x2048 .bf16) (ix2 r k)
          * (truncf .bf16 (shapeCast S2048x1024 w shapeCasts_S1x2048x1024_S2048x1024) bitsLt_bf16_f32 : FVec Ideal S2048x1024 .bf16) (ix2 k n))
        + zeroMem (ix2 0 n) := by
  pointwise [Cert.Reference2Ideal.Read.val_main_v49, Cert.Reference2Ideal.Read.val_main_v48, zeroMem]

/-- The reference's gates, the prompt rows above the sample rows. -/
theorem ref_gate (x : FVec Ideal S4x2048x2048 .f32) (y : FVec Ideal S128x4x2048 .f32) (w : FVec Ideal S1x2048x6144 .f32)
    (b : FVec Ideal S1x6144 .f32) (r : Fin 8704) (n : Fin 6144) :
    (Cert.Reference2Ideal.Read.val_main_v78 (F := Ideal) x y w b : FVec Ideal S8704x6144 .f32) (ix2 r n)
      = Ideal.logistic ((∑ k : Fin 2048, (truncf .bf16 (concatenate S8704x2048 0
            [⟨S8192x2048, shapeCast S8192x2048 x shapeCasts_S4x2048x2048_S8192x2048⟩, ⟨S512x2048, shapeCast S512x2048 y shapeCasts_S128x4x2048_S512x2048⟩]
            concatenates_S8192x2048_S512x2048_S8704x2048_d0 : FVec Ideal S8704x2048 .f32) bitsLt_bf16_f32 : FVec Ideal S8704x2048 .bf16) (ix2 r k)
          * (truncf .bf16 (shapeCast S2048x6144 w shapeCasts_S1x2048x6144_S2048x6144) bitsLt_bf16_f32 : FVec Ideal S2048x6144 .bf16) (ix2 k n))
        + (shapeCast S1x6144 (shapeCast S6144 b shapeCasts_S1x6144_S6144) shapeCasts_S6144_S1x6144 : FVec Ideal S1x6144 .f32) (ix2 0 n)) := by
  by_cases hr : r.val < 8192
  · pointwise [Cert.Reference2Ideal.Read.val_main_v78, Cert.Reference2Ideal.Read.val_main_v64, Cert.Reference2Ideal.Read.val_main_v63, Cert.Reference2Ideal.Read.val_main_v62, Cert.Reference2Ideal.Read.val_main_v61, Cert.Reference2Ideal.Read.val_main_v60, Cert.Reference2Ideal.Read.val_main_v59, Cert.Reference2Ideal.Read.val_main_v58, Cert.Reference2Ideal.Read.val_main_v57, Cert.Reference2Ideal.Read.val_main_v56, Cert.Reference2Ideal.Read.val_main_v55, Cert.Reference2Ideal.Read.val_main_v54, Cert.Reference2Ideal.Read.val_main_v53, Cert.Reference2Ideal.Read.val_main_v52, Cert.Reference2Ideal.Read.val_main_cst, Cert.Reference2Ideal.Read.val_main_cst_0]
    simp only [dif_pos hr]
    rfl
  · pointwise [Cert.Reference2Ideal.Read.val_main_v78, Cert.Reference2Ideal.Read.val_main_v77, Cert.Reference2Ideal.Read.val_main_v76, Cert.Reference2Ideal.Read.val_main_v75, Cert.Reference2Ideal.Read.val_main_v74, Cert.Reference2Ideal.Read.val_main_v73, Cert.Reference2Ideal.Read.val_main_v72, Cert.Reference2Ideal.Read.val_main_v71, Cert.Reference2Ideal.Read.val_main_v70, Cert.Reference2Ideal.Read.val_main_v69, Cert.Reference2Ideal.Read.val_main_v68, Cert.Reference2Ideal.Read.val_main_v67, Cert.Reference2Ideal.Read.val_main_v66, Cert.Reference2Ideal.Read.val_main_v65, Cert.Reference2Ideal.Read.val_main_cst_1, Cert.Reference2Ideal.Read.val_main_cst_2]
    simp only [dif_neg hr]
    rfl

end Cert.Proj

end
-- ==== Proof.ProjRun.lean ====
module

public import proofs.«01_k».proof.Proof.Gen.Kernel2Ideal.Frame
public import Idealize.ShloMosaic.PureOps.Ideal

@[expose] public section

noncomputable section

/-! What the program of the four projections leaves in memory: its buffers at the contents the last host operations
    give them, over the contents the fourth call leaves. -/

namespace Cert.Proj

open Cert.Kernel2Ideal Cert.Kernel2Ideal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

-- the launch theorem's implicit arguments are found by unfolding plain definitions in a metavariable's type
set_option backward.isDefEq.respectTransparency.types false in
/-- Every execution of the four projections ends, with every buffer of every core at the contents of the last boundary. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => h)

end Cert.Proj

end
-- ==== Proof.ProjTail.lean ====
module

public import proofs.«01_k».proof.Proof.Gen.Kernel2Ideal.Frame
public import proofs.«01_k».proof.Proof.Gen.Reference2Ideal.Read

@[expose] public section

noncomputable section

/-! The host operations that make the layer's results of the projected arrays: what the program and the reference both do
    with a projected array. -/

namespace Cert.Proj

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg) (c : Dev nD)

/-- The stacked keys and values of the last 128 prompt tokens, first head group. -/
def promptKV0 (p : FVec Ideal S4x2048x5120 .f32) : FVec Ideal S1x4x128x2x4x64 .f32 :=
  broadcastInDim S1x4x128x2x4x64 ![1, 2, 3, 4, 5] bcast_S4x128x2x4x64_S1x4x128x2x4x64_1_2_3_4_5 (concatenate S4x128x2x4x64 2 [⟨S4x128x1x4x64, broadcastInDim S4x128x1x4x64 ![0, 1, 3, 4] bcast_S4x128x4x64_S4x128x1x4x64_0_1_3_4 (extractStridedSlice S4x128x4x64 ![0, 1920, 0, 0] (shapeCast S4x2048x12x64 (extractStridedSlice S4x2048x768 ![0, 0, 768] (p) slices_S4x2048x5120_S4x2048x768_0_0_768) shapeCasts_S4x2048x768_S4x2048x12x64) slices_S4x2048x12x64_S4x128x4x64_0_1920_0_0)⟩, ⟨S4x128x1x4x64, broadcastInDim S4x128x1x4x64 ![0, 1, 3, 4] bcast_S4x128x4x64_S4x128x1x4x64_0_1_3_4 (extractStridedSlice S4x128x4x64 ![0, 1920, 0, 0] (shapeCast S4x2048x12x64 (extractStridedSlice S4x2048x768 ![0, 0, 1536] (p) slices_S4x2048x5120_S4x2048x768_0_0_1536) shapeCasts_S4x2048x768_S4x2048x12x64) slices_S4x2048x12x64_S4x128x4x64_0_1920_0_0)⟩] concatenates_S4x128x1x4x64_S4x128x1x4x64_S4x128x2x4x64_d2)

theorem promptKV0_read : W9 m ρ c (Proc.devRef .tc main_v67)
    = promptKV0 (shapeCast S4x2048x5120 (W8 m ρ c (Proc.devRef .tc main_v8)) shapeCasts_S8192x5120_S4x2048x5120) := by
  show StableHlo.after hostOps4 (W8 m ρ c) (Proc.devRef .tc main_v67) = _
  after_results_simp <;> rfl

theorem promptKV0_ref (x : FVec Ideal S4x2048x2048 .f32) (w : FVec Ideal S1x2048x5120 .f32) :
    Cert.Reference2Ideal.Read.val_main_v11 (F := Ideal) x w = promptKV0 (Cert.Reference2Ideal.Read.val_main_v1 (F := Ideal) x w) := by
  unfold Cert.Reference2Ideal.Read.val_main_v11 Cert.Reference2Ideal.Read.val_main_v10 Cert.Reference2Ideal.Read.val_main_v9 Cert.Reference2Ideal.Read.val_main_v8 Cert.Reference2Ideal.Read.val_main_v7 Cert.Reference2Ideal.Read.val_main_v6 Cert.Reference2Ideal.Read.val_main_v5 Cert.Reference2Ideal.Read.val_main_v4 Cert.Reference2Ideal.Read.val_main_v3 Cert.Reference2Ideal.Read.val_main_v2
  generalize Cert.Reference2Ideal.Read.val_main_v1 (F := Ideal) x w = p
  rfl

/-- The stacked keys and values of the last 512 prompt tokens, second head group. -/
def promptKV1 (p : FVec Ideal S4x2048x5120 .f32) : FVec Ideal S1x4x512x2x4x64 .f32 :=
  broadcastInDim S1x4x512x2x4x64 ![1, 2, 3, 4, 5] bcast_S4x512x2x4x64_S1x4x512x2x4x64_1_2_3_4_5 (concatenate S4x512x2x4x64 2 [⟨S4x512x1x4x64, broadcastInDim S4x512x1x4x64 ![0, 1, 3, 4] bcast_S4x512x4x64_S4x512x1x4x64_0_1_3_4 (extractStridedSlice S4x512x4x64 ![0, 1536, 4, 0] (shapeCast S4x2048x12x64 (extractStridedSlice S4x2048x768 ![0, 0, 768] (p) slices_S4x2048x5120_S4x2048x768_0_0_768) shapeCasts_S4x2048x768_S4x2048x12x64) slices_S4x2048x12x64_S4x512x4x64_0_1536_4_0)⟩, ⟨S4x512x1x4x64, broadcastInDim S4x512x1x4x64 ![0, 1, 3, 4] bcast_S4x512x4x64_S4x512x1x4x64_0_1_3_4 (extractStridedSlice S4x512x4x64 ![0, 1536, 4, 0] (shapeCast S4x2048x12x64 (extractStridedSlice S4x2048x768 ![0, 0, 1536] (p) slices_S4x2048x5120_S4x2048x768_0_0_1536) shapeCasts_S4x2048x768_S4x2048x12x64) slices_S4x2048x12x64_S4x512x4x64_0_1536_4_0)⟩] concatenates_S4x512x1x4x64_S4x512x1x4x64_S4x512x2x4x64_d2)

theorem promptKV1_read : W9 m ρ c (Proc.devRef .tc main_v68)
    = promptKV1 (shapeCast S4x2048x5120 (W8 m ρ c (Proc.devRef .tc main_v8)) shapeCasts_S8192x5120_S4x2048x5120) := by
  show StableHlo.after hostOps4 (W8 m ρ c) (Proc.devRef .tc main_v68) = _
  after_results_simp <;> rfl

theorem promptKV1_ref (x : FVec Ideal S4x2048x2048 .f32) (w : FVec Ideal S1x2048x5120 .f32) :
    Cert.Reference2Ideal.Read.val_main_v17 (F := Ideal) x w = promptKV1 (Cert.Reference2Ideal.Read.val_main_v1 (F := Ideal) x w) := by
  unfold Cert.Reference2Ideal.Read.val_main_v17 Cert.Reference2Ideal.Read.val_main_v16 Cert.Reference2Ideal.Read.val_main_v15 Cert.Reference2Ideal.Read.val_main_v14 Cert.Reference2Ideal.Read.val_main_v13 Cert.Reference2Ideal.Read.val_main_v12 Cert.Reference2Ideal.Read.val_main_v5 Cert.Reference2Ideal.Read.val_main_v4 Cert.Reference2Ideal.Read.val_main_v3 Cert.Reference2Ideal.Read.val_main_v2
  generalize Cert.Reference2Ideal.Read.val_main_v1 (F := Ideal) x w = p
  rfl

/-- The stacked keys and values of all prompt tokens, third head group. -/
def promptKV2 (p : FVec Ideal S4x2048x5120 .f32) : FVec Ideal S1x4x2048x2x4x64 .f32 :=
  broadcastInDim S1x4x2048x2x4x64 ![1, 2, 3, 4, 5] bcast_S4x2048x2x4x64_S1x4x2048x2x4x64_1_2_3_4_5 (concatenate S4x2048x2x4x64 2 [⟨S4x2048x1x4x64, broadcastInDim S4x2048x1x4x64 ![0, 1, 3, 4] bcast_S4x2048x4x64_S4x2048x1x4x64_0_1_3_4 (extractStridedSlice S4x2048x4x64 ![0, 0, 8, 0] (shapeCast S4x2048x12x64 (extractStridedSlice S4x2048x768 ![0, 0, 768] (p) slices_S4x2048x5120_S4x2048x768_0_0_768) shapeCasts_S4x2048x768_S4x2048x12x64) slices_S4x2048x12x64_S4x2048x4x64_0_0_8_0)⟩, ⟨S4x2048x1x4x64, broadcastInDim S4x2048x1x4x64 ![0, 1, 3, 4] bcast_S4x2048x4x64_S4x2048x1x4x64_0_1_3_4 (extractStridedSlice S4x2048x4x64 ![0, 0, 8, 0] (shapeCast S4x2048x12x64 (extractStridedSlice S4x2048x768 ![0, 0, 1536] (p) slices_S4x2048x5120_S4x2048x768_0_0_1536) shapeCasts_S4x2048x768_S4x2048x12x64) slices_S4x2048x12x64_S4x2048x4x64_0_0_8_0)⟩] concatenates_S4x2048x1x4x64_S4x2048x1x4x64_S4x2048x2x4x64_d2)

theorem promptKV2_read : W9 m ρ c (Proc.devRef .tc main_v69)
    = promptKV2 (shapeCast S4x2048x5120 (W8 m ρ c (Proc.devRef .tc main_v8)) shapeCasts_S8192x5120_S4x2048x5120) := by
  show StableHlo.after hostOps4 (W8 m ρ c) (Proc.devRef .tc main_v69) = _
  after_results_simp <;> rfl

theorem promptKV2_ref (x : FVec Ideal S4x2048x2048 .f32) (w : FVec Ideal S1x2048x5120 .f32) :
    Cert.Reference2Ideal.Read.val_main_v23 (F := Ideal) x w = promptKV2 (Cert.Reference2Ideal.Read.val_main_v1 (F := Ideal) x w) := by
  unfold Cert.Reference2Ideal.Read.val_main_v23 Cert.Reference2Ideal.Read.val_main_v22 Cert.Reference2Ideal.Read.val_main_v21 Cert.Reference2Ideal.Read.val_main_v20 Cert.Reference2Ideal.Read.val_main_v19 Cert.Reference2Ideal.Read.val_main_v18 Cert.Reference2Ideal.Read.val_main_v5 Cert.Reference2Ideal.Read.val_main_v4 Cert.Reference2Ideal.Read.val_main_v3 Cert.Reference2Ideal.Read.val_main_v2
  generalize Cert.Reference2Ideal.Read.val_main_v1 (F := Ideal) x w = p
  rfl

/-- The stacked keys and values of the sample tokens, first head group. -/
def sampleKV0 (p : FVec Ideal S128x4x5120 .f32) : FVec Ideal S1x128x4x2x4x64 .f32 :=
  broadcastInDim S1x128x4x2x4x64 ![1, 2, 3, 4, 5] bcast_S128x4x2x4x64_S1x128x4x2x4x64_1_2_3_4_5 (concatenate S128x4x2x4x64 2 [⟨S128x4x1x4x64, broadcastInDim S128x4x1x4x64 ![0, 1, 3, 4] bcast_S128x4x4x64_S128x4x1x4x64_0_1_3_4 (extractStridedSlice S128x4x4x64 ![0, 0, 0, 0] (shapeCast S128x4x12x64 (extractStridedSlice S128x4x768 ![0, 0, 768] (p) slices_S128x4x5120_S128x4x768_0_0_768) shapeCasts_S128x4x768_S128x4x12x64) slices_S128x4x12x64_S128x4x4x64_0_0_0_0)⟩, ⟨S128x4x1x4x64, broadcastInDim S128x4x1x4x64 ![0, 1, 3, 4] bcast_S128x4x4x64_S128x4x1x4x64_0_1_3_4 (extractStridedSlice S128x4x4x64 ![0, 0, 0, 0] (shapeCast S128x4x12x64 (extractStridedSlice S128x4x768 ![0, 0, 1536] (p) slices_S128x4x5120_S128x4x768_0_0_1536) shapeCasts_S128x4x768_S128x4x12x64) slices_S128x4x12x64_S128x4x4x64_0_0_0_0)⟩] concatenates_S128x4x1x4x64_S128x4x1x4x64_S128x4x2x4x64_d2)

theorem sampleKV0_read : W9 m ρ c (Proc.devRef .tc main_v71)
    = sampleKV0 (shapeCast S128x4x5120 (W8 m ρ c (Proc.devRef .tc main_v12)) shapeCasts_S512x5120_S128x4x5120) := by
  show StableHlo.after hostOps4 (W8 m ρ c) (Proc.devRef .tc main_v71) = _
  after_results_simp <;> rfl

theorem sampleKV0_ref (x : FVec Ideal S128x4x2048 .f32) (w : FVec Ideal S1x2048x5120 .f32) :
    Cert.Reference2Ideal.Read.val_main_v35 (F := Ideal) x w = sampleKV0 (Cert.Reference2Ideal.Read.val_main_v25 (F := Ideal) x w) := by
  unfold Cert.Reference2Ideal.Read.val_main_v35 Cert.Reference2Ideal.Read.val_main_v34 Cert.Reference2Ideal.Read.val_main_v33 Cert.Reference2Ideal.Read.val_main_v32 Cert.Reference2Ideal.Read.val_main_v31 Cert.Reference2Ideal.Read.val_main_v30 Cert.Reference2Ideal.Read.val_main_v29 Cert.Reference2Ideal.Read.val_main_v28 Cert.Reference2Ideal.Read.val_main_v27 Cert.Reference2Ideal.Read.val_main_v26
  generalize Cert.Reference2Ideal.Read.val_main_v25 (F := Ideal) x w = p
  rfl

/-- The stacked keys and values of the sample tokens, second head group. -/
def sampleKV1 (p : FVec Ideal S128x4x5120 .f32) : FVec Ideal S1x128x4x2x4x64 .f32 :=
  broadcastInDim S1x128x4x2x4x64 ![1, 2, 3, 4, 5] bcast_S128x4x2x4x64_S1x128x4x2x4x64_1_2_3_4_5 (concatenate S128x4x2x4x64 2 [⟨S128x4x1x4x64, broadcastInDim S128x4x1x4x64 ![0, 1, 3, 4] bcast_S128x4x4x64_S128x4x1x4x64_0_1_3_4 (extractStridedSlice S128x4x4x64 ![0, 0, 4, 0] (shapeCast S128x4x12x64 (extractStridedSlice S128x4x768 ![0, 0, 768] (p) slices_S128x4x5120_S128x4x768_0_0_768) shapeCasts_S128x4x768_S128x4x12x64) slices_S128x4x12x64_S128x4x4x64_0_0_4_0)⟩, ⟨S128x4x1x4x64, broadcastInDim S128x4x1x4x64 ![0, 1, 3, 4] bcast_S128x4x4x64_S128x4x1x4x64_0_1_3_4 (extractStridedSlice S128x4x4x64 ![0, 0, 4, 0] (shapeCast S128x4x12x64 (extractStridedSlice S128x4x768 ![0, 0, 1536] (p) slices_S128x4x5120_S128x4x768_0_0_1536) shapeCasts_S128x4x768_S128x4x12x64) slices_S128x4x12x64_S128x4x4x64_0_0_4_0)⟩] concatenates_S128x4x1x4x64_S128x4x1x4x64_S128x4x2x4x64_d2)

theorem sampleKV1_read : W9 m ρ c (Proc.devRef .tc main_v72)
    = sampleKV1 (shapeCast S128x4x5120 (W8 m ρ c (Proc.devRef .tc main_v12)) shapeCasts_S512x5120_S128x4x5120) := by
  show StableHlo.after hostOps4 (W8 m ρ c) (Proc.devRef .tc main_v72) = _
  after_results_simp <;> rfl

theorem sampleKV1_ref (x : FVec Ideal S128x4x2048 .f32) (w : FVec Ideal S1x2048x5120 .f32) :
    Cert.Reference2Ideal.Read.val_main_v41 (F := Ideal) x w = sampleKV1 (Cert.Reference2Ideal.Read.val_main_v25 (F := Ideal) x w) := by
  unfold Cert.Reference2Ideal.Read.val_main_v41 Cert.Reference2Ideal.Read.val_main_v40 Cert.Reference2Ideal.Read.val_main_v39 Cert.Reference2Ideal.Read.val_main_v38 Cert.Reference2Ideal.Read.val_main_v37 Cert.Reference2Ideal.Read.val_main_v36 Cert.Reference2Ideal.Read.val_main_v29 Cert.Reference2Ideal.Read.val_main_v28 Cert.Reference2Ideal.Read.val_main_v27 Cert.Reference2Ideal.Read.val_main_v26
  generalize Cert.Reference2Ideal.Read.val_main_v25 (F := Ideal) x w = p
  rfl

/-- The stacked keys and values of the sample tokens, third head group. -/
def sampleKV2 (p : FVec Ideal S128x4x5120 .f32) : FVec Ideal S1x128x4x2x4x64 .f32 :=
  broadcastInDim S1x128x4x2x4x64 ![1, 2, 3, 4, 5] bcast_S128x4x2x4x64_S1x128x4x2x4x64_1_2_3_4_5 (concatenate S128x4x2x4x64 2 [⟨S128x4x1x4x64, broadcastInDim S128x4x1x4x64 ![0, 1, 3, 4] bcast_S128x4x4x64_S128x4x1x4x64_0_1_3_4 (extractStridedSlice S128x4x4x64 ![0, 0, 8, 0] (shapeCast S128x4x12x64 (extractStridedSlice S128x4x768 ![0, 0, 768] (p) slices_S128x4x5120_S128x4x768_0_0_768) shapeCasts_S128x4x768_S128x4x12x64) slices_S128x4x12x64_S128x4x4x64_0_0_8_0)⟩, ⟨S128x4x1x4x64, broadcastInDim S128x4x1x4x64 ![0, 1, 3, 4] bcast_S128x4x4x64_S128x4x1x4x64_0_1_3_4 (extractStridedSlice S128x4x4x64 ![0, 0, 8, 0] (shapeCast S128x4x12x64 (extractStridedSlice S128x4x768 ![0, 0, 1536] (p) slices_S128x4x5120_S128x4x768_0_0_1536) shapeCasts_S128x4x768_S128x4x12x64) slices_S128x4x12x64_S128x4x4x64_0_0_8_0)⟩] concatenates_S128x4x1x4x64_S128x4x1x4x64_S128x4x2x4x64_d2)

theorem sampleKV2_read : W9 m ρ c (Proc.devRef .tc main_v73)
    = sampleKV2 (shapeCast S128x4x5120 (W8 m ρ c (Proc.devRef .tc main_v12)) shapeCasts_S512x5120_S128x4x5120) := by
  show StableHlo.after hostOps4 (W8 m ρ c) (Proc.devRef .tc main_v73) = _
  after_results_simp <;> rfl

theorem sampleKV2_ref (x : FVec Ideal S128x4x2048 .f32) (w : FVec Ideal S1x2048x5120 .f32) :
    Cert.Reference2Ideal.Read.val_main_v47 (F := Ideal) x w = sampleKV2 (Cert.Reference2Ideal.Read.val_main_v25 (F := Ideal) x w) := by
  unfold Cert.Reference2Ideal.Read.val_main_v47 Cert.Reference2Ideal.Read.val_main_v46 Cert.Reference2Ideal.Read.val_main_v45 Cert.Reference2Ideal.Read.val_main_v44 Cert.Reference2Ideal.Read.val_main_v43 Cert.Reference2Ideal.Read.val_main_v42 Cert.Reference2Ideal.Read.val_main_v29 Cert.Reference2Ideal.Read.val_main_v28 Cert.Reference2Ideal.Read.val_main_v27 Cert.Reference2Ideal.Read.val_main_v26
  generalize Cert.Reference2Ideal.Read.val_main_v25 (F := Ideal) x w = p
  rfl

/-- The stacked keys and values of the memory tokens. -/
def memKV (p : FVec Ideal S1024x1024 .f32) : FVec Ideal S1x4x256x2x4x128 .f32 :=
  broadcastInDim S1x4x256x2x4x128 ![1, 2, 3, 4, 5] bcast_S4x256x2x4x128_S1x4x256x2x4x128_1_2_3_4_5 (shapeCast S4x256x2x4x128 (p) shapeCasts_S1024x1024_S4x256x2x4x128)

theorem memKV_read : W9 m ρ c (Proc.devRef .tc main_v70) = memKV (W8 m ρ c (Proc.devRef .tc main_v25)) := by
  show StableHlo.after hostOps4 (W8 m ρ c) (Proc.devRef .tc main_v70) = _
  after_results_simp <;> rfl

/-- The last token of each prompt. -/
def lastPrompt (x : FVec Ideal S4x2048x2048 .f32) : FVec Ideal S1x4x2048 .f32 :=
  broadcastInDim S1x4x2048 ![1, 2] bcast_S4x2048_S1x4x2048_1_2 (shapeCast S4x2048 (extractStridedSlice S4x1x2048 ![0, 2047, 0] x slices_S4x2048x2048_S4x1x2048_0_2047_0) shapeCasts_S4x1x2048_S4x2048)

theorem lastPrompt_read : W9 m ρ c (Proc.devRef .tc main_v76) = lastPrompt (W8 m ρ c (Proc.devRef .tc main_arg0)) := by
  show StableHlo.after hostOps4 (W8 m ρ c) (Proc.devRef .tc main_v76) = _
  after_results_simp <;> rfl

/-- The last new token of each sample. -/
def lastSample (x : FVec Ideal S128x4x2048 .f32) : FVec Ideal S1x128x2048 .f32 :=
  broadcastInDim S1x128x2048 ![1, 2] bcast_S128x2048_S1x128x2048_1_2 (shapeCast S128x2048 (extractStridedSlice S128x1x2048 ![0, 3, 0] x slices_S128x4x2048_S128x1x2048_0_3_0) shapeCasts_S128x1x2048_S128x2048)

theorem lastSample_read : W9 m ρ c (Proc.devRef .tc main_v79) = lastSample (W8 m ρ c (Proc.devRef .tc main_arg1)) := by
  show StableHlo.after hostOps4 (W8 m ρ c) (Proc.devRef .tc main_v79) = _
  after_results_simp <;> rfl

end Cert.Proj

end
-- ==== Proof.ProjFinal.lean ====
module

public import proofs.«01_k».proof.Defs
public import proofs.«01_k».proof.Proof.Proj0
public import proofs.«01_k».proof.Proof.Proj1
public import proofs.«01_k».proof.Proof.Proj2
public import proofs.«01_k».proof.Proof.Proj3
public import proofs.«01_k».proof.Proof.ProjEntry
public import proofs.«01_k».proof.Proof.ProjMath
public import proofs.«01_k».proof.Proof.ProjRun
public import proofs.«01_k».proof.Proof.ProjTail
public import proofs.«01_k».proof.Proof.Gen.Reference2Ideal.Run

@[expose] public section

noncomputable section

/-! The value claim of the four projections: the results the program leaves are the reference's. -/

namespace Cert.Proj

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg) (c : Dev nD)

/-- The reference's projected prompt tokens. -/
abbrev refPrompt : FVec Ideal S4x2048x5120 .f32 := Cert.Reference2Ideal.Read.val_main_v1 (F := Ideal) (prompt m c) (wIn m c)

/-- The reference's projected sample tokens. -/
abbrev refSample : FVec Ideal S128x4x5120 .f32 := Cert.Reference2Ideal.Read.val_main_v25 (F := Ideal) (sample m c) (wIn m c)

/-- The reference's projected memory tokens. -/
abbrev refMemory : FVec Ideal Cert.Reference2Ideal.S4x256x1024 .f32 :=
  Cert.Reference2Ideal.Read.val_main_v49 (F := Ideal) (memory m c) (wMem m c)

/-- The reference's gates. -/
abbrev refGate : FVec Ideal S8704x6144 .f32 :=
  Cert.Reference2Ideal.Read.val_main_v78 (F := Ideal) (prompt m c) (sample m c) (wGate m c) (bGate m c)

/-- A sum of products plus a bias, equal arrays put for equal arrays. -/
theorem linear_congr {s t u : Shape} {x x' : s.Idx → EReal} {w w' : t.Idx → EReal} {b b' : u.Idx → EReal} (hx : x = x') (hw : w = w') (hb : b = b')
    (f : Fin 2048 → s.Idx) (g : Fin 2048 → t.Idx) (i : u.Idx) :
    (∑ k : Fin 2048, x' (f k) * w' (g k)) + b' i = (∑ k : Fin 2048, x (f k) * w (g k)) + b i := by
  subst hx hw hb; rfl

/-- The projected prompt rows, where the last host operations read them. -/
theorem at_prompt (h : S4x2048x5120.ShapeCasts S8192x5120) :
    W8 m ρ c (Proc.devRef .tc main_v8) = (shapeCast S8192x5120 (refPrompt m c) h : FVec Ideal S8192x5120 .f32) := by
  refine (W8_of m ρ c main_v8 (by decide)).trans <| (W7_of m ρ c main_v8 (by decide)).trans <| (W6_of m ρ c main_v8 (by decide)).trans <|
    (W5_of m ρ c main_v8 (by decide)).trans <| (W4_of m ρ c main_v8 (by decide)).trans <| (W3_of m ρ c main_v8 (by decide)).trans <|
    (W2_arr m ρ c 3).trans <| arr0 (V1 m ρ) c _ fun r n => (ref_prompt (prompt m c) (wIn m c) h r n).trans ?_
  exact linear_congr (entry0_rows m ρ c) (entry0_weights m ρ c) (entry0_bias m ρ c) (fun k => ix2 r k) (fun k => ix2 k n) (ix2 0 n)

/-- The projected sample rows, where the last host operations read them. -/
theorem at_sample (h : S128x4x5120.ShapeCasts S512x5120) :
    W8 m ρ c (Proc.devRef .tc main_v12) = (shapeCast S512x5120 (refSample m c) h : FVec Ideal S512x5120 .f32) := by
  refine (W8_of m ρ c main_v12 (by decide)).trans <| (W7_of m ρ c main_v12 (by decide)).trans <| (W6_of m ρ c main_v12 (by decide)).trans <|
    (W5_of m ρ c main_v12 (by decide)).trans <|
    (W4_arr m ρ c 3).trans <| arr1 (V3 m ρ) c _ fun r n => (ref_sample (sample m c) (wIn m c) h r n).trans ?_
  exact linear_congr (entry1_rows m ρ c) (entry1_weights m ρ c) (entry1_bias m ρ c) (fun k => ix2 r k) (fun k => ix2 k n) (ix2 0 n)

/-- The projected memory rows, where the last host operations read them. -/
theorem at_memory (h : Cert.Reference2Ideal.S4x256x1024.ShapeCasts S1024x1024) :
    W8 m ρ c (Proc.devRef .tc main_v25) = (shapeCast S1024x1024 (refMemory m c) h : FVec Ideal S1024x1024 .f32) := by
  refine (W8_arr m ρ c 3).trans <| arr3 (V7 m ρ) c _ fun r n => (ref_memory (memory m c) (wMem m c) h r n).trans ?_
  exact linear_congr (entry3_rows m ρ c) (entry3_weights m ρ c) (entry3_bias m ρ c) (fun k => ix2 r k) (fun k => ix2 k n) (ix2 0 n)

/-- The gates at the end. -/
theorem end_gate : W9 m ρ c (Proc.devRef .tc main_v18) = refGate m c := by
  refine (W9_of m ρ c main_v18 (by decide)).trans <| (W8_of m ρ c main_v18 (by decide)).trans <| (W7_of m ρ c main_v18 (by decide)).trans <|
    (W6_arr m ρ c 3).trans <| arr2 (V5 m ρ) c _ fun r n => (ref_gate (prompt m c) (sample m c) (wGate m c) (bGate m c) r n).trans ?_
  exact congrArg Ideal.logistic
    (linear_congr (entry2_rows m ρ c) (entry2_weights m ρ c) (entry2_bias m ρ c) (fun k => ix2 r k) (fun k => ix2 k n) (ix2 0 n))

/-- The prompt's projected array as the last host operations reshape it. -/
theorem cast_prompt : (shapeCast S4x2048x5120 (W8 m ρ c (Proc.devRef .tc main_v8)) shapeCasts_S8192x5120_S4x2048x5120 : FVec Ideal S4x2048x5120 .f32)
    = refPrompt m c := by
  have h : S4x2048x5120.ShapeCasts S8192x5120 := shapeCasts_S8192x5120_S4x2048x5120.symm
  rw [at_prompt m ρ c h]
  exact shapeCast_shapeCast (refPrompt m c) h _

/-- The sample's projected array as the last host operations reshape it. -/
theorem cast_sample : (shapeCast S128x4x5120 (W8 m ρ c (Proc.devRef .tc main_v12)) shapeCasts_S512x5120_S128x4x5120 : FVec Ideal S128x4x5120 .f32)
    = refSample m c := by
  have h : S128x4x5120.ShapeCasts S512x5120 := shapeCasts_S512x5120_S128x4x5120.symm
  rw [at_sample m ρ c h]
  exact shapeCast_shapeCast (refSample m c) h _

/-- The memory's keys and values: the program splits the rows of the projected array, the reference the projected array. -/
theorem mem_ref (v : FVec Ideal Cert.Reference2Ideal.S4x256x1024 .f32) (h : Cert.Reference2Ideal.S4x256x1024.ShapeCasts S1024x1024)
    (h' : Cert.Reference2Ideal.S4x256x1024.ShapeCasts S4x256x2x4x128) :
    memKV (shapeCast S1024x1024 v h) = broadcastInDim S1x4x256x2x4x128 ![1, 2, 3, 4, 5] bcast_S4x256x2x4x128_S1x4x256x2x4x128_1_2_3_4_5 (shapeCast S4x256x2x4x128 v h') := by
  unfold memKV
  refine congrArg _ (funext fun i => congrArg v ?_)
  exact Shape.reshapeEquiv_reshapeEquiv _ _ _

theorem end_memory : W9 m ρ c (Proc.devRef .tc main_v70) = Cert.Reference2Ideal.Read.val_main_v51 (F := Ideal) (memory m c) (wMem m c) := by
  have h : Cert.Reference2Ideal.S4x256x1024.ShapeCasts S1024x1024 := by decide
  rw [memKV_read, at_memory m ρ c h, mem_ref (refMemory m c) h (by decide)]
  rfl

theorem end_prompt0 : W9 m ρ c (Proc.devRef .tc main_v67) = Cert.Reference2Ideal.Read.val_main_v11 (F := Ideal) (prompt m c) (wIn m c) := by
  rw [promptKV0_read, cast_prompt, promptKV0_ref]
theorem end_prompt1 : W9 m ρ c (Proc.devRef .tc main_v68) = Cert.Reference2Ideal.Read.val_main_v17 (F := Ideal) (prompt m c) (wIn m c) := by
  rw [promptKV1_read, cast_prompt, promptKV1_ref]
theorem end_prompt2 : W9 m ρ c (Proc.devRef .tc main_v69) = Cert.Reference2Ideal.Read.val_main_v23 (F := Ideal) (prompt m c) (wIn m c) := by
  rw [promptKV2_read, cast_prompt, promptKV2_ref]
theorem end_sample0 : W9 m ρ c (Proc.devRef .tc main_v71) = Cert.Reference2Ideal.Read.val_main_v35 (F := Ideal) (sample m c) (wIn m c) := by
  rw [sampleKV0_read, cast_sample, sampleKV0_ref]
theorem end_sample1 : W9 m ρ c (Proc.devRef .tc main_v72) = Cert.Reference2Ideal.Read.val_main_v41 (F := Ideal) (sample m c) (wIn m c) := by
  rw [sampleKV1_read, cast_sample, sampleKV1_ref]
theorem end_sample2 : W9 m ρ c (Proc.devRef .tc main_v73) = Cert.Reference2Ideal.Read.val_main_v47 (F := Ideal) (sample m c) (wIn m c) := by
  rw [sampleKV2_read, cast_sample, sampleKV2_ref]

theorem end_lastPrompt : W9 m ρ c (Proc.devRef .tc main_v76) = Cert.Reference2Ideal.Read.val_main_v81 (F := Ideal) (prompt m c) := by
  rw [lastPrompt_read, show W8 m ρ c (Proc.devRef .tc main_arg0) = prompt m c from W8_args m ρ c main_arg0 (by decide)]
  rfl
theorem end_lastSample : W9 m ρ c (Proc.devRef .tc main_v79) = Cert.Reference2Ideal.Read.val_main_v84 (F := Ideal) (sample m c) := by
  rw [lastSample_read, show W8 m ρ c (Proc.devRef .tc main_arg1) = sample m c from W8_args m ρ c main_arg1 (by decide)]
  rfl

/-- The value claim of the projections: from equal arguments the program and the reference end with equal results. -/
theorem agrees : Cert.algebraic_Kernel2Ideal_Reference2Ideal := by
  intro m g m' g' _ hm
  refine ⟨fun c => Cert.Reference2Ideal.Read.val_main_v11 (F := Ideal) (prompt m c) (wIn m c),
    fun c => Cert.Reference2Ideal.Read.val_main_v17 (F := Ideal) (prompt m c) (wIn m c),
    fun c => Cert.Reference2Ideal.Read.val_main_v23 (F := Ideal) (prompt m c) (wIn m c),
    fun c => Cert.Reference2Ideal.Read.val_main_v51 (F := Ideal) (memory m c) (wMem m c),
    fun c => Cert.Reference2Ideal.Read.val_main_v35 (F := Ideal) (sample m c) (wIn m c),
    fun c => Cert.Reference2Ideal.Read.val_main_v41 (F := Ideal) (sample m c) (wIn m c),
    fun c => Cert.Reference2Ideal.Read.val_main_v47 (F := Ideal) (sample m c) (wIn m c),
    fun c => refGate m c, fun c => Cert.Reference2Ideal.Read.val_main_v81 (F := Ideal) (prompt m c),
    fun c => Cert.Reference2Ideal.Read.val_main_v84 (F := Ideal) (sample m c), ?_, ?_⟩
  · exact (θ_run Cert.Kernel2Ideal.defs _ _).mono (fun r h c => ⟨
      (h c _ (mem_uc main_v67 (by decide))).trans (end_prompt0 m g c), (h c _ (mem_uc main_v68 (by decide))).trans (end_prompt1 m g c),
      (h c _ (mem_uc main_v69 (by decide))).trans (end_prompt2 m g c), (h c _ (mem_uc main_v70 (by decide))).trans (end_memory m g c),
      (h c _ (mem_uc main_v71 (by decide))).trans (end_sample0 m g c), (h c _ (mem_uc main_v72 (by decide))).trans (end_sample1 m g c),
      (h c _ (mem_uc main_v73 (by decide))).trans (end_sample2 m g c), (h c _ (mem_uc main_v18 (by decide))).trans (end_gate m g c),
      (h c _ (mem_uc main_v76 (by decide))).trans (end_lastPrompt m g c), (h c _ (mem_uc main_v79 (by decide))).trans (end_lastSample m g c),
      (h c _ (mem_uc main_arg0 (by decide))).trans (W9_main_arg0 m g c), (h c _ (mem_uc main_arg1 (by decide))).trans (W9_main_arg1 m g c),
      (h c _ (mem_uc main_arg2 (by decide))).trans (W9_main_arg2 m g c), (h c _ (mem_uc main_arg3 (by decide))).trans (W9_main_arg3 m g c),
      (h c _ (mem_uc main_arg4 (by decide))).trans (W9_main_arg4 m g c), (h c _ (mem_uc main_arg5 (by decide))).trans (W9_main_arg5 m g c),
      (h c _ (mem_uc main_arg6 (by decide))).trans (W9_main_arg6 m g c)⟩) (run m g)
  · refine (θ_run Cert.Reference2Ideal.defs _ _).mono (fun r h c => ?_) (Cert.Reference2Ideal.Value.run m' g')
    obtain ⟨a0, a1, a2, a3, a4, a5, a6, a7, a8, a9, rest⟩ := h c
    obtain ⟨e0, e1, e2, e3, e4, e5, e6⟩ := hm c
    refine ⟨a0.trans ?_, a1.trans ?_, a2.trans ?_, a3.trans ?_, a4.trans ?_, a5.trans ?_, a6.trans ?_, a7.trans ?_, a8.trans ?_, a9.trans ?_, rest⟩
    · rw [Cert.Reference2Ideal.Read.val_main_v11_eq, e0, e3]
    · rw [Cert.Reference2Ideal.Read.val_main_v17_eq, e0, e3]
    · rw [Cert.Reference2Ideal.Read.val_main_v23_eq, e0, e3]
    · rw [Cert.Reference2Ideal.Read.val_main_v51_eq, e2, e4]
    · rw [Cert.Reference2Ideal.Read.val_main_v35_eq, e1, e3]
    · rw [Cert.Reference2Ideal.Read.val_main_v41_eq, e1, e3]
    · rw [Cert.Reference2Ideal.Read.val_main_v47_eq, e1, e3]
    · rw [Cert.Reference2Ideal.Read.val_main_v78_eq, e0, e1, e5, e6]
    · rw [Cert.Reference2Ideal.Read.val_main_v81_eq, e0]
    · rw [Cert.Reference2Ideal.Read.val_main_v84_eq, e1]

end Cert.Proj

end
-- ==== Proof.MergeSpec.lean ====
module

public import proofs.«01_k».proof.Proof.Gen.Reference3Ideal.Read
public import Idealize.ShloMosaic.Lib.Pointwise

@[expose] public section

set_option maxRecDepth 20000

noncomputable section

/-! What the merge of the branches is at one token, and that the reference computes it at every token. -/

namespace Cert.Merge

open Cert.Reference3Ideal Cert.Reference3Ideal.Read Idealize.ShloMosaic Idealize.ShloMosaic.TcCoe Idealize.SL.Sem

/-- The three branches of one token, each through its rows of the branch weights and through its gate, added up. -/
def mix (a : Fin 256 → EReal) (b : Fin 768 → EReal) (d : Fin 512 → EReal) (g : Fin 6144 → EReal) (w : Fin 1536 → Fin 2048 → EReal)
    (n : Fin 2048) : EReal :=
  ((∑ k : Fin 256, a k * w ⟨k.val, by omega⟩ n) * g ⟨n.val, by omega⟩
    + (∑ k : Fin 768, b k * w ⟨256 + k.val, by omega⟩ n) * g ⟨2048 + n.val, by omega⟩)
    + (∑ k : Fin 512, d k * w ⟨1024 + k.val, by omega⟩ n) * g ⟨4096 + n.val, by omega⟩

/-- The residual: the scaled input of the token plus its mixed branches through the output weights. -/
def resid (p : Fin 2048 → EReal) (x : Fin 2048 → EReal) (v : Fin 2048 → Fin 2048 → EReal) (n : Fin 2048) : EReal :=
  Ideal.ofBits .f32 0x3F9837F0#32 * x n + ∑ k : Fin 2048, p k * v k n

/-- The mean of a row. -/
def mean (z : Fin 2048 → EReal) : EReal := Ideal.div (∑ k : Fin 2048, z k) (Ideal.ofBits .f32 0x45000000#32)

/-- The layer norm of a row, with its scale and shift. -/
def norm (z g b : Fin 2048 → EReal) (n : Fin 2048) : EReal :=
  (z n - mean z) * Ideal.rsqrt (mean (fun k => (z k - mean z) * (z k - mean z)) + Ideal.ofBits .f32 0x3727C5AC#32) * g n + b n

variable (x0 : S8704x256.Idx → EReal) (x1 : S8704x768.Idx → EReal) (x2 : S8704x512.Idx → EReal) (x3 : S8704x6144.Idx → EReal)
  (x4 : S8704x2048.Idx → EReal) (x5 : S1x1536x2048.Idx → EReal) (x6 : S1x2048x2048.Idx → EReal) (x7 x8 : S1x2048.Idx → EReal)

/-- The mixed branches of a token. -/
abbrev mixAt (r : Fin 8704) : Fin 2048 → EReal :=
  mix (fun k => x0 (ix2 r k)) (fun k => x1 (ix2 r k)) (fun k => x2 (ix2 r k)) (fun k => x3 (ix2 r k)) (fun k n => x5 (ix3 0 k n))

/-- The residual of a token. -/
abbrev residAt (r : Fin 8704) : Fin 2048 → EReal :=
  resid (mixAt x0 x1 x2 x3 x5 r) (fun k => x4 (ix2 r k)) (fun k n => x6 (ix3 0 k n))

theorem ref_w (k : Fin 1536) (n : Fin 2048) : val_main_v0 (F := Ideal) x5 (ix2 k n) = x5 (ix3 0 k n) := by
  pointwise [val_main_v0]

theorem ref_att (r : Fin 8704) (n : Fin 2048) :
    val_main_v2 (F := Ideal) x0 x5 (ix2 r n) = ∑ k : Fin 256, x0 (ix2 r k) * x5 (ix3 0 ⟨k.val, by omega⟩ n) := by
  pointwise [val_main_v2, val_main_v1]
  simp only [ref_w]

theorem ref_rwkv (r : Fin 8704) (n : Fin 2048) :
    val_main_v4 (F := Ideal) x1 x5 (ix2 r n) = ∑ k : Fin 768, x1 (ix2 r k) * x5 (ix3 0 ⟨256 + k.val, by omega⟩ n) := by
  pointwise [val_main_v4, val_main_v3]
  simp only [ref_w]

theorem ref_mem (r : Fin 8704) (n : Fin 2048) :
    val_main_v6 (F := Ideal) x2 x5 (ix2 r n) = ∑ k : Fin 512, x2 (ix2 r k) * x5 (ix3 0 ⟨1024 + k.val, by omega⟩ n) := by
  pointwise [val_main_v6, val_main_v5]
  simp only [ref_w]

theorem ref_g0 (r : Fin 8704) (n : Fin 2048) : val_main_v9 (F := Ideal) x3 (ix2 r n) = x3 (ix2 r ⟨n.val, by omega⟩) := by
  pointwise [val_main_v9, val_main_v8, val_main_v7]

theorem ref_g1 (r : Fin 8704) (n : Fin 2048) : val_main_v12 (F := Ideal) x3 (ix2 r n) = x3 (ix2 r ⟨2048 + n.val, by omega⟩) := by
  pointwise [val_main_v12, val_main_v11, val_main_v7]

theorem ref_g2 (r : Fin 8704) (n : Fin 2048) : val_main_v16 (F := Ideal) x3 (ix2 r n) = x3 (ix2 r ⟨4096 + n.val, by omega⟩) := by
  pointwise [val_main_v16, val_main_v15, val_main_v7]

/-- The reference's mixed branches. -/
theorem ref_mix (r : Fin 8704) (n : Fin 2048) : val_main_v18 (F := Ideal) x0 x1 x2 x3 x5 (ix2 r n) = mixAt x0 x1 x2 x3 x5 r n := by
  have e : val_main_v18 (F := Ideal) x0 x1 x2 x3 x5 (ix2 r n)
      = (val_main_v9 (F := Ideal) x3 (ix2 r n) * val_main_v2 (F := Ideal) x0 x5 (ix2 r n)
        + val_main_v12 (F := Ideal) x3 (ix2 r n) * val_main_v4 (F := Ideal) x1 x5 (ix2 r n))
        + val_main_v16 (F := Ideal) x3 (ix2 r n) * val_main_v6 (F := Ideal) x2 x5 (ix2 r n) := rfl
  rw [e, ref_g0, ref_g1, ref_g2, ref_att, ref_rwkv, ref_mem]
  unfold mixAt mix
  rw [mul_comm, mul_comm (x3 (ix2 r ⟨2048 + n.val, by omega⟩)), mul_comm (x3 (ix2 r ⟨4096 + n.val, by omega⟩))]

/-- The reference's residual. -/
theorem ref_resid (r : Fin 8704) (n : Fin 2048) :
    val_main_v23 (F := Ideal) x0 x1 x2 x3 x4 x5 x6 (ix2 r n) = residAt x0 x1 x2 x3 x4 x5 x6 r n := by
  have e : val_main_v23 (F := Ideal) x0 x1 x2 x3 x4 x5 x6 (ix2 r n)
      = Ideal.ofBits .f32 0x3F9837F0#32 * x4 (ix2 r n) + ∑ k : Fin 2048, val_main_v18 (F := Ideal) x0 x1 x2 x3 x5 (ix2 r k) * x6 (ix3 0 k n) := by
    pointwise [val_main_v23, val_main_v20, val_main_v19, val_main_cst, val_main_v22, val_main_v21]
  rw [e]
  simp only [ref_mix]
  rfl

/-- The reference's mean. -/
theorem ref_mean (r : Fin 8704) :
    val_main_v27 (F := Ideal) x0 x1 x2 x3 x4 x5 x6 (ix2 r 0) = mean (residAt x0 x1 x2 x3 x4 x5 x6 r) := by
  have e : val_main_v27 (F := Ideal) x0 x1 x2 x3 x4 x5 x6 (ix2 r 0)
      = Ideal.div (∑ k : Fin 2048, val_main_v23 (F := Ideal) x0 x1 x2 x3 x4 x5 x6 (ix2 r k)) (Ideal.ofBits .f32 0x45000000#32) := by
    pointwise [val_main_v27, val_main_v26, val_main_v25, val_main_v24, val_main_cst_0, val_main_cst_1]
  rw [e]
  simp only [ref_resid]
  rfl

/-- The reference's variance. -/
theorem ref_var (r : Fin 8704) :
    val_main_v34 (F := Ideal) x0 x1 x2 x3 x4 x5 x6 (ix2 r 0)
      = mean (fun k => (residAt x0 x1 x2 x3 x4 x5 x6 r k - mean (residAt x0 x1 x2 x3 x4 x5 x6 r)) * (residAt x0 x1 x2 x3 x4 x5 x6 r k - mean (residAt x0 x1 x2 x3 x4 x5 x6 r))) := by
  have e : val_main_v34 (F := Ideal) x0 x1 x2 x3 x4 x5 x6 (ix2 r 0)
      = Ideal.div (∑ k : Fin 2048, (val_main_v23 (F := Ideal) x0 x1 x2 x3 x4 x5 x6 (ix2 r k) - val_main_v27 (F := Ideal) x0 x1 x2 x3 x4 x5 x6 (ix2 r 0))
          * (val_main_v23 (F := Ideal) x0 x1 x2 x3 x4 x5 x6 (ix2 r k) - val_main_v27 (F := Ideal) x0 x1 x2 x3 x4 x5 x6 (ix2 r 0))) (Ideal.ofBits .f32 0x45000000#32) := by
    pointwise [val_main_v34, val_main_v33, val_main_v32, val_main_v31, val_main_v30, val_main_v29, val_main_v28, val_main_cst_2, val_main_cst_3]
  rw [e]
  simp only [ref_resid, ref_mean]
  rfl

/-- The reference's result: at every token the layer norm of the token's residual. -/
theorem ref_merge (r : Fin 8704) (n : Fin 2048) :
    val_main_v49 (F := Ideal) x0 x1 x2 x3 x4 x5 x6 x7 x8 (ix2 r n)
      = norm (residAt x0 x1 x2 x3 x4 x5 x6 r) (fun k => x7 (ix2 0 k)) (fun k => x8 (ix2 0 k)) n := by
  have e : val_main_v49 (F := Ideal) x0 x1 x2 x3 x4 x5 x6 x7 x8 (ix2 r n)
      = (val_main_v23 (F := Ideal) x0 x1 x2 x3 x4 x5 x6 (ix2 r n) - val_main_v27 (F := Ideal) x0 x1 x2 x3 x4 x5 x6 (ix2 r 0))
        * Ideal.rsqrt (val_main_v34 (F := Ideal) x0 x1 x2 x3 x4 x5 x6 (ix2 r 0) + Ideal.ofBits .f32 0x3727C5AC#32) * x7 (ix2 0 n) + x8 (ix2 0 n) := by
    pointwise [val_main_v49, val_main_v48, val_main_v47, val_main_v46, val_main_v45, val_main_v44, val_main_v43, val_main_v42, val_main_v41, val_main_v40,
      val_main_v39, val_main_v38, val_main_v37, val_main_cst_4, val_main_v36, val_main_v35]
  rw [e, ref_var, ref_mean]
  simp only [ref_resid]
  rfl

end Cert.Merge

end
-- ==== Proof.MergeBody.lean ====
module

public import proofs.«01_k».proof.Proof.Gen.Kernel3Ideal.Value
public import proofs.«01_k».proof.Proof.MergeSpec
public import Idealize.ShloMosaic.Lib.Pipeline.ValueKit.Tiles

@[expose] public section

set_option maxRecDepth 20000

noncomputable section

/-! What the body of the merge stores at a row and a column of its block: the merge of the row's token. -/

namespace Cert.Merge

open Cert.Kernel3Ideal Cert.Kernel3Ideal.Gen Idealize.ShloMosaic Idealize.ShloMosaic.TcCoe Idealize.SL.Sem

theorem hz : (![0, 0] : Fin 2 → Nat) = fun _ => 0 := funext fun a => by fin_cases a <;> rfl

variable (x0 : Vec Ideal S256x256 .f32) (x1 : Vec Ideal S256x768 .f32) (x2 : Vec Ideal S256x512 .f32) (x3 : Vec Ideal S256x6144 .f32)
  (x4 : Vec Ideal S256x2048 .f32) (x5 : Vec Ideal S1536x2048 .bf16) (x6 : Vec Ideal S2048x2048 .bf16) (x7 x8 : Vec Ideal S1x2048 .f32)

/-- The residual of a block's rows, from the slices of the weights and gates its body loads. -/
theorem pay_resid (a : Vec Ideal S256x256 .f32) (wa : Vec Ideal S256x2048 .bf16) (ga : Vec Ideal S256x2048 .f32)
    (b : Vec Ideal S256x768 .f32) (wb : Vec Ideal S768x2048 .bf16) (gb : Vec Ideal S256x2048 .f32)
    (d : Vec Ideal S256x512 .f32) (wd : Vec Ideal S512x2048 .bf16) (gd : Vec Ideal S256x2048 .f32)
    (x : Vec Ideal S256x2048 .f32) (v : Vec Ideal S2048x2048 .bf16) (r : Fin 256) (n : Fin 2048) :
    k0_pay3 a wa ga b wb gb d wd gd x v (ix2 r n)
      = (Ideal.ofBits .f32 0x3F9837F0#32 * x (ix2 r n) + ∑ k : Fin 2048,
          (((∑ j : Fin 256, a (ix2 r j) * wa (ix2 j k)) * ga (ix2 r k) + (∑ j : Fin 768, b (ix2 r j) * wb (ix2 j k)) * gb (ix2 r k))
            + (∑ j : Fin 512, d (ix2 r j) * wd (ix2 j k)) * gd (ix2 r k)) * v (ix2 k n) : EReal) := by
  pointwise [k0_pay3]

/-- The layer norm of a block's rows. -/
theorem pay_norm (z : Vec Ideal S256x2048 .f32) (g b : Vec Ideal S1x2048 .f32) (r : Fin 256) (n : Fin 2048) :
    k0_pay4 z g b (ix2 r n) = norm (fun k => z (ix2 r k)) (fun k => g (ix2 0 k)) (fun k => b (ix2 0 k)) n := by
  pointwise [k0_pay4]
  rfl

/-- The rows of the branch weights the body reads for the first branch. -/
theorem ld_w0 (j : Fin 256) (n : Fin 2048) : View.ld x5 r0_1 (ix2 j n : S256x2048.Idx) = x5 (ix2 ⟨j.val, by omega⟩ n) := by
  refine View.ld_unit_apply_of x5 _ _ _ _ _ fun a => ?_
  match a with
  | ⟨0, _⟩ => exact (Nat.zero_add _).symm
  | ⟨1, _⟩ => exact (Nat.zero_add _).symm

/-- The rows of the branch weights the body reads for the second branch. -/
theorem ld_w1 (j : Fin 768) (n : Fin 2048) : View.ld x5 r0_4 (ix2 j n : S768x2048.Idx) = x5 (ix2 ⟨256 + j.val, by omega⟩ n) := by
  refine View.ld_unit_apply_of x5 _ _ _ _ _ fun a => ?_
  match a with
  | ⟨0, _⟩ => rfl
  | ⟨1, _⟩ => exact (Nat.zero_add _).symm

/-- The rows of the branch weights the body reads for the third branch. -/
theorem ld_w2 (j : Fin 512) (n : Fin 2048) : View.ld x5 r0_7 (ix2 j n : S512x2048.Idx) = x5 (ix2 ⟨1024 + j.val, by omega⟩ n) := by
  refine View.ld_unit_apply_of x5 _ _ _ _ _ fun a => ?_
  match a with
  | ⟨0, _⟩ => rfl
  | ⟨1, _⟩ => exact (Nat.zero_add _).symm

/-- The gates the body reads for the first branch. -/
theorem ld_g0 (r : Fin 256) (n : Fin 2048) : View.ld x3 r0_2 (ix2 r n : S256x2048.Idx) = x3 (ix2 r ⟨n.val, by omega⟩) := by
  refine View.ld_unit_apply_of x3 _ _ _ _ _ fun a => ?_
  match a with
  | ⟨0, _⟩ => exact (Nat.zero_add _).symm
  | ⟨1, _⟩ => exact (Nat.zero_add _).symm

/-- The gates the body reads for the second branch. -/
theorem ld_g1 (r : Fin 256) (n : Fin 2048) : View.ld x3 r0_5 (ix2 r n : S256x2048.Idx) = x3 (ix2 r ⟨2048 + n.val, by omega⟩) := by
  refine View.ld_unit_apply_of x3 _ _ _ _ _ fun a => ?_
  match a with
  | ⟨0, _⟩ => exact (Nat.zero_add _).symm
  | ⟨1, _⟩ => rfl

/-- The gates the body reads for the third branch. -/
theorem ld_g2 (r : Fin 256) (n : Fin 2048) : View.ld x3 r0_8 (ix2 r n : S256x2048.Idx) = x3 (ix2 r ⟨4096 + n.val, by omega⟩) := by
  refine View.ld_unit_apply_of x3 _ _ _ _ _ fun a => ?_
  match a with
  | ⟨0, _⟩ => exact (Nat.zero_add _).symm
  | ⟨1, _⟩ => rfl

/-- The residual of a block's rows, when the loads are the slices of the weights and gates. -/
theorem pay_mix (wa : Vec Ideal S256x2048 .bf16) (ga : Vec Ideal S256x2048 .f32) (wb : Vec Ideal S768x2048 .bf16) (gb : Vec Ideal S256x2048 .f32)
    (wd : Vec Ideal S512x2048 .bf16) (gd : Vec Ideal S256x2048 .f32)
    (h0 : ∀ (j : Fin 256) (n : Fin 2048), wa (ix2 j n) = x5 (ix2 ⟨j.val, by omega⟩ n))
    (h1 : ∀ (j : Fin 768) (n : Fin 2048), wb (ix2 j n) = x5 (ix2 ⟨256 + j.val, by omega⟩ n))
    (h2 : ∀ (j : Fin 512) (n : Fin 2048), wd (ix2 j n) = x5 (ix2 ⟨1024 + j.val, by omega⟩ n))
    (g0 : ∀ (r : Fin 256) (n : Fin 2048), ga (ix2 r n) = x3 (ix2 r ⟨n.val, by omega⟩))
    (g1 : ∀ (r : Fin 256) (n : Fin 2048), gb (ix2 r n) = x3 (ix2 r ⟨2048 + n.val, by omega⟩))
    (g2 : ∀ (r : Fin 256) (n : Fin 2048), gd (ix2 r n) = x3 (ix2 r ⟨4096 + n.val, by omega⟩)) (r : Fin 256) (n : Fin 2048) :
    k0_pay3 x0 wa ga x1 wb gb x2 wd gd x4 x6 (ix2 r n)
      = resid (mix (fun k => x0 (ix2 r k)) (fun k => x1 (ix2 r k)) (fun k => x2 (ix2 r k)) (fun k => x3 (ix2 r k)) (fun k n => x5 (ix2 k n)))
          (fun k => x4 (ix2 r k)) (fun k n => x6 (ix2 k n)) n := by
  rw [pay_resid]
  simp only [h0, h1, h2, g0, g1, g2]
  rfl

/-- What the body stores at a row and a column: the merge of the row. -/
theorem out_apply (x9 x10 : Vec Ideal S2048x128 .bf16) (x11 : Vec Ideal S1x128 .f32) (r : Fin 256) (n : Fin 2048) :
    out0_12 x0 x1 x2 x3 x4 x5 x6 x7 x8 x9 x10 x11 (ix2 r n)
      = norm (resid (mix (fun k => x0 (ix2 r k)) (fun k => x1 (ix2 r k)) (fun k => x2 (ix2 r k)) (fun k => x3 (ix2 r k)) (fun k n => x5 (ix2 k n)))
          (fun k => x4 (ix2 r k)) (fun k n => x6 (ix2 k n))) (fun k => x7 (ix2 0 k)) (fun k => x8 (ix2 0 k)) n := by
  unfold out0_12
  rw [View.canon_unit_zero hz]
  rw [show View.ld x7 r0_11 = x7 from View.ld_unit_zero hz _ x7, show View.ld x8 r0_11 = x8 from View.ld_unit_zero hz _ x8]
  rw [pay_norm]
  refine congrArg (fun z => norm z (fun k => x7 (ix2 0 k)) (fun k => x8 (ix2 0 k)) n) (funext fun k => ?_)
  unfold k0_pay27
  rw [show View.ld x0 r0_0 = x0 from View.ld_unit_zero hz _ x0, show View.ld x1 r0_3 = x1 from View.ld_unit_zero hz _ x1,
    show View.ld x2 r0_6 = x2 from View.ld_unit_zero hz _ x2, show View.ld x4 r0_9 = x4 from View.ld_unit_zero hz _ x4,
    show View.ld x6 r0_10 = x6 from View.ld_unit_zero hz _ x6]
  exact pay_mix x0 x1 x2 x3 x4 x5 x6 _ _ _ _ _ _ (ld_w0 x5) (ld_w1 x5) (ld_w2 x5) (ld_g0 x3) (ld_g1 x3) (ld_g2 x3) r k

end Cert.Merge

end
-- ==== Proof.MergeFinal.lean ====
module

public import proofs.«01_k».proof.Defs
public import proofs.«01_k».proof.Proof.MergeBody

@[expose] public section

set_option maxRecDepth 20000

noncomputable section

/-! The merge call writes the reference's array: its blocks, what each grid point writes back, and the value claim. -/

namespace Cert.Merge

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The token at a row of a grid point's block. -/
abbrev row (t : Fin grid0.N) (r : Fin 256) : Fin 8704 :=
  ⟨256 * t.val + r.val, by have h : t.val < 34 := t.isLt; omega⟩

/-- The rows of the first branch the run finds. -/
abbrev att : Cert.Kernel3Ideal.S8704x256.Idx → EReal := m ((c : Thread nD τ).loc main_arg0)

theorem pos0 : ∀ t : Fin grid0.N, win0_0.index t 0 = t.val ∧ win0_0.index t 1 = 0 := by decide +kernel

/-- The block of the first branch. -/
theorem blk0 (t : Fin cfg0.N) (r : Fin 256) (k : Fin 256) : (iblk m c 0 t : Vec Ideal S256x256 .f32) (ix2 r k) = att m c (ix2 (row t r) k) := by
  show V m c main_arg0 ((win0_0.rect t).emb (ix2 r k)) = _
  rw [V_main_arg0]
  refine congrArg _ (funext fun b => Fin.ext ?_)
  match b with
  | ⟨0, _⟩ =>
    refine (win0_0.rect_emb_val t (ix2 r k) 0).trans ?_
    rw [(pos0 t).1]
    show t.val * 256 + r.val = 256 * t.val + r.val
    omega
  | ⟨1, _⟩ =>
    refine (win0_0.rect_emb_val t (ix2 r k) 1).trans ?_
    rw [(pos0 t).2]
    show 0 * 256 + k.val = k.val
    omega

/-- The rows of the second branch the run finds. -/
abbrev rwkv : Cert.Kernel3Ideal.S8704x768.Idx → EReal := m ((c : Thread nD τ).loc main_arg1)

theorem pos1 : ∀ t : Fin grid0.N, win0_1.index t 0 = t.val ∧ win0_1.index t 1 = 0 := by decide +kernel

/-- The block of the second branch. -/
theorem blk1 (t : Fin cfg0.N) (r : Fin 256) (k : Fin 768) : (iblk m c 1 t : Vec Ideal S256x768 .f32) (ix2 r k) = rwkv m c (ix2 (row t r) k) := by
  show V m c main_arg1 ((win0_1.rect t).emb (ix2 r k)) = _
  rw [V_main_arg1]
  refine congrArg _ (funext fun b => Fin.ext ?_)
  match b with
  | ⟨0, _⟩ =>
    refine (win0_1.rect_emb_val t (ix2 r k) 0).trans ?_
    rw [(pos1 t).1]
    show t.val * 256 + r.val = 256 * t.val + r.val
    omega
  | ⟨1, _⟩ =>
    refine (win0_1.rect_emb_val t (ix2 r k) 1).trans ?_
    rw [(pos1 t).2]
    show 0 * 768 + k.val = k.val
    omega

/-- The rows of the third branch the run finds. -/
abbrev mem : Cert.Kernel3Ideal.S8704x512.Idx → EReal := m ((c : Thread nD τ).loc main_arg2)

theorem pos2 : ∀ t : Fin grid0.N, win0_2.index t 0 = t.val ∧ win0_2.index t 1 = 0 := by decide +kernel

/-- The block of the third branch. -/
theorem blk2 (t : Fin cfg0.N) (r : Fin 256) (k : Fin 512) : (iblk m c 2 t : Vec Ideal S256x512 .f32) (ix2 r k) = mem m c (ix2 (row t r) k) := by
  show V m c main_arg2 ((win0_2.rect t).emb (ix2 r k)) = _
  rw [V_main_arg2]
  refine congrArg _ (funext fun b => Fin.ext ?_)
  match b with
  | ⟨0, _⟩ =>
    refine (win0_2.rect_emb_val t (ix2 r k) 0).trans ?_
    rw [(pos2 t).1]
    show t.val * 256 + r.val = 256 * t.val + r.val
    omega
  | ⟨1, _⟩ =>
    refine (win0_2.rect_emb_val t (ix2 r k) 1).trans ?_
    rw [(pos2 t).2]
    show 0 * 512 + k.val = k.val
    omega

/-- The rows of the gates the run finds. -/
abbrev gate : Cert.Kernel3Ideal.S8704x6144.Idx → EReal := m ((c : Thread nD τ).loc main_arg3)

theorem pos3 : ∀ t : Fin grid0.N, win0_3.index t 0 = t.val ∧ win0_3.index t 1 = 0 := by decide +kernel

/-- The block of the gates. -/
theorem blk3 (t : Fin cfg0.N) (r : Fin 256) (k : Fin 6144) : (iblk m c 3 t : Vec Ideal S256x6144 .f32) (ix2 r k) = gate m c (ix2 (row t r) k) := by
  show V m c main_arg3 ((win0_3.rect t).emb (ix2 r k)) = _
  rw [V_main_arg3]
  refine congrArg _ (funext fun b => Fin.ext ?_)
  match b with
  | ⟨0, _⟩ =>
    refine (win0_3.rect_emb_val t (ix2 r k) 0).trans ?_
    rw [(pos3 t).1]
    show t.val * 256 + r.val = 256 * t.val + r.val
    omega
  | ⟨1, _⟩ =>
    refine (win0_3.rect_emb_val t (ix2 r k) 1).trans ?_
    rw [(pos3 t).2]
    show 0 * 6144 + k.val = k.val
    omega

/-- The rows of the input the run finds. -/
abbrev inp : Cert.Kernel3Ideal.S8704x2048.Idx → EReal := m ((c : Thread nD τ).loc main_arg4)

theorem pos4 : ∀ t : Fin grid0.N, win0_4.index t 0 = t.val ∧ win0_4.index t 1 = 0 := by decide +kernel

/-- The block of the input. -/
theorem blk4 (t : Fin cfg0.N) (r : Fin 256) (k : Fin 2048) : (iblk m c 4 t : Vec Ideal S256x2048 .f32) (ix2 r k) = inp m c (ix2 (row t r) k) := by
  show V m c main_arg4 ((win0_4.rect t).emb (ix2 r k)) = _
  rw [V_main_arg4]
  refine congrArg _ (funext fun b => Fin.ext ?_)
  match b with
  | ⟨0, _⟩ =>
    refine (win0_4.rect_emb_val t (ix2 r k) 0).trans ?_
    rw [(pos4 t).1]
    show t.val * 256 + r.val = 256 * t.val + r.val
    omega
  | ⟨1, _⟩ =>
    refine (win0_4.rect_emb_val t (ix2 r k) 1).trans ?_
    rw [(pos4 t).2]
    show 0 * 2048 + k.val = k.val
    omega

/-- The branch weights the run finds. -/
abbrev wBr : Cert.Kernel3Ideal.S1x1536x2048.Idx → EReal := m ((c : Thread nD τ).loc main_arg5)

theorem pos5 : ∀ t : Fin grid0.N, win0_5.index t 0 = 0 ∧ win0_5.index t 1 = 0 := by decide +kernel

/-- The branch weights as the call finds them. -/
theorem at5 (r : Fin 1536) (k : Fin 2048) : (V m c main_v1 : Vec Ideal S1536x2048 .bf16) (ix2 r k) = wBr m c (ix3 0 r k) := by
  have e : (V m c main_v1 : S1536x2048.Idx → EReal) = shapeCast S1536x2048 (wBr m c) shapeCasts_S1x1536x2048_S1536x2048 := by
    show StableHlo.after hostOps0 (fun b => m (c, b)) main_v1 = _
    after_results_simp <;> rfl
  refine (congrFun e (ix2 r k)).trans ?_
  pointwise

/-- The block of the branch weights: all of them. -/
theorem blk5 (t : Fin cfg0.N) (r : Fin 1536) (k : Fin 2048) : (iblk m c 5 t : Vec Ideal S1536x2048 .bf16) (ix2 r k) = wBr m c (ix3 0 r k) := by
  refine Eq.trans ?_ (at5 m c r k)
  show V m c main_v1 ((win0_5.rect t).emb (ix2 r k)) = _
  refine congrArg _ (funext fun b => Fin.ext ?_)
  match b with
  | ⟨0, _⟩ =>
    refine (win0_5.rect_emb_val t (ix2 r k) 0).trans ?_
    rw [(pos5 t).1]
    show 0 * 1536 + r.val = r.val
    omega
  | ⟨1, _⟩ =>
    refine (win0_5.rect_emb_val t (ix2 r k) 1).trans ?_
    rw [(pos5 t).2]
    show 0 * 2048 + k.val = k.val
    omega

/-- The output weights the run finds. -/
abbrev wOut : Cert.Kernel3Ideal.S1x2048x2048.Idx → EReal := m ((c : Thread nD τ).loc main_arg6)

theorem pos6 : ∀ t : Fin grid0.N, win0_6.index t 0 = 0 ∧ win0_6.index t 1 = 0 := by decide +kernel

/-- The output weights as the call finds them. -/
theorem at6 (r : Fin 2048) (k : Fin 2048) : (V m c main_v3 : Vec Ideal S2048x2048 .bf16) (ix2 r k) = wOut m c (ix3 0 r k) := by
  have e : (V m c main_v3 : S2048x2048.Idx → EReal) = shapeCast S2048x2048 (wOut m c) shapeCasts_S1x2048x2048_S2048x2048 := by
    show StableHlo.after hostOps0 (fun b => m (c, b)) main_v3 = _
    after_results_simp <;> rfl
  refine (congrFun e (ix2 r k)).trans ?_
  pointwise

/-- The block of the output weights: all of them. -/
theorem blk6 (t : Fin cfg0.N) (r : Fin 2048) (k : Fin 2048) : (iblk m c 6 t : Vec Ideal S2048x2048 .bf16) (ix2 r k) = wOut m c (ix3 0 r k) := by
  refine Eq.trans ?_ (at6 m c r k)
  show V m c main_v3 ((win0_6.rect t).emb (ix2 r k)) = _
  refine congrArg _ (funext fun b => Fin.ext ?_)
  match b with
  | ⟨0, _⟩ =>
    refine (win0_6.rect_emb_val t (ix2 r k) 0).trans ?_
    rw [(pos6 t).1]
    show 0 * 2048 + r.val = r.val
    omega
  | ⟨1, _⟩ =>
    refine (win0_6.rect_emb_val t (ix2 r k) 1).trans ?_
    rw [(pos6 t).2]
    show 0 * 2048 + k.val = k.val
    omega

/-- The scale of the layer norm the run finds. -/
abbrev lnG : Cert.Kernel3Ideal.S1x2048.Idx → EReal := m ((c : Thread nD τ).loc main_arg7)

theorem pos7 : ∀ t : Fin grid0.N, win0_7.index t 0 = 0 ∧ win0_7.index t 1 = 0 := by decide +kernel

/-- The scale of the layer norm as the call finds them. -/
theorem at7 (r : Fin 1) (k : Fin 2048) : (V m c main_v20 : Vec Ideal S1x2048 .f32) (ix2 r k) = lnG m c (ix2 r k) := by
  have e : (V m c main_v20 : S1x2048.Idx → EReal) = shapeCast S1x2048 (shapeCast S2048 (lnG m c) shapeCasts_S1x2048_S2048) shapeCasts_S2048_S1x2048 := by
    show StableHlo.after hostOps0 (fun b => m (c, b)) main_v20 = _
    after_results_simp <;> rfl
  refine (congrFun e (ix2 r k)).trans ?_
  pointwise

/-- The block of the scale of the layer norm: all of them. -/
theorem blk7 (t : Fin cfg0.N) (r : Fin 1) (k : Fin 2048) : (iblk m c 7 t : Vec Ideal S1x2048 .f32) (ix2 r k) = lnG m c (ix2 r k) := by
  refine Eq.trans ?_ (at7 m c r k)
  show V m c main_v20 ((win0_7.rect t).emb (ix2 r k)) = _
  refine congrArg _ (funext fun b => Fin.ext ?_)
  match b with
  | ⟨0, _⟩ =>
    refine (win0_7.rect_emb_val t (ix2 r k) 0).trans ?_
    rw [(pos7 t).1]
    show 0 * 1 + r.val = r.val
    omega
  | ⟨1, _⟩ =>
    refine (win0_7.rect_emb_val t (ix2 r k) 1).trans ?_
    rw [(pos7 t).2]
    show 0 * 2048 + k.val = k.val
    omega

/-- The shift of the layer norm the run finds. -/
abbrev lnB : Cert.Kernel3Ideal.S1x2048.Idx → EReal := m ((c : Thread nD τ).loc main_arg8)

theorem pos8 : ∀ t : Fin grid0.N, win0_8.index t 0 = 0 ∧ win0_8.index t 1 = 0 := by decide +kernel

/-- The shift of the layer norm as the call finds them. -/
theorem at8 (r : Fin 1) (k : Fin 2048) : (V m c main_v21 : Vec Ideal S1x2048 .f32) (ix2 r k) = lnB m c (ix2 r k) := by
  have e : (V m c main_v21 : S1x2048.Idx → EReal) = shapeCast S1x2048 (shapeCast S2048 (lnB m c) shapeCasts_S1x2048_S2048) shapeCasts_S2048_S1x2048 := by
    show StableHlo.after hostOps0 (fun b => m (c, b)) main_v21 = _
    after_results_simp <;> rfl
  refine (congrFun e (ix2 r k)).trans ?_
  pointwise

/-- The block of the shift of the layer norm: all of them. -/
theorem blk8 (t : Fin cfg0.N) (r : Fin 1) (k : Fin 2048) : (iblk m c 8 t : Vec Ideal S1x2048 .f32) (ix2 r k) = lnB m c (ix2 r k) := by
  refine Eq.trans ?_ (at8 m c r k)
  show V m c main_v21 ((win0_8.rect t).emb (ix2 r k)) = _
  refine congrArg _ (funext fun b => Fin.ext ?_)
  match b with
  | ⟨0, _⟩ =>
    refine (win0_8.rect_emb_val t (ix2 r k) 0).trans ?_
    rw [(pos8 t).1]
    show 0 * 1 + r.val = r.val
    omega
  | ⟨1, _⟩ =>
    refine (win0_8.rect_emb_val t (ix2 r k) 1).trans ?_
    rw [(pos8 t).2]
    show 0 * 2048 + k.val = k.val
    omega

theorem pos12 : ∀ t : Fin grid0.N, win0_12.index t 0 = t.val ∧ win0_12.index t 1 = 0 := by decide +kernel

/-- A block of a whole result array. -/
theorem readOut (G : Cert.Kernel3Ideal.S8704x2048.Idx → EReal) (t : Fin cfg0.N) (r : Fin 256) (n : Fin 2048) :
    (win0_12.blk t).view.read (Elt Ideal) G (ix2 r n) = G (ix2 (row t r) n) := by
  show G ((win0_12.rect t).emb (ix2 r n)) = _
  refine congrArg G (funext fun b => Fin.ext ?_)
  match b with
  | ⟨0, _⟩ =>
    refine (win0_12.rect_emb_val t (ix2 r n) 0).trans ?_
    rw [(pos12 t).1]
    show t.val * 256 + r.val = 256 * t.val + r.val
    omega
  | ⟨1, _⟩ =>
    refine (win0_12.rect_emb_val t (ix2 r n) 1).trans ?_
    rw [(pos12 t).2]
    show 0 * 2048 + n.val = n.val
    omega

/-- What a grid point writes back is its block of any array that holds the merge of every token. -/
theorem written (G : Cert.Kernel3Ideal.S8704x2048.Idx → EReal)
    (hG : ∀ (r : Fin 8704) (n : Fin 2048), G (ix2 r n) = norm (residAt (att m c) (rwkv m c) (mem m c) (gate m c) (inp m c) (wBr m c) (wOut m c) r) (fun k => lnG m c (ix2 0 k)) (fun k => lnB m c (ix2 0 k)) n)
    (t : Fin cfg0.N) : (dats m 0 c).flushed 12 t = (win0_12.blk t).view.read (Elt Ideal) G := by
  rw [Cert.Kernel3Ideal.Value.flushed12]
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = _
  refine funext fun y => ?_
  obtain ⟨r, n, rfl⟩ : ∃ (r : Fin 256) (n : Fin 2048), y = (ix2 r n : S256x2048.Idx) := ⟨y 0, y 1, funext fun a => by match a with | ⟨0, _⟩ => rfl | ⟨1, _⟩ => rfl⟩
  refine Eq.trans ?_ (readOut G t r n).symm
  rw [hG]
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r n).trans ?_
  simp only [blk0, blk1, blk2, blk3, blk4, blk5, blk6, blk7, blk8]

/-- The blocks cover the result array. -/
theorem cover (i : Cert.Kernel3Ideal.S8704x2048.Idx) : ∃ t : Fin cfg0.N, (cfg0.win 12).flush t = true ∧ i ∈ ((cfg0.win 12).blk t).view.set := by
  have h0 : (i 0 : Nat) < 8704 := (i 0).isLt
  have h1 : (i 1 : Nat) < 2048 := (i 1).isLt
  have ht : (i 0 : Nat) / 256 < grid0.N := by rw [show grid0.N = 34 from rfl]; omega
  obtain ⟨t, et⟩ : ∃ t : Fin grid0.N, t.val = (i 0 : Nat) / 256 := ⟨⟨_, ht⟩, rfl⟩
  refine ⟨t, flush0_12 t, ?_⟩
  show i ∈ ((View.whole main_v22_0).slice (win0_12.rect t)).set
  rw [View.set_slice_whole, Rect.mem_set_unit]
  intro a
  match a with
  | ⟨0, _⟩ =>
    show win0_12.index t 0 * 256 ≤ (i 0 : Nat) ∧ (i 0 : Nat) < win0_12.index t 0 * 256 + 256
    rw [(pos12 t).1]; omega
  | ⟨1, _⟩ =>
    show win0_12.index t 1 * 2048 ≤ (i 1 : Nat) ∧ (i 1 : Nat) < win0_12.index t 1 * 2048 + 2048
    rw [(pos12 t).2]; omega

/-- The result array of the merge after the run. -/
theorem final : (dats m 0 c).arrAt 12 cfg0.N = Cert.Reference3Ideal.Read.val_main_v49 (F := Ideal) (att m c) (rwkv m c) (mem m c) (gate m c) (inp m c) (wBr m c) (wOut m c) (lnG m c) (lnB m c) :=
  (dats m 0 c).arrAt_eq_of_cover 12 _ (fun t _ => written m c _ (ref_merge (att m c) (rwkv m c) (mem m c) (gate m c) (inp m c) (wBr m c) (wOut m c) (lnG m c) (lnB m c)) t) cover

/-- The merge call computes the reference's array. -/
theorem agrees : Cert.algebraic_Kernel3Ideal_Reference3Ideal := by
  intro m g m' g' _ hm
  refine ⟨fun c => Cert.Reference3Ideal.Read.val_main_v49 (F := Ideal) (att m c) (rwkv m c) (mem m c) (gate m c) (inp m c) (wBr m c) (wOut m c) (lnG m c) (lnB m c), ?_, ?_⟩
  · exact (θ_run Cert.Kernel3Ideal.defs _ _).mono (fun r h c => ⟨(h c).1.trans (final m c), (h c).2.2.2⟩) (Cert.Kernel3Ideal.Value.run_blocks m g)
  · refine (θ_run Cert.Reference3Ideal.defs _ _).mono (fun r h c => ?_) (Cert.Reference3Ideal.Value.run m' g')
    obtain ⟨a0, rest⟩ := h c
    obtain ⟨e0, e1, e2, e3, e4, e5, e6, e7, e8, _⟩ := hm c
    refine ⟨a0.trans ?_, rest⟩
    rw [Cert.Reference3Ideal.Read.val_main_v49_eq, e0, e1, e2, e3, e4, e5, e6, e7, e8]

end Cert.Merge

end
-- ==== Proof.DownRing.lean ====
/-
The two slots through which the experts' weights stream, one half of an expert's matrix at a time: the slots, the blocks of
the weights, the words the body computes them from, and what a transfer in flight delivers.
-/
module

public import proofs.«01_k».proof.Proof.Gen.Kernel4
public import proofs.«01_k».proof.Proof.Gen.Kernel4.Skeleton
public import proofs.«01_k».proof.Proof.Gen.Kernel4.Launch
public import Idealize.ShloMosaic.Lib.Pipeline.Frame
public import Idealize.ShloMosaic.Lib.Ring
public import Idealize.ShloMosaic.Lib.Claim
public import Idealize.ShloMosaic.Lib.Exec
public import Idealize.ShloMosaic.Lib.Pipeline.Value

@[expose] public section

set_option maxRecDepth 16384

noncomputable section

namespace Cert.Kernel4.Down

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tables, the slots, the working copy of the weights and the weights themselves, whole. -/
abbrev schedM : Memref sig .tc .smem S2352 .i32 := Memref.whole main_arg1
abbrev validM : Memref sig .tc .smem S168 .i32 := Memref.whole main_arg3
abbrev stageM : Memref sig .tc .vmem S2x1x2048x1024 .f32 := Memref.whole cc0_scratch0
abbrev workM : Memref sig .tc .vmem S1x2048x1024 .bf16 := Memref.whole cc0_scratch2
abbrev weightsM : Memref sig .tc .hbm S32x2048x2048 .f32 := Memref.whole main_arg4

/-- The contents of the weights on core `c`. -/
abbrev WBuf (c : Dev nD) : Type := Buf (Elt F) (weightsM.view.loc (c : Thread nD τ))

theorem inb_slot (s : Fin 2) : ∀ a, (![s.val, 0, 0, 0] : Fin 4 → Nat) a + S1x1x2048x1024.size a ≤ S2x1x2048x1024.size a := by
  have := s.isLt; intro a; fin_cases a <;> simp <;> omega
theorem inb_block (e : Fin 32) (h : Fin 2) : ∀ a, (![e.val, 0, 1024 * h.val] : Fin 3 → Nat) a + S1x2048x1024.size a ≤ S32x2048x2048.size a := by
  have := e.isLt; have := h.isLt; intro a; fin_cases a <;> simp <;> omega
theorem inb_cell (s : Fin 2) : ∀ a, (![s.val] : Fin 1 → Nat) a + S1.size a ≤ S2.size a := by
  have := s.isLt; intro a; fin_cases a <;> simp <;> omega

/-- Slot `s`. -/
def slotM (s : Fin 2) : Memref sig .tc .vmem S2048x1024 .f32 :=
  (stageM.slice (Rect.unit (s := S2x1x2048x1024) ![s.val, 0, 0, 0] S1x1x2048x1024.size (inb_slot s)) (fun _ => rfl)).squeeze S2048x1024 squeezes_S1x1x2048x1024_S2048x1024
/-- Column half `h` of expert `e`'s matrix. -/
def blockM (e : Fin 32) (h : Fin 2) : Memref sig .tc .hbm S2048x1024 .f32 :=
  (weightsM.slice (Rect.unit (s := S32x2048x2048) ![e.val, 0, 1024 * h.val] S1x2048x1024.size (inb_block e h)) (fun _ => rfl)).squeeze S2048x1024 squeezes_S1x2048x1024_S2048x1024
/-- Slot `s`'s semaphore. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 6 := by decide
theorem cellR_1 : cellR 1 = SemLoc.dma 7 := by decide

/-- The words of the schedule for a slot, an expert, a column half. -/
abbrev slotW (s : Fin 2) : BitVec 32 := BitVec.ofNat 32 s.val
abbrev expertW (e : Fin 32) : BitVec 32 := BitVec.ofNat 32 e.val
abbrev colW (h : Fin 2) : BitVec 32 := BitVec.ofNat 32 (1024 * h.val)
/-- The other slot. -/
abbrev opp (s : Fin 2) : Fin 2 := 1 - s

section Families
variable (c : Dev nD) (W : WBuf (F := F) c)

/-- Slot `s` held at `f`; its semaphore at zero; the elements of a block of the weights, and all the others. -/
abbrev slotP (s : Fin 2) (f : Buf (Elt F) ((slotM s).view.loc (c : Thread nD τ))) : sProp 𝕄 :=
  (slotM s).view.loc (c : Thread nD τ) ↦[(slotM s).view.set]{fullShare} f
abbrev cellP (s : Fin 2) : sProp 𝕄 := semVal ((c : Thread nD τ), cellR s) 0
abbrev blockP (e : Fin 32) (h : Fin 2) : sProp 𝕄 := (blockM e h).view.loc (c : Thread nD τ) ↦[(blockM e h).view.set]{fullShare} W
def restP (e : Fin 32) (h : Fin 2) : sProp 𝕄 := ((c : Thread nD τ).loc main_arg4) ↦[Finset.univ \ (blockM e h).view.set]{fullShare} W
abbrev wholeP : sProp 𝕄 := ((c : Thread nD τ).loc main_arg4) ↦[Finset.univ]{fullShare} W
/-- Slot `s` once the block has landed in it. -/
abbrev landed (s : Fin 2) (e : Fin 32) (h : Fin 2) (f : Buf (Elt F) ((slotM s).view.loc (c : Thread nD τ))) : Buf (Elt F) ((slotM s).view.loc (c : Thread nD τ)) :=
  (slotM s).view.writes (Elt F) f [⟨Rect.whole S2048x1024, ReadAs.same.apply ((blockM e h).view.read (Elt F) W)⟩]
/-- The transfer of a block into slot `s`, in flight. -/
abbrev flightP (s : Fin 2) (e : Fin 32) (h : Fin 2) (f : Buf (Elt F) ((slotM s).view.loc (c : Thread nD τ))) : sProp 𝕄 :=
  Transfers.Flight countersEmb (c : Thread nD τ) (cellR s) default ((slotM s).view.amount (cellR s))
    iprop(slotP c s (landed c W s e h f) ∗ blockP c W e h)

theorem weights_split (e : Fin 32) (h : Fin 2) : wholeP (F := F) c W ⊣⊢ iprop(blockP c W e h ∗ restP c W e h) := by
  unfold restP; exact pointsTo_split_subset (Finset.subset_univ _)

end Families

theorem off9_eq : ∀ s : Fin 2, k0_off9 (slotW s) = ![s.val, 0, 0, 0] := by decide

/-! ## What a landed block reads, and the working copy made of it -/

/-- The block as the stage's load reads it; the working copy the body makes of it. -/
def blockV (c : Dev nD) (W : WBuf (F := F) c) (e : Fin 32) (h : Fin 2) : Vec F S1x1x2048x1024 .f32 :=
  shapeCast S1x1x2048x1024 ((blockM e h).view.read (Elt F) W) (Shape.Squeezes.numel_eq squeezes_S1x1x2048x1024_S2048x1024).symm
def workV (c : Dev nD) (W : WBuf (F := F) c) (e : Fin 32) (h : Fin 2) : Vec F S1x2048x1024 .bf16 := k0_pay3 (blockV c W e h)

/-- A slot into which `p` has landed, read by the stage's load, is `p` in the load's shape. -/
theorem stage_read (c : Dev nD) (s : Fin 2) (q) (f : Buf (Elt F) ((slotM s).view.loc (c : Thread nD τ))) (p : S2048x1024.Idx → Elt F .f32) :
    View.readAt (Elt F) stageM.view (Rect.unit (s := S2x1x2048x1024) (k0_off9 (slotW s)) S1x1x2048x1024.size q).toLoadRect
        ((slotM s).view.writes (Elt F) f [⟨Rect.whole S2048x1024, p⟩])
      = shapeCast S1x1x2048x1024 p (Shape.Squeezes.numel_eq squeezes_S1x1x2048x1024_S2048x1024).symm := by
  have h1 : (slotM s).view.read (Elt F) ((slotM s).view.writes (Elt F) f [⟨Rect.whole S2048x1024, p⟩]) = p := by
    rw [← View.write_univ_eq_writes_whole]; exact View.read_write_univ _ _
  generalize (slotM s).view.writes (Elt F) f [⟨Rect.whole S2048x1024, p⟩] = G at h1 ⊢
  have hn : S1x1x2048x1024.ShapeCasts S2048x1024 := Shape.Squeezes.numel_eq squeezes_S1x1x2048x1024_S2048x1024
  have h2 : (slotM s).view.read (Elt F) G = shapeCast S2048x1024 (View.readAt (Elt F) stageM.view (Rect.unit (s := S2x1x2048x1024) ![s.val, 0, 0, 0] S1x1x2048x1024.size (inb_slot s)).toLoadRect G) hn := rfl
  have h3 := h2.symm.trans h1
  rw [← h3]
  have h4 : View.readAt (Elt F) stageM.view (Rect.unit (s := S2x1x2048x1024) (k0_off9 (slotW s)) S1x1x2048x1024.size q).toLoadRect G
      = View.readAt (Elt F) stageM.view (Rect.unit (s := S2x1x2048x1024) ![s.val, 0, 0, 0] S1x1x2048x1024.size (inb_slot s)).toLoadRect G := by
    have := off9_eq s
    generalize k0_off9 (slotW s) = o at *
    subst this; rfl
  rw [h4]
  exact (shapeCast_shapeCast _ hn hn.symm).symm

/-! ## The slots make up the stage -/

abbrev slotSet (s : Fin 2) : Finset S2x1x2048x1024.Idx := (Rect.unit (s := S2x1x2048x1024) ![s.val, 0, 0, 0] S1x1x2048x1024.size (inb_slot s)).set
theorem slotSet_eq (s : Fin 2) : (slotM s).view.set = slotSet s := by
  simp only [slotM, Memref.view_squeeze, View.set_reshape]; exact View.set_slice_whole _ _
theorem slots_disjoint (s s' : Fin 2) (h : s ≠ s') : Disjoint (slotSet s) (slotSet s') :=
  Ring.lead_disjoint (s := S2x1x2048x1024) (0 : Fin 4) 1 (fun s : Fin 2 => (![s.val, 0, 0, 0] : Fin 4 → Nat)) S1x1x2048x1024.size inb_slot (fun s => by simp) rfl s s' h
theorem slots_cover : Finset.univ.biUnion slotSet = Finset.univ :=
  Ring.lead_cover (s := S2x1x2048x1024) (0 : Fin 4) 1 (fun s : Fin 2 => (![s.val, 0, 0, 0] : Fin 4 → Nat)) S1x1x2048x1024.size inb_slot (fun s => by simp)
    (fun s a ha => by fin_cases a <;> first | exact absurd rfl ha | rfl) rfl (fun a ha => by fin_cases a <;> first | exact absurd rfl ha | rfl) rfl
theorem slotP_eq (c : Dev nD) (s : Fin 2) (f) : slotP (F := F) c s f = (((c : Thread nD τ).loc cc0_scratch0) ↦[slotSet s]{fullShare} f : sProp 𝕄) := by
  unfold slotP; rw [slotSet_eq]; rfl
set_option maxHeartbeats 1000000 in
theorem slots_in (c : Dev nD) : iprop(∃ d, owns (c : Thread nD τ) stageM fullShare d) ⊢ (iprop((∃ f, slotP (F := F) c 0 f) ∗ ∃ f, slotP (F := F) c 1 f) : sProp 𝕄) := by
  simp only [owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out (c : Dev nD) : (iprop((∃ f, slotP (F := F) c 0 f) ∗ ∃ f, slotP (F := F) c 1 f) : sProp 𝕄) ⊢ iprop(∃ d, owns (c : Thread nD τ) stageM fullShare d) := by
  simp only [owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)

/-! ## The body's own spellings of the slots, semaphores and blocks -/

section Spell
omit [FloatOps F]

theorem off3_eq : ∀ s : Fin 2, k0_off3 (slotW s) = ![s.val] := by decide
theorem off4_eq : ∀ s : Fin 2, k0_off4 (slotW s) = ![s.val, 0, 0, 0] := by decide
theorem off6_eq : ∀ s : Fin 2, k0_off6 (slotW s) = ![s.val] := by decide
theorem off7_eq : ∀ s : Fin 2, k0_off7 (slotW s) = ![s.val, 0, 0, 0] := by decide
theorem off12_eq : ∀ s : Fin 2, k0_off12 (slotW s) = ![(opp s).val] := by decide
theorem off13_eq : ∀ s : Fin 2, k0_off13 (slotW s) = ![(opp s).val, 0, 0, 0] := by decide
theorem off5_eq : ∀ (e : Fin 32) (h : Fin 2), k0_off5 (expertW e) (colW h) = ![e.val, 0, 1024 * h.val] := by decide
theorem off8_eq : ∀ (e : Fin 32) (h : Fin 2), k0_off8 (expertW e) (colW h) = ![e.val, 0, 1024 * h.val] := by decide
theorem off14_eq : ∀ (e : Fin 32) (h : Fin 2), k0_off14 (expertW e) (colW h) = ![e.val, 0, 1024 * h.val] := by decide

@[sl_canon] theorem spell3 (s : Fin 2) (p) :
    (cc0_scratch1.slice (Rect.unit (s := S2) (k0_off3 (slotW s)) S1.size p)).squeeze S_ squeezes_S1_S_ = cellA s :=
  congrArg (fun A : DmaSems sig S1 => A.squeeze S_ squeezes_S1_S_) (SemArray.slice_unit_congr _ (off3_eq s) _ _)
@[sl_canon] theorem spell6 (s : Fin 2) (p) :
    (cc0_scratch1.slice (Rect.unit (s := S2) (k0_off6 (slotW s)) S1.size p)).squeeze S_ squeezes_S1_S_ = cellA s :=
  congrArg (fun A : DmaSems sig S1 => A.squeeze S_ squeezes_S1_S_) (SemArray.slice_unit_congr _ (off6_eq s) _ _)
@[sl_canon] theorem spell12 (s : Fin 2) (p) :
    (cc0_scratch1.slice (Rect.unit (s := S2) (k0_off12 (slotW s)) S1.size p)).squeeze S_ squeezes_S1_S_ = cellA (opp s) :=
  congrArg (fun A : DmaSems sig S1 => A.squeeze S_ squeezes_S1_S_) (SemArray.slice_unit_congr _ (off12_eq s) _ _)
@[sl_canon] theorem spell4 (s : Fin 2) (p) :
    (stageM.slice (Rect.unit (s := S2x1x2048x1024) (k0_off4 (slotW s)) S1x1x2048x1024.size p) (fun _ => rfl)).squeeze S2048x1024 squeezes_S1x1x2048x1024_S2048x1024 = slotM s :=
  congrArg (fun M : Memref sig .tc .vmem S1x1x2048x1024 .f32 => M.squeeze S2048x1024 squeezes_S1x1x2048x1024_S2048x1024) (Memref.slice_unit_congr _ (off4_eq s) _ _ (fun _ => rfl) (fun _ => rfl))
@[sl_canon] theorem spell7 (s : Fin 2) (p) :
    (stageM.slice (Rect.unit (s := S2x1x2048x1024) (k0_off7 (slotW s)) S1x1x2048x1024.size p) (fun _ => rfl)).squeeze S2048x1024 squeezes_S1x1x2048x1024_S2048x1024 = slotM s :=
  congrArg (fun M : Memref sig .tc .vmem S1x1x2048x1024 .f32 => M.squeeze S2048x1024 squeezes_S1x1x2048x1024_S2048x1024) (Memref.slice_unit_congr _ (off7_eq s) _ _ (fun _ => rfl) (fun _ => rfl))
@[sl_canon] theorem spell13 (s : Fin 2) (p) :
    (stageM.slice (Rect.unit (s := S2x1x2048x1024) (k0_off13 (slotW s)) S1x1x2048x1024.size p) (fun _ => rfl)).squeeze S2048x1024 squeezes_S1x1x2048x1024_S2048x1024 = slotM (opp s) :=
  congrArg (fun M : Memref sig .tc .vmem S1x1x2048x1024 .f32 => M.squeeze S2048x1024 squeezes_S1x1x2048x1024_S2048x1024) (Memref.slice_unit_congr _ (off13_eq s) _ _ (fun _ => rfl) (fun _ => rfl))
@[sl_canon] theorem spell5 (e : Fin 32) (h : Fin 2) (p) :
    (weightsM.slice (Rect.unit (s := S32x2048x2048) (k0_off5 (expertW e) (colW h)) S1x2048x1024.size p) (fun _ => rfl)).squeeze S2048x1024 squeezes_S1x2048x1024_S2048x1024 = blockM e h :=
  congrArg (fun M : Memref sig .tc .hbm S1x2048x1024 .f32 => M.squeeze S2048x1024 squeezes_S1x2048x1024_S2048x1024) (Memref.slice_unit_congr _ (off5_eq e h) _ _ (fun _ => rfl) (fun _ => rfl))
@[sl_canon] theorem spell8 (e : Fin 32) (h : Fin 2) (p) :
    (weightsM.slice (Rect.unit (s := S32x2048x2048) (k0_off8 (expertW e) (colW h)) S1x2048x1024.size p) (fun _ => rfl)).squeeze S2048x1024 squeezes_S1x2048x1024_S2048x1024 = blockM e h :=
  congrArg (fun M : Memref sig .tc .hbm S1x2048x1024 .f32 => M.squeeze S2048x1024 squeezes_S1x2048x1024_S2048x1024) (Memref.slice_unit_congr _ (off8_eq e h) _ _ (fun _ => rfl) (fun _ => rfl))
@[sl_canon] theorem spell14 (e : Fin 32) (h : Fin 2) (p) :
    (weightsM.slice (Rect.unit (s := S32x2048x2048) (k0_off14 (expertW e) (colW h)) S1x2048x1024.size p) (fun _ => rfl)).squeeze S2048x1024 squeezes_S1x2048x1024_S2048x1024 = blockM e h :=
  congrArg (fun M : Memref sig .tc .hbm S1x2048x1024 .f32 => M.squeeze S2048x1024 squeezes_S1x2048x1024_S2048x1024) (Memref.slice_unit_congr _ (off14_eq e h) _ _ (fun _ => rfl) (fun _ => rfl))

/-- The load of a slot starts where the slot does. -/
instance (priority := high) (s : Fin 2) : ClosedOff (k0_off9 (slotW s)) := ⟨![s.val, 0, 0, 0], off9_eq s⟩

/-- The side conditions the body assumes of the words hold of a slot's, an expert's and a column half's. -/
theorem chk2 (i : grid0.Coords) (v5 : BitVec 32) (s : Fin 2) : k0_chk2 i v5 (slotW s) := by
  refine ⟨fun _ _ => ?_, fun _ _ => ?_, fun _ => ?_, fun _ => ?_, fun _ => ?_⟩
  · rw [off3_eq]; exact inb_cell s
  · rw [off4_eq]; exact inb_slot s
  · rw [off6_eq]; exact inb_cell s
  · rw [off7_eq]; exact inb_slot s
  · rw [off9_eq]; exact inb_slot s
theorem mult_dvd : ∀ h : Fin 2, 128 ∣ (k0_mult1 (colW h)).toNat := by decide
theorem mult2_dvd : ∀ h : Fin 2, 128 ∣ (k0_mult2 (colW h)).toNat := by decide
theorem chk1 (i : grid0.Coords) (v5 : BitVec 32) (e : Fin 32) (h : Fin 2) : k0_chk1 i v5 (expertW e) (colW h) := by
  refine ⟨fun _ => mult_dvd h, fun _ _ => ?_, fun _ => ?_⟩
  · rw [off5_eq]; exact inb_block e h
  · rw [off8_eq]; exact inb_block e h
theorem chk4 (v5 v52 : BitVec 32) (s : Fin 2) : k0_chk4 v5 (slotW s) v52 := by
  refine ⟨fun _ _ => ?_, fun _ _ => ?_⟩
  · rw [off12_eq]; exact inb_cell _
  · rw [off13_eq]; exact inb_slot _
theorem chk3 (v5 v52 : BitVec 32) (e : Fin 32) (h : Fin 2) : k0_chk3 v5 v52 (expertW e) (colW h) := by
  refine ⟨fun _ _ => mult2_dvd h, fun _ _ => ?_⟩
  rw [off14_eq]; exact inb_block e h
end Spell

end Cert.Kernel4.Down

end
-- ==== Proof.DownBody.lean ====
/-
The body of one step, run on whole buffers.
-/
module

public import proofs.«01_k».proof.Proof.DownRing
public import Idealize.ShloMosaic.Lib.VecWindow

@[expose] public section

set_option maxRecDepth 16384

noncomputable section

namespace Cert.Kernel4.Down

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The word a table read leaves, and the element of the table it is. -/
abbrev readS (T0 : S2352.Idx → Elt F .i32) (off : Fin 1 → Nat) (p : ∀ a, off a + S1.size a ≤ S2352.size a) : BitVec 32 :=
  View.readAt (Elt F) schedM.view (Rect.unit (s := S2352) off S1.size p).toLoadRect T0 (Shape.Idx.first (numel1_S1.symm ▸ Nat.one_pos))
abbrev readV (T1 : S168.Idx → Elt F .i32) (off : Fin 1 → Nat) (p : ∀ a, off a + S1.size a ≤ S168.size a) : BitVec 32 :=
  View.readAt (Elt F) validM.view (Rect.unit (s := S168) off S1.size p).toLoadRect T1 (Shape.Idx.first (numel1_S1.symm ▸ Nat.one_pos))

theorem cond5_of_not (v : BitVec 32) (h : ¬k0_cond4 v = 1#1) : k0_cond5 v = 1#1 := by
  by_cases hv : v = 0#32
  · subst hv; decide
  · have e : (v != 0#32) = true := by simpa using hv
    refine absurd ?_ h
    show BitVec.ofBool (BitVec.setWidth 32 (BitVec.ofBool (v != 0#32)) != 0#32) = 1#1
    rw [e]; decide
theorem not_cond5_of (v : BitVec 32) (h : k0_cond4 v = 1#1) : ¬k0_cond5 v = 1#1 := by
  by_cases hv : v = 0#32
  · subst hv; exact absurd h (by decide)
  · have e : (v == 0#32) = false := by simpa using hv
    show ¬(BitVec.ofBool (BitVec.setWidth 32 (BitVec.ofBool (v == 0#32)) != 0#32)) = 1#1
    rw [e]; decide

/-- What one step writes of the result. -/
def outv (x0 : Vec F S256x2048 .bf16) (x1 : Vec F S1x1x1024 .f32) (w : Vec F S1x2048x1024 .bf16) (v : BitVec 32) : Vec F S256x1024 .f32 :=
  if k0_cond4 v = 1#1 then k0_pay1 x0 w x1 else k0_pay2

set_option maxHeartbeats 4000000 in
/-- A step at which no block begins multiplies by the working copy as it stands, and touches no transfer. -/
theorem run_stay (c : Dev nD) (i : grid0.Coords) (arg4 : Memref sig .tc .vmem S256x2048 .bf16) (harg4 : arg4.IsWhole) (arg5 : Memref sig .tc .vmem S1x1x1024 .f32) (harg5 : arg5.IsWhole) (arg7 : Memref sig .tc .vmem S256x1024 .f32) (harg7 : arg7.IsWhole)
    (T0 : S2352.Idx → Elt F .i32) (T1 : S168.Idx → Elt F .i32) (x0 : Vec F S256x2048 .bf16) (x1 : Vec F S1x1x1024 .f32) (w : Vec F S1x2048x1024 .bf16)
    (h1 : ¬k0_cond1 (readS T0 (k0_off1 i 0#32) (k0_off1_inb i 0)) = 1#1) (K : PUnit → sProp 𝕄) :
    iprop(owns (c : Thread nD τ) arg4 fullShare x0 ∗ owns (c : Thread nD τ) arg5 fullShare x1 ∗ (∃ d, owns (c : Thread nD τ) arg7 fullShare d)
        ∗ (schedM.view.loc (c : Thread nD τ) ↦{fullShare.right} T0) ∗ (validM.view.loc (c : Thread nD τ) ↦{fullShare.right} T1) ∗ owns (c : Thread nD τ) workM fullShare w
        ∗ (iprop(owns (c : Thread nD τ) arg4 fullShare x0 ∗ owns (c : Thread nD τ) arg5 fullShare x1 ∗ owns (c : Thread nD τ) arg7 fullShare (outv x0 x1 w (readV T1 (k0_off15 i) (k0_off15_inb i)))
            ∗ (schedM.view.loc (c : Thread nD τ) ↦{fullShare.right} T0) ∗ (validM.view.loc (c : Thread nD τ) ↦{fullShare.right} T1) ∗ owns (c : Thread nD τ) workM fullShare w) -∗ K ⟨⟩))
      ⊢ wp frame (wpE (defs₀ (F := F)) Variants.none c none) Set.univ (cc0_moe_down i schedM (Memref.isWhole_whole _) validM (Memref.isWhole_whole _) arg4 harg4 arg5 harg5 weightsM (Memref.isWhole_whole _) arg7 harg7 stageM (Memref.isWhole_whole _) cc0_scratch1 workM (Memref.isWhole_whole _)) K := by
  rw [cc0_moe_down_eq_skeleton]; unfold cc0_moe_down_skel
  unfold owns
  iintro ⟨⟨%f0, %hf0, H0⟩, ⟨%f1, %hf1, H1⟩, ⟨%d3, %f3, -, H3⟩, HT0, HT1, ⟨%fw, %hfw, HS⟩, Hk⟩
  obtain rfl := harg4.eq_unread hf0; obtain rfl := harg5.eq_unread hf1
  have hS : workM.IsWhole := Memref.isWhole_whole _
  obtain rfl := hS.eq_unread hfw
  have hT0 : schedM.IsWhole := Memref.isWhole_whole _
  have hT1 : validM.IsWhole := Memref.isWhole_whole _
  by_cases h4 : k0_cond4 (readV T1 (k0_off15 i) (k0_off15_inb i)) = 1#1
  · have h5 := not_cond5_of _ h4
    sl_exec (disch := first | (guard_target = ¬(k0_cond1 _ = _); exact h1) | (guard_target = k0_cond4 _ = _; exact h4) | (guard_target = ¬(k0_cond5 _ = _); exact h5))
    sl_step
    iapply Hk
    isplitl [H0]; · iexists _; isplitr; · ipureintro; exact hf0
                    iexact H0
    isplitl [H1]; · iexists _; isplitr; · ipureintro; exact hf1
                    iexact H1
    isplitl [H3]
    · iexists _; isplitr; swap; · iexact H3
      ipureintro
      rw [View.read_writes_full, outv, if_pos h4, View.readAt_full, View.readAt_full, View.readAt_full, hf0, hf1, hfw]
    isplitl [HT0]; · iexact HT0
    isplitl [HT1]; · iexact HT1
    iexists _; isplitr; · ipureintro; exact hfw
    iexact HS
  · have h5 := cond5_of_not _ h4
    sl_exec (disch := first | (guard_target = ¬(k0_cond1 _ = _); exact h1) | (guard_target = ¬(k0_cond4 _ = _); exact h4) | (guard_target = k0_cond5 _ = _; exact h5))
    sl_step
    iapply Hk
    isplitl [H0]; · iexists _; isplitr; · ipureintro; exact hf0
                    iexact H0
    isplitl [H1]; · iexists _; isplitr; · ipureintro; exact hf1
                    iexact H1
    isplitl [H3]
    · iexists _; isplitr; swap; · iexact H3
      ipureintro
      rw [View.read_writes_full, outv, if_neg h4]
    isplitl [HT0]; · iexact HT0
    isplitl [HT1]; · iexact HT1
    iexists _; isplitr; · ipureintro; exact hfw
    iexact HS

set_option maxHeartbeats 4000000 in
/-- The first step starts the first block's transfer, waits for it, and starts the next block's. -/
theorem run_first (c : Dev nD) (i : grid0.Coords) (arg4 : Memref sig .tc .vmem S256x2048 .bf16) (harg4 : arg4.IsWhole) (arg5 : Memref sig .tc .vmem S1x1x1024 .f32) (harg5 : arg5.IsWhole) (arg7 : Memref sig .tc .vmem S256x1024 .f32) (harg7 : arg7.IsWhole)
    (T0 : S2352.Idx → Elt F .i32) (T1 : S168.Idx → Elt F .i32) (x0 : Vec F S256x2048 .bf16) (x1 : Vec F S1x1x1024 .f32)
    (wb : WBuf (F := F) c) (s : Fin 2) (e : Fin 32) (h : Fin 2) (e' : Fin 32) (h' : Fin 2)
    (h1 : k0_cond1 (readS T0 (k0_off1 i 0#32) (k0_off1_inb i 0)) = 1#1)
    (h2 : k0_cond2 i = 1#1)
    (hs : readS T0 (k0_off2 i 1#32) (k0_off2_inb i 0) = slotW s)
    (he : readS T0 (k0_off2 i 2#32) (k0_off2_inb i 1) = expertW e)
    (hc : readS T0 (k0_off2 i 3#32) (k0_off2_inb i 2) = colW h)
    (h3 : k0_cond3 (readS T0 (k0_off10 i) (k0_off10_inb i)) = 1#1)
    (he' : readS T0 (k0_off11 i 5#32) (k0_off11_inb i 0) = expertW e')
    (hc' : readS T0 (k0_off11 i 6#32) (k0_off11_inb i 1) = colW h')
    (W : Waits sig Unit) (K : PUnit → sProp 𝕄) :
    iprop(owns (c : Thread nD τ) arg4 fullShare x0 ∗ owns (c : Thread nD τ) arg5 fullShare x1 ∗ (∃ d, owns (c : Thread nD τ) arg7 fullShare d)
        ∗ (schedM.view.loc (c : Thread nD τ) ↦{fullShare.right} T0) ∗ (validM.view.loc (c : Thread nD τ) ↦{fullShare.right} T1) ∗ (∃ w, owns (c : Thread nD τ) workM fullShare w)
        ∗ (∃ f, slotP c s f) ∗ (∃ f, slotP c (opp s) f) ∗ cellP c s ∗ cellP c (opp s) ∗ wholeP c wb ∗ owes (c : Thread nD τ) 0 W
        ∗ (iprop(owns (c : Thread nD τ) arg4 fullShare x0 ∗ owns (c : Thread nD τ) arg5 fullShare x1 ∗ owns (c : Thread nD τ) arg7 fullShare (outv x0 x1 (workV c wb e h) (readV T1 (k0_off15 i) (k0_off15_inb i)))
            ∗ (schedM.view.loc (c : Thread nD τ) ↦{fullShare.right} T0) ∗ (validM.view.loc (c : Thread nD τ) ↦{fullShare.right} T1) ∗ owns (c : Thread nD τ) workM fullShare (workV c wb e h)
            ∗ (∃ f, slotP c s f) ∗ cellP c s ∗ (∃ f, flightP c wb (opp s) e' h' f) ∗ restP c wb e' h' ∗ ∃ W', owes (c : Thread nD τ) 0 W') -∗ K ⟨⟩))
      ⊢ wp frame (wpE (defs₀ (F := F)) Variants.none c none) Set.univ (cc0_moe_down i schedM (Memref.isWhole_whole _) validM (Memref.isWhole_whole _) arg4 harg4 arg5 harg5 weightsM (Memref.isWhole_whole _) arg7 harg7 stageM (Memref.isWhole_whole _) cc0_scratch1 workM (Memref.isWhole_whole _)) K := by
  rw [cc0_moe_down_eq_skeleton]; unfold cc0_moe_down_skel
  rw [k0_part1_eq_skeleton]
  unfold owns
  iintro ⟨⟨%f0, %hf0, H0⟩, ⟨%f1, %hf1, H1⟩, ⟨%d3, %f3, -, H3⟩, HT0, HT1, ⟨%w, %fw, -, HS⟩, ⟨%g0, Hs0⟩, ⟨%g1, Hs1⟩, Hc0, Hc1, Hw, HW, Hk⟩
  ihave Hsp := (weights_split c wb e h).1 $$ Hw
  icases Hsp with ⟨Hh0, Hr0⟩
  obtain rfl := harg4.eq_unread hf0; obtain rfl := harg5.eq_unread hf1
  have hS : workM.IsWhole := Memref.isWhole_whole _
  have hT0 : schedM.IsWhole := Memref.isWhole_whole _
  have hT1 : validM.IsWhole := Memref.isWhole_whole _
  sl_exec (disch := first | (guard_target = k0_cond1 _ = _; exact h1))
  rw [show run_first.sl.r_1 i T0 = slotW s from hs]
  sl_exec (disch := first | (guard_target = k0_chk2 _ _ _; exact chk2 _ _ _))
  rw [show run_first.sl.r_2 i T0 = expertW e from he, show run_first.sl.r_3 i T0 = colW h from hc]
  sl_exec (disch := first | (guard_target = k0_chk1 _ _ _ _; exact chk1 _ _ _ _) | (guard_target = k0_cond2 _ = _; exact h2))
  ihave Hw := (weights_split c wb e h).2 $$ [Hh0 Hr0]
  · isplitl [Hh0]; · iexact Hh0
    iexact Hr0
  ihave Hsp := (weights_split c wb e' h').1 $$ Hw
  icases Hsp with ⟨Hh1, Hr1⟩
  sl_exec (disch := first | (guard_target = k0_chk4 _ _ _; exact chk4 _ _ _) | (guard_target = k0_cond3 _ = _; exact h3))
  rw [show run_first.sl.r_5 i T0 = expertW e' from he', show run_first.sl.r_6 i T0 = colW h' from hc']
  by_cases h4 : k0_cond4 (readV T1 (k0_off15 i) (k0_off15_inb i)) = 1#1
  · have h5 := not_cond5_of _ h4
    sl_exec (disch := first | (guard_target = k0_chk3 _ _ _ _; exact chk3 _ _ _ _) | (guard_target = k0_cond4 _ = _; exact h4) | (guard_target = ¬(k0_cond5 _ = _); exact h5))
    sl_step
    iapply Hk
    isplitl [H0]; · iexists _; isplitr; · ipureintro; exact hf0
                    iexact H0
    isplitl [H1]; · iexists _; isplitr; · ipureintro; exact hf1
                    iexact H1
    isplitl [H3]
    · iexists _; isplitr; swap; · iexact H3
      ipureintro
      unfold run_first.sl.v20 run_first.sl.v43
      rw [View.read_writes_full, outv, if_pos h4, View.readAt_full, View.readAt_full, hf0, hf1]
      first | rw [View.readAt_writes_full] | rw [View.readCov_full]
      rw [stage_read c]
      rfl
    isplitl [HT0]; · iexact HT0
    isplitl [HT1]; · iexact HT1
    isplitl [HS]
    · iexists _; isplitr; swap; · iexact HS
      ipureintro
      unfold run_first.sl.v43
      rw [View.read_writes_full, stage_read c]
      rfl
    isplitl [Hs0]; · iexists _; iexact Hs0
    isplitl [Hc0]; · iexact Hc0
    isplitl [Hc1]; · iexists g1; iexact Hc1
    isplitl [Hr1]; · iexact Hr1
    iexists _; iexact HW
  · have h5 := cond5_of_not _ h4
    sl_exec (disch := first | (guard_target = k0_chk3 _ _ _ _; exact chk3 _ _ _ _) | (guard_target = ¬(k0_cond4 _ = _); exact h4) | (guard_target = k0_cond5 _ = _; exact h5))
    sl_step
    iapply Hk
    isplitl [H0]; · iexists _; isplitr; · ipureintro; exact hf0
                    iexact H0
    isplitl [H1]; · iexists _; isplitr; · ipureintro; exact hf1
                    iexact H1
    isplitl [H3]
    · iexists _; isplitr; swap; · iexact H3
      ipureintro
      rw [View.read_writes_full, outv, if_neg h4]
    isplitl [HT0]; · iexact HT0
    isplitl [HT1]; · iexact HT1
    isplitl [HS]
    · iexists _; isplitr; swap; · iexact HS
      ipureintro
      unfold run_first.sl.v43
      rw [View.read_writes_full, stage_read c]
      rfl
    isplitl [Hs0]; · iexists _; iexact Hs0
    isplitl [Hc0]; · iexact Hc0
    isplitl [Hc1]; · iexists g1; iexact Hc1
    isplitl [Hr1]; · iexact Hr1
    iexists _; iexact HW

set_option maxHeartbeats 4000000 in
/-- The first step when there is but one block in all. -/
theorem run_only (c : Dev nD) (i : grid0.Coords) (arg4 : Memref sig .tc .vmem S256x2048 .bf16) (harg4 : arg4.IsWhole) (arg5 : Memref sig .tc .vmem S1x1x1024 .f32) (harg5 : arg5.IsWhole) (arg7 : Memref sig .tc .vmem S256x1024 .f32) (harg7 : arg7.IsWhole)
    (T0 : S2352.Idx → Elt F .i32) (T1 : S168.Idx → Elt F .i32) (x0 : Vec F S256x2048 .bf16) (x1 : Vec F S1x1x1024 .f32)
    (wb : WBuf (F := F) c) (s : Fin 2) (e : Fin 32) (h : Fin 2)
    (h1 : k0_cond1 (readS T0 (k0_off1 i 0#32) (k0_off1_inb i 0)) = 1#1)
    (h2 : k0_cond2 i = 1#1)
    (hs : readS T0 (k0_off2 i 1#32) (k0_off2_inb i 0) = slotW s)
    (he : readS T0 (k0_off2 i 2#32) (k0_off2_inb i 1) = expertW e)
    (hc : readS T0 (k0_off2 i 3#32) (k0_off2_inb i 2) = colW h)
    (h3 : ¬k0_cond3 (readS T0 (k0_off10 i) (k0_off10_inb i)) = 1#1)
    (W : Waits sig Unit) (K : PUnit → sProp 𝕄) :
    iprop(owns (c : Thread nD τ) arg4 fullShare x0 ∗ owns (c : Thread nD τ) arg5 fullShare x1 ∗ (∃ d, owns (c : Thread nD τ) arg7 fullShare d)
        ∗ (schedM.view.loc (c : Thread nD τ) ↦{fullShare.right} T0) ∗ (validM.view.loc (c : Thread nD τ) ↦{fullShare.right} T1) ∗ (∃ w, owns (c : Thread nD τ) workM fullShare w)
        ∗ (∃ f, slotP c s f) ∗ (∃ f, slotP c (opp s) f) ∗ cellP c s ∗ cellP c (opp s) ∗ wholeP c wb ∗ owes (c : Thread nD τ) 0 W
        ∗ (iprop(owns (c : Thread nD τ) arg4 fullShare x0 ∗ owns (c : Thread nD τ) arg5 fullShare x1 ∗ owns (c : Thread nD τ) arg7 fullShare (outv x0 x1 (workV c wb e h) (readV T1 (k0_off15 i) (k0_off15_inb i)))
            ∗ (schedM.view.loc (c : Thread nD τ) ↦{fullShare.right} T0) ∗ (validM.view.loc (c : Thread nD τ) ↦{fullShare.right} T1) ∗ owns (c : Thread nD τ) workM fullShare (workV c wb e h)
            ∗ (∃ f, slotP c s f) ∗ cellP c s ∗ (∃ f, slotP c (opp s) f) ∗ cellP c (opp s) ∗ wholeP c wb ∗ ∃ W', owes (c : Thread nD τ) 0 W') -∗ K ⟨⟩))
      ⊢ wp frame (wpE (defs₀ (F := F)) Variants.none c none) Set.univ (cc0_moe_down i schedM (Memref.isWhole_whole _) validM (Memref.isWhole_whole _) arg4 harg4 arg5 harg5 weightsM (Memref.isWhole_whole _) arg7 harg7 stageM (Memref.isWhole_whole _) cc0_scratch1 workM (Memref.isWhole_whole _)) K := by
  rw [cc0_moe_down_eq_skeleton]; unfold cc0_moe_down_skel
  rw [k0_part1_eq_skeleton]
  unfold owns
  iintro ⟨⟨%f0, %hf0, H0⟩, ⟨%f1, %hf1, H1⟩, ⟨%d3, %f3, -, H3⟩, HT0, HT1, ⟨%w, %fw, -, HS⟩, ⟨%g0, Hs0⟩, ⟨%g1, Hs1⟩, Hc0, Hc1, Hw, HW, Hk⟩
  ihave Hsp := (weights_split c wb e h).1 $$ Hw
  icases Hsp with ⟨Hh0, Hr0⟩
  obtain rfl := harg4.eq_unread hf0; obtain rfl := harg5.eq_unread hf1
  have hS : workM.IsWhole := Memref.isWhole_whole _
  have hT0 : schedM.IsWhole := Memref.isWhole_whole _
  have hT1 : validM.IsWhole := Memref.isWhole_whole _
  sl_exec (disch := first | (guard_target = k0_cond1 _ = _; exact h1))
  rw [show run_only.sl.r_1 i T0 = slotW s from hs]
  sl_exec (disch := first | (guard_target = k0_chk2 _ _ _; exact chk2 _ _ _))
  rw [show run_only.sl.r_2 i T0 = expertW e from he, show run_only.sl.r_3 i T0 = colW h from hc]
  sl_exec (disch := first | (guard_target = k0_chk1 _ _ _ _; exact chk1 _ _ _ _) | (guard_target = k0_cond2 _ = _; exact h2))
  ihave Hw := (weights_split c wb e h).2 $$ [Hh0 Hr0]
  · isplitl [Hh0]; · iexact Hh0
    iexact Hr0
  by_cases h4 : k0_cond4 (readV T1 (k0_off15 i) (k0_off15_inb i)) = 1#1
  · have h5 := not_cond5_of _ h4
    sl_exec (disch := first | (guard_target = k0_chk4 _ _ _; exact chk4 _ _ _) | (guard_target = ¬(k0_cond3 _ = _); exact h3) | (guard_target = k0_cond4 _ = _; exact h4) | (guard_target = ¬(k0_cond5 _ = _); exact h5))
    sl_step
    iapply Hk
    isplitl [H0]; · iexists _; isplitr; · ipureintro; exact hf0
                    iexact H0
    isplitl [H1]; · iexists _; isplitr; · ipureintro; exact hf1
                    iexact H1
    isplitl [H3]
    · iexists _; isplitr; swap; · iexact H3
      ipureintro
      unfold run_only.sl.v20 run_only.sl.v43
      rw [View.read_writes_full, outv, if_pos h4, View.readAt_full, View.readAt_full, hf0, hf1]
      first | rw [View.readAt_writes_full] | rw [View.readCov_full]
      rw [stage_read c]
      rfl
    isplitl [HT0]; · iexact HT0
    isplitl [HT1]; · iexact HT1
    isplitl [HS]
    · iexists _; isplitr; swap; · iexact HS
      ipureintro
      unfold run_only.sl.v43
      rw [View.read_writes_full, stage_read c]
      rfl
    isplitl [Hs0]; · iexists _; iexact Hs0
    isplitl [Hc0]; · iexact Hc0
    isplitl [Hs1]; · iexists _; iexact Hs1
    isplitl [Hc1]; · iexact Hc1
    isplitl [Hw]; · iexact Hw
    iexists _; iexact HW
  · have h5 := cond5_of_not _ h4
    sl_exec (disch := first | (guard_target = k0_chk4 _ _ _; exact chk4 _ _ _) | (guard_target = ¬(k0_cond3 _ = _); exact h3) | (guard_target = ¬(k0_cond4 _ = _); exact h4) | (guard_target = k0_cond5 _ = _; exact h5))
    sl_step
    iapply Hk
    isplitl [H0]; · iexists _; isplitr; · ipureintro; exact hf0
                    iexact H0
    isplitl [H1]; · iexists _; isplitr; · ipureintro; exact hf1
                    iexact H1
    isplitl [H3]
    · iexists _; isplitr; swap; · iexact H3
      ipureintro
      rw [View.read_writes_full, outv, if_neg h4]
    isplitl [HT0]; · iexact HT0
    isplitl [HT1]; · iexact HT1
    isplitl [HS]
    · iexists _; isplitr; swap; · iexact HS
      ipureintro
      unfold run_only.sl.v43
      rw [View.read_writes_full, stage_read c]
      rfl
    isplitl [Hs0]; · iexists _; iexact Hs0
    isplitl [Hc0]; · iexact Hc0
    isplitl [Hs1]; · iexists _; iexact Hs1
    isplitl [Hc1]; · iexact Hc1
    isplitl [Hw]; · iexact Hw
    iexists _; iexact HW

set_option maxHeartbeats 4000000 in
/-- A step at which a block begins waits for its transfer and starts the next block's. -/
theorem run_next (c : Dev nD) (i : grid0.Coords) (arg4 : Memref sig .tc .vmem S256x2048 .bf16) (harg4 : arg4.IsWhole) (arg5 : Memref sig .tc .vmem S1x1x1024 .f32) (harg5 : arg5.IsWhole) (arg7 : Memref sig .tc .vmem S256x1024 .f32) (harg7 : arg7.IsWhole)
    (T0 : S2352.Idx → Elt F .i32) (T1 : S168.Idx → Elt F .i32) (x0 : Vec F S256x2048 .bf16) (x1 : Vec F S1x1x1024 .f32)
    (wb : WBuf (F := F) c) (s : Fin 2) (e : Fin 32) (h : Fin 2) (e' : Fin 32) (h' : Fin 2)
    (h1 : k0_cond1 (readS T0 (k0_off1 i 0#32) (k0_off1_inb i 0)) = 1#1)
    (h2 : ¬k0_cond2 i = 1#1)
    (hs : readS T0 (k0_off2 i 1#32) (k0_off2_inb i 0) = slotW s)
    (he : readS T0 (k0_off2 i 2#32) (k0_off2_inb i 1) = expertW e)
    (hc : readS T0 (k0_off2 i 3#32) (k0_off2_inb i 2) = colW h)
    (h3 : k0_cond3 (readS T0 (k0_off10 i) (k0_off10_inb i)) = 1#1)
    (he' : readS T0 (k0_off11 i 5#32) (k0_off11_inb i 0) = expertW e')
    (hc' : readS T0 (k0_off11 i 6#32) (k0_off11_inb i 1) = colW h')
    (W : Waits sig Unit) (K : PUnit → sProp 𝕄) :
    iprop(owns (c : Thread nD τ) arg4 fullShare x0 ∗ owns (c : Thread nD τ) arg5 fullShare x1 ∗ (∃ d, owns (c : Thread nD τ) arg7 fullShare d)
        ∗ (schedM.view.loc (c : Thread nD τ) ↦{fullShare.right} T0) ∗ (validM.view.loc (c : Thread nD τ) ↦{fullShare.right} T1) ∗ (∃ w, owns (c : Thread nD τ) workM fullShare w)
        ∗ (∃ f, flightP c wb s e h f) ∗ restP c wb e h ∗ (∃ f, slotP c (opp s) f) ∗ cellP c (opp s) ∗ owes (c : Thread nD τ) 0 W
        ∗ (iprop(owns (c : Thread nD τ) arg4 fullShare x0 ∗ owns (c : Thread nD τ) arg5 fullShare x1 ∗ owns (c : Thread nD τ) arg7 fullShare (outv x0 x1 (workV c wb e h) (readV T1 (k0_off15 i) (k0_off15_inb i)))
            ∗ (schedM.view.loc (c : Thread nD τ) ↦{fullShare.right} T0) ∗ (validM.view.loc (c : Thread nD τ) ↦{fullShare.right} T1) ∗ owns (c : Thread nD τ) workM fullShare (workV c wb e h)
            ∗ (∃ f, slotP c s f) ∗ cellP c s ∗ (∃ f, flightP c wb (opp s) e' h' f) ∗ restP c wb e' h' ∗ ∃ W', owes (c : Thread nD τ) 0 W') -∗ K ⟨⟩))
      ⊢ wp frame (wpE (defs₀ (F := F)) Variants.none c none) Set.univ (cc0_moe_down i schedM (Memref.isWhole_whole _) validM (Memref.isWhole_whole _) arg4 harg4 arg5 harg5 weightsM (Memref.isWhole_whole _) arg7 harg7 stageM (Memref.isWhole_whole _) cc0_scratch1 workM (Memref.isWhole_whole _)) K := by
  rw [cc0_moe_down_eq_skeleton]; unfold cc0_moe_down_skel
  rw [k0_part1_eq_skeleton]
  unfold owns
  iintro ⟨⟨%f0, %hf0, H0⟩, ⟨%f1, %hf1, H1⟩, ⟨%d3, %f3, -, H3⟩, HT0, HT1, ⟨%w, %fw, -, HS⟩, ⟨%g0, Hc0⟩, Hr0, ⟨%g1, Hs1⟩, Hc1, HW, Hk⟩
  obtain rfl := harg4.eq_unread hf0; obtain rfl := harg5.eq_unread hf1
  have hS : workM.IsWhole := Memref.isWhole_whole _
  have hT0 : schedM.IsWhole := Memref.isWhole_whole _
  have hT1 : validM.IsWhole := Memref.isWhole_whole _
  sl_exec (disch := first | (guard_target = k0_cond1 _ = _; exact h1))
  rw [show run_next.sl.r_1 i T0 = slotW s from hs]
  sl_exec (disch := first | (guard_target = k0_chk2 _ _ _; exact chk2 _ _ _))
  rw [show run_next.sl.r_2 i T0 = expertW e from he, show run_next.sl.r_3 i T0 = colW h from hc]
  sl_exec (disch := first | (guard_target = k0_chk1 _ _ _ _; exact chk1 _ _ _ _) | (guard_target = ¬(k0_cond2 _ = _); exact h2))
  ihave Hw := (weights_split c wb e h).2 $$ [Hc0_src Hr0]
  · isplitl [Hc0_src]; · iexact Hc0_src
    iexact Hr0
  ihave Hsp := (weights_split c wb e' h').1 $$ Hw
  icases Hsp with ⟨Hh1, Hr1⟩
  sl_exec (disch := first | (guard_target = k0_chk4 _ _ _; exact chk4 _ _ _) | (guard_target = k0_cond3 _ = _; exact h3))
  rw [show run_next.sl.r_5 i T0 = expertW e' from he', show run_next.sl.r_6 i T0 = colW h' from hc']
  by_cases h4 : k0_cond4 (readV T1 (k0_off15 i) (k0_off15_inb i)) = 1#1
  · have h5 := not_cond5_of _ h4
    sl_exec (disch := first | (guard_target = k0_chk3 _ _ _ _; exact chk3 _ _ _ _) | (guard_target = k0_cond4 _ = _; exact h4) | (guard_target = ¬(k0_cond5 _ = _); exact h5))
    sl_step
    iapply Hk
    isplitl [H0]; · iexists _; isplitr; · ipureintro; exact hf0
                    iexact H0
    isplitl [H1]; · iexists _; isplitr; · ipureintro; exact hf1
                    iexact H1
    isplitl [H3]
    · iexists _; isplitr; swap; · iexact H3
      ipureintro
      unfold run_next.sl.v20 run_next.sl.v43
      rw [View.read_writes_full, outv, if_pos h4, View.readAt_full, View.readAt_full, hf0, hf1]
      first | rw [View.readAt_writes_full] | rw [View.readCov_full]
      rw [stage_read c]
      rfl
    isplitl [HT0]; · iexact HT0
    isplitl [HT1]; · iexact HT1
    isplitl [HS]
    · iexists _; isplitr; swap; · iexact HS
      ipureintro
      unfold run_next.sl.v43
      rw [View.read_writes_full, stage_read c]
      rfl
    isplitl [Hc0_dst]; · iexists _; iexact Hc0_dst
    isplitl [Hc0]; · iexact Hc0
    isplitl [Hc1]; · iexists g1; iexact Hc1
    isplitl [Hr1]; · iexact Hr1
    iexists _; iexact HW
  · have h5 := cond5_of_not _ h4
    sl_exec (disch := first | (guard_target = k0_chk3 _ _ _ _; exact chk3 _ _ _ _) | (guard_target = ¬(k0_cond4 _ = _); exact h4) | (guard_target = k0_cond5 _ = _; exact h5))
    sl_step
    iapply Hk
    isplitl [H0]; · iexists _; isplitr; · ipureintro; exact hf0
                    iexact H0
    isplitl [H1]; · iexists _; isplitr; · ipureintro; exact hf1
                    iexact H1
    isplitl [H3]
    · iexists _; isplitr; swap; · iexact H3
      ipureintro
      rw [View.read_writes_full, outv, if_neg h4]
    isplitl [HT0]; · iexact HT0
    isplitl [HT1]; · iexact HT1
    isplitl [HS]
    · iexists _; isplitr; swap; · iexact HS
      ipureintro
      unfold run_next.sl.v43
      rw [View.read_writes_full, stage_read c]
      rfl
    isplitl [Hc0_dst]; · iexists _; iexact Hc0_dst
    isplitl [Hc0]; · iexact Hc0
    isplitl [Hc1]; · iexists g1; iexact Hc1
    isplitl [Hr1]; · iexact Hr1
    iexists _; iexact HW

set_option maxHeartbeats 4000000 in
/-- The step at which the last block begins waits for its transfer. -/
theorem run_last (c : Dev nD) (i : grid0.Coords) (arg4 : Memref sig .tc .vmem S256x2048 .bf16) (harg4 : arg4.IsWhole) (arg5 : Memref sig .tc .vmem S1x1x1024 .f32) (harg5 : arg5.IsWhole) (arg7 : Memref sig .tc .vmem S256x1024 .f32) (harg7 : arg7.IsWhole)
    (T0 : S2352.Idx → Elt F .i32) (T1 : S168.Idx → Elt F .i32) (x0 : Vec F S256x2048 .bf16) (x1 : Vec F S1x1x1024 .f32)
    (wb : WBuf (F := F) c) (s : Fin 2) (e : Fin 32) (h : Fin 2)
    (h1 : k0_cond1 (readS T0 (k0_off1 i 0#32) (k0_off1_inb i 0)) = 1#1)
    (h2 : ¬k0_cond2 i = 1#1)
    (hs : readS T0 (k0_off2 i 1#32) (k0_off2_inb i 0) = slotW s)
    (he : readS T0 (k0_off2 i 2#32) (k0_off2_inb i 1) = expertW e)
    (hc : readS T0 (k0_off2 i 3#32) (k0_off2_inb i 2) = colW h)
    (h3 : ¬k0_cond3 (readS T0 (k0_off10 i) (k0_off10_inb i)) = 1#1)
    (W : Waits sig Unit) (K : PUnit → sProp 𝕄) :
    iprop(owns (c : Thread nD τ) arg4 fullShare x0 ∗ owns (c : Thread nD τ) arg5 fullShare x1 ∗ (∃ d, owns (c : Thread nD τ) arg7 fullShare d)
        ∗ (schedM.view.loc (c : Thread nD τ) ↦{fullShare.right} T0) ∗ (validM.view.loc (c : Thread nD τ) ↦{fullShare.right} T1) ∗ (∃ w, owns (c : Thread nD τ) workM fullShare w)
        ∗ (∃ f, flightP c wb s e h f) ∗ restP c wb e h ∗ (∃ f, slotP c (opp s) f) ∗ cellP c (opp s) ∗ owes (c : Thread nD τ) 0 W
        ∗ (iprop(owns (c : Thread nD τ) arg4 fullShare x0 ∗ owns (c : Thread nD τ) arg5 fullShare x1 ∗ owns (c : Thread nD τ) arg7 fullShare (outv x0 x1 (workV c wb e h) (readV T1 (k0_off15 i) (k0_off15_inb i)))
            ∗ (schedM.view.loc (c : Thread nD τ) ↦{fullShare.right} T0) ∗ (validM.view.loc (c : Thread nD τ) ↦{fullShare.right} T1) ∗ owns (c : Thread nD τ) workM fullShare (workV c wb e h)
            ∗ (∃ f, slotP c s f) ∗ cellP c s ∗ (∃ f, slotP c (opp s) f) ∗ cellP c (opp s) ∗ wholeP c wb ∗ ∃ W', owes (c : Thread nD τ) 0 W') -∗ K ⟨⟩))
      ⊢ wp frame (wpE (defs₀ (F := F)) Variants.none c none) Set.univ (cc0_moe_down i schedM (Memref.isWhole_whole _) validM (Memref.isWhole_whole _) arg4 harg4 arg5 harg5 weightsM (Memref.isWhole_whole _) arg7 harg7 stageM (Memref.isWhole_whole _) cc0_scratch1 workM (Memref.isWhole_whole _)) K := by
  rw [cc0_moe_down_eq_skeleton]; unfold cc0_moe_down_skel
  rw [k0_part1_eq_skeleton]
  unfold owns
  iintro ⟨⟨%f0, %hf0, H0⟩, ⟨%f1, %hf1, H1⟩, ⟨%d3, %f3, -, H3⟩, HT0, HT1, ⟨%w, %fw, -, HS⟩, ⟨%g0, Hc0⟩, Hr0, ⟨%g1, Hs1⟩, Hc1, HW, Hk⟩
  obtain rfl := harg4.eq_unread hf0; obtain rfl := harg5.eq_unread hf1
  have hS : workM.IsWhole := Memref.isWhole_whole _
  have hT0 : schedM.IsWhole := Memref.isWhole_whole _
  have hT1 : validM.IsWhole := Memref.isWhole_whole _
  sl_exec (disch := first | (guard_target = k0_cond1 _ = _; exact h1))
  rw [show run_last.sl.r_1 i T0 = slotW s from hs]
  sl_exec (disch := first | (guard_target = k0_chk2 _ _ _; exact chk2 _ _ _))
  rw [show run_last.sl.r_2 i T0 = expertW e from he, show run_last.sl.r_3 i T0 = colW h from hc]
  sl_exec (disch := first | (guard_target = k0_chk1 _ _ _ _; exact chk1 _ _ _ _) | (guard_target = ¬(k0_cond2 _ = _); exact h2))
  ihave Hw := (weights_split c wb e h).2 $$ [Hc0_src Hr0]
  · isplitl [Hc0_src]; · iexact Hc0_src
    iexact Hr0
  by_cases h4 : k0_cond4 (readV T1 (k0_off15 i) (k0_off15_inb i)) = 1#1
  · have h5 := not_cond5_of _ h4
    sl_exec (disch := first | (guard_target = k0_chk4 _ _ _; exact chk4 _ _ _) | (guard_target = ¬(k0_cond3 _ = _); exact h3) | (guard_target = k0_cond4 _ = _; exact h4) | (guard_target = ¬(k0_cond5 _ = _); exact h5))
    sl_step
    iapply Hk
    isplitl [H0]; · iexists _; isplitr; · ipureintro; exact hf0
                    iexact H0
    isplitl [H1]; · iexists _; isplitr; · ipureintro; exact hf1
                    iexact H1
    isplitl [H3]
    · iexists _; isplitr; swap; · iexact H3
      ipureintro
      unfold run_last.sl.v20 run_last.sl.v43
      rw [View.read_writes_full, outv, if_pos h4, View.readAt_full, View.readAt_full, hf0, hf1]
      first | rw [View.readAt_writes_full] | rw [View.readCov_full]
      rw [stage_read c]
      rfl
    isplitl [HT0]; · iexact HT0
    isplitl [HT1]; · iexact HT1
    isplitl [HS]
    · iexists _; isplitr; swap; · iexact HS
      ipureintro
      unfold run_last.sl.v43
      rw [View.read_writes_full, stage_read c]
      rfl
    isplitl [Hc0_dst]; · iexists _; iexact Hc0_dst
    isplitl [Hc0]; · iexact Hc0
    isplitl [Hs1]; · iexists _; iexact Hs1
    isplitl [Hc1]; · iexact Hc1
    isplitl [Hw]; · iexact Hw
    iexists _; iexact HW
  · have h5 := cond5_of_not _ h4
    sl_exec (disch := first | (guard_target = k0_chk4 _ _ _; exact chk4 _ _ _) | (guard_target = ¬(k0_cond3 _ = _); exact h3) | (guard_target = ¬(k0_cond4 _ = _); exact h4) | (guard_target = k0_cond5 _ = _; exact h5))
    sl_step
    iapply Hk
    isplitl [H0]; · iexists _; isplitr; · ipureintro; exact hf0
                    iexact H0
    isplitl [H1]; · iexists _; isplitr; · ipureintro; exact hf1
                    iexact H1
    isplitl [H3]
    · iexists _; isplitr; swap; · iexact H3
      ipureintro
      rw [View.read_writes_full, outv, if_neg h4]
    isplitl [HT0]; · iexact HT0
    isplitl [HT1]; · iexact HT1
    isplitl [HS]
    · iexists _; isplitr; swap; · iexact HS
      ipureintro
      unfold run_last.sl.v43
      rw [View.read_writes_full, stage_read c]
      rfl
    isplitl [Hc0_dst]; · iexists _; iexact Hc0_dst
    isplitl [Hc0]; · iexact Hc0
    isplitl [Hs1]; · iexists _; iexact Hs1
    isplitl [Hc1]; · iexact Hc1
    isplitl [Hw]; · iexact Hw
    iexists _; iexact HW

end Cert.Kernel4.Down

end
-- ==== Proof.DownSched.lean ====
/-
What the precondition says of the schedule, in words of the table: where a block of weights begins, which slot it is
copied to, which block comes next, and how one step's words follow from the step's before.
-/
module

public import proofs.«01_k».proof.Pre_scheduled
public import proofs.«01_k».proof.Proof.DownRing
public import Idealize.ShloMosaic.Lib.Pointwise
public import Idealize.ShloMosaic.Lib.StableHlo.Predicate

@[expose] public section

noncomputable section

namespace Cert.Kernel4.Down

open Idealize.ShloMosaic Cert.Kernel4

/-- Word `n` of the schedule, and field `j` of its step `s`. -/
def word (T : IVec S2352 32) (n : ℕ) : BitVec 32 := T (ix1 (Fin.ofNat 2352 n))
def fld (T : IVec S2352 32) (s j : ℕ) : BitVec 32 := word T (s * 7 + j)
/-- The expert of the row tile of step `s`: the second half of the steps goes over the tiles again. -/
def tileOf (te : IVec S168 32) (s : ℕ) : BitVec 32 := te (ix1 (Fin.ofNat 168 s))

/-- The schedule's words: a step's expert and column half are its tile's; where no block begins the step goes on with
    the block of the step before; a beginning block takes the other slot, and the step before names it. -/
structure Sched (T : IVec S2352 32) (te : IVec S168 32) : Prop where
  expert : ∀ s, s < 336 → fld T s 2 = tileOf te s ∧ (fld T s 2).toNat < 32
  col : ∀ s, s < 336 → fld T s 3 = if s < 168 then 0#32 else 1024#32
  start0 : fld T 0 0 = 1#32
  slot0 : fld T 0 1 = 0#32
  last : fld T 335 4 = 0#32
  start : ∀ s, s < 335 → fld T (s + 1) 0 = 1#32 ∨ fld T (s + 1) 0 = 0#32
  slot : ∀ s, s < 335 → fld T (s + 1) 1 = if fld T (s + 1) 0 = 1#32 then 1#32 - fld T s 1 else fld T s 1
  same : ∀ s, s < 335 → fld T (s + 1) 0 = 1#32 ∨ (fld T (s + 1) 2 = fld T s 2 ∧ fld T (s + 1) 3 = fld T s 3)
  more : ∀ s, s < 335 → fld T s 4 = if fld T (s + 1) 0 = 1#32 then 1#32 else fld T (s + 1) 4
  moreE : ∀ s, s < 335 → fld T s 5 = if fld T (s + 1) 0 = 1#32 then fld T (s + 1) 2 else fld T (s + 1) 5
  moreC : ∀ s, s < 335 → fld T s 6 = if fld T (s + 1) 0 = 1#32 then fld T (s + 1) 3 else fld T (s + 1) 6

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem cmpi_one (a b : BitVec 32) : IntOp.cmpi .eq a b = 1#1 ↔ a = b := StableHlo.Predicate.cmpi_eq_iff
theorem select_if {α : Type} (a b : BitVec 32) (x y : α) : Scalar.select (IntOp.cmpi .eq a b) x y = if a = b then x else y := by
  by_cases h : a = b
  · rw [if_pos h, (cmpi_one a b).2 h]; rfl
  · have := mt (cmpi_one a b).1 h
    unfold Scalar.select; rw [if_neg h]; exact if_neg this

/-- A word between 0 and 32, read signed, is below 32 read unsigned. -/
theorem range32 (a : BitVec 32) (h0 : IntOp.cmpi .sge a 0#32 = 1#1) (h1 : IntOp.cmpi .slt a 32#32 = 1#1) : a.toNat < 32 := by
  have g0 : BitVec.ofBool ((0#32).sle a) = 1#1 := h0
  have g1 : BitVec.ofBool (a.slt 32#32) = 1#1 := h1
  rw [StableHlo.Predicate.ofBool_eq_one_iff] at g0 g1
  simp only [BitVec.sle, BitVec.slt, decide_eq_true_eq] at g0 g1
  have e0 : (0#32).toInt = 0 := by decide
  have e1 : (32#32).toInt = 32 := by decide
  rw [e0] at g0; rw [e1] at g1
  rw [BitVec.toInt_eq_toNat_cond] at g0 g1
  have := a.isLt
  split at g0 <;> omega

section Read

variable {F : FTy → Type} [FloatOps F] [Cert.Pre_scheduled.Facts]

theorem tile_if (te : IVec S168 32) (n : ℕ) (hn : n < 336) (p : n < 168 → n < 168) (q : ¬n < 168 → n - 168 < 168) :
    (if h : n < 168 then te (ix1 ⟨n, p h⟩) else te (ix1 ⟨n - 168, q h⟩)) = tileOf te n := by
  unfold tileOf
  split
  · congr 2; apply Fin.ext; simp [Fin.ofNat]; omega
  · congr 2; apply Fin.ext; simp [Fin.ofNat]; omega

set_option maxHeartbeats 4000000 in
/-- The precondition read: the schedule's words are related as `Sched` states. -/
theorem sched_of (a0 : FVec F S43008x2048 .bf16) (T : IVec S2352 32) (te tv : IVec S168 32) (a4 : FVec F S32x2048x2048 .f32) (a5 : FVec F S32x1x2048 .f32)
    (h : Cert.Pre_scheduled.fn a0 T te tv a4 a5 = fun _ => 1#1) : Sched T te := by
  have hw : ∀ n p, T (ix1 ⟨n, p⟩) = word T n := fun n p => by
    unfold word; congr 2; apply Fin.ext; simp [Fin.ofNat]; omega
  have hc : ∀ n, n < 336 → Scalar.select (IntOp.cmpi .slt (BitVec.ofNat 32 n) 168#32) 0#32 1024#32 = if n < 168 then 0#32 else 1024#32 := fun n hn => by
    have e : IntOp.cmpi .slt (BitVec.ofNat 32 n) 168#32 = 1#1 ↔ n < 168 := StableHlo.Predicate.slt_ofNat_iff n 168 (by omega) (by omega)
    by_cases q : n < 168
    · rw [if_pos q, e.2 q]; rfl
    · rw [if_neg q]; exact if_neg (mt e.1 q)
  have key : ∀ k : Fin 335, _ := fun k => by
    have hk := congrFun h (ix1 k)
    pointwise [Cert.Pre_scheduled.fn, Cert.Pre_scheduled.fn_part1, Cert.Pre_scheduled.fn_part2, Cert.Pre_scheduled.fn_part3, Cert.Pre_scheduled.fn_part4, Cert.Pre_scheduled.fn_part5,
      Cert.Pre_scheduled.fn_where, Cert.Pre_scheduled.fn_where_0, Cert.Pre_scheduled.fn_where_1, id] at hk
    simp only [andi_one, ori_one, select_if, cmpi_one, hw] at hk
    rw [tile_if te k (by omega) (fun h => h) (fun h => by omega), tile_if te (1 + k) (by omega) (fun h => h) (fun h => by omega), hc k (by omega), hc (1 + k) (by omega)] at hk
    rw [Nat.add_comm 1 k.val] at hk
    exact hk
  have expert : ∀ s, s < 336 → fld T s 2 = tileOf te s ∧ (fld T s 2).toNat < 32 := fun s hs => by
    by_cases q : s < 335
    · obtain ⟨⟨⟨⟨⟨⟨⟨⟨⟨⟨⟨⟨⟨⟨⟨⟨a1, a2⟩, b1⟩, b2⟩, a3⟩, b3⟩, a4⟩, b4⟩, z0⟩, z1⟩, zl⟩, st⟩, sl⟩, sa⟩, mo⟩, me⟩, mc⟩ := key ⟨s, q⟩
      exact ⟨a3, by rw [show fld T s 2 = tileOf te s from a3]; exact range32 _ a1 a2⟩
    · obtain rfl : s = 335 := by omega
      obtain ⟨⟨⟨⟨⟨⟨⟨⟨⟨⟨⟨⟨⟨⟨⟨⟨a1, a2⟩, b1⟩, b2⟩, a3⟩, b3⟩, a4⟩, b4⟩, z0⟩, z1⟩, zl⟩, st⟩, sl⟩, sa⟩, mo⟩, me⟩, mc⟩ := key ⟨334, by omega⟩
      exact ⟨b3, by rw [show fld T 335 2 = tileOf te 335 from b3]; exact range32 _ b1 b2⟩
  have col : ∀ s, s < 336 → fld T s 3 = if s < 168 then 0#32 else 1024#32 := fun s hs => by
    by_cases q : s < 335
    · obtain ⟨⟨⟨⟨⟨⟨⟨⟨⟨⟨⟨⟨⟨⟨⟨⟨a1, a2⟩, b1⟩, b2⟩, a3⟩, b3⟩, a4⟩, b4⟩, z0⟩, z1⟩, zl⟩, st⟩, sl⟩, sa⟩, mo⟩, me⟩, mc⟩ := key ⟨s, q⟩
      exact a4
    · obtain rfl : s = 335 := by omega
      obtain ⟨⟨⟨⟨⟨⟨⟨⟨⟨⟨⟨⟨⟨⟨⟨⟨a1, a2⟩, b1⟩, b2⟩, a3⟩, b3⟩, a4⟩, b4⟩, z0⟩, z1⟩, zl⟩, st⟩, sl⟩, sa⟩, mo⟩, me⟩, mc⟩ := key ⟨334, by omega⟩
      exact b4
  obtain ⟨⟨⟨⟨⟨⟨⟨⟨⟨-, z0⟩, z1⟩, zl⟩, -⟩, -⟩, -⟩, -⟩, -⟩, -⟩ := key ⟨0, by omega⟩
  refine ⟨expert, col, z0, z1, zl, ?_, ?_, ?_, ?_, ?_, ?_⟩ <;> intro s hs <;>
    obtain ⟨⟨⟨⟨⟨⟨-, st⟩, sl⟩, sa⟩, mo⟩, me⟩, mc⟩ := key ⟨s, hs⟩
  · exact st
  · exact sl
  · exact sa
  · exact mo
  · exact me
  · exact mc

end Read

/-! ### The schedule's words as slots, experts and halves -/

/-- A block begins at step `s`; its slot, expert and half; whether a next block is named, and its expert and half. -/
def begins (T : IVec S2352 32) (s : ℕ) : Prop := fld T s 0 = 1#32
def slotOf (T : IVec S2352 32) (s : ℕ) : Fin 2 := if fld T s 1 = 0#32 then 0 else 1
def eOf (T : IVec S2352 32) (s : ℕ) : Fin 32 := Fin.ofNat 32 (fld T s 2).toNat
def hOf (T : IVec S2352 32) (s : ℕ) : Fin 2 := if fld T s 3 = 0#32 then 0 else 1
def names (T : IVec S2352 32) (s : ℕ) : Prop := fld T s 4 = 1#32
def eNext (T : IVec S2352 32) (s : ℕ) : Fin 32 := Fin.ofNat 32 (fld T s 5).toNat
def hNext (T : IVec S2352 32) (s : ℕ) : Fin 2 := if fld T s 6 = 0#32 then 0 else 1

theorem expertW_of (w : BitVec 32) (h : w.toNat < 32) : w = expertW (Fin.ofNat 32 w.toNat) := by
  apply BitVec.eq_of_toNat_eq
  simp only [expertW, Fin.ofNat, BitVec.toNat_ofNat]; omega
theorem colW_of (w : BitVec 32) (h : w = 0#32 ∨ w = 1024#32) : w = colW (if w = 0#32 then 0 else 1) := by
  rcases h with rfl | rfl <;> decide
theorem slotW_of (w : BitVec 32) (h : w = 0#32 ∨ w = 1#32) : w = slotW (if w = 0#32 then 0 else 1) := by
  rcases h with rfl | rfl <;> decide

variable {T : IVec S2352 32} {te : IVec S168 32} (S : Sched T te)
include S

theorem Sched.e_word (s : ℕ) (hs : s < 336) : fld T s 2 = expertW (eOf T s) := expertW_of _ (S.expert s hs).2
theorem Sched.col_or (s : ℕ) (hs : s < 336) : fld T s 3 = 0#32 ∨ fld T s 3 = 1024#32 := by
  rw [S.col s hs]; split
  · exact Or.inl rfl
  · exact Or.inr rfl
theorem Sched.h_word (s : ℕ) (hs : s < 336) : fld T s 3 = colW (hOf T s) := colW_of _ (S.col_or s hs)
theorem Sched.slot_or (s : ℕ) (hs : s < 336) : fld T s 1 = 0#32 ∨ fld T s 1 = 1#32 := by
  induction s with
  | zero => exact Or.inl S.slot0
  | succ s ih =>
    rw [S.slot s (by omega)]
    rcases ih (by omega) with q | q <;> rw [q] <;> split <;> simp
theorem Sched.slot_word (s : ℕ) (hs : s < 336) : fld T s 1 = slotW (slotOf T s) := slotW_of _ (S.slot_or s hs)
theorem Sched.start_or (s : ℕ) (hs : s < 336) : fld T s 0 = 1#32 ∨ fld T s 0 = 0#32 := by
  cases s with
  | zero => exact Or.inl S.start0
  | succ s => exact S.start s (by omega)

/-- The words that name the next block: there is none, or its expert is below 32 and its column is one of the two. -/
theorem Sched.next_or (n s : ℕ) (hs : s + n = 335) :
    fld T s 4 = 0#32 ∨ (fld T s 4 = 1#32 ∧ (fld T s 5).toNat < 32 ∧ (fld T s 6 = 0#32 ∨ fld T s 6 = 1024#32)) := by
  induction n generalizing s with
  | zero => obtain rfl : s = 335 := by omega
            exact Or.inl S.last
  | succ n ih =>
    have q := ih (s + 1) (by omega)
    rw [S.more s (by omega), S.moreE s (by omega), S.moreC s (by omega)]
    by_cases b : fld T (s + 1) 0 = 1#32
    · rw [if_pos b, if_pos b, if_pos b]
      exact Or.inr ⟨rfl, (S.expert (s + 1) (by omega)).2, S.col_or (s + 1) (by omega)⟩
    · rw [if_neg b, if_neg b, if_neg b]; exact q
theorem Sched.more_or (s : ℕ) (hs : s < 336) : fld T s 4 = 0#32 ∨ names T s :=
  (S.next_or (335 - s) s (by omega)).imp id (·.1)
theorem Sched.eNext_word (s : ℕ) (hs : s < 336) (h : names T s) : fld T s 5 = expertW (eNext T s) := by
  rcases S.next_or (335 - s) s (by omega) with q | q
  · unfold names at h; rw [q] at h; exact absurd h (by decide)
  · exact expertW_of _ q.2.1
theorem Sched.hNext_word (s : ℕ) (hs : s < 336) (h : names T s) : fld T s 6 = colW (hNext T s) := by
  rcases S.next_or (335 - s) s (by omega) with q | q
  · unfold names at h; rw [q] at h; exact absurd h (by decide)
  · exact colW_of _ q.2.2

/-- A step that begins a block, after the first: the step before named it, and the slot is the other one. -/
theorem Sched.at_begin (s : ℕ) (hs : s < 335) (b : begins T (s + 1)) :
    names T s ∧ eNext T s = eOf T (s + 1) ∧ hNext T s = hOf T (s + 1) ∧ slotOf T (s + 1) = opp (slotOf T s) := by
  unfold begins at b
  refine ⟨?_, ?_, ?_, ?_⟩
  · unfold names; rw [S.more s hs, if_pos b]
  · unfold eNext eOf; rw [S.moreE s hs, if_pos b]
  · unfold hNext hOf; rw [S.moreC s hs, if_pos b]
  · unfold slotOf; rw [S.slot s hs, if_pos b]
    rcases S.slot_or s (by omega) with q | q <;> rw [q] <;> decide
/-- A step that begins no block goes on as the step before. -/
theorem Sched.at_stay (s : ℕ) (hs : s < 335) (b : ¬begins T (s + 1)) :
    (names T (s + 1) ↔ names T s) ∧ eNext T (s + 1) = eNext T s ∧ hNext T (s + 1) = hNext T s ∧ slotOf T (s + 1) = slotOf T s
      ∧ eOf T (s + 1) = eOf T s ∧ hOf T (s + 1) = hOf T s := by
  unfold begins at b
  have e := (S.same s hs).resolve_left b
  refine ⟨?_, ?_, ?_, ?_, ?_, ?_⟩
  · unfold names; rw [S.more s hs, if_neg b]
  · unfold eNext; rw [S.moreE s hs, if_neg b]
  · unfold hNext; rw [S.moreC s hs, if_neg b]
  · unfold slotOf; rw [S.slot s hs, if_neg b]
  · unfold eOf; rw [e.1]
  · unfold hOf; rw [e.2]

end Cert.Kernel4.Down

end
-- ==== Proof.DownWords.lean ====
/-
The words the body reads at step `t`, as fields of the schedule.
-/
module

public import proofs.«01_k».proof.Proof.DownBody
public import proofs.«01_k».proof.Proof.DownSched

@[expose] public section

set_option maxRecDepth 16384

noncomputable section

namespace Cert.Kernel4.Down

open Cert.Kernel4 Cert.Kernel4.Gen
open Idealize.ShloMosaic Idealize.ShloMosaic.TcCoe

variable {F : FTy → Type} [FloatOps F]

/-- A table read of one word at offset `n` is word `n` of the table. -/
theorem readS_word (T0 : S2352.Idx → Elt F .i32) (off : Fin 1 → Nat) (p) (n : ℕ) (hn : n < 2352) (h : off 0 = n) : readS T0 off p = word T0 n := by
  show T0 _ = T0 _
  congr 1; funext a; apply Fin.ext
  have ha : a = (0 : Fin 1) := Subsingleton.elim (α := Fin 1) _ _
  subst ha
  show off 0 + 1 * 0 = n % 2352
  omega
theorem readV_word (T1 : S168.Idx → Elt F .i32) (off : Fin 1 → Nat) (p) (n : ℕ) (hn : n < 168) (h : off 0 = n) : readV T1 off p = (T1 (ix1 (Fin.ofNat 168 n)) : BitVec 32) := by
  show T1 _ = T1 _
  congr 1; funext a; apply Fin.ext
  have ha : a = (0 : Fin 1) := Subsingleton.elim (α := Fin 1) _ _
  subst ha
  show off 0 + 1 * 0 = n % 168
  omega

/-- Step `t` reads the seven words of its row of the schedule, and the validity word of its row tile. -/
theorem off_1 : ∀ t : Fin grid0.N, k0_off1 (grid0.coords t) 0#32 0 = t.val * 7 + 0 := by decide +kernel
theorem off_2a : ∀ t : Fin grid0.N, k0_off2 (grid0.coords t) 1#32 0 = t.val * 7 + 1 := by decide +kernel
theorem off_2b : ∀ t : Fin grid0.N, k0_off2 (grid0.coords t) 2#32 0 = t.val * 7 + 2 := by decide +kernel
theorem off_2c : ∀ t : Fin grid0.N, k0_off2 (grid0.coords t) 3#32 0 = t.val * 7 + 3 := by decide +kernel
theorem off_10 : ∀ t : Fin grid0.N, k0_off10 (grid0.coords t) 0 = t.val * 7 + 4 := by decide +kernel
theorem off_11a : ∀ t : Fin grid0.N, k0_off11 (grid0.coords t) 5#32 0 = t.val * 7 + 5 := by decide +kernel
theorem off_11b : ∀ t : Fin grid0.N, k0_off11 (grid0.coords t) 6#32 0 = t.val * 7 + 6 := by decide +kernel
theorem off_15 : ∀ t : Fin grid0.N, k0_off15 (grid0.coords t) 0 = t.val % 168 := by decide +kernel
theorem cond2_iff : ∀ t : Fin grid0.N, k0_cond2 (grid0.coords t) = 1#1 ↔ t.val = 0 := by decide +kernel
theorem coords_0 : ∀ t : Fin grid0.N, (grid0.coords t 0).val = t.val / 168 := by decide +kernel
theorem coords_1 : ∀ t : Fin grid0.N, (grid0.coords t 1).val = t.val % 168 := by decide +kernel

theorem lt336 (t : Fin grid0.N) : t.val < 336 := lt_of_lt_of_eq t.isLt N_0

variable {T : IVec S2352 32} {te : IVec S168 32} (S : Sched T te)
include S

theorem Sched.cond1_iff (t : Fin grid0.N) : k0_cond1 (readS (F := F) T (k0_off1 (grid0.coords t) 0#32) (k0_off1_inb (grid0.coords t) 0)) = 1#1 ↔ begins T t.val := by
  rw [readS_word T _ _ (t.val * 7 + 0) (by have := lt336 t; omega) (off_1 t)]
  show k0_cond1 (fld T t.val 0) = 1#1 ↔ fld T t.val 0 = 1#32
  rcases S.start_or t.val (lt336 t) with q | q <;> rw [q] <;> decide
theorem Sched.read_slot (t : Fin grid0.N) : readS (F := F) T (k0_off2 (grid0.coords t) 1#32) (k0_off2_inb (grid0.coords t) 0) = slotW (slotOf T t.val) := by
  rw [readS_word T _ _ (t.val * 7 + 1) (by have := lt336 t; omega) (off_2a t)]; exact S.slot_word t.val (lt336 t)
theorem Sched.read_e (t : Fin grid0.N) : readS (F := F) T (k0_off2 (grid0.coords t) 2#32) (k0_off2_inb (grid0.coords t) 1) = expertW (eOf T t.val) := by
  rw [readS_word T _ _ (t.val * 7 + 2) (by have := lt336 t; omega) (off_2b t)]; exact S.e_word t.val (lt336 t)
theorem Sched.read_h (t : Fin grid0.N) : readS (F := F) T (k0_off2 (grid0.coords t) 3#32) (k0_off2_inb (grid0.coords t) 2) = colW (hOf T t.val) := by
  rw [readS_word T _ _ (t.val * 7 + 3) (by have := lt336 t; omega) (off_2c t)]; exact S.h_word t.val (lt336 t)
theorem Sched.cond3_iff (t : Fin grid0.N) : k0_cond3 (readS (F := F) T (k0_off10 (grid0.coords t)) (k0_off10_inb (grid0.coords t))) = 1#1 ↔ names T t.val := by
  rw [readS_word T _ _ (t.val * 7 + 4) (by have := lt336 t; omega) (off_10 t)]
  show k0_cond3 (fld T t.val 4) = 1#1 ↔ fld T t.val 4 = 1#32
  rcases S.more_or t.val (lt336 t) with q | q
  · rw [q]; decide
  · rw [show fld T t.val 4 = 1#32 from q]; decide
theorem Sched.read_e' (t : Fin grid0.N) (h : names T t.val) : readS (F := F) T (k0_off11 (grid0.coords t) 5#32) (k0_off11_inb (grid0.coords t) 0) = expertW (eNext T t.val) := by
  rw [readS_word T _ _ (t.val * 7 + 5) (by have := lt336 t; omega) (off_11a t)]; exact S.eNext_word t.val (lt336 t) h
theorem Sched.read_h' (t : Fin grid0.N) (h : names T t.val) : readS (F := F) T (k0_off11 (grid0.coords t) 6#32) (k0_off11_inb (grid0.coords t) 1) = colW (hNext T t.val) := by
  rw [readS_word T _ _ (t.val * 7 + 6) (by have := lt336 t; omega) (off_11b t)]; exact S.hNext_word t.val (lt336 t) h

end Cert.Kernel4.Down

end
-- ==== Proof.DownRun.lean ====
/-
The whole run: what holds between two steps, the body obligation, the launch, and the frame.
-/
module

public import proofs.«01_k».proof.Proof.DownWords
public import proofs.«01_k».proof.Proof.Gen.Kernel4.Launch
public import Idealize.ShloMosaic.Lib.Pipeline.Quiescent
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Adequacy
public import Idealize.ShloMosaic.Init

@[expose] public section

set_option maxRecDepth 16384

noncomputable section

namespace Cert.Kernel4.Down

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The contents the region finds, the schedule, the tiles' experts and the tiles' validity on device `c`. -/
def V (c : Dev nD) (b : Ref sig .tc) : Buf (Elt F) ((c : Thread nD τ).loc b) := m ((c : Thread nD τ).loc b)
abbrev tS (c : Dev nD) : IVec S2352 32 := m ((c : Thread nD τ).loc main_arg1)
abbrev tE (c : Dev nD) : IVec S168 32 := m ((c : Thread nD τ).loc main_arg2)
abbrev tV (c : Dev nD) : IVec S168 32 := m ((c : Thread nD τ).loc main_arg3)

/-- The prefetched tables are the memory's. -/
def pf : pre0.Contents (Elt F) := fun k => m (((0 : Dev nD) : Thread nD τ).loc (pre0.ref k))

theorem pf_at (i : grid0.Coords) (off p) (h) : (pf m).at 0 (Rect.unit (s := S2352) off S1.size p) h = readS (F := F) (tS m 0) off p := rfl

theorem off_1i : ∀ i : grid0.Coords, k0_off1 i 2#32 0 = ((i 0).val * 168 + (i 1).val) * 7 + 2 := by decide +kernel

theorem coords_lt (i : grid0.Coords) : (i 0).val < 2 ∧ (i 1).val < 168 := ⟨(i 0).isLt, (i 1).isLt⟩

/-- The table-directed window's block at a grid point: its expert's row of the bias, its half of the columns. -/
theorem tr1_eq (i : grid0.Coords) :
    cc0_transform_1 k0_off1_inb numel1_S1 (pf m) i = ![(fld (tS m 0) ((i 0).val * 168 + (i 1).val) 2).toNat, 0, (i 0).val] := by
  have h := coords_lt i
  have e : (pf m).at 0 (Rect.unit (s := S2352) (k0_off1 i 2#32) S1.size (k0_off1_inb i 1)) numel1_S1 = fld (tS m 0) ((i 0).val * 168 + (i 1).val) 2 :=
    (pf_at m i _ _ _).trans ((readS_word _ _ _ _ (by omega) (off_1i i)).trans rfl)
  show ![BitVec.toNat ((pf m).at 0 (Rect.unit (s := S2352) (k0_off1 i 2#32) S1.size (k0_off1_inb i 1)) numel1_S1), (0#32).toNat, (BitVec.ofNat 32 (i 0).val).toNat] = _
  rw [e, show (BitVec.ofNat 32 (i 0).val).toNat = (i 0).val from by rw [BitVec.toNat_ofNat, Nat.mod_eq_of_lt (by omega)]]; rfl

/-- Under the schedule's facts the table-directed window stays inside the bias. -/
theorem ok_pf (S : Sched (tS m 0) (tE m 0)) : ok0 (pf m) := by
  intro i
  have h := coords_lt i
  have hx := (S.expert ((i 0).val * 168 + (i 1).val) (by omega)).2
  refine ⟨?_, Or.inl rfl⟩
  rw [tr1_eq]
  intro a
  match a with
  | ⟨0, _⟩ => show ((fld (tS m 0) ((i 0).val * 168 + (i 1).val) 2).toNat + 1) * 1 ≤ 32; omega
  | ⟨1, _⟩ => show (0 + 1) * 1 ≤ 1; omega
  | ⟨2, _⟩ => show ((i 0).val + 1) * 1024 ≤ 2048; omega

/-- The pipeline at those tables. -/
def adm (S : Sched (tS m 0) (tE m 0)) : (pcfg0 (F := F)).Adm := ⟨pf m, ok_pf m S⟩

variable (S : Sched (tS m 0) (tE m 0))

abbrev cfgA : Pipeline.Cfg sig Λ₀ := cfg0 (F := F) (adm m S)
abbrev pcs : Fin 1 → Pipeline.Cfg sig Λ₀ := Pipeline.pin (pcfgs (F := F)) fun _ => adm m S

/-- Each window's current staging buffer at step `t`, and its wholeness. -/
abbrev ms0 (t : Fin (cfgA m S).N) : Memref sig .tc .vmem S256x2048 .bf16 := spec0_0.stage ((cfgA m S).slots t (0 : Fin 3))
abbrev hs0 (t : Fin (cfgA m S).N) : (ms0 m S t).IsWhole := hstage0_0 (((cfgA m S).slots t (0 : Fin 3)).cast nbuf0_0)
abbrev ms1 (t : Fin (cfgA m S).N) : Memref sig .tc .vmem S1x1x1024 .f32 := spec0_1.stage ((cfgA m S).slots t (1 : Fin 3))
abbrev hs1 (t : Fin (cfgA m S).N) : (ms1 m S t).IsWhole := hstage0_1 (((cfgA m S).slots t (1 : Fin 3)).cast nbuf0_1)
abbrev ms2 (t : Fin (cfgA m S).N) : Memref sig .tc .vmem S256x1024 .f32 := spec0_2.stage ((cfgA m S).slots t (2 : Fin 3))
abbrev hs2 (t : Fin (cfgA m S).N) : (ms2 m S t).IsWhole := hstage0_2 (((cfgA m S).slots t (2 : Fin 3)).cast nbuf0_2)

/-- Window `w`'s block at step `t`. -/
def iblk (c : Dev nD) (w : Fin (cfgA m S).W) (t : Fin (cfgA m S).N) : (((cfgA m S).win w).xblock ((cfgA m S).grid.coords t)).Idx → Elt F ((cfgA m S).win w).elt :=
  (((cfgA m S).win w).blk t).view.read (Elt F) (V m c (Pipeline.arrRef spec0 w))

/-- What step `t` writes of the result. -/
def tileV (c : Dev nD) (t : Fin (cfgA m S).N) : Vec F S256x1024 .f32 :=
  outv (iblk m S c (0 : Fin 3) t) (iblk m S c (1 : Fin 3) t) (workV c (V m c main_arg4) (eOf (tS m 0) t.val) (hOf (tS m 0) t.val))
    (readV (F := F) (tV m 0) (k0_off15 (grid0.coords t)) (k0_off15_inb (grid0.coords t)))

/-! ### What holds between two steps -/

/-- Nothing in flight: both slots and both cells are free and the weights are whole. -/
def Free (c : Dev nD) (W : WBuf (F := F) c) (σ : Fin 2) : sProp 𝕄 :=
  iprop((∃ f, slotP c σ f) ∗ (∃ f, slotP c (opp σ) f) ∗ cellP c σ ∗ cellP c (opp σ) ∗ wholeP c W)
/-- Block (e, h) in flight to the slot other than `σ`. -/
def Fly (c : Dev nD) (W : WBuf (F := F) c) (σ : Fin 2) (e : Fin 32) (h : Fin 2) : sProp 𝕄 :=
  iprop((∃ f, flightP c W (opp σ) e h f) ∗ restP c W e h ∗ (∃ f, slotP c σ f) ∗ cellP c σ)
/-- After step `n`: the block it names, if any, is in flight; the working copy is the step's own block. -/
def Ring (c : Dev nD) (W : WBuf (F := F) c) (T : IVec S2352 32) : ℕ → sProp 𝕄
  | 0 => iprop(Free c W (slotOf T 0) ∗ ∃ w, owns (c : Thread nD τ) workM fullShare w)
  | n + 1 => iprop((if fld T n 4 = 1#32 then Fly c W (slotOf T n) (eNext T n) (hNext T n) else Free c W (slotOf T n))
      ∗ owns (c : Thread nD τ) workM fullShare (workV c W (eOf T n) (hOf T n)))
/-- The invariant before step `k`. -/
def Phi (c : Dev nD) (k : ℕ) : sProp 𝕄 :=
  iprop((schedM.view.loc (c : Thread nD τ) ↦{fullShare.right} (tS m 0 : S2352.Idx → Elt F .i32)) ∗ (validM.view.loc (c : Thread nD τ) ↦{fullShare.right} (tV m 0 : S168.Idx → Elt F .i32)) ∗ (∃ r, prngReg c r)
    ∗ Ring c (V m c main_arg4) (tS m 0) k)

/-- The proof data of the pipeline. -/
def dats (_ : Fin 1) (c : Dev nD) : Dat τ (Elt F) Unit ℕ (Pipeline.UD sig nD τ) ℕ (cfgA m S) c where
  A w := V m c (Pipeline.arrRef spec0 w)
  after w t := match w with
    | ⟨0, _⟩ => iblk m S c (0 : Fin 3) t
    | ⟨1, _⟩ => iblk m S c (1 : Fin 3) t
    | ⟨2, _⟩ => tileV m S c t
  Φ t := Phi m c t.val
  q _ := fullShare
  owed _ := 0

theorem A_eq (c : Dev nD) (w : Fin (cfgA m S).W) : (dats m S 0 c).A w = V m c (Pipeline.arrRef spec0 w) := by dsimp only [dats]
theorem after0 (c : Dev nD) (t : Fin (cfgA m S).N) : (dats m S 0 c).after (0 : Fin 3) t = iblk m S c (0 : Fin 3) t := by dsimp only [dats]
theorem after1 (c : Dev nD) (t : Fin (cfgA m S).N) : (dats m S 0 c).after (1 : Fin 3) t = iblk m S c (1 : Fin 3) t := by dsimp only [dats]
theorem after2 (c : Dev nD) (t : Fin (cfgA m S).N) : (dats m S 0 c).after (2 : Fin 3) t = tileV m S c t := by dsimp only [dats]
theorem Phi_castSucc (c : Dev nD) (t : Fin (cfgA m S).N) : (dats m S 0 c).Φ t.castSucc = Phi m c t.val := by
  dsimp only [dats]; simp only [Fin.val_castSucc]
theorem Phi_succ (c : Dev nD) (t : Fin (cfgA m S).N) : (dats m S 0 c).Φ t.succ = Phi m c (t.val + 1) := by
  dsimp only [dats]; simp only [Fin.val_succ]

/-- Each input's staging buffer holds its block when the body runs. -/
theorem before0 (c : Dev nD) (t : Fin (cfgA m S).N) (d) : (dats m S 0 c).before (0 : Fin 3) t d = iblk m S c (0 : Fin 3) t :=
  ((dats m S 0 c).before_in_eq_fetched (0 : Fin 3) rfl (fun _ => rfl) (fun _ _ _ => rfl) (fun t => by rw [after0]; unfold Dat.blockOf iblk; rfl) t d).trans
    (by unfold Dat.fetched Dat.blockOf iblk; rfl)
theorem before1 (c : Dev nD) (t : Fin (cfgA m S).N) (d) : (dats m S 0 c).before (1 : Fin 3) t d = iblk m S c (1 : Fin 3) t :=
  ((dats m S 0 c).before_in_eq_fetched (1 : Fin 3) rfl (fun _ => rfl) (fun _ _ _ => rfl) (fun t => by rw [after1]; unfold Dat.blockOf iblk; rfl) t d).trans
    (by unfold Dat.fetched Dat.blockOf iblk; rfl)

/-- The result's window is stored at every step. -/
theorem idle2 (t : Fin (cfgA m S).N) : (cfgA m S).idle (2 : Fin 3) ((cfgA m S).grid.coords t) = false := by
  show (!(k0_cond4 ((pf m).atD 1 (k0_off15 (grid0.coords t))) == 1#1) && !(k0_cond5 ((pf m).atD 1 (k0_off16 (grid0.coords t))) == 1#1)) = false
  have e : k0_off16 (grid0.coords t) = k0_off15 (grid0.coords t) := rfl
  rw [e]
  by_cases h : k0_cond4 ((pf m).atD 1 (k0_off15 (grid0.coords t))) = 1#1
  · rw [h]; rfl
  · rw [cond5_of_not _ h]; simp

/-- The body at step `t`, as the pipeline calls it. -/
abbrev bodyAt (t : Fin (cfgA m S).N) : Prog (TpuEff nD τ sig (Elt F) Λ₀ .tc) PUnit :=
  cc0_moe_down (grid0.coords t) schedM (Memref.isWhole_whole _) validM (Memref.isWhole_whole _) (ms0 m S t) (hs0 m S t) (ms1 m S t) (hs1 m S t) weightsM (Memref.isWhole_whole _) (ms2 m S t) (hs2 m S t) stageM (Memref.isWhole_whole _) cc0_scratch1 workM (Memref.isWhole_whole _)

theorem opp_opp (s : Fin 2) : opp (opp s) = s := by revert s; decide

theorem Ring_succ (c : Dev nD) (W : WBuf (F := F) c) (T : IVec S2352 32) (n : ℕ) : Ring c W T (n + 1) = iprop((if fld T n 4 = 1#32 then Fly c W (slotOf T n) (eNext T n) (hNext T n) else Free c W (slotOf T n))
      ∗ owns (c : Thread nD τ) workM fullShare (workV c W (eOf T n) (hOf T n))) := rfl

/-- A step that begins no block keeps what holds. -/
theorem Ring_stay (c : Dev nD) (W : WBuf (F := F) c) {T : IVec S2352 32} {te : IVec S168 32} (S : Sched T te) (n : ℕ) (hn : n < 335) (b : ¬begins T (n + 1)) :
    Ring c W T (n + 1 + 1) = Ring c W T (n + 1) := by
  obtain ⟨a1, a2, a3, a4, a5, a6⟩ := S.at_stay n hn b
  rw [Ring_succ, Ring_succ, a2, a3, a4, a5, a6]
  unfold names at a1
  by_cases q : fld T n 4 = 1#32
  · rw [if_pos q, if_pos (a1.2 q)]
  · rw [if_neg q, if_neg (mt a1.1 q)]

def bodyPre (c : Dev nD) (t : Fin (cfgA m S).N) : sProp 𝕄 :=
  iprop((dats m S 0 c).Φ t.castSucc ∗ (dats m S 0 c).owesAt () t.castSucc
    ∗ (∃ d, owns (c : Thread nD τ) (ms0 m S t) fullShare ((dats m S 0 c).before (0 : Fin 3) t d))
    ∗ (∃ d, owns (c : Thread nD τ) (ms1 m S t) fullShare ((dats m S 0 c).before (1 : Fin 3) t d))
    ∗ (∃ d, owns (c : Thread nD τ) (ms2 m S t) fullShare ((dats m S 0 c).before (2 : Fin 3) t d)))
def bodyPost (c : Dev nD) (t : Fin (cfgA m S).N) : sProp 𝕄 :=
  iprop((dats m S 0 c).Φ t.succ ∗ (dats m S 0 c).owesAt () t.succ
    ∗ owns (c : Thread nD τ) (ms0 m S t) fullShare ((dats m S 0 c).after (0 : Fin 3) t)
    ∗ owns (c : Thread nD τ) (ms1 m S t) fullShare ((dats m S 0 c).after (1 : Fin 3) t)
    ∗ owns (c : Thread nD τ) (ms2 m S t) fullShare ((dats m S 0 c).after (2 : Fin 3) t))

set_option maxHeartbeats 4000000 in
/-- The body at any step: the schedule says which of the five cases the step is, and that case's run applies. -/
theorem sound_body (c : Dev nD) (t : Fin (cfgA m S).N) :
    bodyPre m S c t ⊢ wp frame (wpE (defs₀ (F := F)) Variants.none c none) Set.univ (bodyAt m S t) (fun _ => bodyPost m S c t) := by
  unfold bodyPre bodyPost bodyAt
  simp only [before0, before1]
  rw [after0, after1, after2, Phi_castSucc m S c t, Phi_succ m S c t]
  unfold Dat.owesAt Pipeline.owesWithin
  rw [show (dats m S 0 c).owed t.castSucc = 0 from rfl, show (dats m S 0 c).owed t.succ = 0 from rfl]
  unfold Phi tileV
  have lt : t.val < 336 := lt336 t
  have h1' := S.cond1_iff (F := F) t
  have h2' := cond2_iff t
  have h3' := S.cond3_iff (F := F) t
  have hs := S.read_slot (F := F) t
  have he := S.read_e (F := F) t
  have hc := S.read_h (F := F) t
  have he' := S.read_e' (F := F) t
  have hc' := S.read_h' (F := F) t
  obtain hn | ⟨n, hn⟩ : t.val = 0 ∨ ∃ n, t.val = n + 1 := by
    rcases Nat.eq_zero_or_pos t.val with h | h
    · exact Or.inl h
    · exact Or.inr ⟨t.val - 1, by omega⟩
  · rw [hn] at h1' h2' h3' hs he hc he' hc' ⊢
    have h1 := h1'.2 S.start0
    have h2 := h2'.2 rfl
    rw [Ring_succ]
    by_cases q : names (tS m 0) 0
    · have h3 := h3'.2 q
      rw [if_pos (show fld (tS m 0) 0 4 = 1#32 from q)]
      unfold Ring Free Fly
      iintro ⟨⟨HT0, HT1, Hg, ⟨HF1, HF2, HC1, HC2, HW⟩, HM⟩, ⟨%W, -, HO⟩, ⟨%d0, H0⟩, ⟨%d1, H1⟩, ⟨%d2, H2⟩⟩
      iapply (run_first c (grid0.coords t) (ms0 m S t) (hs0 m S t) (ms1 m S t) (hs1 m S t) (ms2 m S t) (hs2 m S t) (tS m 0) (tV m 0) (iblk m S c (0 : Fin 3) t) (iblk m S c (1 : Fin 3) t) (V m c main_arg4) (slotOf (tS m 0) 0) (eOf (tS m 0) 0) (hOf (tS m 0) 0) (eNext (tS m 0) 0) (hNext (tS m 0) 0) h1 h2 hs he hc h3 (he' q) (hc' q) W _)
      isplitl [H0]; · iexact H0
      isplitl [H1]; · iexact H1
      isplitl [H2]; · iexists _; iexact H2
      isplitl [HT0]; · iexact HT0
      isplitl [HT1]; · iexact HT1
      isplitl [HM]; · iexact HM
      isplitl [HF1]; · iexact HF1
      isplitl [HF2]; · iexact HF2
      isplitl [HC1]; · iexact HC1
      isplitl [HC2]; · iexact HC2
      isplitl [HW]; · iexact HW
      isplitl [HO]; · iexact HO
      iintro ⟨H0, H1, H2, HT0, HT1, HM, HS, HC, HF, HR, ⟨%W', HO⟩⟩
      isplitl [HT0 HT1 Hg HM HS HC HF HR]
      · isplitl [HT0]; · iexact HT0
        isplitl [HT1]; · iexact HT1
        isplitl [Hg]; · iexact Hg
        isplitl [HF HR HS HC]
        · isplitl [HF]; · iexact HF
          isplitl [HR]; · iexact HR
          isplitl [HS]; · iexact HS
          iexact HC
        iexact HM
      isplitl [HO]
      · iexists W'; isplitr; · ipureintro; exact fun _ _ => Or.inl trivial
        iexact HO
      isplitl [H0]; · iexact H0
      isplitl [H1]; · iexact H1
      iexact H2
    · have h3 := mt h3'.1 q
      rw [if_neg (show ¬fld (tS m 0) 0 4 = 1#32 from q)]
      unfold Ring Free
      iintro ⟨⟨HT0, HT1, Hg, ⟨HF1, HF2, HC1, HC2, HW⟩, HM⟩, ⟨%W, -, HO⟩, ⟨%d0, H0⟩, ⟨%d1, H1⟩, ⟨%d2, H2⟩⟩
      iapply (run_only c (grid0.coords t) (ms0 m S t) (hs0 m S t) (ms1 m S t) (hs1 m S t) (ms2 m S t) (hs2 m S t) (tS m 0) (tV m 0) (iblk m S c (0 : Fin 3) t) (iblk m S c (1 : Fin 3) t) (V m c main_arg4) (slotOf (tS m 0) 0) (eOf (tS m 0) 0) (hOf (tS m 0) 0) h1 h2 hs he hc h3 W _)
      isplitl [H0]; · iexact H0
      isplitl [H1]; · iexact H1
      isplitl [H2]; · iexists _; iexact H2
      isplitl [HT0]; · iexact HT0
      isplitl [HT1]; · iexact HT1
      isplitl [HM]; · iexact HM
      isplitl [HF1]; · iexact HF1
      isplitl [HF2]; · iexact HF2
      isplitl [HC1]; · iexact HC1
      isplitl [HC2]; · iexact HC2
      isplitl [HW]; · iexact HW
      isplitl [HO]; · iexact HO
      iintro ⟨H0, H1, H2, HT0, HT1, HM, HS, HC, HS2, HC2, HW, ⟨%W', HO⟩⟩
      isplitl [HT0 HT1 Hg HM HS HC HS2 HC2 HW]
      · isplitl [HT0]; · iexact HT0
        isplitl [HT1]; · iexact HT1
        isplitl [Hg]; · iexact Hg
        isplitl [HS HS2 HC HC2 HW]
        · isplitl [HS]; · iexact HS
          isplitl [HS2]; · iexact HS2
          isplitl [HC]; · iexact HC
          isplitl [HC2]; · iexact HC2
          iexact HW
        iexact HM
      isplitl [HO]
      · iexists W'; isplitr; · ipureintro; exact fun _ _ => Or.inl trivial
        iexact HO
      isplitl [H0]; · iexact H0
      isplitl [H1]; · iexact H1
      iexact H2
  · rw [hn] at h1' h2' h3' hs he hc he' hc' ⊢
    have h2 : ¬k0_cond2 (grid0.coords t) = 1#1 := fun h => absurd (h2'.1 h) (by omega)
    by_cases b : begins (tS m 0) (n + 1)
    · have h1 := h1'.2 b
      obtain ⟨a1, a2, a3, a4⟩ := S.at_begin n (by omega) b
      rw [Ring_succ, Ring_succ, if_pos (show fld (tS m 0) n 4 = 1#32 from a1), a2, a3, show slotOf (tS m 0) n = opp (slotOf (tS m 0) (n + 1)) by rw [a4, opp_opp]]
      by_cases q : names (tS m 0) (n + 1)
      · have h3 := h3'.2 q
        rw [if_pos (show fld (tS m 0) (n + 1) 4 = 1#32 from q)]
        unfold Fly
        rw [opp_opp]
        iintro ⟨⟨HT0, HT1, Hg, ⟨HF1, HW, HF2, HC2⟩, HM⟩, ⟨%W, -, HO⟩, ⟨%d0, H0⟩, ⟨%d1, H1⟩, ⟨%d2, H2⟩⟩
        iapply (run_next c (grid0.coords t) (ms0 m S t) (hs0 m S t) (ms1 m S t) (hs1 m S t) (ms2 m S t) (hs2 m S t) (tS m 0) (tV m 0) (iblk m S c (0 : Fin 3) t) (iblk m S c (1 : Fin 3) t) (V m c main_arg4) (slotOf (tS m 0) (n + 1)) (eOf (tS m 0) (n + 1)) (hOf (tS m 0) (n + 1)) (eNext (tS m 0) (n + 1)) (hNext (tS m 0) (n + 1)) h1 h2 hs he hc h3 (he' q) (hc' q) W _)
        isplitl [H0]; · iexact H0
        isplitl [H1]; · iexact H1
        isplitl [H2]; · iexists _; iexact H2
        isplitl [HT0]; · iexact HT0
        isplitl [HT1]; · iexact HT1
        isplitl [HM]; · iexists _; iexact HM
        isplitl [HF1]; · iexact HF1
        isplitl [HW]; · iexact HW
        isplitl [HF2]; · iexact HF2
        isplitl [HC2]; · iexact HC2
        isplitl [HO]; · iexact HO
        iintro ⟨H0, H1, H2, HT0, HT1, HM, HS, HC, HF, HR, ⟨%W', HO⟩⟩
        isplitl [HT0 HT1 Hg HM HS HC HF HR]
        · isplitl [HT0]; · iexact HT0
          isplitl [HT1]; · iexact HT1
          isplitl [Hg]; · iexact Hg
          isplitl [HF HR HS HC]
          · isplitl [HF]; · iexact HF
            isplitl [HR]; · iexact HR
            isplitl [HS]; · iexact HS
            iexact HC
          iexact HM
        isplitl [HO]
        · iexists W'; isplitr; · ipureintro; exact fun _ _ => Or.inl trivial
          iexact HO
        isplitl [H0]; · iexact H0
        isplitl [H1]; · iexact H1
        iexact H2
      · have h3 := mt h3'.1 q
        rw [if_neg (show ¬fld (tS m 0) (n + 1) 4 = 1#32 from q)]
        unfold Fly Free
        rw [opp_opp]
        iintro ⟨⟨HT0, HT1, Hg, ⟨HF1, HW, HF2, HC2⟩, HM⟩, ⟨%W, -, HO⟩, ⟨%d0, H0⟩, ⟨%d1, H1⟩, ⟨%d2, H2⟩⟩
        iapply (run_last c (grid0.coords t) (ms0 m S t) (hs0 m S t) (ms1 m S t) (hs1 m S t) (ms2 m S t) (hs2 m S t) (tS m 0) (tV m 0) (iblk m S c (0 : Fin 3) t) (iblk m S c (1 : Fin 3) t) (V m c main_arg4) (slotOf (tS m 0) (n + 1)) (eOf (tS m 0) (n + 1)) (hOf (tS m 0) (n + 1)) h1 h2 hs he hc h3 W _)
        isplitl [H0]; · iexact H0
        isplitl [H1]; · iexact H1
        isplitl [H2]; · iexists _; iexact H2
        isplitl [HT0]; · iexact HT0
        isplitl [HT1]; · iexact HT1
        isplitl [HM]; · iexists _; iexact HM
        isplitl [HF1]; · iexact HF1
        isplitl [HW]; · iexact HW
        isplitl [HF2]; · iexact HF2
        isplitl [HC2]; · iexact HC2
        isplitl [HO]; · iexact HO
        iintro ⟨H0, H1, H2, HT0, HT1, HM, HS, HC, HS2, HC2, HW, ⟨%W', HO⟩⟩
        isplitl [HT0 HT1 Hg HM HS HC HS2 HC2 HW]
        · isplitl [HT0]; · iexact HT0
          isplitl [HT1]; · iexact HT1
          isplitl [Hg]; · iexact Hg
          isplitl [HS HS2 HC HC2 HW]
          · isplitl [HS]; · iexact HS
            isplitl [HS2]; · iexact HS2
            isplitl [HC]; · iexact HC
            isplitl [HC2]; · iexact HC2
            iexact HW
          iexact HM
        isplitl [HO]
        · iexists W'; isplitr; · ipureintro; exact fun _ _ => Or.inl trivial
          iexact HO
        isplitl [H0]; · iexact H0
        isplitl [H1]; · iexact H1
        iexact H2
    · have h1 := mt h1'.1 b
      rw [Ring_stay c _ S n (by omega) b, Ring_succ]
      obtain ⟨-, -, -, -, a5, a6⟩ := S.at_stay n (by omega) b
      rw [a5, a6]
      iintro ⟨⟨HT0, HT1, Hg, HR, HM⟩, HO, ⟨%d0, H0⟩, ⟨%d1, H1⟩, ⟨%d2, H2⟩⟩
      iapply (run_stay c (grid0.coords t) (ms0 m S t) (hs0 m S t) (ms1 m S t) (hs1 m S t) (ms2 m S t) (hs2 m S t) (tS m 0) (tV m 0) (iblk m S c (0 : Fin 3) t) (iblk m S c (1 : Fin 3) t) (workV c (V m c main_arg4) (eOf (tS m 0) n) (hOf (tS m 0) n)) h1 _)
      isplitl [H0]; · iexact H0
      isplitl [H1]; · iexact H1
      isplitl [H2]; · iexists _; iexact H2
      isplitl [HT0]; · iexact HT0
      isplitl [HT1]; · iexact HT1
      isplitl [HM]; · iexact HM
      iintro ⟨H0, H1, H2, HT0, HT1, HM⟩
      isplitl [HT0 HT1 Hg HR HM]
      · isplitl [HT0]; · iexact HT0
        isplitl [HT1]; · iexact HT1
        isplitl [Hg]; · iexact Hg
        isplitl [HR]; · iexact HR
        iexact HM
      isplitl [HO]; · iexact HO
      isplitl [H0]; · iexact H0
      isplitl [H1]; · iexact H1
      iexact H2

theorem defs₀_row (t : Fin (cfgA m S).N) :
    defs₀ (F := F) .tc (cfgA m S).body ((cfgA m S).bodyArgs t ((cfgA m S).slots t)) = bodyAt m S t := by
  unfold defs₀; rw [Defs.onTc_tc]

/-- The library's body obligation, at every step. -/
theorem body_obligation (c : Dev nD) : BodyObligation (dats m S 0 c) (defs₀ (F := F)) Variants.none () Set.univ := fun t => by
  rw [bigSep_W0, bigSep_W0, defs₀_row, idle2]
  exact triple_restated (sound_body m S c t) rfl .rfl fun _ => .rfl

end Cert.Kernel4.Down

end
-- ==== Proof.DownFrame.lean ====
/-
The launch: from any memory whose tables are a schedule the kernel runs to its end; its result is what the proof data say, its arguments end as they began, and every semaphore ends at zero.
-/
module

public import proofs.«01_k».proof.Proof.DownRun
public import Idealize.ShloMosaic.Lib.Pipeline.Quiescent
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Adequacy
public import Idealize.ShloMosaic.Init

@[expose] public section

set_option maxRecDepth 16384

noncomputable section

namespace Cert.Kernel4.Down

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The semaphores of the two slots. -/
abbrev osem0 : Fin 2 → SemLoc sig := fun j => (![SemLoc.dma 6, SemLoc.dma 7] : Fin 2 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0) := by
  rw [Pipeline.ownSems0_eq_of_list c osem0 [0, 1] (by decide) (by decide)]; rfl
/-- The weights, which the body reads itself. -/
def H0 : Finset (Ref sig .tc) := {main_arg4}
theorem H0_sub : H0 ⊆ Pipeline.restRefsP sig pre0 spec0 := by decide

variable (m : (ℓ : Loc nD τ sig) → Buf (Elt F) ℓ) (ρ : Dev nD → PrngReg)

theorem weights_eq (c : Dev nD) :
    (bigSep H0 (fun b => ((c : Thread nD τ).loc b) ↦{fullShare} V m c b) : sProp 𝕄) = wholeP c (V m c main_arg4) := by
  rw [BI.bigSep_eq_bigSepL_of_eq [main_arg4] (by decide) (by decide)]; rfl

theorem given_eq (c : Dev nD) :
    (Pipeline.ΦD osem0 spec0 H0 (V m) c : sProp 𝕄)
      = iprop(iprop((∃ d, owns (c : Thread nD τ) stageM fullShare d) ∗ (∃ d, owns (c : Thread nD τ) workM fullShare d)) ∗ (∃ r, prngReg c r) ∗ iprop(semVal ((c : Thread nD τ), SemLoc.dma 6) 0 ∗ semVal ((c : Thread nD τ), SemLoc.dma 7) 0) ∗ wholeP c (V m c main_arg4)) := by
  rw [Pipeline.ΦD_eq, scopedRest0_eq, ownSems_eq, weights_eq]; simp only [owns_whole]; try rfl

theorem prefHeld_eq (c : Dev nD) (q : Fin 2 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_arg1) ↦{q 0} v 0) ∗ (((c : Thread nD τ).loc main_arg3) ↦{q 1} v 1)) := by
  unfold Pipeline.prefHeld
  rw [show (Finset.univ : Finset (Fin 2)) = insert (0 : Fin 2) {(1 : Fin 2)} from by decide, bigSep_insert (by decide), bigSep_singleton]
  rfl

variable (S : Sched (tS m 0) (tE m 0))

theorem slotOf_zero {T : IVec S2352 32} {te : IVec S168 32} (S : Sched T te) : slotOf T 0 = 0 := by
  unfold slotOf; rw [S.slot0]; rfl

/-- Before the first step the invariant holds of what the launch hands over. -/
theorem hin (c : Dev nD) : iprop(Pipeline.ΦD osem0 spec0 H0 (V m) c ∗ Pipeline.ΦT pre0 (pf m) c) ⊢ (dats m S 0 c).Φ 0 := by
  obtain rfl : c = 0 := Subsingleton.elim c 0
  rw [given_eq, show (Pipeline.ΦT pre0 (pf m) 0 : sProp 𝕄) = Pipeline.prefHeld pre0 0 (fun _ => fullShare.right) (pf m) from rfl, prefHeld_eq,
    show (dats m S 0 0).Φ 0 = Phi m 0 0 from rfl]
  unfold Phi Ring Free
  rw [slotOf_zero S, show opp 0 = 1 from rfl]
  unfold cellP
  rw [cellR_0, cellR_1]
  iintro ⟨⟨⟨HS, HM⟩, Hg, ⟨HC1, HC2⟩, HW⟩, ⟨HT0, HT1⟩⟩
  isplitl [HT0]; · iexact HT0
  isplitl [HT1]; · iexact HT1
  isplitl [Hg]; · iexact Hg
  isplitr [HM]
  · ihave HX := (slots_in (F := F) 0) $$ HS
    icases HX with ⟨HF1, HF2⟩
    isplitl [HF1]; · iexact HF1
    isplitl [HF2]; · iexact HF2
    isplitl [HC1]; · iexact HC1
    isplitl [HC2]; · iexact HC2
    iexact HW
  iexact HM

/-- The slots and cells in either order. -/
theorem free_out (c : Dev nD) (W : WBuf (F := F) c) (σ : Fin 2) : Free c W σ ⊢ iprop((∃ f, slotP c 0 f) ∗ (∃ f, slotP c 1 f) ∗ cellP c 0 ∗ cellP c 1 ∗ wholeP c W) := by
  unfold Free
  fin_cases σ
  · exact .rfl
  · show iprop((∃ f, slotP c 1 f) ∗ (∃ f, slotP c 0 f) ∗ cellP c 1 ∗ cellP c 0 ∗ wholeP c W) ⊢ _
    iintro ⟨HF1, HF2, HC1, HC2, HW⟩
    isplitl [HF2]; · iexact HF2
    isplitl [HF1]; · iexact HF1
    isplitl [HC2]; · iexact HC2
    isplitl [HC1]; · iexact HC1
    iexact HW

/-- After the last step nothing is in flight: what the launch handed over goes back. -/
theorem hout (c : Dev nD) : (dats m S 0 c).Φ (Fin.last (cfgA m S).N) ⊢ Pipeline.ΦD osem0 spec0 H0 (V m) c := by
  rw [given_eq, show (dats m S 0 c).Φ (Fin.last (cfgA m S).N) = Phi m c grid0.N from rfl, N_0]
  unfold Phi
  rw [show (336 : ℕ) = 335 + 1 from rfl, Ring_succ, S.last, if_neg (by decide)]
  iintro ⟨HT0, HT1, Hg, HF, HM⟩
  ihave HX := (free_out c (V m c main_arg4) _) $$ HF
  unfold cellP
  rw [cellR_0, cellR_1]
  icases HX with ⟨HF1, HF2, HC1, HC2, HW⟩
  isplitl [HF1 HF2 HM]
  · isplitl [HF1 HF2]
    · iapply (slots_out (F := F) c)
      isplitl [HF1]; · iexact HF1
      iexact HF2
    iexists _; iexact HM
  isplitl [Hg]; · iexact Hg
  isplitl [HC1 HC2]
  · isplitl [HC1]; · iexact HC1
    iexact HC2
  iexact HW

theorem share_eq (c : Dev nD) (w : Fin (cfgA m S).W) : (dats m S 0 c).share w = fullShare := by unfold Dat.share; split <;> rfl

set_option backward.isDefEq.respectTransparency.types false in
/-- The launch. -/
theorem run_main_quiescent : θ_run (defs (F := F)) (onTc (τ := τ) (main (F := F))) (s₀ m ρ) (fun r => (Pipeline.FramePost (pcs m S) (dats m S) 0 (V m)) r ∧ r.2.sem = fun _ => 0) :=
  Pipeline.θ_run_frameP_dma (Q' := _) (pcfgs (F := F)) (fun _ => adm m S) (dats m S) (0 : Fin 1) launch0 osem0 defs₀ Variants.none ownSemFacts0 H0 H0_sub m ρ main
    (hbody := fun c => (body_obligation m S c).loose) (hshare := share_eq m S)
    (howed := fun _ _ => rfl) (V := V m) (hmain := Pipeline.hmainP_region _ 0 defs₀ Variants.none m main fun c => (main_chain c).trans rfl) (hA := A_eq m S)
    (hpf := fun c k => by obtain rfl : c = 0 := Subsingleton.elim c 0; rfl)
    (hin := hin m S) (hout := hout m S)

/-- Every argument ends as it began, the result is what the steps wrote, and every semaphore ends at zero. -/
theorem run_values : θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = (dats m S 0 c).arrAt (2 : Fin 3) (cfgA m S).N)
      ∧ r.2.sem = fun _ => 0) :=
  (θ_run (defs (F := F)) _ _).mono (fun r h => ⟨fun c => ⟨⟨((h.1 c).1 (0 : Fin 3)).trans ((dats m S 0 c).arrAt_in (0 : Fin 3) rfl _),
      (h.1 c).2 main_arg1 (by show main_arg1 ∈ Pipeline.restRefs sig spec0; decide), (h.1 c).2 main_arg2 (by show main_arg2 ∈ Pipeline.restRefs sig spec0; decide), (h.1 c).2 main_arg3 (by show main_arg3 ∈ Pipeline.restRefs sig spec0; decide), (h.1 c).2 main_arg4 (by show main_arg4 ∈ Pipeline.restRefs sig spec0; decide),
      ((h.1 c).1 (1 : Fin 3)).trans ((dats m S 0 c).arrAt_in (1 : Fin 3) rfl _)⟩, (h.1 c).1 (2 : Fin 3)⟩, h.2⟩) (run_main_quiescent m ρ S)

include S in
/-- The frame. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run (defs (F := F)) _ _).mono (fun _ h => ⟨fun c => (h.1 c).1, h.2⟩) (run_values m ρ S)

end Cert.Kernel4.Down

end
-- ==== Proof.DownIdeal.lean ====
/-
The idealized kernel has the kernel's text, so the run at extended reals is the run of the kernel at them.
-/
module

public import proofs.«01_k».proof.Proof.DownFrame
public import proofs.«01_k».proof.Kernel4Ideal
public import proofs.«01_k».proof.Proof.Gen.Kernel4Ideal.Launch

@[expose] public section

noncomputable section

namespace Cert.Kernel4Ideal.Down

open Idealize.ShloMosaic Idealize.ShloMosaic.TcCoe Idealize.SL.Sem
open Cert.Kernel4.Down (Sched tS tE dats cfgA)

theorem defs₀_same : (Cert.Kernel4Ideal.defs₀ (F := Ideal)) = (Cert.Kernel4.defs₀ (F := Ideal)) := by
  unfold Cert.Kernel4Ideal.defs₀ Cert.Kernel4.defs₀
  refine congrArg _ (funext fun l => funext fun a => ?_)
  match l, a with
  | 0, (t, s) => with_unfolding_all rfl

/-- The two programs' functions are the same. -/
theorem defs_same : (Cert.Kernel4Ideal.defs (F := Ideal)) = (Cert.Kernel4.defs (F := Ideal)) :=
  congrArg (Pipeline.defs (Cert.Kernel4.pcfgs (F := Ideal))) defs₀_same

open Cert.Kernel4Ideal in
/-- The run of the idealized kernel: arguments as they began, the result what the steps wrote, semaphores at zero. -/
theorem run_values (m : (ℓ : Loc nD τ sig) → Buf (Elt Ideal) ℓ) (ρ : Dev nD → PrngReg) (S : Sched (tS (F := Ideal) m 0) (tE (F := Ideal) m 0)) :
    θ_run (defs (F := Ideal)) (onTc (τ := τ) (main (F := Ideal))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = (dats (F := Ideal) m S 0 c).arrAt (2 : Fin 3) (cfgA (F := Ideal) m S).N)
      ∧ r.2.sem = fun _ => 0) := by
  rw [defs_same]
  exact Cert.Kernel4.Down.run_values (F := Ideal) m ρ S

end Cert.Kernel4Ideal.Down

end
-- ==== Proof.DownMath.lean ====
/-
What the down projection of the experts is at one row, and that the reference computes it at every row.
-/
module

public import proofs.«01_k».proof.Proof.Gen.Reference4Ideal.Read
public import Idealize.ShloMosaic.Lib.Pointwise
public import Idealize.ShloMosaic.Lib.Routing.Ops

@[expose] public section

set_option maxRecDepth 20000

noncomputable section

namespace Cert.Down

open Cert.Reference4Ideal Cert.Reference4Ideal.Gen Cert.Reference4Ideal.Read Idealize.ShloMosaic Idealize.ShloMosaic.TcCoe Idealize.SL.Sem

/-- A row through the down projection of an expert, with the expert's bias. -/
def proj (h : Fin 2048 → EReal) (w : Fin 2048 → EReal) (b : EReal) : EReal := (∑ k : Fin 2048, h k * w k) + b

/-- Row `r` of tile `t`. -/
abbrev row (t : Fin 168) (r : Fin 256) : Fin 43008 := ⟨t.val * 256 + r.val, by omega⟩

/-- The matrices of the tiles' experts, taken out of all the experts' matrices. -/
theorem take_matrix (x : S32x2048x2048.Idx → EReal) (idx : IVec S168x1 32) (t : Fin 168) (k n : Fin 2048) (e : Fin 32)
    (he : idx (ix2 t 0) = BitVec.ofNat 32 e.val) :
    Host.gather gather_S32x2048x2048_S168x1_S168x2048x2048_12_0_n_n_0_1_120482048 x idx (ix3 t k n) = x (ix3 e k n) := by
  unfold Host.gather
  refine congrArg x (funext fun a => Fin.ext ?_)
  show GatherDims.start _ (ix3 t k n) idx a + GatherDims.batchCoord _ (ix3 t k n) a + GatherDims.offCoord _ (ix3 t k n) a = _
  rw [GatherDims.batchCoord_eq_zero _ _ _ List.not_mem_nil]
  have cases3 : ∀ a : Fin 3, a = 0 ∨ a = 1 ∨ a = 2 := by decide
  rcases cases3 a with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x2048x2048_S168x1_S168x2048x2048_12_0_n_n_0_1_120482048.startIndexMap from List.mem_singleton.mpr rfl)]
    have hsi : gather_S32x2048x2048_S168x1_S168x2048x2048_12_0_n_n_0_1_120482048.siIdx (ix3 t k n) ⟨List.idxOf (0 : Fin 3) gather_S32x2048x2048_S168x1_S168x2048x2048_12_0_n_n_0_1_120482048.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi, he]
    have : ∀ e : Fin 32, min (BitVec.ofNat 32 e.val).toInt.toNat (32 - 1) = e.val := by decide
    exact this e
  · unfold GatherDims.start GatherDims.offCoord
    rw [dif_neg (show ¬(1 : Fin 3) ∈ gather_S32x2048x2048_S168x1_S168x2048x2048_12_0_n_n_0_1_120482048.startIndexMap by decide),
      dif_pos (show (1 : Fin 3) ∈ gather_S32x2048x2048_S168x1_S168x2048x2048_12_0_n_n_0_1_120482048.sKept by decide)]
    simp only [Nat.zero_add]
    rfl
  · unfold GatherDims.start GatherDims.offCoord
    rw [dif_neg (show ¬(2 : Fin 3) ∈ gather_S32x2048x2048_S168x1_S168x2048x2048_12_0_n_n_0_1_120482048.startIndexMap by decide),
      dif_pos (show (2 : Fin 3) ∈ gather_S32x2048x2048_S168x1_S168x2048x2048_12_0_n_n_0_1_120482048.sKept by decide)]
    simp only [Nat.zero_add]
    rfl

/-- The biases of the tiles' experts. -/
theorem take_bias (x : S32x2048.Idx → EReal) (idx : IVec S168x1 32) (t : Fin 168) (n : Fin 2048) (e : Fin 32)
    (he : idx (ix2 t 0) = BitVec.ofNat 32 e.val) :
    Host.gather gather_S32x2048_S168x1_S168x2048_1_0_n_n_0_1_12048 x idx (ix2 t n) = x (ix2 e n) :=
  Routing.gather_row gather_S32x2048_S168x1_S168x2048_1_0_n_n_0_1_12048 rfl rfl rfl rfl rfl x idx t n e he (by decide)

variable (x0 : S43008x2048.Idx → EReal) (x2 x3 : IVec S168 32) (x4 : S32x2048x2048.Idx → EReal) (x5 : S32x1x2048.Idx → EReal)

theorem ref_rows (t : Fin 168) (r : Fin 256) (k : Fin 2048) : val_main_v1 (F := Ideal) x0 (ix3 t r k) = x0 (ix2 (row t r) k) := by
  pointwise [val_main_v1, val_main_v0]

theorem wrap_word (e : Fin 32) : Scalar.select (IntOp.cmpi .slt (BitVec.ofNat 32 e.val) 0#32) (IntOp.addi (BitVec.ofNat 32 e.val) 32#32) (BitVec.ofNat 32 e.val) = BitVec.ofNat 32 e.val := by
  revert e; decide

theorem ref_expert (t : Fin 168) (e : Fin 32) (he : x2 (ix1 t) = BitVec.ofNat 32 e.val) :
    val_main_v7 (F := Ideal) x2 (ix2 t 0) = BitVec.ofNat 32 e.val := by
  have h : val_main_v7 (F := Ideal) x2 (ix2 t 0) = Scalar.select (IntOp.cmpi .slt (x2 (ix1 t)) 0#32) (IntOp.addi (x2 (ix1 t)) 32#32) (x2 (ix1 t)) := by
    pointwise [val_main_v7, val_main_v6, val_main_v5, val_main_v4, val_main_v3, val_main_v2, val_main_c, val_main_c_0]
  rw [h, he, wrap_word]
theorem ref_expert' (t : Fin 168) (e : Fin 32) (he : x2 (ix1 t) = BitVec.ofNat 32 e.val) :
    val_main_v15 (F := Ideal) x2 (ix2 t 0) = BitVec.ofNat 32 e.val := ref_expert x2 t e he

theorem ref_matrix (t : Fin 168) (k n : Fin 2048) (e : Fin 32) (he : x2 (ix1 t) = BitVec.ofNat 32 e.val) :
    val_main_v8 (F := Ideal) x2 x4 (ix3 t k n) = x4 (ix3 e k n) := take_matrix x4 _ t k n e (ref_expert x2 t e he)

theorem ref_bias (t : Fin 168) (n : Fin 2048) (e : Fin 32) (he : x2 (ix1 t) = BitVec.ofNat 32 e.val) :
    val_main_v16 (F := Ideal) x2 x5 (ix2 t n) = x5 (ix3 e 0 n) := by
  refine (take_bias _ _ t n e (ref_expert' x2 t e he)).trans ?_
  pointwise [val_main_v9]

/-- The reference's product with its bias. -/
theorem ref_proj (t : Fin 168) (r : Fin 256) (n : Fin 2048) (e : Fin 32) (he : x2 (ix1 t) = BitVec.ofNat 32 e.val) :
    val_main_v20 (F := Ideal) x0 x2 x4 x5 (ix3 t r n) = proj (fun k => x0 (ix2 (row t r) k)) (fun k => x4 (ix3 e k n)) (x5 (ix3 e 0 n)) := by
  have h : val_main_v20 (F := Ideal) x0 x2 x4 x5 (ix3 t r n)
      = (∑ k : Fin 2048, val_main_v1 (F := Ideal) x0 (ix3 t r k) * val_main_v8 (F := Ideal) x2 x4 (ix3 t k n)) + val_main_v16 (F := Ideal) x2 x5 (ix2 t n) := by
    pointwise [val_main_v20, val_main_v19, val_main_v18, val_main_v17]
  rw [h, ref_bias x2 x5 t n e he]
  simp only [ref_rows, ref_matrix x2 x4 t _ n e he]
  rfl

/-- The reference's result at a row of a tile: the row projected by the tile's expert, or zero where the tile holds no row. -/
theorem ref_down (t : Fin 168) (r : Fin 256) (n : Fin 2048) (e : Fin 32) (he : x2 (ix1 t) = BitVec.ofNat 32 e.val) :
    val_main_v25 (F := Ideal) x0 x2 x3 x4 x5 (ix2 (row t r) n)
      = if x3 (ix1 t) = 0#32 then 0 else proj (fun k => x0 (ix2 (row t r) k)) (fun k => x4 (ix3 e k n)) (x5 (ix3 e 0 n)) := by
  have h1 : val_main_v25 (F := Ideal) x0 x2 x3 x4 x5 (ix2 (row t r) n) = val_main_v24 (F := Ideal) x0 x2 x3 x4 x5 (ix3 t r n) := by
    rw [val_main_v25_apply]
    refine congrArg _ (funext fun a => Fin.ext ?_)
    have := t.isLt; have := r.isLt; have := n.isLt
    match a with
    | ⟨0, _⟩ => show ((t.val * 256 + r.val) * 2048 + n.val) / 524288 = t.val; omega
    | ⟨1, _⟩ => show ((t.val * 256 + r.val) * 2048 + n.val) / 2048 % 256 = r.val; omega
    | ⟨2, _⟩ => show ((t.val * 256 + r.val) * 2048 + n.val) % 2048 = n.val; omega
  have h2 : val_main_v24 (F := Ideal) x0 x2 x3 x4 x5 (ix3 t r n)
      = Scalar.select (IntOp.cmpi .ne (x3 (ix1 t)) 0#32) (val_main_v20 (F := Ideal) x0 x2 x4 x5 (ix3 t r n)) 0 := by
    have hz : id (constant (F := Ideal) S_ FTy.f32 0x00000000#32) ix0 = (0 : EReal) := Ideal.ofBits_zero_f32
    rw [← hz]
    pointwise [val_main_v24, val_main_call0_v2, val_main_call0_v1, val_main_call0_v0, val_main_cst, val_main_v23, val_main_v22, val_main_v21, val_main_c_3]
  rw [h1, h2, ref_proj x0 x2 x4 x5 t r n e he]
  by_cases q : x3 (ix1 t) = 0#32
  · rw [if_pos q, q]; rfl
  · have : IntOp.cmpi .ne (x3 (ix1 t)) 0#32 = 1#1 := by
      show BitVec.ofBool (x3 (ix1 t) != 0#32) = 1#1
      rw [bne_iff_ne.2 q]; rfl
    rw [if_neg q, this]; rfl

end Cert.Down

end
-- ==== Proof.DownTile.lean ====
/-
What one step writes: rows of a tile projected by the tile's expert, on the step's half of the columns.
-/
module

public import proofs.«01_k».proof.Proof.DownIdeal
public import proofs.«01_k».proof.Proof.DownMath

@[expose] public section

set_option maxRecDepth 20000

noncomputable section

namespace Cert.Kernel4.Down

open Cert.Kernel4 Cert.Kernel4.Gen Idealize.ShloMosaic Idealize.ShloMosaic.TcCoe Idealize.SL.Sem
open Cert.Down (proj row)

/-- Column `n` of half `h`. -/
abbrev colOf (h : Fin 2) (n : Fin 1024) : Fin 2048 := ⟨h.val * 1024 + n.val, by omega⟩

/-- The body's product with the bias, at an element. -/
theorem pay1_apply (x0 : Vec Ideal S256x2048 .bf16) (x1 : Vec Ideal S1x1x1024 .f32) (w : Vec Ideal S1x2048x1024 .bf16) (r : Fin 256) (n : Fin 1024) :
    k0_pay1 (F := Ideal) x0 w x1 (ix2 r n) = proj (fun k => x0 (ix2 r k)) (fun k => w (ix3 0 k n)) (x1 (ix3 0 0 n)) := by
  unfold proj
  pointwise [k0_pay1]

/-- What a step writes, at an element: the row projected and biased, or zero where the tile holds no row. -/
theorem outv_apply (x0 : Vec Ideal S256x2048 .bf16) (x1 : Vec Ideal S1x1x1024 .f32) (w : Vec Ideal S1x2048x1024 .bf16) (v : BitVec 32) (r : Fin 256) (n : Fin 1024) :
    outv (F := Ideal) x0 x1 w v (ix2 r n) = if v = 0#32 then 0 else proj (fun k => x0 (ix2 r k)) (fun k => w (ix3 0 k n)) (x1 (ix3 0 0 n)) := by
  by_cases hv : v = 0#32
  · rw [if_pos hv, outv, if_neg (by subst hv; decide)]
    exact Ideal.ofBits_zero_f32
  · have h4 : k0_cond4 v = 1#1 := by
      have e : (v != 0#32) = true := by simpa using hv
      show BitVec.ofBool (BitVec.setWidth 32 (BitVec.ofBool (v != 0#32)) != 0#32) = 1#1
      rw [e]; decide
    rw [if_neg hv, outv, if_pos h4, pay1_apply]

/-- Reshaping a block for the working copy keeps its elements. -/
theorem pay3_apply (x : Vec Ideal S1x1x2048x1024 .f32) (k : Fin 2048) (n : Fin 1024) : k0_pay3 (F := Ideal) x (ix3 0 k n) = x (ix4 0 0 k n) := by
  pointwise [k0_pay3]

theorem shape4_apply (x : S2048x1024.Idx → EReal) (h) (k : Fin 2048) (n : Fin 1024) : shapeCast S1x1x2048x1024 x h (ix4 0 0 k n) = x (ix2 k n) := by
  pointwise

theorem shape2_apply (x : S1x2048x1024.Idx → EReal) (h) (k : Fin 2048) (n : Fin 1024) : shapeCast S2048x1024 x h (ix2 k n) = x (ix3 0 k n) := by
  pointwise

/-- An element of a block of the weights. -/
theorem block_apply (c : Dev nD) (W : WBuf (F := Ideal) c) (e : Fin 32) (h : Fin 2) (k : Fin 2048) (n : Fin 1024) :
    ((blockM e h).view.read (Elt Ideal) W : S2048x1024.Idx → EReal) (ix2 k n) = (W : S32x2048x2048.Idx → EReal) (ix3 e k (colOf h n)) := by
  have h1 : ((blockM e h).view.read (Elt Ideal) W : S2048x1024.Idx → EReal)
      = shapeCast S2048x1024 (fun j : S1x2048x1024.Idx => (W : S32x2048x2048.Idx → EReal) ((Rect.unit (s := S32x2048x2048) ![e.val, 0, 1024 * h.val] S1x2048x1024.size (inb_block e h)).emb j))
          (Shape.Squeezes.numel_eq squeezes_S1x2048x1024_S2048x1024) := rfl
  rw [h1, shape2_apply]
  refine congrArg _ (funext fun a => Fin.ext ?_)
  match a with
  | ⟨0, _⟩ => rw [Rect.emb_apply]; show e.val + 1 * 0 = e.val; omega
  | ⟨1, _⟩ => rw [Rect.emb_apply]; show 0 + 1 * k.val = k.val; omega
  | ⟨2, _⟩ => rw [Rect.emb_apply]; show 1024 * h.val + 1 * n.val = h.val * 1024 + n.val; omega

/-- An element of the working copy made of a block of the weights. -/
theorem work_apply (c : Dev nD) (W : WBuf (F := Ideal) c) (e : Fin 32) (h : Fin 2) (k : Fin 2048) (n : Fin 1024) :
    workV (F := Ideal) c W e h (ix3 0 k n) = (W : S32x2048x2048.Idx → EReal) (ix3 e k (colOf h n)) := by
  unfold workV blockV
  rw [pay3_apply, shape4_apply, block_apply]

section Run
variable (m : (ℓ : Loc nD τ sig) → Buf (Elt Ideal) ℓ) (S : Sched (tS (F := Ideal) m 0) (tE (F := Ideal) m 0)) (c : Dev nD)

/-- The tile and the half of the columns of a step. -/
abbrev tileAt (t : Fin (cfgA (F := Ideal) m S).N) : Fin 168 := ⟨t.val % 168, by omega⟩
theorem lt_N (t : Fin (cfgA (F := Ideal) m S).N) : t.val < 336 := lt336 t
abbrev halfAt (t : Fin (cfgA (F := Ideal) m S).N) : Fin 2 := ⟨t.val / 168, by have := lt_N m S t; omega⟩

theorem pos0 : ∀ t : Fin grid0.N, cc0_transform_0 (grid0.coords t) 0 = t.val % 168 ∧ cc0_transform_0 (grid0.coords t) 1 = 0 := by decide +kernel
theorem pos2 : ∀ t : Fin grid0.N, cc0_transform_3 (grid0.coords t) 0 = t.val % 168 ∧ cc0_transform_3 (grid0.coords t) 1 = t.val / 168 := by decide +kernel

/-- The rows a step finds. -/
theorem blk0 (t : Fin (cfgA (F := Ideal) m S).N) (r : Fin 256) (k : Fin 2048) :
    (iblk (F := Ideal) m S c (0 : Fin 3) t : Vec Ideal S256x2048 .bf16) (ix2 r k)
      = (m ((c : Thread nD τ).loc main_arg0) : S43008x2048.Idx → EReal) (ix2 (row (tileAt m S t) r) k) := by
  show (m ((c : Thread nD τ).loc main_arg0) : S43008x2048.Idx → EReal) ((((cfgA (F := Ideal) m S).win (0 : Fin 3)).rect t).emb (ix2 r k)) = _
  refine congrArg _ (funext fun b => Fin.ext ?_)
  match b with
  | ⟨0, _⟩ =>
    refine (((cfgA (F := Ideal) m S).win (0 : Fin 3)).rect_emb_val t (ix2 r k) 0).trans ?_
    show cc0_transform_0 (grid0.coords t) 0 * 256 + r.val = t.val % 168 * 256 + r.val
    rw [(pos0 t).1]
  | ⟨1, _⟩ =>
    refine (((cfgA (F := Ideal) m S).win (0 : Fin 3)).rect_emb_val t (ix2 r k) 1).trans ?_
    show cc0_transform_0 (grid0.coords t) 1 * 2048 + k.val = k.val
    rw [(pos0 t).2]; omega

/-- The expert of a step, as the schedule names it. -/
theorem expert_val (t : Fin (cfgA (F := Ideal) m S).N) : (fld (tS (F := Ideal) m 0) t.val 2).toNat = (eOf (tS (F := Ideal) m 0) t.val).val := by
  have h := (S.expert t.val (lt_N m S t)).2
  unfold eOf
  show _ = (fld (tS (F := Ideal) m 0) t.val 2).toNat % 32
  omega

/-- The bias a step finds. -/
theorem blk1 (t : Fin (cfgA (F := Ideal) m S).N) (n : Fin 1024) :
    (iblk (F := Ideal) m S c (1 : Fin 3) t : Vec Ideal S1x1x1024 .f32) (ix3 0 0 n)
      = (m ((c : Thread nD τ).loc main_arg5) : S32x1x2048.Idx → EReal) (ix3 (eOf (tS (F := Ideal) m 0) t.val) 0 (colOf (halfAt m S t) n)) := by
  have e1 := tr1_eq (F := Ideal) m (grid0.coords t)
  have hs : (grid0.coords t 0).val * 168 + (grid0.coords t 1).val = t.val := by rw [coords_0 t, coords_1 t]; omega
  rw [hs, expert_val m S t, coords_0 t] at e1
  show (m ((c : Thread nD τ).loc main_arg5) : S32x1x2048.Idx → EReal) ((((cfgA (F := Ideal) m S).win (1 : Fin 3)).rect t).emb (ix3 0 0 n)) = _
  refine congrArg _ (funext fun b => Fin.ext ?_)
  match b with
  | ⟨0, _⟩ =>
    refine (((cfgA (F := Ideal) m S).win (1 : Fin 3)).rect_emb_val t (ix3 0 0 n) 0).trans ?_
    show cc0_transform_1 k0_off1_inb numel1_S1 (pf (F := Ideal) m) (grid0.coords t) 0 * 1 + 0 = (eOf (tS (F := Ideal) m 0) t.val).val
    rw [e1]; show (eOf (tS (F := Ideal) m 0) t.val).val * 1 + 0 = _; omega
  | ⟨1, _⟩ =>
    refine (((cfgA (F := Ideal) m S).win (1 : Fin 3)).rect_emb_val t (ix3 0 0 n) 1).trans ?_
    show cc0_transform_1 k0_off1_inb numel1_S1 (pf (F := Ideal) m) (grid0.coords t) 1 * 1 + 0 = 0
    rw [e1]; rfl
  | ⟨2, _⟩ =>
    refine (((cfgA (F := Ideal) m S).win (1 : Fin 3)).rect_emb_val t (ix3 0 0 n) 2).trans ?_
    show cc0_transform_1 k0_off1_inb numel1_S1 (pf (F := Ideal) m) (grid0.coords t) 2 * 1024 + n.val = t.val / 168 * 1024 + n.val
    rw [e1]; rfl

/-- The half of the columns the schedule names at a step is the step's. -/
theorem half_eq (t : Fin (cfgA (F := Ideal) m S).N) : hOf (tS (F := Ideal) m 0) t.val = halfAt m S t := by
  have ht := lt_N m S t
  have hc := S.col t.val ht
  unfold hOf
  refine Fin.ext ?_
  show _ = t.val / 168
  by_cases q : t.val < 168
  · rw [if_pos (by rw [hc, if_pos q]), Nat.div_eq_of_lt q]; rfl
  · rw [if_neg (by rw [hc, if_neg q]; decide)]
    show 1 = _; omega

/-- What a step writes, at an element. -/
theorem tile_apply (t : Fin (cfgA (F := Ideal) m S).N) (r : Fin 256) (n : Fin 1024) :
    tileV (F := Ideal) m S c t (ix2 r n)
      = if (tV (F := Ideal) m 0) (ix1 (tileAt m S t)) = 0#32 then 0
        else proj (fun k => (m ((c : Thread nD τ).loc main_arg0) : S43008x2048.Idx → EReal) (ix2 (row (tileAt m S t) r) k))
          (fun k => (m ((c : Thread nD τ).loc main_arg4) : S32x2048x2048.Idx → EReal) (ix3 (eOf (tS (F := Ideal) m 0) t.val) k (colOf (halfAt m S t) n)))
          ((m ((c : Thread nD τ).loc main_arg5) : S32x1x2048.Idx → EReal) (ix3 (eOf (tS (F := Ideal) m 0) t.val) 0 (colOf (halfAt m S t) n))) := by
  have hv : readV (F := Ideal) (tV (F := Ideal) m 0) (k0_off15 (grid0.coords t)) (k0_off15_inb (grid0.coords t)) = (tV (F := Ideal) m 0) (ix1 (tileAt m S t)) := by
    refine (readV_word _ _ _ (t.val % 168) (by omega) (off_15 t)).trans ?_
    refine congrArg (fun x : Fin 168 => (tV (F := Ideal) m 0) (ix1 x)) (Fin.ext ?_)
    show t.val % 168 % 168 = t.val % 168; omega
  unfold tileV
  rw [outv_apply, hv, half_eq m S t, blk1]
  simp only [blk0, work_apply]
  rfl

end Run

end Cert.Kernel4.Down

end
-- ==== Proof.DownFinal.lean ====
/-
The down projection's result array after the run, and that it is the reference's.
-/
module

public import proofs.«01_k».proof.Proof.DownTile
public import proofs.«01_k».proof.Defs
public import proofs.«01_k».proof.Proof.Gen.Pre_scheduled
public import Idealize.ShloMosaic.Lib.Pipeline.Value

@[expose] public section

set_option maxRecDepth 20000

noncomputable section

namespace Cert.Kernel4.Down

open Cert.Kernel4 Cert.Kernel4.Gen Idealize.ShloMosaic Idealize.ShloMosaic.TcCoe Idealize.SL.Sem
open Cert.Down (proj row)

section Run
variable (m : (ℓ : Loc nD τ sig) → Buf (Elt Ideal) ℓ) (S : Sched (tS (F := Ideal) m 0) (tE (F := Ideal) m 0)) (c : Dev nD)

/-- The arguments the run finds: the rows, the tiles' experts, which tiles hold rows, the experts' matrices and biases. -/
abbrev rowsArg : S43008x2048.Idx → EReal := m ((c : Thread nD τ).loc main_arg0)
abbrev matArg : S32x2048x2048.Idx → EReal := m ((c : Thread nD τ).loc main_arg4)
abbrev biasArg : S32x1x2048.Idx → EReal := m ((c : Thread nD τ).loc main_arg5)

/-- The block of an array of the result's shape that a step's window reads. -/
theorem readOut (G : S43008x2048.Idx → EReal) (t : Fin (cfgA (F := Ideal) m S).N) (r : Fin 256) (n : Fin 1024) :
    ((((cfgA (F := Ideal) m S).win (2 : Fin 3)).blk t).view.read (Elt Ideal) G : S256x1024.Idx → EReal) (ix2 r n) = G (ix2 (row (tileAt m S t) r) (colOf (halfAt m S t) n)) := by
  show G ((((cfgA (F := Ideal) m S).win (2 : Fin 3)).rect t).emb (ix2 r n)) = _
  refine congrArg G (funext fun b => Fin.ext ?_)
  match b with
  | ⟨0, _⟩ =>
    refine (((cfgA (F := Ideal) m S).win (2 : Fin 3)).rect_emb_val t (ix2 r n) 0).trans ?_
    show cc0_transform_3 (grid0.coords t) 0 * 256 + r.val = t.val % 168 * 256 + r.val
    rw [(pos2 t).1]
  | ⟨1, _⟩ =>
    refine (((cfgA (F := Ideal) m S).win (2 : Fin 3)).rect_emb_val t (ix2 r n) 1).trans ?_
    show cc0_transform_3 (grid0.coords t) 1 * 1024 + n.val = t.val / 168 * 1024 + n.val
    rw [(pos2 t).2]

/-- An array holds the down projection: at every row of every tile the row projected by the tile's expert, or zero where the
    tile holds no row. -/
def Holds (G : S43008x2048.Idx → EReal) : Prop :=
  ∀ (t : Fin 168) (r : Fin 256) (n : Fin 2048) (e : Fin 32), (tE (F := Ideal) m 0) (ix1 t) = BitVec.ofNat 32 e.val →
    G (ix2 (row t r) n) = if (tV (F := Ideal) m 0) (ix1 t) = 0#32 then 0 else proj (fun k => rowsArg m c (ix2 (row t r) k)) (fun k => matArg m c (ix3 e k n)) (biasArg m c (ix3 e 0 n))

/-- The expert of a step is the expert of its tile. -/
theorem tile_expert (t : Fin (cfgA (F := Ideal) m S).N) : (tE (F := Ideal) m 0) (ix1 (tileAt m S t)) = BitVec.ofNat 32 (eOf (tS (F := Ideal) m 0) t.val).val := by
  have h := lt_N m S t
  refine Eq.trans ?_ (((S.expert t.val h).1.symm).trans (S.e_word t.val h))
  exact congrArg (fun x : Fin 168 => (tE (F := Ideal) m 0) (ix1 x)) (Fin.ext rfl)

/-- What a step writes back is its block of any array that holds the down projection. -/
theorem written (G : S43008x2048.Idx → EReal) (hG : Holds m c G) (t : Fin (cfgA (F := Ideal) m S).N) :
    (dats (F := Ideal) m S 0 c).flushed (2 : Fin 3) t = (((cfgA (F := Ideal) m S).win (2 : Fin 3)).blk t).view.read (Elt Ideal) G := by
  have e : (dats (F := Ideal) m S 0 c).flushed (2 : Fin 3) t = tileV (F := Ideal) m S c t := by
    show ((cfgA (F := Ideal) m S).win (2 : Fin 3)).cut (grid0.coords t) ((dats (F := Ideal) m S 0 c).after (2 : Fin 3) t) = _
    rw [after2]; rfl
  rw [e]
  refine funext fun y => ?_
  obtain ⟨r, n, rfl⟩ : ∃ (r : Fin 256) (n : Fin 1024), y = (ix2 r n : S256x1024.Idx) := ⟨y 0, y 1, funext fun a => by match a with | ⟨0, _⟩ => rfl | ⟨1, _⟩ => rfl⟩
  refine Eq.trans ?_ (readOut m S G t r n).symm
  rw [hG _ _ _ (eOf (tS (F := Ideal) m 0) t.val) (tile_expert m S t)]
  exact tile_apply m S c t r n

/-- Every step writes its block back. -/
theorem flush2 (t : Fin (cfgA (F := Ideal) m S).N) : ((cfgA (F := Ideal) m S).win (2 : Fin 3)).flush t = true := by
  have h : ((cfgA (F := Ideal) m S).win (2 : Fin 3)).flush t = Pipeline.Window.flushOf grid0 true cc0_transform_3 t := rfl
  rw [h]
  unfold Pipeline.Window.flushOf
  rw [Bool.true_and, Bool.or_eq_true, decide_eq_true_eq, decide_eq_true_eq]
  by_cases q : t.val + 1 = grid0.N
  · exact Or.inl q
  · have hl : t.val + 1 < grid0.N := lt_of_le_of_ne t.isLt q
    refine Or.inr ⟨hl, fun e => ?_⟩
    have e0 := congrFun e 0
    rw [(pos2 ⟨t.val + 1, hl⟩).1, (pos2 t).1] at e0
    have : (t.val + 1) % 168 = t.val % 168 := e0
    omega

/-- The blocks cover the result array. -/
theorem cover (i : S43008x2048.Idx) : ∃ t : Fin (cfgA (F := Ideal) m S).N, ((cfgA (F := Ideal) m S).win (2 : Fin 3)).flush t = true
    ∧ i ∈ (((cfgA (F := Ideal) m S).win (2 : Fin 3)).blk t).view.set := by
  have h0 : (i 0 : Nat) < 43008 := (i 0).isLt
  have h1 : (i 1 : Nat) < 2048 := (i 1).isLt
  obtain ⟨t, et⟩ : ∃ t : Fin grid0.N, t.val = (i 1 : Nat) / 1024 * 168 + (i 0 : Nat) / 256 :=
    ⟨⟨(i 1 : Nat) / 1024 * 168 + (i 0 : Nat) / 256, by rw [N_0]; omega⟩, rfl⟩
  refine ⟨t, flush2 m S t, ?_⟩
  show i ∈ ((View.whole main_v0).slice (((cfgA (F := Ideal) m S).win (2 : Fin 3)).rect t)).set
  rw [View.set_slice_whole, Rect.mem_set_unit]
  intro a
  match a with
  | ⟨0, _⟩ =>
    show cc0_transform_3 (grid0.coords t) 0 * 256 ≤ (i 0 : Nat) ∧ (i 0 : Nat) < cc0_transform_3 (grid0.coords t) 0 * 256 + 256
    rw [(pos2 t).1]; omega
  | ⟨1, _⟩ =>
    show cc0_transform_3 (grid0.coords t) 1 * 1024 ≤ (i 1 : Nat) ∧ (i 1 : Nat) < cc0_transform_3 (grid0.coords t) 1 * 1024 + 1024
    rw [(pos2 t).2]; omega

/-- The result array after the run is any array that holds the down projection. -/
theorem final (G : S43008x2048.Idx → EReal) (hG : Holds m c G) :
    (dats (F := Ideal) m S 0 c).arrAt (2 : Fin 3) (cfgA (F := Ideal) m S).N = G :=
  (dats (F := Ideal) m S 0 c).arrAt_eq_of_cover (2 : Fin 3) G (fun t _ => written m S c G hG t) (cover m S)

end Run

/-- The reference's array holds the down projection. -/
theorem ref_holds (m : (ℓ : Loc nD τ sig) → Buf (Elt Ideal) ℓ) (c : Dev nD) :
    Holds m c (Cert.Reference4Ideal.Read.val_main_v25 (F := Ideal) (rowsArg m c) (tE (F := Ideal) m c) (tV (F := Ideal) m c) (matArg m c) (biasArg m c)) := by
  obtain rfl : c = 0 := Subsingleton.elim (α := Fin 1) c 0
  exact fun t r n e he => Cert.Down.ref_down (rowsArg m 0) (tE (F := Ideal) m 0) (tV (F := Ideal) m 0) (matArg m 0) (biasArg m 0) t r n e he

/-- The down projection call computes the reference's array. -/
theorem agrees : Cert.algebraic_Kernel4Ideal_Reference4Ideal := by
  intro m g m' g' hpre hm
  have S : Sched (tS (F := Ideal) m 0) (tE (F := Ideal) m 0) := sched_of _ _ _ _ _ _ (hpre 0)
  refine ⟨fun c => Cert.Reference4Ideal.Read.val_main_v25 (F := Ideal) (rowsArg m c) (tE (F := Ideal) m c) (tV (F := Ideal) m c) (matArg m c) (biasArg m c), ?_, ?_⟩
  · exact (θ_run Cert.Kernel4Ideal.defs _ _).mono (fun r h c => ⟨(h.1 c).2.trans (final m S c _ (ref_holds m c)), (h.1 c).1⟩) (Cert.Kernel4Ideal.Down.run_values m g S)
  · refine (θ_run Cert.Reference4Ideal.defs _ _).mono (fun r h c => ?_) (Cert.Reference4Ideal.Value.run m' g')
    obtain ⟨a0, rest⟩ := h c
    obtain ⟨e0, _, e2, e3, e4, e5⟩ := hm c
    refine ⟨a0.trans ?_, rest⟩
    rw [Cert.Reference4Ideal.Read.val_main_v25_eq, e0, e2, e3, e4, e5]

end Cert.Kernel4.Down

end
-- ==== Proof.UpRing.lean ====
/-
The two slots through which the experts' gate and up weights stream. A slot holds two parts: a block of gate columns and the block of up columns beside it; each slot has one
semaphore, on which both parts' transfers signal. The slots, the blocks, the words the body computes them from, and what the two transfers deliver.
-/
module

public import proofs.«01_k».proof.Proof.Gen.Kernel5
public import proofs.«01_k».proof.Proof.Gen.Kernel5.Skeleton
public import proofs.«01_k».proof.Proof.Gen.Kernel5.Launch
public import proofs.«01_k».proof.Proof.DownRing
public import Idealize.ShloMosaic.Lib.Pipeline.Frame
public import Idealize.ShloMosaic.Lib.Ring
public import Idealize.ShloMosaic.Lib.Batch
public import Idealize.ShloMosaic.Lib.Claim
public import Idealize.ShloMosaic.Lib.Exec
public import Idealize.ShloMosaic.Lib.Pipeline.Value

@[expose] public section

set_option maxRecDepth 16384

noncomputable section

namespace Cert.Kernel5.Up

open Cert.Kernel5 Cert.Kernel5.Gen
open Cert.Kernel4.Down (slotW expertW colW opp)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tables, the slots, the working copy of the weights and the weights themselves, whole. -/
abbrev schedM : Memref sig .tc .smem S2352 .i32 := Memref.whole main_arg1
abbrev validM : Memref sig .tc .smem S168 .i32 := Memref.whole main_arg3
abbrev stageM : Memref sig .tc .vmem S2x2x2048x1024 .f32 := Memref.whole cc0_scratch0
abbrev workM : Memref sig .tc .vmem S2x2048x1024 .bf16 := Memref.whole cc0_scratch2
abbrev weightsM : Memref sig .tc .hbm S32x2048x4096 .f32 := Memref.whole main_arg4

/-- The contents of the weights on core `c`. -/
abbrev WBuf (c : Dev nD) : Type := Buf (Elt F) (weightsM.view.loc (c : Thread nD τ))

/-- Where part `p` of slot `s` starts, and where part `p` (gate, up) of column half `h` of expert `e`'s matrix does. -/
abbrev partO (s p : Fin 2) : Fin 4 → Nat := ![s.val, p.val, 0, 0]
abbrev blockO (e : Fin 32) (h p : Fin 2) : Fin 3 → Nat := ![e.val, 0, 2048 * p.val + 1024 * h.val]
theorem inb_part (s p : Fin 2) : ∀ a, partO s p a + S1x1x2048x1024.size a ≤ S2x2x2048x1024.size a := by
  have := s.isLt; have := p.isLt; intro a; fin_cases a <;> simp <;> omega
theorem inb_block (e : Fin 32) (h p : Fin 2) : ∀ a, blockO e h p a + S1x2048x1024.size a ≤ S32x2048x4096.size a := by
  have := e.isLt; have := h.isLt; have := p.isLt; intro a; fin_cases a <;> simp <;> omega
theorem inb_cell (s : Fin 2) : ∀ a, (![s.val] : Fin 1 → Nat) a + S1.size a ≤ S2.size a := by
  have := s.isLt; intro a; fin_cases a <;> simp <;> omega

/-- Part `p` of slot `s`. -/
def partM (s p : Fin 2) : Memref sig .tc .vmem S2048x1024 .f32 :=
  (stageM.slice (Rect.unit (s := S2x2x2048x1024) (partO s p) S1x1x2048x1024.size (inb_part s p)) (fun _ => rfl)).squeeze S2048x1024 squeezes_S1x1x2048x1024_S2048x1024
/-- Part `p` of column half `h` of expert `e`'s matrix. -/
def blockM (e : Fin 32) (h p : Fin 2) : Memref sig .tc .hbm S2048x1024 .f32 :=
  (weightsM.slice (Rect.unit (s := S32x2048x4096) (blockO e h p) S1x2048x1024.size (inb_block e h p)) (fun _ => rfl)).squeeze S2048x1024 squeezes_S1x2048x1024_S2048x1024
/-- Slot `s`'s semaphore. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 8 := by decide
theorem cellR_1 : cellR 1 = SemLoc.dma 9 := by decide

section Families
variable (c : Dev nD) (W : WBuf (F := F) c)

/-- A part of a slot held at `f`; a slot free; its semaphore at zero; the elements of a block of the weights; all but the two blocks; all. -/
abbrev partP (s p : Fin 2) (f : Buf (Elt F) ((partM s p).view.loc (c : Thread nD τ))) : sProp 𝕄 :=
  (partM s p).view.loc (c : Thread nD τ) ↦[(partM s p).view.set]{fullShare} f
abbrev freeP (s : Fin 2) : sProp 𝕄 := iprop((∃ f, partP c s 0 f) ∗ ∃ f, partP c s 1 f)
abbrev cellP (s : Fin 2) : sProp 𝕄 := semVal ((c : Thread nD τ), cellR s) 0
abbrev blockP (e : Fin 32) (h p : Fin 2) : sProp 𝕄 := (blockM e h p).view.loc (c : Thread nD τ) ↦[(blockM e h p).view.set]{fullShare} W
def restP (e : Fin 32) (h : Fin 2) : sProp 𝕄 := ((c : Thread nD τ).loc main_arg4) ↦[(Finset.univ \ (blockM e h 0).view.set) \ (blockM e h 1).view.set]{fullShare} W
abbrev wholeP : sProp 𝕄 := ((c : Thread nD τ).loc main_arg4) ↦[Finset.univ]{fullShare} W
/-- A part once its block has landed in it. -/
abbrev landed (s : Fin 2) (e : Fin 32) (h p : Fin 2) : Buf (Elt F) ((partM s p).view.loc (c : Thread nD τ)) :=
  (partM s p).view.writes (Elt F) (partM s p).view.junk [⟨Rect.whole S2048x1024, ReadAs.same.apply ((blockM e h p).view.read (Elt F) W)⟩]
/-- What the transfer of part `p` delivers. -/
abbrev deliv (s : Fin 2) (e : Fin 32) (h : Fin 2) (p : Fin 2) : sProp 𝕄 := iprop(partP c s p (landed c W s e h p) ∗ blockP c W e h p)
/-- The two transfers of a block into slot `s`, `k` of them started and none waited for; each signals 262144. -/
abbrev batchP (s : Fin 2) (e : Fin 32) (h : Fin 2) (k : ℕ) : sProp 𝕄 :=
  Transfers.Batch countersEmb (c : Thread nD τ) (cellR s) default 262144 (deliv c W s e h) k 0
abbrev flightP (s : Fin 2) (e : Fin 32) (h : Fin 2) : sProp 𝕄 := batchP c W s e h 2

theorem held_storable (l : Loc nD τ sig) (I : Finset (Idx l)) (f : Buf (Elt F) l) : Storable (upEmb : UEmb _ 𝕄) (l ↦[I]{fullShare} f : sProp 𝕄) := inferInstance
instance block_storable (e : Fin 32) (h p : Fin 2) : Storable (upEmb : UEmb _ 𝕄) (blockP c W e h p) := held_storable _ _ _

/-- A slot's semaphore at zero is two transfers' record, neither started. -/
theorem batch_open (s : Fin 2) (e : Fin 32) (h : Fin 2) : cellP (F := F) c s ⊢ |={Set.univ}=> batchP c W s e h 0 :=
  Transfers.batch_alloc' (countersEmb) (c : Thread nD τ) default 262144 (deliv c W s e h)

end Families

/-! ## The blocks of the weights and the parts of the slots -/

abbrev partSet (s p : Fin 2) : Finset S2x2x2048x1024.Idx := (Rect.unit (s := S2x2x2048x1024) (partO s p) S1x1x2048x1024.size (inb_part s p)).set
abbrev blockSet (e : Fin 32) (h p : Fin 2) : Finset S32x2048x4096.Idx := (Rect.unit (s := S32x2048x4096) (blockO e h p) S1x2048x1024.size (inb_block e h p)).set
theorem partSet_eq (s p : Fin 2) : (partM s p).view.set = partSet s p := by
  simp only [partM, Memref.view_squeeze, View.set_reshape]; exact View.set_slice_whole _ _
theorem blockSet_eq (e : Fin 32) (h p : Fin 2) : (blockM e h p).view.set = blockSet e h p := by
  simp only [blockM, Memref.view_squeeze, View.set_reshape]; exact View.set_slice_whole _ _
theorem block_sub (e : Fin 32) (h : Fin 2) : (blockM e h 1).view.set ⊆ Finset.univ \ (blockM e h 0).view.set := by
  have h0 : (blockM e h 0).view.set = blockSet e h 0 := blockSet_eq e h 0
  have h1 : (blockM e h 1).view.set = blockSet e h 1 := blockSet_eq e h 1
  have hd : Disjoint (blockSet e h 1) (blockSet e h 0) := by
    refine Rect.disjoint_of_axis _ _ (2 : Fin 3) fun j₁ q₁ j₂ q₂ => ?_
    have q₁' : j₁ < 1024 := q₁
    have q₂' : j₂ < 1024 := q₂
    show 2048 * 1 + 1024 * h.val + 1 * j₁ ≠ 2048 * 0 + 1024 * h.val + 1 * j₂
    have := h.isLt; omega
  intro i hi
  refine Finset.mem_sdiff.2 ⟨Finset.mem_univ _, fun hj => ?_⟩
  rw [h1] at hi; rw [h0] at hj
  exact Finset.disjoint_left.1 hd hi hj

/-- The weights are a gate block, the up block beside it, and the rest. -/
theorem weights_split (c : Dev nD) (W : WBuf (F := F) c) (e : Fin 32) (h : Fin 2) : wholeP (F := F) c W ⊣⊢ iprop(blockP c W e h 0 ∗ blockP c W e h 1 ∗ restP c W e h) := by
  have h1 : wholeP (F := F) c W ⊣⊢ iprop(blockP c W e h 0 ∗ ((c : Thread nD τ).loc main_arg4) ↦[Finset.univ \ (blockM e h 0).view.set]{fullShare} W) := pointsTo_split_subset (Finset.subset_univ _)
  have h2 : ((((c : Thread nD τ).loc main_arg4) ↦[Finset.univ \ (blockM e h 0).view.set]{fullShare} W : sProp 𝕄)) ⊣⊢ iprop(blockP c W e h 1 ∗ restP c W e h) := by
    unfold restP; exact pointsTo_split_subset (block_sub e h)
  exact ⟨h1.1.trans (sep_mono_right h2.1), (sep_mono_right h2.2).trans h1.2⟩

abbrev pieceSet (b : Fin 2 × Fin 2) : Finset S2x2x2048x1024.Idx := partSet b.1 b.2
theorem pieces_disjoint (b b' : Fin 2 × Fin 2) (h : b ≠ b') : Disjoint (pieceSet b) (pieceSet b') := by
  by_cases h1 : b.1 = b'.1
  · refine Rect.disjoint_of_axis _ _ (1 : Fin 4) fun j₁ q₁ j₂ q₂ => ?_
    have q₁' : j₁ < 1 := q₁
    have q₂' : j₂ < 1 := q₂
    have h2 : b.2.val ≠ b'.2.val := fun q => h (Prod.ext h1 (Fin.ext q))
    show b.2.val + 1 * j₁ ≠ b'.2.val + 1 * j₂
    omega
  · refine Rect.disjoint_of_axis _ _ (0 : Fin 4) fun j₁ q₁ j₂ q₂ => ?_
    have q₁' : j₁ < 1 := q₁
    have q₂' : j₂ < 1 := q₂
    have h2 : b.1.val ≠ b'.1.val := fun q => h1 (Fin.ext q)
    show b.1.val + 1 * j₁ ≠ b'.1.val + 1 * j₂
    omega
theorem pieces_cover : Finset.univ.biUnion pieceSet = Finset.univ := by
  ext i
  simp only [Finset.mem_biUnion, Finset.mem_univ, true_and, iff_true]
  refine ⟨((i (0 : Fin 4) : Fin 2), (i (1 : Fin 4) : Fin 2)), Rect.mem_set_unit.mpr fun a => ?_⟩
  match a with
  | ⟨0, _⟩ => exact ⟨le_refl _, Nat.lt_succ_self _⟩
  | ⟨1, _⟩ => exact ⟨le_refl _, Nat.lt_succ_self _⟩
  | ⟨2, p⟩ => exact ⟨Nat.zero_le _, lt_of_lt_of_eq (i ⟨2, p⟩).isLt (by rfl)⟩
  | ⟨3, p⟩ => exact ⟨Nat.zero_le _, lt_of_lt_of_eq (i ⟨3, p⟩).isLt (by rfl)⟩
theorem partP_eq (c : Dev nD) (s p : Fin 2) (f) : partP (F := F) c s p f = (((c : Thread nD τ).loc cc0_scratch0) ↦[partSet s p]{fullShare} f : sProp 𝕄) := by
  unfold partP; rw [partSet_eq]; rfl
theorem bigSep_pieces {M : Type} [URA M] (Φ : Fin 2 × Fin 2 → sProp M) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ
/-- The stage is its two slots of two parts each. -/
theorem slots_in (c : Dev nD) : iprop(∃ d, owns (c : Thread nD τ) stageM fullShare d) ⊢ (iprop(freeP (F := F) c 0 ∗ freeP (F := F) c 1) : sProp 𝕄) := by
  simp only [owns_whole]
  unfold freeP
  simp only [partP_eq]
  iintro ⟨%f, H⟩
  ihave H2 := (Entails.of_eq ((Ring.pointsTo_blocks (ℓ := (c : Thread nD τ).loc cc0_scratch0) (q := fullShare) pieceSet pieces_disjoint pieces_cover f).trans (bigSep_pieces _))) $$ H
  icases H2 with ⟨H0, H1, H2, H3⟩
  isplitl [H0 H1]
  · isplitl [H0]; · iexists f; iexact H0
    iexists f; iexact H1
  isplitl [H2]; · iexists f; iexact H2
  iexists f; iexact H3
theorem slots_out (c : Dev nD) : (iprop(freeP (F := F) c 0 ∗ freeP (F := F) c 1) : sProp 𝕄) ⊢ iprop(∃ d, owns (c : Thread nD τ) stageM fullShare d) := by
  simp only [owns_whole]
  unfold freeP
  simp only [partP_eq]
  iintro ⟨⟨⟨%f0, H0⟩, ⟨%f1, H1⟩⟩, ⟨⟨%f2, H2⟩, ⟨%f3, H3⟩⟩⟩
  iapply (Ring.pointsTo_blocks_join_exists (ℓ := (c : Thread nD τ).loc cc0_scratch0) (q := fullShare) pieceSet pieces_disjoint pieces_cover f0)
  irw [bigSep_pieces]
  isplitl [H0]; · iexists f0; iexact H0
  isplitl [H1]; · iexists f1; iexact H1
  isplitl [H2]; · iexists f2; iexact H2
  iexists f3; iexact H3

/-! ## What a landed block reads, and the working copy made of it -/

/-- A block as the stage's load reads it; the two parts of the working copy the body makes of it. -/
def blockV (c : Dev nD) (W : WBuf (F := F) c) (e : Fin 32) (h p : Fin 2) : Vec F S1x1x2048x1024 .f32 :=
  shapeCast S1x1x2048x1024 ((blockM e h p).view.read (Elt F) W) (Shape.Squeezes.numel_eq squeezes_S1x1x2048x1024_S2048x1024).symm
def gateV (c : Dev nD) (W : WBuf (F := F) c) (e : Fin 32) (h : Fin 2) : Vec F S1x2048x1024 .bf16 := k0_pay1 (blockV c W e h 0)
def upV (c : Dev nD) (W : WBuf (F := F) c) (e : Fin 32) (h : Fin 2) : Vec F S1x2048x1024 .bf16 := k0_pay2 (blockV c W e h 1)

/-- A part into which `v` has landed, read by a load that starts where the part does, is `v` in the load's shape. -/
theorem stage_read (c : Dev nD) (s p : Fin 2) (o : Fin 4 → Nat) (ho : o = partO s p) (q) (f : Buf (Elt F) ((partM s p).view.loc (c : Thread nD τ))) (v : S2048x1024.Idx → Elt F .f32) :
    View.readAt (Elt F) stageM.view (Rect.unit (s := S2x2x2048x1024) o S1x1x2048x1024.size q).toLoadRect
        ((partM s p).view.writes (Elt F) f [⟨Rect.whole S2048x1024, v⟩])
      = shapeCast S1x1x2048x1024 v (Shape.Squeezes.numel_eq squeezes_S1x1x2048x1024_S2048x1024).symm := by
  subst ho
  have h1 : (partM s p).view.read (Elt F) ((partM s p).view.writes (Elt F) f [⟨Rect.whole S2048x1024, v⟩]) = v := by
    rw [← View.write_univ_eq_writes_whole]; exact View.read_write_univ _ _
  generalize (partM s p).view.writes (Elt F) f [⟨Rect.whole S2048x1024, v⟩] = G at h1 ⊢
  have hn : S1x1x2048x1024.ShapeCasts S2048x1024 := Shape.Squeezes.numel_eq squeezes_S1x1x2048x1024_S2048x1024
  have h2 : (partM s p).view.read (Elt F) G = shapeCast S2048x1024 (View.readAt (Elt F) stageM.view (Rect.unit (s := S2x2x2048x1024) (partO s p) S1x1x2048x1024.size (inb_part s p)).toLoadRect G) hn := rfl
  have h3 := h2.symm.trans h1
  rw [← h3]
  exact (shapeCast_shapeCast _ hn hn.symm).symm

/-! ## The body's own spellings of the slots, semaphores and blocks -/

section Spell
omit [FloatOps F]

theorem off3_eq : ∀ s : Fin 2, k0_off3 (slotW s) = ![s.val] := by decide
theorem off6_eq : ∀ s : Fin 2, k0_off6 (slotW s) = ![s.val] := by decide
theorem off8_eq : ∀ s : Fin 2, k0_off8 (slotW s) = ![s.val] := by decide
theorem off16_eq : ∀ s : Fin 2, k0_off16 (slotW s) = ![(opp s).val] := by decide
theorem off19_eq : ∀ s : Fin 2, k0_off19 (slotW s) = ![(opp s).val] := by decide
theorem off4_eq : ∀ s : Fin 2, k0_off4 (slotW s) = partO s 0 := by decide
theorem off7_eq : ∀ s : Fin 2, k0_off7 (slotW s) = partO s 1 := by decide
theorem off9_eq : ∀ s : Fin 2, k0_off9 (slotW s) = partO s 0 := by decide
theorem off11_eq : ∀ s : Fin 2, k0_off11 (slotW s) = partO s 1 := by decide
theorem off12_eq : ∀ s : Fin 2, k0_off12 (slotW s) = partO s 0 := by decide
theorem off13_eq : ∀ s : Fin 2, k0_off13 (slotW s) = partO s 1 := by decide
theorem off17_eq : ∀ s : Fin 2, k0_off17 (slotW s) = partO (opp s) 0 := by decide
theorem off20_eq : ∀ s : Fin 2, k0_off20 (slotW s) = partO (opp s) 1 := by decide
theorem off5a_eq : ∀ (e : Fin 32) (h : Fin 2), k0_off5 (expertW e) (colW h) 0#32 = blockO e h 0 := by decide
theorem off5b_eq : ∀ (e : Fin 32) (h : Fin 2), k0_off5 (expertW e) (colW h) 2048#32 = blockO e h 1 := by decide
theorem off5_eq (e : Fin 32) (h r : Fin 2) : k0_off5 (expertW e) (colW h) (BitVec.ofNat 32 (2048 * r.val)) = blockO e h r := by
  fin_cases r
  · exact off5a_eq e h
  · exact off5b_eq e h
theorem off10a_eq : ∀ (e : Fin 32) (h : Fin 2), k0_off10 (expertW e) (colW h) 0#32 = blockO e h 0 := by decide
theorem off10b_eq : ∀ (e : Fin 32) (h : Fin 2), k0_off10 (expertW e) (colW h) 2048#32 = blockO e h 1 := by decide
theorem off10_eq (e : Fin 32) (h r : Fin 2) : k0_off10 (expertW e) (colW h) (BitVec.ofNat 32 (2048 * r.val)) = blockO e h r := by
  fin_cases r
  · exact off10a_eq e h
  · exact off10b_eq e h
theorem off18a_eq : ∀ (e : Fin 32) (h : Fin 2), k0_off18 (expertW e) (colW h) 0#32 = blockO e h 0 := by decide
theorem off18b_eq : ∀ (e : Fin 32) (h : Fin 2), k0_off18 (expertW e) (colW h) 2048#32 = blockO e h 1 := by decide
theorem off18_eq (e : Fin 32) (h r : Fin 2) : k0_off18 (expertW e) (colW h) (BitVec.ofNat 32 (2048 * r.val)) = blockO e h r := by
  fin_cases r
  · exact off18a_eq e h
  · exact off18b_eq e h

@[sl_canon] theorem spell3 (s : Fin 2) (p) :
    (cc0_scratch1.slice (Rect.unit (s := S2) (k0_off3 (slotW s)) S1.size p)).squeeze S_ squeezes_S1_S_ = cellA s :=
  congrArg (fun A : DmaSems sig S1 => A.squeeze S_ squeezes_S1_S_) (SemArray.slice_unit_congr _ (off3_eq s) _ _)
@[sl_canon] theorem spell6 (s : Fin 2) (p) :
    (cc0_scratch1.slice (Rect.unit (s := S2) (k0_off6 (slotW s)) S1.size p)).squeeze S_ squeezes_S1_S_ = cellA s :=
  congrArg (fun A : DmaSems sig S1 => A.squeeze S_ squeezes_S1_S_) (SemArray.slice_unit_congr _ (off6_eq s) _ _)
@[sl_canon] theorem spell8 (s : Fin 2) (p) :
    (cc0_scratch1.slice (Rect.unit (s := S2) (k0_off8 (slotW s)) S1.size p)).squeeze S_ squeezes_S1_S_ = cellA s :=
  congrArg (fun A : DmaSems sig S1 => A.squeeze S_ squeezes_S1_S_) (SemArray.slice_unit_congr _ (off8_eq s) _ _)
@[sl_canon] theorem spell16 (s : Fin 2) (p) :
    (cc0_scratch1.slice (Rect.unit (s := S2) (k0_off16 (slotW s)) S1.size p)).squeeze S_ squeezes_S1_S_ = cellA (opp s) :=
  congrArg (fun A : DmaSems sig S1 => A.squeeze S_ squeezes_S1_S_) (SemArray.slice_unit_congr _ (off16_eq s) _ _)
@[sl_canon] theorem spell19 (s : Fin 2) (p) :
    (cc0_scratch1.slice (Rect.unit (s := S2) (k0_off19 (slotW s)) S1.size p)).squeeze S_ squeezes_S1_S_ = cellA (opp s) :=
  congrArg (fun A : DmaSems sig S1 => A.squeeze S_ squeezes_S1_S_) (SemArray.slice_unit_congr _ (off19_eq s) _ _)
@[sl_canon] theorem spell4 (s : Fin 2) (p) :
    (stageM.slice (Rect.unit (s := S2x2x2048x1024) (k0_off4 (slotW s)) S1x1x2048x1024.size p) (fun _ => rfl)).squeeze S2048x1024 squeezes_S1x1x2048x1024_S2048x1024 = partM s 0 :=
  congrArg (fun M : Memref sig .tc .vmem S1x1x2048x1024 .f32 => M.squeeze S2048x1024 squeezes_S1x1x2048x1024_S2048x1024) (Memref.slice_unit_congr _ (off4_eq s) _ _ (fun _ => rfl) (fun _ => rfl))
@[sl_canon] theorem spell7 (s : Fin 2) (p) :
    (stageM.slice (Rect.unit (s := S2x2x2048x1024) (k0_off7 (slotW s)) S1x1x2048x1024.size p) (fun _ => rfl)).squeeze S2048x1024 squeezes_S1x1x2048x1024_S2048x1024 = partM s 1 :=
  congrArg (fun M : Memref sig .tc .vmem S1x1x2048x1024 .f32 => M.squeeze S2048x1024 squeezes_S1x1x2048x1024_S2048x1024) (Memref.slice_unit_congr _ (off7_eq s) _ _ (fun _ => rfl) (fun _ => rfl))
@[sl_canon] theorem spell9 (s : Fin 2) (p) :
    (stageM.slice (Rect.unit (s := S2x2x2048x1024) (k0_off9 (slotW s)) S1x1x2048x1024.size p) (fun _ => rfl)).squeeze S2048x1024 squeezes_S1x1x2048x1024_S2048x1024 = partM s 0 :=
  congrArg (fun M : Memref sig .tc .vmem S1x1x2048x1024 .f32 => M.squeeze S2048x1024 squeezes_S1x1x2048x1024_S2048x1024) (Memref.slice_unit_congr _ (off9_eq s) _ _ (fun _ => rfl) (fun _ => rfl))
@[sl_canon] theorem spell11 (s : Fin 2) (p) :
    (stageM.slice (Rect.unit (s := S2x2x2048x1024) (k0_off11 (slotW s)) S1x1x2048x1024.size p) (fun _ => rfl)).squeeze S2048x1024 squeezes_S1x1x2048x1024_S2048x1024 = partM s 1 :=
  congrArg (fun M : Memref sig .tc .vmem S1x1x2048x1024 .f32 => M.squeeze S2048x1024 squeezes_S1x1x2048x1024_S2048x1024) (Memref.slice_unit_congr _ (off11_eq s) _ _ (fun _ => rfl) (fun _ => rfl))
@[sl_canon] theorem spell17 (s : Fin 2) (p) :
    (stageM.slice (Rect.unit (s := S2x2x2048x1024) (k0_off17 (slotW s)) S1x1x2048x1024.size p) (fun _ => rfl)).squeeze S2048x1024 squeezes_S1x1x2048x1024_S2048x1024 = partM (opp s) 0 :=
  congrArg (fun M : Memref sig .tc .vmem S1x1x2048x1024 .f32 => M.squeeze S2048x1024 squeezes_S1x1x2048x1024_S2048x1024) (Memref.slice_unit_congr _ (off17_eq s) _ _ (fun _ => rfl) (fun _ => rfl))
@[sl_canon] theorem spell20 (s : Fin 2) (p) :
    (stageM.slice (Rect.unit (s := S2x2x2048x1024) (k0_off20 (slotW s)) S1x1x2048x1024.size p) (fun _ => rfl)).squeeze S2048x1024 squeezes_S1x1x2048x1024_S2048x1024 = partM (opp s) 1 :=
  congrArg (fun M : Memref sig .tc .vmem S1x1x2048x1024 .f32 => M.squeeze S2048x1024 squeezes_S1x1x2048x1024_S2048x1024) (Memref.slice_unit_congr _ (off20_eq s) _ _ (fun _ => rfl) (fun _ => rfl))
@[sl_canon] theorem spell5a (e : Fin 32) (h : Fin 2) (p) :
    (weightsM.slice (Rect.unit (s := S32x2048x4096) (k0_off5 (expertW e) (colW h) 0#32) S1x2048x1024.size p) (fun _ => rfl)).squeeze S2048x1024 squeezes_S1x2048x1024_S2048x1024 = blockM e h 0 :=
  congrArg (fun M : Memref sig .tc .hbm S1x2048x1024 .f32 => M.squeeze S2048x1024 squeezes_S1x2048x1024_S2048x1024) (Memref.slice_unit_congr _ (off5a_eq e h) _ _ (fun _ => rfl) (fun _ => rfl))
@[sl_canon] theorem spell5b (e : Fin 32) (h : Fin 2) (p) :
    (weightsM.slice (Rect.unit (s := S32x2048x4096) (k0_off5 (expertW e) (colW h) 2048#32) S1x2048x1024.size p) (fun _ => rfl)).squeeze S2048x1024 squeezes_S1x2048x1024_S2048x1024 = blockM e h 1 :=
  congrArg (fun M : Memref sig .tc .hbm S1x2048x1024 .f32 => M.squeeze S2048x1024 squeezes_S1x2048x1024_S2048x1024) (Memref.slice_unit_congr _ (off5b_eq e h) _ _ (fun _ => rfl) (fun _ => rfl))
@[sl_canon] theorem spell10a (e : Fin 32) (h : Fin 2) (p) :
    (weightsM.slice (Rect.unit (s := S32x2048x4096) (k0_off10 (expertW e) (colW h) 0#32) S1x2048x1024.size p) (fun _ => rfl)).squeeze S2048x1024 squeezes_S1x2048x1024_S2048x1024 = blockM e h 0 :=
  congrArg (fun M : Memref sig .tc .hbm S1x2048x1024 .f32 => M.squeeze S2048x1024 squeezes_S1x2048x1024_S2048x1024) (Memref.slice_unit_congr _ (off10a_eq e h) _ _ (fun _ => rfl) (fun _ => rfl))
@[sl_canon] theorem spell10b (e : Fin 32) (h : Fin 2) (p) :
    (weightsM.slice (Rect.unit (s := S32x2048x4096) (k0_off10 (expertW e) (colW h) 2048#32) S1x2048x1024.size p) (fun _ => rfl)).squeeze S2048x1024 squeezes_S1x2048x1024_S2048x1024 = blockM e h 1 :=
  congrArg (fun M : Memref sig .tc .hbm S1x2048x1024 .f32 => M.squeeze S2048x1024 squeezes_S1x2048x1024_S2048x1024) (Memref.slice_unit_congr _ (off10b_eq e h) _ _ (fun _ => rfl) (fun _ => rfl))
@[sl_canon] theorem spell18a (e : Fin 32) (h : Fin 2) (p) :
    (weightsM.slice (Rect.unit (s := S32x2048x4096) (k0_off18 (expertW e) (colW h) 0#32) S1x2048x1024.size p) (fun _ => rfl)).squeeze S2048x1024 squeezes_S1x2048x1024_S2048x1024 = blockM e h 0 :=
  congrArg (fun M : Memref sig .tc .hbm S1x2048x1024 .f32 => M.squeeze S2048x1024 squeezes_S1x2048x1024_S2048x1024) (Memref.slice_unit_congr _ (off18a_eq e h) _ _ (fun _ => rfl) (fun _ => rfl))
@[sl_canon] theorem spell18b (e : Fin 32) (h : Fin 2) (p) :
    (weightsM.slice (Rect.unit (s := S32x2048x4096) (k0_off18 (expertW e) (colW h) 2048#32) S1x2048x1024.size p) (fun _ => rfl)).squeeze S2048x1024 squeezes_S1x2048x1024_S2048x1024 = blockM e h 1 :=
  congrArg (fun M : Memref sig .tc .hbm S1x2048x1024 .f32 => M.squeeze S2048x1024 squeezes_S1x2048x1024_S2048x1024) (Memref.slice_unit_congr _ (off18b_eq e h) _ _ (fun _ => rfl) (fun _ => rfl))

/-- The loads of a slot's parts start where the parts do. -/
instance (priority := high) (s : Fin 2) : ClosedOff (k0_off12 (slotW s)) := ⟨![s.val, 0, 0, 0], off12_eq s⟩
instance (priority := high) (s : Fin 2) : ClosedOff (k0_off13 (slotW s)) := ⟨![s.val, 1, 0, 0], off13_eq s⟩

/-- The side conditions the body assumes of the words hold of a slot's, an expert's and a column half's. -/
theorem chk2 (i : grid0.Coords) (v5 : BitVec 32) (s : Fin 2) : k0_chk2 i v5 (slotW s) := by
  refine ⟨fun _ _ => ?_, fun _ _ => ?_, fun _ _ => ?_, fun _ _ => ?_, fun _ => ?_, fun _ => ?_, fun _ => ?_, fun _ => ?_, fun _ => ?_⟩
  · rw [off3_eq]; exact inb_cell s
  · rw [off4_eq]; exact inb_part s 0
  · rw [off6_eq]; exact inb_cell s
  · rw [off7_eq]; exact inb_part s 1
  · rw [off8_eq]; exact inb_cell s
  · rw [off9_eq]; exact inb_part s 0
  · rw [off11_eq]; exact inb_part s 1
  · rw [off12_eq]; exact inb_part s 0
  · rw [off13_eq]; exact inb_part s 1
theorem mult1_dvd : ∀ h : Fin 2, 128 ∣ (k0_mult1 (colW h)).toNat := by decide
theorem mult2_dvd : ∀ h : Fin 2, 128 ∣ (k0_mult2 (colW h)).toNat := by decide
theorem mult3_dvd : ∀ h : Fin 2, 128 ∣ (k0_mult3 (colW h)).toNat := by decide
theorem mult4_dvd : ∀ h : Fin 2, 128 ∣ (k0_mult4 (colW h)).toNat := by decide
theorem chk1 (i : grid0.Coords) (v5 : BitVec 32) (e : Fin 32) (h : Fin 2) : k0_chk1 i v5 (expertW e) (colW h) := by
  refine ⟨fun _ => mult1_dvd h, fun _ => mult2_dvd h, fun _ _ r => ?_, fun _ r => ?_⟩
  · rw [off5_eq]; exact inb_block e h r
  · rw [off10_eq]; exact inb_block e h r
theorem chk4 (v5 v67 : BitVec 32) (s : Fin 2) : k0_chk4 v5 (slotW s) v67 := by
  refine ⟨fun _ _ => ?_, fun _ _ => ?_, fun _ _ => ?_, fun _ _ => ?_⟩
  · rw [off16_eq]; exact inb_cell _
  · rw [off17_eq]; exact inb_part _ 0
  · rw [off19_eq]; exact inb_cell _
  · rw [off20_eq]; exact inb_part _ 1
theorem chk3 (v5 v67 : BitVec 32) (e : Fin 32) (h : Fin 2) : k0_chk3 v5 v67 (expertW e) (colW h) := by
  refine ⟨fun _ _ => mult3_dvd h, fun _ _ => mult4_dvd h, fun _ _ r => ?_⟩
  rw [off18_eq]; exact inb_block e h r
end Spell

end Cert.Kernel5.Up

end
-- ==== Proof.UpPair.lean ====
/-
The body of one step, run on whole buffers.
-/
module

public import proofs.«01_k».proof.Proof.UpRing
public import Idealize.ShloMosaic.Lib.VecWindow

@[expose] public section

set_option maxRecDepth 16384

noncomputable section

namespace Cert.Kernel5.Up

open Cert.Kernel5 Cert.Kernel5.Gen
open Cert.Kernel4.Down (slotW expertW colW opp)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The word a table read leaves, and the element of the table it is. -/
abbrev readS (T0 : S2352.Idx → Elt F .i32) (off : Fin 1 → Nat) (p : ∀ a, off a + S1.size a ≤ S2352.size a) : BitVec 32 :=
  View.readAt (Elt F) schedM.view (Rect.unit (s := S2352) off S1.size p).toLoadRect T0 (Shape.Idx.first (numel1_S1.symm ▸ Nat.one_pos))
abbrev readV (T1 : S168.Idx → Elt F .i32) (off : Fin 1 → Nat) (p : ∀ a, off a + S1.size a ≤ S168.size a) : BitVec 32 :=
  View.readAt (Elt F) validM.view (Rect.unit (s := S168) off S1.size p).toLoadRect T1 (Shape.Idx.first (numel1_S1.symm ▸ Nat.one_pos))

theorem cond5_of_not (v : BitVec 32) (h : ¬k0_cond4 v = 1#1) : k0_cond5 v = 1#1 := by
  by_cases hv : v = 0#32
  · subst hv; decide
  · have e : (v != 0#32) = true := by simpa using hv
    refine absurd ?_ h
    show BitVec.ofBool (BitVec.setWidth 32 (BitVec.ofBool (v != 0#32)) != 0#32) = 1#1
    rw [e]; decide
theorem not_cond5_of (v : BitVec 32) (h : k0_cond4 v = 1#1) : ¬k0_cond5 v = 1#1 := by
  by_cases hv : v = 0#32
  · subst hv; exact absurd h (by decide)
  · have e : (v == 0#32) = false := by simpa using hv
    show ¬(BitVec.ofBool (BitVec.setWidth 32 (BitVec.ofBool (v == 0#32)) != 0#32)) = 1#1
    rw [e]; decide

/-- What one step writes of the result, from the two parts of the working copy. -/
def outv (x0 : Vec F S256x2048 .f32) (x1 x2 : Vec F S1x1x1024 .f32) (g u : Vec F S1x2048x1024 .bf16) (v : BitVec 32) : Vec F S256x1024 .bf16 :=
  if k0_cond4 v = 1#1 then k0_pay3 x0 g x1 u x2 else k0_pay4

/-- The two parts of a working copy, as the body loads them. -/
abbrev half0 (f : S2x2048x1024.Idx → Elt F .bf16) : Vec F S1x2048x1024 .bf16 :=
  View.readAt (Elt F) workM.view (Rect.unit (s := S2x2048x1024) ![0, 0, 0] S1x2048x1024.size inb_S2x2048x1024_S1x2048x1024_0_0_0).toLoadRect f
abbrev half1 (f : S2x2048x1024.Idx → Elt F .bf16) : Vec F S1x2048x1024 .bf16 :=
  View.readAt (Elt F) workM.view (Rect.unit (s := S2x2048x1024) ![1, 0, 0] S1x2048x1024.size inb_S2x2048x1024_S1x2048x1024_1_0_0).toLoadRect f
/-- The working copy held, its parts being `g` and `u`. -/
def workP (c : Dev nD) (g u : Vec F S1x2048x1024 .bf16) : sProp 𝕄 :=
  iprop(∃ f : S2x2048x1024.Idx → Elt F .bf16, ⌜half0 f = g ∧ half1 f = u⌝ ∗ (workM.view.loc (c : Thread nD τ) ↦{fullShare} f))

/-- A load of one part of a slot lies within the part. -/
theorem acc_sub (s p : Fin 2) (o : Fin 4 → Nat) (ho : o = partO s p) (q) :
    (stageM.access (Rect.unit (s := S2x2x2048x1024) o S1x1x2048x1024.size q)).set ⊆ (partM s p).view.set := by
  subst ho; rw [partSet_eq]; exact (View.set_slice_whole _ _).subset
theorem inb12 (s : Fin 2) : ∀ a, (k0_off12 (slotW s)) a + S1x1x2048x1024.size a ≤ S2x2x2048x1024.size a := by rw [off12_eq]; exact inb_part s 0
theorem inb13 (s : Fin 2) : ∀ a, (k0_off13 (slotW s)) a + S1x1x2048x1024.size a ≤ S2x2x2048x1024.size a := by rw [off13_eq]; exact inb_part s 1

/-- What a load of either part of a slot reads once its block has landed. -/
theorem land12 (c : Dev nD) (wb : WBuf (F := F) c) (s : Fin 2) (e : Fin 32) (h : Fin 2) (q) (p0 : 0 < 2) (f) :
    View.readAt (Elt F) stageM.view (Rect.unit (s := S2x2x2048x1024) (k0_off12 (slotW s)) S1x1x2048x1024.size q).toLoadRect
        ((partM s ⟨0, p0⟩).view.writes (Elt F) f [⟨Rect.whole S2048x1024, ReadAs.same.apply (View.read (Elt F) (blockM e h ⟨0, p0⟩).view wb)⟩]) = blockV c wb e h 0 :=
  stage_read c s 0 _ (off12_eq s) q _ _
theorem land13 (c : Dev nD) (wb : WBuf (F := F) c) (s : Fin 2) (e : Fin 32) (h : Fin 2) (q) (p1 : 1 < 2) (f) :
    View.readAt (Elt F) stageM.view (Rect.unit (s := S2x2x2048x1024) (k0_off13 (slotW s)) S1x1x2048x1024.size q).toLoadRect
        ((partM s ⟨1, p1⟩).view.writes (Elt F) f [⟨Rect.whole S2048x1024, ReadAs.same.apply (View.read (Elt F) (blockM e h ⟨1, p1⟩).view wb)⟩]) = blockV c wb e h 1 :=
  stage_read c s 1 _ (off13_eq s) q _ _

/-- The two parts stored into the working copy, at an element of either. -/
theorem pair_at0 (v : View sig .tc .vmem S2x2048x1024 .bf16) (f : v.ty.Contents (Elt F)) (a b : Vec F S1x2048x1024 .bf16) (y : S2x2048x1024.Idx) (x : S1x2048x1024.Idx)
    (hy : ∀ a, (y a).val = (![0, 0, 0] : Fin 3 → ℕ) a + (x a).val) :
    v.read (Elt F) (v.writes (Elt F) f [(⟨Rect.unit (s := S2x2048x1024) ![1, 0, 0] S1x2048x1024.size inb_S2x2048x1024_S1x2048x1024_1_0_0, b⟩ : View.Piece (Elt F) S2x2048x1024 .bf16), ⟨Rect.unit (s := S2x2048x1024) ![0, 0, 0] S1x2048x1024.size inb_S2x2048x1024_S1x2048x1024_0_0_0, a⟩]) y = a x := by
  have h0 : ((x (0 : Fin 3) : Fin 1) : ℕ) < 1 := (x (0 : Fin 3) : Fin 1).isLt
  have h1 : (y (0 : Fin 3)).val = 0 + ((x (0 : Fin 3) : Fin 1) : ℕ) := hy 0
  refine (View.read_writes_cons_unit_of_not_mem v f inb_S2x2048x1024_S1x2048x1024_1_0_0 b _ y rfl (0 : Fin 3) (Or.inl (show (y (0 : Fin 3)).val < 1 by omega))).trans ?_
  exact View.read_writes_cons_unit_of_mem v f inb_S2x2048x1024_S1x2048x1024_0_0_0 a [] y x rfl hy
theorem pair_at1 (v : View sig .tc .vmem S2x2048x1024 .bf16) (f : v.ty.Contents (Elt F)) (a b : Vec F S1x2048x1024 .bf16) (y : S2x2048x1024.Idx) (x : S1x2048x1024.Idx)
    (hy : ∀ a, (y a).val = (![1, 0, 0] : Fin 3 → ℕ) a + (x a).val) :
    v.read (Elt F) (v.writes (Elt F) f [(⟨Rect.unit (s := S2x2048x1024) ![1, 0, 0] S1x2048x1024.size inb_S2x2048x1024_S1x2048x1024_1_0_0, b⟩ : View.Piece (Elt F) S2x2048x1024 .bf16), ⟨Rect.unit (s := S2x2048x1024) ![0, 0, 0] S1x2048x1024.size inb_S2x2048x1024_S1x2048x1024_0_0_0, a⟩]) y = b x :=
  View.read_writes_cons_unit_of_mem v f inb_S2x2048x1024_S1x2048x1024_1_0_0 b _ y x rfl hy

/-- The two parts stored into the working copy are what it then reads. -/
theorem pair_of (v : View sig .tc .vmem S2x2048x1024 .bf16) (f : v.ty.Contents (Elt F)) (a b : Vec F S1x2048x1024 .bf16) :
    v.readAt (Elt F) (Rect.unit (s := S2x2048x1024) ![0, 0, 0] S1x2048x1024.size inb_S2x2048x1024_S1x2048x1024_0_0_0).toLoadRect (v.writes (Elt F) f [(⟨Rect.unit (s := S2x2048x1024) ![1, 0, 0] S1x2048x1024.size inb_S2x2048x1024_S1x2048x1024_1_0_0, b⟩ : View.Piece (Elt F) S2x2048x1024 .bf16), ⟨Rect.unit (s := S2x2048x1024) ![0, 0, 0] S1x2048x1024.size inb_S2x2048x1024_S1x2048x1024_0_0_0, a⟩]) = a
      ∧ v.readAt (Elt F) (Rect.unit (s := S2x2048x1024) ![1, 0, 0] S1x2048x1024.size inb_S2x2048x1024_S1x2048x1024_1_0_0).toLoadRect (v.writes (Elt F) f [(⟨Rect.unit (s := S2x2048x1024) ![1, 0, 0] S1x2048x1024.size inb_S2x2048x1024_S1x2048x1024_1_0_0, b⟩ : View.Piece (Elt F) S2x2048x1024 .bf16), ⟨Rect.unit (s := S2x2048x1024) ![0, 0, 0] S1x2048x1024.size inb_S2x2048x1024_S1x2048x1024_0_0_0, a⟩]) = b := by
  constructor
  · funext x
    exact pair_at0 v f a b ((Rect.unit (s := S2x2048x1024) ![0, 0, 0] S1x2048x1024.size inb_S2x2048x1024_S1x2048x1024_0_0_0).toLoadRect.idx x) x fun a => by
      show (![0, 0, 0] : Fin 3 → ℕ) a + 1 * (x a).val = _; omega
  · funext x
    exact pair_at1 v f a b ((Rect.unit (s := S2x2048x1024) ![1, 0, 0] S1x2048x1024.size inb_S2x2048x1024_S1x2048x1024_1_0_0).toLoadRect.idx x) x fun a => by
      show (![1, 0, 0] : Fin 3 → ℕ) a + 1 * (x a).val = _; omega

theorem pair_read (f : S2x2048x1024.Idx → Elt F .bf16) (a b : Vec F S1x2048x1024 .bf16) :
    half0 (workM.view.writes (Elt F) f [(⟨Rect.unit (s := S2x2048x1024) ![1, 0, 0] S1x2048x1024.size inb_S2x2048x1024_S1x2048x1024_1_0_0, b⟩ : View.Piece (Elt F) S2x2048x1024 .bf16), ⟨Rect.unit (s := S2x2048x1024) ![0, 0, 0] S1x2048x1024.size inb_S2x2048x1024_S1x2048x1024_0_0_0, a⟩]) = a ∧ half1 (workM.view.writes (Elt F) f [(⟨Rect.unit (s := S2x2048x1024) ![1, 0, 0] S1x2048x1024.size inb_S2x2048x1024_S1x2048x1024_1_0_0, b⟩ : View.Piece (Elt F) S2x2048x1024 .bf16), ⟨Rect.unit (s := S2x2048x1024) ![0, 0, 0] S1x2048x1024.size inb_S2x2048x1024_S1x2048x1024_0_0_0, a⟩]) = b :=
  pair_of workM.view f a b

theorem pair_cov (a b : Vec F S1x2048x1024 .bf16) :
    workM.view.readCov
        [(⟨Rect.unit ![1, 0, 0] S1x2048x1024.size inb_S2x2048x1024_S1x2048x1024_1_0_0, b⟩ : View.Piece (Elt F) S2x2048x1024 .bf16),
          ⟨Rect.unit ![0, 0, 0] S1x2048x1024.size inb_S2x2048x1024_S1x2048x1024_0_0_0, a⟩]
        (Rect.unit (s := S2x2048x1024) ![0, 0, 0] S1x2048x1024.size inb_S2x2048x1024_S1x2048x1024_0_0_0).toLoadRect = a
      ∧ workM.view.readCov
        [(⟨Rect.unit ![1, 0, 0] S1x2048x1024.size inb_S2x2048x1024_S1x2048x1024_1_0_0, b⟩ : View.Piece (Elt F) S2x2048x1024 .bf16),
          ⟨Rect.unit ![0, 0, 0] S1x2048x1024.size inb_S2x2048x1024_S1x2048x1024_0_0_0, a⟩]
        (Rect.unit (s := S2x2048x1024) ![1, 0, 0] S1x2048x1024.size inb_S2x2048x1024_S1x2048x1024_1_0_0).toLoadRect = b :=
  pair_of workM.view workM.view.junk a b

end Cert.Kernel5.Up

end
-- ==== Proof.UpSched.lean ====
/-
The precondition read: the schedule of the up projection's blocks is one such as the down projection's.
-/
module

public import proofs.«01_k».proof.Pre_scheduled_up
public import proofs.«01_k».proof.Proof.DownSched
public import proofs.«01_k».proof.Proof.UpRing
public import Idealize.ShloMosaic.Lib.Pointwise
public import Idealize.ShloMosaic.Lib.StableHlo.Predicate

@[expose] public section

noncomputable section

namespace Cert.Kernel5.Up

open Idealize.ShloMosaic Cert.Kernel5
open Cert.Kernel4.Down (Sched word fld tileOf andi_one ori_one cmpi_one select_if range32)

section Read

variable {F : FTy → Type} [FloatOps F] [Cert.Pre_scheduled_up.Facts]

/-- A tile's expert, by the tile's number in either half of the steps. -/
theorem tile_if (te : IVec S168 32) (n : ℕ) (hn : n < 336) (p : n < 168 → n < 168) (q : ¬n < 168 → n - 168 < 168) :
    (if h : n < 168 then te (ix1 ⟨n, p h⟩) else te (ix1 ⟨n - 168, q h⟩)) = tileOf te n := by
  unfold tileOf
  split
  · congr 2; apply Fin.ext; simp [Fin.ofNat]; omega
  · congr 2; apply Fin.ext; simp [Fin.ofNat]; omega

set_option maxHeartbeats 4000000 in
/-- The precondition read: the schedule's words are related as `Sched` states. -/
theorem sched_of (a0 : FVec F S43008x2048 .f32) (T : IVec S2352 32) (te tv : IVec S168 32) (a4 : FVec F S32x2048x4096 .f32) (a5 : FVec F S32x1x4096 .f32)
    (h : Cert.Pre_scheduled_up.fn a0 T te tv a4 a5 = fun _ => 1#1) : Sched T te := by
  have hw : ∀ n p, T (ix1 ⟨n, p⟩) = word T n := fun n p => by
    unfold word; congr 2; apply Fin.ext; simp [Fin.ofNat]; omega
  have hc : ∀ n, n < 336 → Scalar.select (IntOp.cmpi .slt (BitVec.ofNat 32 n) 168#32) 0#32 1024#32 = if n < 168 then 0#32 else 1024#32 := fun n hn => by
    have e : IntOp.cmpi .slt (BitVec.ofNat 32 n) 168#32 = 1#1 ↔ n < 168 := StableHlo.Predicate.slt_ofNat_iff n 168 (by omega) (by omega)
    by_cases q : n < 168
    · rw [if_pos q, e.2 q]; rfl
    · rw [if_neg q]; exact if_neg (mt e.1 q)
  have key : ∀ k : Fin 335, _ := fun k => by
    have hk := congrFun h (ix1 k)
    pointwise [Cert.Pre_scheduled_up.fn, Cert.Pre_scheduled_up.fn_part1, Cert.Pre_scheduled_up.fn_part2, Cert.Pre_scheduled_up.fn_part3, Cert.Pre_scheduled_up.fn_part4, Cert.Pre_scheduled_up.fn_part5,
      Cert.Pre_scheduled_up.fn_where, Cert.Pre_scheduled_up.fn_where_0, Cert.Pre_scheduled_up.fn_where_1, id] at hk
    simp only [andi_one, ori_one, select_if, cmpi_one, hw] at hk
    rw [tile_if te k (by omega) (fun h => h) (fun h => by omega), tile_if te (1 + k) (by omega) (fun h => h) (fun h => by omega), hc k (by omega), hc (1 + k) (by omega)] at hk
    rw [Nat.add_comm 1 k.val] at hk
    exact hk
  have expert : ∀ s, s < 336 → fld T s 2 = tileOf te s ∧ (fld T s 2).toNat < 32 := fun s hs => by
    by_cases q : s < 335
    · obtain ⟨⟨⟨⟨⟨⟨⟨⟨⟨⟨⟨⟨⟨⟨⟨⟨a1, a2⟩, b1⟩, b2⟩, a3⟩, b3⟩, a4⟩, b4⟩, z0⟩, z1⟩, zl⟩, st⟩, sl⟩, sa⟩, mo⟩, me⟩, mc⟩ := key ⟨s, q⟩
      exact ⟨a3, by rw [show fld T s 2 = tileOf te s from a3]; exact range32 _ a1 a2⟩
    · obtain rfl : s = 335 := by omega
      obtain ⟨⟨⟨⟨⟨⟨⟨⟨⟨⟨⟨⟨⟨⟨⟨⟨a1, a2⟩, b1⟩, b2⟩, a3⟩, b3⟩, a4⟩, b4⟩, z0⟩, z1⟩, zl⟩, st⟩, sl⟩, sa⟩, mo⟩, me⟩, mc⟩ := key ⟨334, by omega⟩
      exact ⟨b3, by rw [show fld T 335 2 = tileOf te 335 from b3]; exact range32 _ b1 b2⟩
  have col : ∀ s, s < 336 → fld T s 3 = if s < 168 then 0#32 else 1024#32 := fun s hs => by
    by_cases q : s < 335
    · obtain ⟨⟨⟨⟨⟨⟨⟨⟨⟨⟨⟨⟨⟨⟨⟨⟨a1, a2⟩, b1⟩, b2⟩, a3⟩, b3⟩, a4⟩, b4⟩, z0⟩, z1⟩, zl⟩, st⟩, sl⟩, sa⟩, mo⟩, me⟩, mc⟩ := key ⟨s, q⟩
      exact a4
    · obtain rfl : s = 335 := by omega
      obtain ⟨⟨⟨⟨⟨⟨⟨⟨⟨⟨⟨⟨⟨⟨⟨⟨a1, a2⟩, b1⟩, b2⟩, a3⟩, b3⟩, a4⟩, b4⟩, z0⟩, z1⟩, zl⟩, st⟩, sl⟩, sa⟩, mo⟩, me⟩, mc⟩ := key ⟨334, by omega⟩
      exact b4
  obtain ⟨⟨⟨⟨⟨⟨⟨⟨⟨-, z0⟩, z1⟩, zl⟩, -⟩, -⟩, -⟩, -⟩, -⟩, -⟩ := key ⟨0, by omega⟩
  refine ⟨expert, col, z0, z1, zl, ?_, ?_, ?_, ?_, ?_, ?_⟩ <;> intro s hs <;>
    obtain ⟨⟨⟨⟨⟨⟨-, st⟩, sl⟩, sa⟩, mo⟩, me⟩, mc⟩ := key ⟨s, hs⟩
  · exact st
  · exact sl
  · exact sa
  · exact mo
  · exact me
  · exact mc

end Read

end Cert.Kernel5.Up

end
-- ==== Proof.UpWords.lean ====
/-
The words the body reads at step `t`, as fields of the schedule.
-/
module

public import proofs.«01_k».proof.Proof.UpPair
public import proofs.«01_k».proof.Proof.UpSched

@[expose] public section

set_option maxRecDepth 16384

noncomputable section

namespace Cert.Kernel5.Up

open Cert.Kernel5 Cert.Kernel5.Gen
open Cert.Kernel4.Down (slotW expertW colW opp Sched word fld begins slotOf eOf hOf names eNext hNext)
open Idealize.ShloMosaic Idealize.ShloMosaic.TcCoe

variable {F : FTy → Type} [FloatOps F]

/-- A table read of one word at offset `n` is word `n` of the table. -/
theorem readS_word (T0 : S2352.Idx → Elt F .i32) (off : Fin 1 → Nat) (p) (n : ℕ) (hn : n < 2352) (h : off 0 = n) : readS T0 off p = word T0 n := by
  show T0 _ = T0 _
  congr 1; funext a; apply Fin.ext
  have ha : a = (0 : Fin 1) := Subsingleton.elim (α := Fin 1) _ _
  subst ha
  show off 0 + 1 * 0 = n % 2352
  omega
theorem readV_word (T1 : S168.Idx → Elt F .i32) (off : Fin 1 → Nat) (p) (n : ℕ) (hn : n < 168) (h : off 0 = n) : readV T1 off p = (T1 (ix1 (Fin.ofNat 168 n)) : BitVec 32) := by
  show T1 _ = T1 _
  congr 1; funext a; apply Fin.ext
  have ha : a = (0 : Fin 1) := Subsingleton.elim (α := Fin 1) _ _
  subst ha
  show off 0 + 1 * 0 = n % 168
  omega

/-- Step `t` reads the seven words of its row of the schedule, and the validity word of its row tile. -/
theorem off_1 : ∀ t : Fin grid0.N, k0_off1 (grid0.coords t) 0#32 0 = t.val * 7 + 0 := by decide +kernel
theorem off_2a : ∀ t : Fin grid0.N, k0_off2 (grid0.coords t) 1#32 0 = t.val * 7 + 1 := by decide +kernel
theorem off_2b : ∀ t : Fin grid0.N, k0_off2 (grid0.coords t) 2#32 0 = t.val * 7 + 2 := by decide +kernel
theorem off_2c : ∀ t : Fin grid0.N, k0_off2 (grid0.coords t) 3#32 0 = t.val * 7 + 3 := by decide +kernel
theorem off_14 : ∀ t : Fin grid0.N, k0_off14 (grid0.coords t) 0 = t.val * 7 + 4 := by decide +kernel
theorem off_15a : ∀ t : Fin grid0.N, k0_off15 (grid0.coords t) 5#32 0 = t.val * 7 + 5 := by decide +kernel
theorem off_15b : ∀ t : Fin grid0.N, k0_off15 (grid0.coords t) 6#32 0 = t.val * 7 + 6 := by decide +kernel
theorem off_21 : ∀ t : Fin grid0.N, k0_off21 (grid0.coords t) 0 = t.val % 168 := by decide +kernel
theorem cond2_iff : ∀ t : Fin grid0.N, k0_cond2 (grid0.coords t) = 1#1 ↔ t.val = 0 := by decide +kernel
theorem coords_0 : ∀ t : Fin grid0.N, (grid0.coords t 0).val = t.val / 168 := by decide +kernel
theorem coords_1 : ∀ t : Fin grid0.N, (grid0.coords t 1).val = t.val % 168 := by decide +kernel

theorem lt336 (t : Fin grid0.N) : t.val < 336 := lt_of_lt_of_eq t.isLt N_0

variable {T : IVec S2352 32} {te : IVec S168 32} (S : Sched T te)
include S

theorem cond1_iff (t : Fin grid0.N) : k0_cond1 (readS (F := F) T (k0_off1 (grid0.coords t) 0#32) (k0_off1_inb (grid0.coords t) 0)) = 1#1 ↔ begins T t.val := by
  rw [readS_word T _ _ (t.val * 7 + 0) (by have := lt336 t; omega) (off_1 t)]
  show k0_cond1 (fld T t.val 0) = 1#1 ↔ fld T t.val 0 = 1#32
  rcases S.start_or t.val (lt336 t) with q | q <;> rw [q] <;> decide
theorem read_slot (t : Fin grid0.N) : readS (F := F) T (k0_off2 (grid0.coords t) 1#32) (k0_off2_inb (grid0.coords t) 0) = slotW (slotOf T t.val) := by
  rw [readS_word T _ _ (t.val * 7 + 1) (by have := lt336 t; omega) (off_2a t)]; exact S.slot_word t.val (lt336 t)
theorem read_e (t : Fin grid0.N) : readS (F := F) T (k0_off2 (grid0.coords t) 2#32) (k0_off2_inb (grid0.coords t) 1) = expertW (eOf T t.val) := by
  rw [readS_word T _ _ (t.val * 7 + 2) (by have := lt336 t; omega) (off_2b t)]; exact S.e_word t.val (lt336 t)
theorem read_h (t : Fin grid0.N) : readS (F := F) T (k0_off2 (grid0.coords t) 3#32) (k0_off2_inb (grid0.coords t) 2) = colW (hOf T t.val) := by
  rw [readS_word T _ _ (t.val * 7 + 3) (by have := lt336 t; omega) (off_2c t)]; exact S.h_word t.val (lt336 t)
theorem cond3_iff (t : Fin grid0.N) : k0_cond3 (readS (F := F) T (k0_off14 (grid0.coords t)) (k0_off14_inb (grid0.coords t))) = 1#1 ↔ names T t.val := by
  rw [readS_word T _ _ (t.val * 7 + 4) (by have := lt336 t; omega) (off_14 t)]
  show k0_cond3 (fld T t.val 4) = 1#1 ↔ fld T t.val 4 = 1#32
  rcases S.more_or t.val (lt336 t) with q | q
  · rw [q]; decide
  · rw [show fld T t.val 4 = 1#32 from q]; decide
theorem read_e' (t : Fin grid0.N) (h : names T t.val) : readS (F := F) T (k0_off15 (grid0.coords t) 5#32) (k0_off15_inb (grid0.coords t) 0) = expertW (eNext T t.val) := by
  rw [readS_word T _ _ (t.val * 7 + 5) (by have := lt336 t; omega) (off_15a t)]; exact S.eNext_word t.val (lt336 t) h
theorem read_h' (t : Fin grid0.N) (h : names T t.val) : readS (F := F) T (k0_off15 (grid0.coords t) 6#32) (k0_off15_inb (grid0.coords t) 1) = colW (hNext T t.val) := by
  rw [readS_word T _ _ (t.val * 7 + 6) (by have := lt336 t; omega) (off_15b t)]; exact S.hNext_word t.val (lt336 t) h

end Cert.Kernel5.Up

end
-- ==== Proof.UpStay.lean ====
/-
The body of one step, run on whole buffers.
-/
module

public import proofs.«01_k».proof.Proof.UpPair
public import Idealize.ShloMosaic.Lib.VecWindow

@[expose] public section

set_option maxRecDepth 16384

noncomputable section

namespace Cert.Kernel5.Up

open Cert.Kernel5 Cert.Kernel5.Gen
open Cert.Kernel4.Down (slotW expertW colW opp)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- A step at which no block begins multiplies by the working copy as it stands, and touches no transfer. -/
theorem run_stay (c : Dev nD) (i : grid0.Coords) (arg4 : Memref sig .tc .vmem S256x2048 .f32) (harg4 : arg4.IsWhole) (arg5 : Memref sig .tc .vmem S1x1x1024 .f32) (harg5 : arg5.IsWhole) (arg6 : Memref sig .tc .vmem S1x1x1024 .f32) (harg6 : arg6.IsWhole) (arg8 : Memref sig .tc .vmem S256x1024 .bf16) (harg8 : arg8.IsWhole)
    (T0 : S2352.Idx → Elt F .i32) (T1 : S168.Idx → Elt F .i32) (x0 : Vec F S256x2048 .f32) (x1 x2 : Vec F S1x1x1024 .f32) (g u : Vec F S1x2048x1024 .bf16)
    (h1 : ¬k0_cond1 (readS T0 (k0_off1 i 0#32) (k0_off1_inb i 0)) = 1#1) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg8 fullShare d)
        ∗ (schedM.view.loc (c : Thread nD τ) ↦{fullShare.right} T0) ∗ (validM.view.loc (c : Thread nD τ) ↦{fullShare.right} T1) ∗ workP c g u
        ∗ (iprop(owns (c : Thread nD τ) arg4 fullShare x0 ∗ owns (c : Thread nD τ) arg5 fullShare x1 ∗ owns (c : Thread nD τ) arg6 fullShare x2 ∗ owns (c : Thread nD τ) arg8 fullShare (outv x0 x1 x2 g u (readV T1 (k0_off21 i) (k0_off21_inb i)))
            ∗ (schedM.view.loc (c : Thread nD τ) ↦{fullShare.right} T0) ∗ (validM.view.loc (c : Thread nD τ) ↦{fullShare.right} T1) ∗ workP c g u) -∗ K ⟨⟩))
      ⊢ wp frame (wpE (defs₀ (F := F)) Variants.none c none) Set.univ (cc0_moe_up i schedM (Memref.isWhole_whole _) validM (Memref.isWhole_whole _) arg4 harg4 arg5 harg5 arg6 harg6 weightsM (Memref.isWhole_whole _) arg8 harg8 stageM (Memref.isWhole_whole _) cc0_scratch1 workM (Memref.isWhole_whole _)) K := by
  rw [cc0_moe_up_eq_skeleton]; unfold cc0_moe_up_skel
  unfold owns workP
  iintro ⟨⟨%f0, %hf0, H0⟩, ⟨%f1, %hf1, H1⟩, ⟨%f2, %hf2, H2⟩, ⟨%d3, %f3, -, H3⟩, HT0, HT1, ⟨%fw, %hfw, HS⟩, Hk⟩
  obtain rfl := harg4.eq_unread hf0; obtain rfl := harg5.eq_unread hf1; obtain rfl := harg6.eq_unread hf2
  have hS : workM.IsWhole := Memref.isWhole_whole _
  have hT0 : schedM.IsWhole := Memref.isWhole_whole _
  have hT1 : validM.IsWhole := Memref.isWhole_whole _
  by_cases h4 : k0_cond4 (readV T1 (k0_off21 i) (k0_off21_inb i)) = 1#1
  · have h5 := not_cond5_of _ h4
    sl_exec (disch := first | (guard_target = ¬(k0_cond1 _ = _); exact h1) | (guard_target = k0_cond4 _ = _; exact h4) | (guard_target = ¬(k0_cond5 _ = _); exact h5))
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr; swap; · iexact H3
      ipureintro
      rw [View.read_writes_full, outv, if_pos h4, View.readAt_full, View.readAt_full, View.readAt_full, hf0, hf1, hf2]
      exact congrArg₂ (fun a b => k0_pay3 x0 a x1 b x2) hfw.1 hfw.2
    isplitl [HT0]; · iexact HT0
    isplitl [HT1]; · iexact HT1
    iexists _; isplitr; · ipureintro; exact hfw
    iexact HS
  · have h5 := cond5_of_not _ h4
    sl_exec (disch := first | (guard_target = ¬(k0_cond1 _ = _); exact h1) | (guard_target = ¬(k0_cond4 _ = _); exact h4) | (guard_target = k0_cond5 _ = _; exact h5))
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr; swap; · iexact H3
      ipureintro
      rw [View.read_writes_full, outv, if_neg h4]
    isplitl [HT0]; · iexact HT0
    isplitl [HT1]; · iexact HT1
    iexists _; isplitr; · ipureintro; exact hfw
    iexact HS

end Cert.Kernel5.Up

end
-- ==== Proof.UpFirst.lean ====
/-
The body of one step, run on whole buffers.
-/
module

public import proofs.«01_k».proof.Proof.UpPair
public import Idealize.ShloMosaic.Lib.VecWindow

@[expose] public section

set_option maxRecDepth 16384

noncomputable section

namespace Cert.Kernel5.Up

open Cert.Kernel5 Cert.Kernel5.Gen
open Cert.Kernel4.Down (slotW expertW colW opp)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The first step starts the first block's two transfers, waits for them, and starts the next block's. -/
theorem run_first (c : Dev nD) (i : grid0.Coords) (arg4 : Memref sig .tc .vmem S256x2048 .f32) (harg4 : arg4.IsWhole) (arg5 : Memref sig .tc .vmem S1x1x1024 .f32) (harg5 : arg5.IsWhole) (arg6 : Memref sig .tc .vmem S1x1x1024 .f32) (harg6 : arg6.IsWhole) (arg8 : Memref sig .tc .vmem S256x1024 .bf16) (harg8 : arg8.IsWhole)
    (T0 : S2352.Idx → Elt F .i32) (T1 : S168.Idx → Elt F .i32) (x0 : Vec F S256x2048 .f32) (x1 x2 : Vec F S1x1x1024 .f32)
    (wb : WBuf (F := F) c) (s : Fin 2) (e : Fin 32) (h : Fin 2) (e' : Fin 32) (h' : Fin 2)
    (h1 : k0_cond1 (readS T0 (k0_off1 i 0#32) (k0_off1_inb i 0)) = 1#1)
    (h2 : k0_cond2 i = 1#1)
    (hs : readS T0 (k0_off2 i 1#32) (k0_off2_inb i 0) = slotW s)
    (he : readS T0 (k0_off2 i 2#32) (k0_off2_inb i 1) = expertW e)
    (hc : readS T0 (k0_off2 i 3#32) (k0_off2_inb i 2) = colW h)
    (h3 : k0_cond3 (readS T0 (k0_off14 i) (k0_off14_inb i)) = 1#1)
    (he' : readS T0 (k0_off15 i 5#32) (k0_off15_inb i 0) = expertW e')
    (hc' : readS T0 (k0_off15 i 6#32) (k0_off15_inb i 1) = colW h')
    (W : Waits sig Unit) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg8 fullShare d)
        ∗ (schedM.view.loc (c : Thread nD τ) ↦{fullShare.right} T0) ∗ (validM.view.loc (c : Thread nD τ) ↦{fullShare.right} T1) ∗ (∃ g u, workP c g u)
        ∗ freeP c s ∗ freeP c (opp s) ∗ cellP c s ∗ cellP c (opp s) ∗ wholeP c wb ∗ owes (c : Thread nD τ) 0 W
        ∗ (iprop(owns (c : Thread nD τ) arg4 fullShare x0 ∗ owns (c : Thread nD τ) arg5 fullShare x1 ∗ owns (c : Thread nD τ) arg6 fullShare x2 ∗ owns (c : Thread nD τ) arg8 fullShare (outv x0 x1 x2 (gateV c wb e h) (upV c wb e h) (readV T1 (k0_off21 i) (k0_off21_inb i)))
            ∗ (schedM.view.loc (c : Thread nD τ) ↦{fullShare.right} T0) ∗ (validM.view.loc (c : Thread nD τ) ↦{fullShare.right} T1) ∗ workP c (gateV c wb e h) (upV c wb e h)
            ∗ freeP c s ∗ cellP c s ∗ flightP c wb (opp s) e' h' ∗ restP c wb e' h' ∗ ∃ W', owes (c : Thread nD τ) 0 W') -∗ K ⟨⟩))
      ⊢ wp frame (wpE (defs₀ (F := F)) Variants.none c none) Set.univ (cc0_moe_up i schedM (Memref.isWhole_whole _) validM (Memref.isWhole_whole _) arg4 harg4 arg5 harg5 arg6 harg6 weightsM (Memref.isWhole_whole _) arg8 harg8 stageM (Memref.isWhole_whole _) cc0_scratch1 workM (Memref.isWhole_whole _)) K := by
  rw [cc0_moe_up_eq_skeleton]; unfold cc0_moe_up_skel
  rw [k0_part1_eq_skeleton]
  unfold owns workP
  iintro ⟨⟨%f0, %hf0, H0⟩, ⟨%f1, %hf1, H1⟩, ⟨%f2, %hf2, H2⟩, ⟨%d3, %f3, -, H3⟩, HT0, HT1, ⟨%g, %u, %fw, -, HS⟩, ⟨⟨%a0, Ha0⟩, ⟨%a1, Ha1⟩⟩, ⟨⟨%b0, Hb0⟩, ⟨%b1, Hb1⟩⟩, Hc0, Hc1, Hw, HW, Hk⟩
  imod (batch_open c wb s e h) $$ Hc0 with HB
  imod (batch_open c wb (opp s) e' h') $$ Hc1 with HN
  ihave Hsp := (weights_split c wb e h).1 $$ Hw
  icases Hsp with ⟨Hh0, Hh1, Hr0⟩
  obtain rfl := harg4.eq_unread hf0; obtain rfl := harg5.eq_unread hf1; obtain rfl := harg6.eq_unread hf2
  have hS : workM.IsWhole := Memref.isWhole_whole _
  have hT0 : schedM.IsWhole := Memref.isWhole_whole _
  have hT1 : validM.IsWhole := Memref.isWhole_whole _
  have hq0 := acc_sub s ⟨0, by decide⟩ _ (off12_eq s) (inb12 s)
  have hq1 := acc_sub s ⟨1, by decide⟩ _ (off13_eq s) (inb13 s)
  sl_exec (disch := first | (guard_target = k0_cond1 _ = _; exact h1))
  rw [show run_first.sl.r_1 i T0 = slotW s from hs]
  sl_exec (disch := first | (guard_target = k0_chk2 _ _ _; exact chk2 _ _ _))
  rw [show run_first.sl.r_2 i T0 = expertW e from he, show run_first.sl.r_3 i T0 = colW h from hc]
  sl_exec (disch := first | (guard_target = k0_chk1 _ _ _ _; exact chk1 _ _ _ _) | (guard_target = k0_cond2 _ = _; exact h2))
  ihave Hw := (weights_split c wb e h).2 $$ [HB_src0 HB_src1 Hr0]
  · isplitl [HB_src0]; · iexact HB_src0
    isplitl [HB_src1]; · iexact HB_src1
    iexact Hr0
  ihave Hsp := (weights_split c wb e' h').1 $$ Hw
  icases Hsp with ⟨Hn0, Hn1, Hr1⟩
  sl_exec (disch := first | (guard_target = k0_chk4 _ _ _; exact chk4 _ _ _) | (guard_target = k0_cond3 _ = _; exact h3))
  rw [show run_first.sl.r_5 i T0 = expertW e' from he', show run_first.sl.r_6 i T0 = colW h' from hc']
  by_cases h4 : k0_cond4 (readV T1 (k0_off21 i) (k0_off21_inb i)) = 1#1
  · have h5 := not_cond5_of _ h4
    sl_exec (disch := first | (guard_target = k0_chk3 _ _ _ _; exact chk3 _ _ _ _) | (guard_target = k0_cond4 _ = _; exact h4) | (guard_target = ¬(k0_cond5 _ = _); exact h5))
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr; swap; · iexact H3
      ipureintro
      rw [View.read_writes_full, outv, if_pos h4, View.readAt_full, View.readAt_full, View.readAt_full, hf0, hf1, hf2]
      unfold run_first.sl.v21 run_first.sl.v28 run_first.sl.v51 run_first.sl.v58
      rw [land12 c, land13 c, (pair_cov _ _).1, (pair_cov _ _).2, gateV, upV]
    isplitl [HT0]; · iexact HT0
    isplitl [HT1]; · iexact HT1
    isplitl [HS]
    · iexists _; isplitr; swap; · iexact HS
      ipureintro
      unfold run_first.sl.v51 run_first.sl.v58
      rw [land12 c, land13 c]
      exact pair_read _ _ _
    isplitl [HB_dst0 HB_dst1]
    · isplitl [HB_dst0]; · iexists _; iexact HB_dst0
      iexists _; iexact HB_dst1
    isplitl [HB]; · iexact HB
    isplitl [HN]; · iexact HN
    isplitl [Hr1]; · iexact Hr1
    iexists _; iexact HW
  · have h5 := cond5_of_not _ h4
    sl_exec (disch := first | (guard_target = k0_chk3 _ _ _ _; exact chk3 _ _ _ _) | (guard_target = ¬(k0_cond4 _ = _); exact h4) | (guard_target = k0_cond5 _ = _; exact h5))
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr; swap; · iexact H3
      ipureintro
      rw [View.read_writes_full, outv, if_neg h4]
    isplitl [HT0]; · iexact HT0
    isplitl [HT1]; · iexact HT1
    isplitl [HS]
    · iexists _; isplitr; swap; · iexact HS
      ipureintro
      unfold run_first.sl.v51 run_first.sl.v58
      rw [land12 c, land13 c]
      exact pair_read _ _ _
    isplitl [HB_dst0 HB_dst1]
    · isplitl [HB_dst0]; · iexists _; iexact HB_dst0
      iexists _; iexact HB_dst1
    isplitl [HB]; · iexact HB
    isplitl [HN]; · iexact HN
    isplitl [Hr1]; · iexact Hr1
    iexists _; iexact HW

end Cert.Kernel5.Up

end
-- ==== Proof.UpOnly.lean ====
/-
The body of one step, run on whole buffers.
-/
module

public import proofs.«01_k».proof.Proof.UpPair
public import Idealize.ShloMosaic.Lib.VecWindow

@[expose] public section

set_option maxRecDepth 16384

noncomputable section

namespace Cert.Kernel5.Up

open Cert.Kernel5 Cert.Kernel5.Gen
open Cert.Kernel4.Down (slotW expertW colW opp)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The first step when there is but one block in all. -/
theorem run_only (c : Dev nD) (i : grid0.Coords) (arg4 : Memref sig .tc .vmem S256x2048 .f32) (harg4 : arg4.IsWhole) (arg5 : Memref sig .tc .vmem S1x1x1024 .f32) (harg5 : arg5.IsWhole) (arg6 : Memref sig .tc .vmem S1x1x1024 .f32) (harg6 : arg6.IsWhole) (arg8 : Memref sig .tc .vmem S256x1024 .bf16) (harg8 : arg8.IsWhole)
    (T0 : S2352.Idx → Elt F .i32) (T1 : S168.Idx → Elt F .i32) (x0 : Vec F S256x2048 .f32) (x1 x2 : Vec F S1x1x1024 .f32)
    (wb : WBuf (F := F) c) (s : Fin 2) (e : Fin 32) (h : Fin 2)
    (h1 : k0_cond1 (readS T0 (k0_off1 i 0#32) (k0_off1_inb i 0)) = 1#1)
    (h2 : k0_cond2 i = 1#1)
    (hs : readS T0 (k0_off2 i 1#32) (k0_off2_inb i 0) = slotW s)
    (he : readS T0 (k0_off2 i 2#32) (k0_off2_inb i 1) = expertW e)
    (hc : readS T0 (k0_off2 i 3#32) (k0_off2_inb i 2) = colW h)
    (h3 : ¬k0_cond3 (readS T0 (k0_off14 i) (k0_off14_inb i)) = 1#1)
    (W : Waits sig Unit) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg8 fullShare d)
        ∗ (schedM.view.loc (c : Thread nD τ) ↦{fullShare.right} T0) ∗ (validM.view.loc (c : Thread nD τ) ↦{fullShare.right} T1) ∗ (∃ g u, workP c g u)
        ∗ freeP c s ∗ freeP c (opp s) ∗ cellP c s ∗ cellP c (opp s) ∗ wholeP c wb ∗ owes (c : Thread nD τ) 0 W
        ∗ (iprop(owns (c : Thread nD τ) arg4 fullShare x0 ∗ owns (c : Thread nD τ) arg5 fullShare x1 ∗ owns (c : Thread nD τ) arg6 fullShare x2 ∗ owns (c : Thread nD τ) arg8 fullShare (outv x0 x1 x2 (gateV c wb e h) (upV c wb e h) (readV T1 (k0_off21 i) (k0_off21_inb i)))
            ∗ (schedM.view.loc (c : Thread nD τ) ↦{fullShare.right} T0) ∗ (validM.view.loc (c : Thread nD τ) ↦{fullShare.right} T1) ∗ workP c (gateV c wb e h) (upV c wb e h)
            ∗ freeP c s ∗ cellP c s ∗ freeP c (opp s) ∗ cellP c (opp s) ∗ wholeP c wb ∗ ∃ W', owes (c : Thread nD τ) 0 W') -∗ K ⟨⟩))
      ⊢ wp frame (wpE (defs₀ (F := F)) Variants.none c none) Set.univ (cc0_moe_up i schedM (Memref.isWhole_whole _) validM (Memref.isWhole_whole _) arg4 harg4 arg5 harg5 arg6 harg6 weightsM (Memref.isWhole_whole _) arg8 harg8 stageM (Memref.isWhole_whole _) cc0_scratch1 workM (Memref.isWhole_whole _)) K := by
  rw [cc0_moe_up_eq_skeleton]; unfold cc0_moe_up_skel
  rw [k0_part1_eq_skeleton]
  unfold owns workP
  iintro ⟨⟨%f0, %hf0, H0⟩, ⟨%f1, %hf1, H1⟩, ⟨%f2, %hf2, H2⟩, ⟨%d3, %f3, -, H3⟩, HT0, HT1, ⟨%g, %u, %fw, -, HS⟩, ⟨⟨%a0, Ha0⟩, ⟨%a1, Ha1⟩⟩, ⟨⟨%b0, Hb0⟩, ⟨%b1, Hb1⟩⟩, Hc0, Hc1, Hw, HW, Hk⟩
  imod (batch_open c wb s e h) $$ Hc0 with HB
  ihave Hsp := (weights_split c wb e h).1 $$ Hw
  icases Hsp with ⟨Hh0, Hh1, Hr0⟩
  obtain rfl := harg4.eq_unread hf0; obtain rfl := harg5.eq_unread hf1; obtain rfl := harg6.eq_unread hf2
  have hS : workM.IsWhole := Memref.isWhole_whole _
  have hT0 : schedM.IsWhole := Memref.isWhole_whole _
  have hT1 : validM.IsWhole := Memref.isWhole_whole _
  have hq0 := acc_sub s ⟨0, by decide⟩ _ (off12_eq s) (inb12 s)
  have hq1 := acc_sub s ⟨1, by decide⟩ _ (off13_eq s) (inb13 s)
  sl_exec (disch := first | (guard_target = k0_cond1 _ = _; exact h1))
  rw [show run_only.sl.r_1 i T0 = slotW s from hs]
  sl_exec (disch := first | (guard_target = k0_chk2 _ _ _; exact chk2 _ _ _))
  rw [show run_only.sl.r_2 i T0 = expertW e from he, show run_only.sl.r_3 i T0 = colW h from hc]
  sl_exec (disch := first | (guard_target = k0_chk1 _ _ _ _; exact chk1 _ _ _ _) | (guard_target = k0_cond2 _ = _; exact h2))
  ihave Hw := (weights_split c wb e h).2 $$ [HB_src0 HB_src1 Hr0]
  · isplitl [HB_src0]; · iexact HB_src0
    isplitl [HB_src1]; · iexact HB_src1
    iexact Hr0
  by_cases h4 : k0_cond4 (readV T1 (k0_off21 i) (k0_off21_inb i)) = 1#1
  · have h5 := not_cond5_of _ h4
    sl_exec (disch := first | (guard_target = k0_chk4 _ _ _; exact chk4 _ _ _) | (guard_target = ¬(k0_cond3 _ = _); exact h3) | (guard_target = k0_cond4 _ = _; exact h4) | (guard_target = ¬(k0_cond5 _ = _); exact h5))
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr; swap; · iexact H3
      ipureintro
      rw [View.read_writes_full, outv, if_pos h4, View.readAt_full, View.readAt_full, View.readAt_full, hf0, hf1, hf2]
      unfold run_only.sl.v21 run_only.sl.v28 run_only.sl.v51 run_only.sl.v58
      rw [land12 c, land13 c, (pair_cov _ _).1, (pair_cov _ _).2, gateV, upV]
    isplitl [HT0]; · iexact HT0
    isplitl [HT1]; · iexact HT1
    isplitl [HS]
    · iexists _; isplitr; swap; · iexact HS
      ipureintro
      unfold run_only.sl.v51 run_only.sl.v58
      rw [land12 c, land13 c]
      exact pair_read _ _ _
    isplitl [HB_dst0 HB_dst1]
    · isplitl [HB_dst0]; · iexists _; iexact HB_dst0
      iexists _; iexact HB_dst1
    isplitl [HB]; · iexact HB
    isplitl [Hb0 Hb1]
    · isplitl [Hb0]; · iexists _; iexact Hb0
      iexists _; iexact Hb1
    isplitl [Hc1]; · iexact Hc1
    isplitl [Hw]; · iexact Hw
    iexists _; iexact HW
  · have h5 := cond5_of_not _ h4
    sl_exec (disch := first | (guard_target = k0_chk4 _ _ _; exact chk4 _ _ _) | (guard_target = ¬(k0_cond3 _ = _); exact h3) | (guard_target = ¬(k0_cond4 _ = _); exact h4) | (guard_target = k0_cond5 _ = _; exact h5))
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr; swap; · iexact H3
      ipureintro
      rw [View.read_writes_full, outv, if_neg h4]
    isplitl [HT0]; · iexact HT0
    isplitl [HT1]; · iexact HT1
    isplitl [HS]
    · iexists _; isplitr; swap; · iexact HS
      ipureintro
      unfold run_only.sl.v51 run_only.sl.v58
      rw [land12 c, land13 c]
      exact pair_read _ _ _
    isplitl [HB_dst0 HB_dst1]
    · isplitl [HB_dst0]; · iexists _; iexact HB_dst0
      iexists _; iexact HB_dst1
    isplitl [HB]; · iexact HB
    isplitl [Hb0 Hb1]
    · isplitl [Hb0]; · iexists _; iexact Hb0
      iexists _; iexact Hb1
    isplitl [Hc1]; · iexact Hc1
    isplitl [Hw]; · iexact Hw
    iexists _; iexact HW

end Cert.Kernel5.Up

end
-- ==== Proof.UpNext.lean ====
/-
The body of one step, run on whole buffers.
-/
module

public import proofs.«01_k».proof.Proof.UpPair
public import Idealize.ShloMosaic.Lib.VecWindow

@[expose] public section

set_option maxRecDepth 16384

noncomputable section

namespace Cert.Kernel5.Up

open Cert.Kernel5 Cert.Kernel5.Gen
open Cert.Kernel4.Down (slotW expertW colW opp)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- A step at which a block begins waits for its two transfers and starts the next block's. -/
theorem run_next (c : Dev nD) (i : grid0.Coords) (arg4 : Memref sig .tc .vmem S256x2048 .f32) (harg4 : arg4.IsWhole) (arg5 : Memref sig .tc .vmem S1x1x1024 .f32) (harg5 : arg5.IsWhole) (arg6 : Memref sig .tc .vmem S1x1x1024 .f32) (harg6 : arg6.IsWhole) (arg8 : Memref sig .tc .vmem S256x1024 .bf16) (harg8 : arg8.IsWhole)
    (T0 : S2352.Idx → Elt F .i32) (T1 : S168.Idx → Elt F .i32) (x0 : Vec F S256x2048 .f32) (x1 x2 : Vec F S1x1x1024 .f32)
    (wb : WBuf (F := F) c) (s : Fin 2) (e : Fin 32) (h : Fin 2) (e' : Fin 32) (h' : Fin 2)
    (h1 : k0_cond1 (readS T0 (k0_off1 i 0#32) (k0_off1_inb i 0)) = 1#1)
    (h2 : ¬k0_cond2 i = 1#1)
    (hs : readS T0 (k0_off2 i 1#32) (k0_off2_inb i 0) = slotW s)
    (he : readS T0 (k0_off2 i 2#32) (k0_off2_inb i 1) = expertW e)
    (hc : readS T0 (k0_off2 i 3#32) (k0_off2_inb i 2) = colW h)
    (h3 : k0_cond3 (readS T0 (k0_off14 i) (k0_off14_inb i)) = 1#1)
    (he' : readS T0 (k0_off15 i 5#32) (k0_off15_inb i 0) = expertW e')
    (hc' : readS T0 (k0_off15 i 6#32) (k0_off15_inb i 1) = colW h')
    (W : Waits sig Unit) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg8 fullShare d)
        ∗ (schedM.view.loc (c : Thread nD τ) ↦{fullShare.right} T0) ∗ (validM.view.loc (c : Thread nD τ) ↦{fullShare.right} T1) ∗ (∃ g u, workP c g u)
        ∗ flightP c wb s e h ∗ restP c wb e h ∗ freeP c (opp s) ∗ cellP c (opp s) ∗ owes (c : Thread nD τ) 0 W
        ∗ (iprop(owns (c : Thread nD τ) arg4 fullShare x0 ∗ owns (c : Thread nD τ) arg5 fullShare x1 ∗ owns (c : Thread nD τ) arg6 fullShare x2 ∗ owns (c : Thread nD τ) arg8 fullShare (outv x0 x1 x2 (gateV c wb e h) (upV c wb e h) (readV T1 (k0_off21 i) (k0_off21_inb i)))
            ∗ (schedM.view.loc (c : Thread nD τ) ↦{fullShare.right} T0) ∗ (validM.view.loc (c : Thread nD τ) ↦{fullShare.right} T1) ∗ workP c (gateV c wb e h) (upV c wb e h)
            ∗ freeP c s ∗ cellP c s ∗ flightP c wb (opp s) e' h' ∗ restP c wb e' h' ∗ ∃ W', owes (c : Thread nD τ) 0 W') -∗ K ⟨⟩))
      ⊢ wp frame (wpE (defs₀ (F := F)) Variants.none c none) Set.univ (cc0_moe_up i schedM (Memref.isWhole_whole _) validM (Memref.isWhole_whole _) arg4 harg4 arg5 harg5 arg6 harg6 weightsM (Memref.isWhole_whole _) arg8 harg8 stageM (Memref.isWhole_whole _) cc0_scratch1 workM (Memref.isWhole_whole _)) K := by
  rw [cc0_moe_up_eq_skeleton]; unfold cc0_moe_up_skel
  rw [k0_part1_eq_skeleton]
  unfold owns workP
  iintro ⟨⟨%f0, %hf0, H0⟩, ⟨%f1, %hf1, H1⟩, ⟨%f2, %hf2, H2⟩, ⟨%d3, %f3, -, H3⟩, HT0, HT1, ⟨%g, %u, %fw, -, HS⟩, HB, Hr0, ⟨⟨%b0, Hb0⟩, ⟨%b1, Hb1⟩⟩, Hc1, HW, Hk⟩
  imod (batch_open c wb (opp s) e' h') $$ Hc1 with HN
  obtain rfl := harg4.eq_unread hf0; obtain rfl := harg5.eq_unread hf1; obtain rfl := harg6.eq_unread hf2
  have hS : workM.IsWhole := Memref.isWhole_whole _
  have hT0 : schedM.IsWhole := Memref.isWhole_whole _
  have hT1 : validM.IsWhole := Memref.isWhole_whole _
  have hq0 := acc_sub s ⟨0, by decide⟩ _ (off12_eq s) (inb12 s)
  have hq1 := acc_sub s ⟨1, by decide⟩ _ (off13_eq s) (inb13 s)
  sl_exec (disch := first | (guard_target = k0_cond1 _ = _; exact h1))
  rw [show run_next.sl.r_1 i T0 = slotW s from hs]
  sl_exec (disch := first | (guard_target = k0_chk2 _ _ _; exact chk2 _ _ _))
  rw [show run_next.sl.r_2 i T0 = expertW e from he, show run_next.sl.r_3 i T0 = colW h from hc]
  sl_exec (disch := first | (guard_target = k0_chk1 _ _ _ _; exact chk1 _ _ _ _) | (guard_target = ¬(k0_cond2 _ = _); exact h2))
  ihave Hw := (weights_split c wb e h).2 $$ [HB_src0 HB_src1 Hr0]
  · isplitl [HB_src0]; · iexact HB_src0
    isplitl [HB_src1]; · iexact HB_src1
    iexact Hr0
  ihave Hsp := (weights_split c wb e' h').1 $$ Hw
  icases Hsp with ⟨Hn0, Hn1, Hr1⟩
  sl_exec (disch := first | (guard_target = k0_chk4 _ _ _; exact chk4 _ _ _) | (guard_target = k0_cond3 _ = _; exact h3))
  rw [show run_next.sl.r_5 i T0 = expertW e' from he', show run_next.sl.r_6 i T0 = colW h' from hc']
  by_cases h4 : k0_cond4 (readV T1 (k0_off21 i) (k0_off21_inb i)) = 1#1
  · have h5 := not_cond5_of _ h4
    sl_exec (disch := first | (guard_target = k0_chk3 _ _ _ _; exact chk3 _ _ _ _) | (guard_target = k0_cond4 _ = _; exact h4) | (guard_target = ¬(k0_cond5 _ = _); exact h5))
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr; swap; · iexact H3
      ipureintro
      rw [View.read_writes_full, outv, if_pos h4, View.readAt_full, View.readAt_full, View.readAt_full, hf0, hf1, hf2]
      unfold run_next.sl.v21 run_next.sl.v28 run_next.sl.v51 run_next.sl.v58
      rw [land12 c, land13 c, (pair_cov _ _).1, (pair_cov _ _).2, gateV, upV]
    isplitl [HT0]; · iexact HT0
    isplitl [HT1]; · iexact HT1
    isplitl [HS]
    · iexists _; isplitr; swap; · iexact HS
      ipureintro
      unfold run_next.sl.v51 run_next.sl.v58
      rw [land12 c, land13 c]
      exact pair_read _ _ _
    isplitl [HB_dst0 HB_dst1]
    · isplitl [HB_dst0]; · iexists _; iexact HB_dst0
      iexists _; iexact HB_dst1
    isplitl [HB]; · iexact HB
    isplitl [HN]; · iexact HN
    isplitl [Hr1]; · iexact Hr1
    iexists _; iexact HW
  · have h5 := cond5_of_not _ h4
    sl_exec (disch := first | (guard_target = k0_chk3 _ _ _ _; exact chk3 _ _ _ _) | (guard_target = ¬(k0_cond4 _ = _); exact h4) | (guard_target = k0_cond5 _ = _; exact h5))
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr; swap; · iexact H3
      ipureintro
      rw [View.read_writes_full, outv, if_neg h4]
    isplitl [HT0]; · iexact HT0
    isplitl [HT1]; · iexact HT1
    isplitl [HS]
    · iexists _; isplitr; swap; · iexact HS
      ipureintro
      unfold run_next.sl.v51 run_next.sl.v58
      rw [land12 c, land13 c]
      exact pair_read _ _ _
    isplitl [HB_dst0 HB_dst1]
    · isplitl [HB_dst0]; · iexists _; iexact HB_dst0
      iexists _; iexact HB_dst1
    isplitl [HB]; · iexact HB
    isplitl [HN]; · iexact HN
    isplitl [Hr1]; · iexact Hr1
    iexists _; iexact HW

end Cert.Kernel5.Up

end
-- ==== Proof.UpLast.lean ====
/-
The body of one step, run on whole buffers.
-/
module

public import proofs.«01_k».proof.Proof.UpPair
public import Idealize.ShloMosaic.Lib.VecWindow

@[expose] public section

set_option maxRecDepth 16384

noncomputable section

namespace Cert.Kernel5.Up

open Cert.Kernel5 Cert.Kernel5.Gen
open Cert.Kernel4.Down (slotW expertW colW opp)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The step at which the last block begins waits for its transfers. -/
theorem run_last (c : Dev nD) (i : grid0.Coords) (arg4 : Memref sig .tc .vmem S256x2048 .f32) (harg4 : arg4.IsWhole) (arg5 : Memref sig .tc .vmem S1x1x1024 .f32) (harg5 : arg5.IsWhole) (arg6 : Memref sig .tc .vmem S1x1x1024 .f32) (harg6 : arg6.IsWhole) (arg8 : Memref sig .tc .vmem S256x1024 .bf16) (harg8 : arg8.IsWhole)
    (T0 : S2352.Idx → Elt F .i32) (T1 : S168.Idx → Elt F .i32) (x0 : Vec F S256x2048 .f32) (x1 x2 : Vec F S1x1x1024 .f32)
    (wb : WBuf (F := F) c) (s : Fin 2) (e : Fin 32) (h : Fin 2)
    (h1 : k0_cond1 (readS T0 (k0_off1 i 0#32) (k0_off1_inb i 0)) = 1#1)
    (h2 : ¬k0_cond2 i = 1#1)
    (hs : readS T0 (k0_off2 i 1#32) (k0_off2_inb i 0) = slotW s)
    (he : readS T0 (k0_off2 i 2#32) (k0_off2_inb i 1) = expertW e)
    (hc : readS T0 (k0_off2 i 3#32) (k0_off2_inb i 2) = colW h)
    (h3 : ¬k0_cond3 (readS T0 (k0_off14 i) (k0_off14_inb i)) = 1#1)
    (W : Waits sig Unit) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg8 fullShare d)
        ∗ (schedM.view.loc (c : Thread nD τ) ↦{fullShare.right} T0) ∗ (validM.view.loc (c : Thread nD τ) ↦{fullShare.right} T1) ∗ (∃ g u, workP c g u)
        ∗ flightP c wb s e h ∗ restP c wb e h ∗ freeP c (opp s) ∗ cellP c (opp s) ∗ owes (c : Thread nD τ) 0 W
        ∗ (iprop(owns (c : Thread nD τ) arg4 fullShare x0 ∗ owns (c : Thread nD τ) arg5 fullShare x1 ∗ owns (c : Thread nD τ) arg6 fullShare x2 ∗ owns (c : Thread nD τ) arg8 fullShare (outv x0 x1 x2 (gateV c wb e h) (upV c wb e h) (readV T1 (k0_off21 i) (k0_off21_inb i)))
            ∗ (schedM.view.loc (c : Thread nD τ) ↦{fullShare.right} T0) ∗ (validM.view.loc (c : Thread nD τ) ↦{fullShare.right} T1) ∗ workP c (gateV c wb e h) (upV c wb e h)
            ∗ freeP c s ∗ cellP c s ∗ freeP c (opp s) ∗ cellP c (opp s) ∗ wholeP c wb ∗ ∃ W', owes (c : Thread nD τ) 0 W') -∗ K ⟨⟩))
      ⊢ wp frame (wpE (defs₀ (F := F)) Variants.none c none) Set.univ (cc0_moe_up i schedM (Memref.isWhole_whole _) validM (Memref.isWhole_whole _) arg4 harg4 arg5 harg5 arg6 harg6 weightsM (Memref.isWhole_whole _) arg8 harg8 stageM (Memref.isWhole_whole _) cc0_scratch1 workM (Memref.isWhole_whole _)) K := by
  rw [cc0_moe_up_eq_skeleton]; unfold cc0_moe_up_skel
  rw [k0_part1_eq_skeleton]
  unfold owns workP
  iintro ⟨⟨%f0, %hf0, H0⟩, ⟨%f1, %hf1, H1⟩, ⟨%f2, %hf2, H2⟩, ⟨%d3, %f3, -, H3⟩, HT0, HT1, ⟨%g, %u, %fw, -, HS⟩, HB, Hr0, ⟨⟨%b0, Hb0⟩, ⟨%b1, Hb1⟩⟩, Hc1, HW, Hk⟩
  obtain rfl := harg4.eq_unread hf0; obtain rfl := harg5.eq_unread hf1; obtain rfl := harg6.eq_unread hf2
  have hS : workM.IsWhole := Memref.isWhole_whole _
  have hT0 : schedM.IsWhole := Memref.isWhole_whole _
  have hT1 : validM.IsWhole := Memref.isWhole_whole _
  have hq0 := acc_sub s ⟨0, by decide⟩ _ (off12_eq s) (inb12 s)
  have hq1 := acc_sub s ⟨1, by decide⟩ _ (off13_eq s) (inb13 s)
  sl_exec (disch := first | (guard_target = k0_cond1 _ = _; exact h1))
  rw [show run_last.sl.r_1 i T0 = slotW s from hs]
  sl_exec (disch := first | (guard_target = k0_chk2 _ _ _; exact chk2 _ _ _))
  rw [show run_last.sl.r_2 i T0 = expertW e from he, show run_last.sl.r_3 i T0 = colW h from hc]
  sl_exec (disch := first | (guard_target = k0_chk1 _ _ _ _; exact chk1 _ _ _ _) | (guard_target = ¬(k0_cond2 _ = _); exact h2))
  ihave Hw := (weights_split c wb e h).2 $$ [HB_src0 HB_src1 Hr0]
  · isplitl [HB_src0]; · iexact HB_src0
    isplitl [HB_src1]; · iexact HB_src1
    iexact Hr0
  by_cases h4 : k0_cond4 (readV T1 (k0_off21 i) (k0_off21_inb i)) = 1#1
  · have h5 := not_cond5_of _ h4
    sl_exec (disch := first | (guard_target = k0_chk4 _ _ _; exact chk4 _ _ _) | (guard_target = ¬(k0_cond3 _ = _); exact h3) | (guard_target = k0_cond4 _ = _; exact h4) | (guard_target = ¬(k0_cond5 _ = _); exact h5))
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr; swap; · iexact H3
      ipureintro
      rw [View.read_writes_full, outv, if_pos h4, View.readAt_full, View.readAt_full, View.readAt_full, hf0, hf1, hf2]
      unfold run_last.sl.v21 run_last.sl.v28 run_last.sl.v51 run_last.sl.v58
      rw [land12 c, land13 c, (pair_cov _ _).1, (pair_cov _ _).2, gateV, upV]
    isplitl [HT0]; · iexact HT0
    isplitl [HT1]; · iexact HT1
    isplitl [HS]
    · iexists _; isplitr; swap; · iexact HS
      ipureintro
      unfold run_last.sl.v51 run_last.sl.v58
      rw [land12 c, land13 c]
      exact pair_read _ _ _
    isplitl [HB_dst0 HB_dst1]
    · isplitl [HB_dst0]; · iexists _; iexact HB_dst0
      iexists _; iexact HB_dst1
    isplitl [HB]; · iexact HB
    isplitl [Hb0 Hb1]
    · isplitl [Hb0]; · iexists _; iexact Hb0
      iexists _; iexact Hb1
    isplitl [Hc1]; · iexact Hc1
    isplitl [Hw]; · iexact Hw
    iexists _; iexact HW
  · have h5 := cond5_of_not _ h4
    sl_exec (disch := first | (guard_target = k0_chk4 _ _ _; exact chk4 _ _ _) | (guard_target = ¬(k0_cond3 _ = _); exact h3) | (guard_target = ¬(k0_cond4 _ = _); exact h4) | (guard_target = k0_cond5 _ = _; exact h5))
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]
    · iexists _; isplitr; swap; · iexact H3
      ipureintro
      rw [View.read_writes_full, outv, if_neg h4]
    isplitl [HT0]; · iexact HT0
    isplitl [HT1]; · iexact HT1
    isplitl [HS]
    · iexists _; isplitr; swap; · iexact HS
      ipureintro
      unfold run_last.sl.v51 run_last.sl.v58
      rw [land12 c, land13 c]
      exact pair_read _ _ _
    isplitl [HB_dst0 HB_dst1]
    · isplitl [HB_dst0]; · iexists _; iexact HB_dst0
      iexists _; iexact HB_dst1
    isplitl [HB]; · iexact HB
    isplitl [Hb0 Hb1]
    · isplitl [Hb0]; · iexists _; iexact Hb0
      iexists _; iexact Hb1
    isplitl [Hc1]; · iexact Hc1
    isplitl [Hw]; · iexact Hw
    iexists _; iexact HW

end Cert.Kernel5.Up

end
-- ==== Proof.UpRun.lean ====
/-
The whole run: what holds between two steps, the body obligation, the launch, and the frame.
-/
module

public import proofs.«01_k».proof.Proof.UpWords
public import proofs.«01_k».proof.Proof.UpStay
public import proofs.«01_k».proof.Proof.UpFirst
public import proofs.«01_k».proof.Proof.UpOnly
public import proofs.«01_k».proof.Proof.UpNext
public import proofs.«01_k».proof.Proof.UpLast
public import proofs.«01_k».proof.Proof.Gen.Kernel5.Launch
public import Idealize.ShloMosaic.Lib.Pipeline.Quiescent
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Adequacy
public import Idealize.ShloMosaic.Init

@[expose] public section

set_option maxRecDepth 16384

noncomputable section

namespace Cert.Kernel5.Up

open Cert.Kernel5 Cert.Kernel5.Gen
open Cert.Kernel4.Down (slotW expertW colW opp Sched word fld begins slotOf eOf hOf names eNext hNext)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The contents the region finds, the schedule, the tiles' experts and the tiles' validity on device `c`. -/
def V (c : Dev nD) (b : Ref sig .tc) : Buf (Elt F) ((c : Thread nD τ).loc b) := m ((c : Thread nD τ).loc b)
abbrev tS (c : Dev nD) : IVec S2352 32 := m ((c : Thread nD τ).loc main_arg1)
abbrev tE (c : Dev nD) : IVec S168 32 := m ((c : Thread nD τ).loc main_arg2)
abbrev tV (c : Dev nD) : IVec S168 32 := m ((c : Thread nD τ).loc main_arg3)

/-- The prefetched tables are the memory's. -/
def pf : pre0.Contents (Elt F) := fun k => m (((0 : Dev nD) : Thread nD τ).loc (pre0.ref k))

theorem pf_at (i : grid0.Coords) (off p) (h) : (pf m).at 0 (Rect.unit (s := S2352) off S1.size p) h = readS (F := F) (tS m 0) off p := rfl

theorem off_1i : ∀ i : grid0.Coords, k0_off1 i 2#32 0 = ((i 0).val * 168 + (i 1).val) * 7 + 2 := by decide +kernel

theorem coords_lt (i : grid0.Coords) : (i 0).val < 2 ∧ (i 1).val < 168 := ⟨(i 0).isLt, (i 1).isLt⟩

/-- The table-directed window's block at a grid point: its expert's row of the bias, its half of the columns. -/
theorem tr1_eq (i : grid0.Coords) :
    cc0_transform_1 k0_off1_inb numel1_S1 (pf m) i = ![(fld (tS m 0) ((i 0).val * 168 + (i 1).val) 2).toNat, 0, (i 0).val] := by
  have h := coords_lt i
  have e : (pf m).at 0 (Rect.unit (s := S2352) (k0_off1 i 2#32) S1.size (k0_off1_inb i 1)) numel1_S1 = fld (tS m 0) ((i 0).val * 168 + (i 1).val) 2 :=
    (pf_at m i _ _ _).trans ((readS_word _ _ _ _ (by omega) (off_1i i)).trans rfl)
  show ![BitVec.toNat ((pf m).at 0 (Rect.unit (s := S2352) (k0_off1 i 2#32) S1.size (k0_off1_inb i 1)) numel1_S1), (0#32).toNat, (BitVec.ofNat 32 (i 0).val).toNat] = _
  rw [e, show (BitVec.ofNat 32 (i 0).val).toNat = (i 0).val from by rw [BitVec.toNat_ofNat, Nat.mod_eq_of_lt (by omega)]]; rfl

/-- The second table-directed window's block: the same row, two blocks of columns further on. -/
theorem tr2_eq (i : grid0.Coords) :
    cc0_transform_2 k0_off1_inb numel1_S1 (pf m) i = ![(fld (tS m 0) ((i 0).val * 168 + (i 1).val) 2).toNat, 0, 2 + (i 0).val] := by
  have h := coords_lt i
  have e : (pf m).at 0 (Rect.unit (s := S2352) (k0_off1 i 2#32) S1.size (k0_off1_inb i 1)) numel1_S1 = fld (tS m 0) ((i 0).val * 168 + (i 1).val) 2 :=
    (pf_at m i _ _ _).trans ((readS_word _ _ _ _ (by omega) (off_1i i)).trans rfl)
  show ![BitVec.toNat ((pf m).at 0 (Rect.unit (s := S2352) (k0_off1 i 2#32) S1.size (k0_off1_inb i 1)) numel1_S1), (0#32).toNat, (2#32 + BitVec.ofNat 32 (i 0).val).toNat] = _
  rw [e, show (2#32 + BitVec.ofNat 32 (i 0).val).toNat = 2 + (i 0).val from by rw [BitVec.toNat_add, BitVec.toNat_ofNat, BitVec.toNat_ofNat]; omega]; rfl

/-- Under the schedule's facts both table-directed windows stay inside the bias. -/
theorem ok_pf (S : Sched (tS m 0) (tE m 0)) : ok0 (pf m) := by
  refine ⟨fun i => ?_, fun i => ?_⟩
  · have h := coords_lt i
    have hx := (S.expert ((i 0).val * 168 + (i 1).val) (by omega)).2
    refine ⟨?_, Or.inl rfl⟩
    rw [tr1_eq]
    intro a
    match a with
    | ⟨0, _⟩ => show ((fld (tS m 0) ((i 0).val * 168 + (i 1).val) 2).toNat + 1) * 1 ≤ 32; omega
    | ⟨1, _⟩ => show (0 + 1) * 1 ≤ 1; omega
    | ⟨2, _⟩ => show ((i 0).val + 1) * 1024 ≤ 4096; omega
  · have h := coords_lt i
    have hx := (S.expert ((i 0).val * 168 + (i 1).val) (by omega)).2
    refine ⟨?_, Or.inl rfl⟩
    rw [tr2_eq]
    intro a
    match a with
    | ⟨0, _⟩ => show ((fld (tS m 0) ((i 0).val * 168 + (i 1).val) 2).toNat + 1) * 1 ≤ 32; omega
    | ⟨1, _⟩ => show (0 + 1) * 1 ≤ 1; omega
    | ⟨2, _⟩ => show (2 + (i 0).val + 1) * 1024 ≤ 4096; omega

/-- The pipeline at those tables. -/
def adm (S : Sched (tS m 0) (tE m 0)) : (pcfg0 (F := F)).Adm := ⟨pf m, ok_pf m S⟩

variable (S : Sched (tS m 0) (tE m 0))

abbrev cfgA : Pipeline.Cfg sig Λ₀ := cfg0 (F := F) (adm m S)
abbrev pcs : Fin 1 → Pipeline.Cfg sig Λ₀ := Pipeline.pin (pcfgs (F := F)) fun _ => adm m S

/-- Each window's current staging buffer at step `t`, and its wholeness. -/
abbrev ms0 (t : Fin (cfgA m S).N) : Memref sig .tc .vmem S256x2048 .f32 := spec0_0.stage ((cfgA m S).slots t (0 : Fin 4))
abbrev hs0 (t : Fin (cfgA m S).N) : (ms0 m S t).IsWhole := hstage0_0 (((cfgA m S).slots t (0 : Fin 4)).cast nbuf0_0)
abbrev ms1 (t : Fin (cfgA m S).N) : Memref sig .tc .vmem S1x1x1024 .f32 := spec0_1.stage ((cfgA m S).slots t (1 : Fin 4))
abbrev hs1 (t : Fin (cfgA m S).N) : (ms1 m S t).IsWhole := hstage0_1 (((cfgA m S).slots t (1 : Fin 4)).cast nbuf0_1)
abbrev ms2 (t : Fin (cfgA m S).N) : Memref sig .tc .vmem S1x1x1024 .f32 := spec0_2.stage ((cfgA m S).slots t (2 : Fin 4))
abbrev hs2 (t : Fin (cfgA m S).N) : (ms2 m S t).IsWhole := hstage0_2 (((cfgA m S).slots t (2 : Fin 4)).cast nbuf0_2)
abbrev ms3 (t : Fin (cfgA m S).N) : Memref sig .tc .vmem S256x1024 .bf16 := spec0_3.stage ((cfgA m S).slots t (3 : Fin 4))
abbrev hs3 (t : Fin (cfgA m S).N) : (ms3 m S t).IsWhole := hstage0_3 (((cfgA m S).slots t (3 : Fin 4)).cast nbuf0_3)

/-- Window `w`'s block at step `t`. -/
def iblk (c : Dev nD) (w : Fin (cfgA m S).W) (t : Fin (cfgA m S).N) : (((cfgA m S).win w).xblock ((cfgA m S).grid.coords t)).Idx → Elt F ((cfgA m S).win w).elt :=
  (((cfgA m S).win w).blk t).view.read (Elt F) (V m c (Pipeline.arrRef spec0 w))

/-- What step `t` writes of the result. -/
def tileV (c : Dev nD) (t : Fin (cfgA m S).N) : Vec F S256x1024 .bf16 :=
  outv (iblk m S c (0 : Fin 4) t) (iblk m S c (1 : Fin 4) t) (iblk m S c (2 : Fin 4) t) (gateV c (V m c main_arg4) (eOf (tS m 0) t.val) (hOf (tS m 0) t.val)) (upV c (V m c main_arg4) (eOf (tS m 0) t.val) (hOf (tS m 0) t.val))
    (readV (F := F) (tV m 0) (k0_off21 (grid0.coords t)) (k0_off21_inb (grid0.coords t)))

/-! ### What holds between two steps -/

/-- Nothing in flight: both slots and both cells are free and the weights are whole. -/
def Free (c : Dev nD) (W : WBuf (F := F) c) (σ : Fin 2) : sProp 𝕄 :=
  iprop(freeP c σ ∗ freeP c (opp σ) ∗ cellP c σ ∗ cellP c (opp σ) ∗ wholeP c W)
/-- Block (e, h) in flight to the slot other than `σ`. -/
def Fly (c : Dev nD) (W : WBuf (F := F) c) (σ : Fin 2) (e : Fin 32) (h : Fin 2) : sProp 𝕄 :=
  iprop(flightP c W (opp σ) e h ∗ restP c W e h ∗ freeP c σ ∗ cellP c σ)
/-- After step `n`: the block it names, if any, is in flight; the working copy is the step's own block. -/
def Ring (c : Dev nD) (W : WBuf (F := F) c) (T : IVec S2352 32) : ℕ → sProp 𝕄
  | 0 => iprop(Free c W (slotOf T 0) ∗ ∃ g u, workP c g u)
  | n + 1 => iprop((if fld T n 4 = 1#32 then Fly c W (slotOf T n) (eNext T n) (hNext T n) else Free c W (slotOf T n))
      ∗ workP c (gateV c W (eOf T n) (hOf T n)) (upV c W (eOf T n) (hOf T n)))
/-- The invariant before step `k`. -/
def Phi (c : Dev nD) (k : ℕ) : sProp 𝕄 :=
  iprop((schedM.view.loc (c : Thread nD τ) ↦{fullShare.right} (tS m 0 : S2352.Idx → Elt F .i32)) ∗ (validM.view.loc (c : Thread nD τ) ↦{fullShare.right} (tV m 0 : S168.Idx → Elt F .i32)) ∗ (∃ r, prngReg c r)
    ∗ Ring c (V m c main_arg4) (tS m 0) k)

/-- The proof data of the pipeline. -/
def dats (_ : Fin 1) (c : Dev nD) : Dat τ (Elt F) Unit ℕ (Pipeline.UD sig nD τ) ℕ (cfgA m S) c where
  A w := V m c (Pipeline.arrRef spec0 w)
  after w t := match w with
    | ⟨0, _⟩ => iblk m S c (0 : Fin 4) t
    | ⟨1, _⟩ => iblk m S c (1 : Fin 4) t
    | ⟨2, _⟩ => iblk m S c (2 : Fin 4) t
    | ⟨3, _⟩ => tileV m S c t
  Φ t := Phi m c t.val
  q w := Pipeline.shareOf spec0 w
  owed _ := 0

theorem A_eq (c : Dev nD) (w : Fin (cfgA m S).W) : (dats m S 0 c).A w = V m c (Pipeline.arrRef spec0 w) := by dsimp only [dats]
theorem after0 (c : Dev nD) (t : Fin (cfgA m S).N) : (dats m S 0 c).after (0 : Fin 4) t = iblk m S c (0 : Fin 4) t := by dsimp only [dats]
theorem after1 (c : Dev nD) (t : Fin (cfgA m S).N) : (dats m S 0 c).after (1 : Fin 4) t = iblk m S c (1 : Fin 4) t := by dsimp only [dats]
theorem after2 (c : Dev nD) (t : Fin (cfgA m S).N) : (dats m S 0 c).after (2 : Fin 4) t = iblk m S c (2 : Fin 4) t := by dsimp only [dats]
theorem after3 (c : Dev nD) (t : Fin (cfgA m S).N) : (dats m S 0 c).after (3 : Fin 4) t = tileV m S c t := by dsimp only [dats]
theorem Phi_castSucc (c : Dev nD) (t : Fin (cfgA m S).N) : (dats m S 0 c).Φ t.castSucc = Phi m c t.val := by
  dsimp only [dats]; simp only [Fin.val_castSucc]
theorem Phi_succ (c : Dev nD) (t : Fin (cfgA m S).N) : (dats m S 0 c).Φ t.succ = Phi m c (t.val + 1) := by
  dsimp only [dats]; simp only [Fin.val_succ]

/-- Each input's staging buffer holds its block when the body runs. -/
theorem before0 (c : Dev nD) (t : Fin (cfgA m S).N) (d) : (dats m S 0 c).before (0 : Fin 4) t d = iblk m S c (0 : Fin 4) t :=
  ((dats m S 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA m S).N) (d) : (dats m S 0 c).before (1 : Fin 4) t d = iblk m S c (1 : Fin 4) t :=
  ((dats m S 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA m S).N) (d) : (dats m S 0 c).before (2 : Fin 4) t d = iblk m S c (2 : Fin 4) t :=
  ((dats m S 0 c).before_in_eq_fetched (2 : Fin 4) rfl (fun _ => rfl) (fun _ _ _ => rfl) (fun t => by rw [after2]; unfold Dat.blockOf iblk; rfl) t d).trans
    (by unfold Dat.fetched Dat.blockOf iblk; rfl)

/-- The result's window is stored at every step. -/
theorem idle3 (t : Fin (cfgA m S).N) : (cfgA m S).idle (3 : Fin 4) ((cfgA m S).grid.coords t) = false := by
  show (!(k0_cond4 ((pf m).atD 1 (k0_off21 (grid0.coords t))) == 1#1) && !(k0_cond5 ((pf m).atD 1 (k0_off22 (grid0.coords t))) == 1#1)) = false
  have e : k0_off22 (grid0.coords t) = k0_off21 (grid0.coords t) := rfl
  rw [e]
  by_cases h : k0_cond4 ((pf m).atD 1 (k0_off21 (grid0.coords t))) = 1#1
  · rw [h]; rfl
  · rw [cond5_of_not _ h]; simp

/-- The body at step `t`, as the pipeline calls it. -/
abbrev bodyAt (t : Fin (cfgA m S).N) : Prog (TpuEff nD τ sig (Elt F) Λ₀ .tc) PUnit :=
  cc0_moe_up (grid0.coords t) schedM (Memref.isWhole_whole _) validM (Memref.isWhole_whole _) (ms0 m S t) (hs0 m S t) (ms1 m S t) (hs1 m S t) (ms2 m S t) (hs2 m S t) weightsM (Memref.isWhole_whole _) (ms3 m S t) (hs3 m S t) stageM (Memref.isWhole_whole _) cc0_scratch1 workM (Memref.isWhole_whole _)

theorem opp_opp (s : Fin 2) : opp (opp s) = s := by revert s; decide

theorem Ring_succ (c : Dev nD) (W : WBuf (F := F) c) (T : IVec S2352 32) (n : ℕ) : Ring c W T (n + 1) = iprop((if fld T n 4 = 1#32 then Fly c W (slotOf T n) (eNext T n) (hNext T n) else Free c W (slotOf T n))
      ∗ workP c (gateV c W (eOf T n) (hOf T n)) (upV c W (eOf T n) (hOf T n))) := rfl

/-- A step that begins no block keeps what holds. -/
theorem Ring_stay (c : Dev nD) (W : WBuf (F := F) c) {T : IVec S2352 32} {te : IVec S168 32} (S : Sched T te) (n : ℕ) (hn : n < 335) (b : ¬begins T (n + 1)) :
    Ring c W T (n + 1 + 1) = Ring c W T (n + 1) := by
  obtain ⟨a1, a2, a3, a4, a5, a6⟩ := S.at_stay n hn b
  rw [Ring_succ, Ring_succ, a2, a3, a4, a5, a6]
  unfold names at a1
  by_cases q : fld T n 4 = 1#32
  · rw [if_pos q, if_pos (a1.2 q)]
  · rw [if_neg q, if_neg (mt a1.1 q)]

def bodyPre (c : Dev nD) (t : Fin (cfgA m S).N) : sProp 𝕄 :=
  iprop((dats m S 0 c).Φ t.castSucc ∗ (dats m S 0 c).owesAt () t.castSucc
    ∗ (∃ d, owns (c : Thread nD τ) (ms0 m S t) fullShare ((dats m S 0 c).before (0 : Fin 4) t d))
    ∗ (∃ d, owns (c : Thread nD τ) (ms1 m S t) fullShare ((dats m S 0 c).before (1 : Fin 4) t d))
    ∗ (∃ d, owns (c : Thread nD τ) (ms2 m S t) fullShare ((dats m S 0 c).before (2 : Fin 4) t d))
    ∗ (∃ d, owns (c : Thread nD τ) (ms3 m S t) fullShare ((dats m S 0 c).before (3 : Fin 4) t d)))
def bodyPost (c : Dev nD) (t : Fin (cfgA m S).N) : sProp 𝕄 :=
  iprop((dats m S 0 c).Φ t.succ ∗ (dats m S 0 c).owesAt () t.succ
    ∗ owns (c : Thread nD τ) (ms0 m S t) fullShare ((dats m S 0 c).after (0 : Fin 4) t)
    ∗ owns (c : Thread nD τ) (ms1 m S t) fullShare ((dats m S 0 c).after (1 : Fin 4) t)
    ∗ owns (c : Thread nD τ) (ms2 m S t) fullShare ((dats m S 0 c).after (2 : Fin 4) t)
    ∗ owns (c : Thread nD τ) (ms3 m S t) fullShare ((dats m S 0 c).after (3 : Fin 4) t))

set_option maxHeartbeats 4000000 in
/-- The body at any step: the schedule says which of the five cases the step is, and that case's run applies. -/
theorem sound_body (c : Dev nD) (t : Fin (cfgA m S).N) :
    bodyPre m S c t ⊢ wp frame (wpE (defs₀ (F := F)) Variants.none c none) Set.univ (bodyAt m S t) (fun _ => bodyPost m S c t) := by
  unfold bodyPre bodyPost bodyAt
  simp only [before0, before1, before2]
  rw [after0, after1, after2, after3, Phi_castSucc m S c t, Phi_succ m S c t]
  unfold Dat.owesAt Pipeline.owesWithin
  rw [show (dats m S 0 c).owed t.castSucc = 0 from rfl, show (dats m S 0 c).owed t.succ = 0 from rfl]
  unfold Phi tileV
  have lt : t.val < 336 := lt336 t
  have h1' := cond1_iff (F := F) S t
  have h2' := cond2_iff t
  have h3' := cond3_iff (F := F) S t
  have hs := read_slot (F := F) S t
  have he := read_e (F := F) S t
  have hc := read_h (F := F) S t
  have he' := read_e' (F := F) S t
  have hc' := read_h' (F := F) S t
  obtain hn | ⟨n, hn⟩ : t.val = 0 ∨ ∃ n, t.val = n + 1 := by
    rcases Nat.eq_zero_or_pos t.val with h | h
    · exact Or.inl h
    · exact Or.inr ⟨t.val - 1, by omega⟩
  · rw [hn] at h1' h2' h3' hs he hc he' hc' ⊢
    have h1 := h1'.2 S.start0
    have h2 := h2'.2 rfl
    rw [Ring_succ]
    by_cases q : names (tS m 0) 0
    · have h3 := h3'.2 q
      rw [if_pos (show fld (tS m 0) 0 4 = 1#32 from q)]
      unfold Ring Free Fly
      iintro ⟨⟨HT0, HT1, Hg, ⟨HF1, HF2, HC1, HC2, HW⟩, HM⟩, ⟨%W, -, HO⟩, ⟨%d0, H0⟩, ⟨%d1, H1⟩, ⟨%d2, H2⟩, ⟨%d3, H3⟩⟩
      iapply (run_first c (grid0.coords t) (ms0 m S t) (hs0 m S t) (ms1 m S t) (hs1 m S t) (ms2 m S t) (hs2 m S t) (ms3 m S t) (hs3 m S t) (tS m 0) (tV m 0) (iblk m S c (0 : Fin 4) t) (iblk m S c (1 : Fin 4) t) (iblk m S c (2 : Fin 4) t) (V m c main_arg4) (slotOf (tS m 0) 0) (eOf (tS m 0) 0) (hOf (tS m 0) 0) (eNext (tS m 0) 0) (hNext (tS m 0) 0) h1 h2 hs he hc h3 (he' q) (hc' q) W _)
      isplitl [H0]; · iexact H0
      isplitl [H1]; · iexact H1
      isplitl [H2]; · iexact H2
      isplitl [H3]; · iexists _; iexact H3
      isplitl [HT0]; · iexact HT0
      isplitl [HT1]; · iexact HT1
      isplitl [HM]; · iexact HM
      isplitl [HF1]; · iexact HF1
      isplitl [HF2]; · iexact HF2
      isplitl [HC1]; · iexact HC1
      isplitl [HC2]; · iexact HC2
      isplitl [HW]; · iexact HW
      isplitl [HO]; · iexact HO
      iintro ⟨H0, H1, H2, H3, HT0, HT1, HM, HS, HC, HF, HR, ⟨%W', HO⟩⟩
      isplitl [HT0 HT1 Hg HM HS HC HF HR]
      · isplitl [HT0]; · iexact HT0
        isplitl [HT1]; · iexact HT1
        isplitl [Hg]; · iexact Hg
        isplitl [HF HR HS HC]
        · isplitl [HF]; · iexact HF
          isplitl [HR]; · iexact HR
          isplitl [HS]; · iexact HS
          iexact HC
        iexact HM
      isplitl [HO]
      · iexists W'; isplitr; · ipureintro; exact fun _ _ => Or.inl trivial
        iexact HO
      isplitl [H0]; · iexact H0
      isplitl [H1]; · iexact H1
      isplitl [H2]; · iexact H2
      iexact H3
    · have h3 := mt h3'.1 q
      rw [if_neg (show ¬fld (tS m 0) 0 4 = 1#32 from q)]
      unfold Ring Free
      iintro ⟨⟨HT0, HT1, Hg, ⟨HF1, HF2, HC1, HC2, HW⟩, HM⟩, ⟨%W, -, HO⟩, ⟨%d0, H0⟩, ⟨%d1, H1⟩, ⟨%d2, H2⟩, ⟨%d3, H3⟩⟩
      iapply (run_only c (grid0.coords t) (ms0 m S t) (hs0 m S t) (ms1 m S t) (hs1 m S t) (ms2 m S t) (hs2 m S t) (ms3 m S t) (hs3 m S t) (tS m 0) (tV m 0) (iblk m S c (0 : Fin 4) t) (iblk m S c (1 : Fin 4) t) (iblk m S c (2 : Fin 4) t) (V m c main_arg4) (slotOf (tS m 0) 0) (eOf (tS m 0) 0) (hOf (tS m 0) 0) h1 h2 hs he hc h3 W _)
      isplitl [H0]; · iexact H0
      isplitl [H1]; · iexact H1
      isplitl [H2]; · iexact H2
      isplitl [H3]; · iexists _; iexact H3
      isplitl [HT0]; · iexact HT0
      isplitl [HT1]; · iexact HT1
      isplitl [HM]; · iexact HM
      isplitl [HF1]; · iexact HF1
      isplitl [HF2]; · iexact HF2
      isplitl [HC1]; · iexact HC1
      isplitl [HC2]; · iexact HC2
      isplitl [HW]; · iexact HW
      isplitl [HO]; · iexact HO
      iintro ⟨H0, H1, H2, H3, HT0, HT1, HM, HS, HC, HS2, HC2, HW, ⟨%W', HO⟩⟩
      isplitl [HT0 HT1 Hg HM HS HC HS2 HC2 HW]
      · isplitl [HT0]; · iexact HT0
        isplitl [HT1]; · iexact HT1
        isplitl [Hg]; · iexact Hg
        isplitl [HS HS2 HC HC2 HW]
        · isplitl [HS]; · iexact HS
          isplitl [HS2]; · iexact HS2
          isplitl [HC]; · iexact HC
          isplitl [HC2]; · iexact HC2
          iexact HW
        iexact HM
      isplitl [HO]
      · iexists W'; isplitr; · ipureintro; exact fun _ _ => Or.inl trivial
        iexact HO
      isplitl [H0]; · iexact H0
      isplitl [H1]; · iexact H1
      isplitl [H2]; · iexact H2
      iexact H3
  · rw [hn] at h1' h2' h3' hs he hc he' hc' ⊢
    have h2 : ¬k0_cond2 (grid0.coords t) = 1#1 := fun h => absurd (h2'.1 h) (by omega)
    by_cases b : begins (tS m 0) (n + 1)
    · have h1 := h1'.2 b
      obtain ⟨a1, a2, a3, a4⟩ := S.at_begin n (by omega) b
      rw [Ring_succ, Ring_succ, if_pos (show fld (tS m 0) n 4 = 1#32 from a1), a2, a3, show slotOf (tS m 0) n = opp (slotOf (tS m 0) (n + 1)) by rw [a4, opp_opp]]
      by_cases q : names (tS m 0) (n + 1)
      · have h3 := h3'.2 q
        rw [if_pos (show fld (tS m 0) (n + 1) 4 = 1#32 from q)]
        unfold Fly
        rw [opp_opp]
        iintro ⟨⟨HT0, HT1, Hg, ⟨HF1, HW, HF2, HC2⟩, HM⟩, ⟨%W, -, HO⟩, ⟨%d0, H0⟩, ⟨%d1, H1⟩, ⟨%d2, H2⟩, ⟨%d3, H3⟩⟩
        iapply (run_next c (grid0.coords t) (ms0 m S t) (hs0 m S t) (ms1 m S t) (hs1 m S t) (ms2 m S t) (hs2 m S t) (ms3 m S t) (hs3 m S t) (tS m 0) (tV m 0) (iblk m S c (0 : Fin 4) t) (iblk m S c (1 : Fin 4) t) (iblk m S c (2 : Fin 4) t) (V m c main_arg4) (slotOf (tS m 0) (n + 1)) (eOf (tS m 0) (n + 1)) (hOf (tS m 0) (n + 1)) (eNext (tS m 0) (n + 1)) (hNext (tS m 0) (n + 1)) h1 h2 hs he hc h3 (he' q) (hc' q) W _)
        isplitl [H0]; · iexact H0
        isplitl [H1]; · iexact H1
        isplitl [H2]; · iexact H2
        isplitl [H3]; · iexists _; iexact H3
        isplitl [HT0]; · iexact HT0
        isplitl [HT1]; · iexact HT1
        isplitl [HM]; · iexists _; iexists _; iexact HM
        isplitl [HF1]; · iexact HF1
        isplitl [HW]; · iexact HW
        isplitl [HF2]; · iexact HF2
        isplitl [HC2]; · iexact HC2
        isplitl [HO]; · iexact HO
        iintro ⟨H0, H1, H2, H3, HT0, HT1, HM, HS, HC, HF, HR, ⟨%W', HO⟩⟩
        isplitl [HT0 HT1 Hg HM HS HC HF HR]
        · isplitl [HT0]; · iexact HT0
          isplitl [HT1]; · iexact HT1
          isplitl [Hg]; · iexact Hg
          isplitl [HF HR HS HC]
          · isplitl [HF]; · iexact HF
            isplitl [HR]; · iexact HR
            isplitl [HS]; · iexact HS
            iexact HC
          iexact HM
        isplitl [HO]
        · iexists W'; isplitr; · ipureintro; exact fun _ _ => Or.inl trivial
          iexact HO
        isplitl [H0]; · iexact H0
        isplitl [H1]; · iexact H1
        isplitl [H2]; · iexact H2
        iexact H3
      · have h3 := mt h3'.1 q
        rw [if_neg (show ¬fld (tS m 0) (n + 1) 4 = 1#32 from q)]
        unfold Fly Free
        rw [opp_opp]
        iintro ⟨⟨HT0, HT1, Hg, ⟨HF1, HW, HF2, HC2⟩, HM⟩, ⟨%W, -, HO⟩, ⟨%d0, H0⟩, ⟨%d1, H1⟩, ⟨%d2, H2⟩, ⟨%d3, H3⟩⟩
        iapply (run_last c (grid0.coords t) (ms0 m S t) (hs0 m S t) (ms1 m S t) (hs1 m S t) (ms2 m S t) (hs2 m S t) (ms3 m S t) (hs3 m S t) (tS m 0) (tV m 0) (iblk m S c (0 : Fin 4) t) (iblk m S c (1 : Fin 4) t) (iblk m S c (2 : Fin 4) t) (V m c main_arg4) (slotOf (tS m 0) (n + 1)) (eOf (tS m 0) (n + 1)) (hOf (tS m 0) (n + 1)) h1 h2 hs he hc h3 W _)
        isplitl [H0]; · iexact H0
        isplitl [H1]; · iexact H1
        isplitl [H2]; · iexact H2
        isplitl [H3]; · iexists _; iexact H3
        isplitl [HT0]; · iexact HT0
        isplitl [HT1]; · iexact HT1
        isplitl [HM]; · iexists _; iexists _; iexact HM
        isplitl [HF1]; · iexact HF1
        isplitl [HW]; · iexact HW
        isplitl [HF2]; · iexact HF2
        isplitl [HC2]; · iexact HC2
        isplitl [HO]; · iexact HO
        iintro ⟨H0, H1, H2, H3, HT0, HT1, HM, HS, HC, HS2, HC2, HW, ⟨%W', HO⟩⟩
        isplitl [HT0 HT1 Hg HM HS HC HS2 HC2 HW]
        · isplitl [HT0]; · iexact HT0
          isplitl [HT1]; · iexact HT1
          isplitl [Hg]; · iexact Hg
          isplitl [HS HS2 HC HC2 HW]
          · isplitl [HS]; · iexact HS
            isplitl [HS2]; · iexact HS2
            isplitl [HC]; · iexact HC
            isplitl [HC2]; · iexact HC2
            iexact HW
          iexact HM
        isplitl [HO]
        · iexists W'; isplitr; · ipureintro; exact fun _ _ => Or.inl trivial
          iexact HO
        isplitl [H0]; · iexact H0
        isplitl [H1]; · iexact H1
        isplitl [H2]; · iexact H2
        iexact H3
    · have h1 := mt h1'.1 b
      rw [Ring_stay c _ S n (by omega) b, Ring_succ]
      obtain ⟨-, -, -, -, a5, a6⟩ := S.at_stay n (by omega) b
      rw [a5, a6]
      iintro ⟨⟨HT0, HT1, Hg, HR, HM⟩, HO, ⟨%d0, H0⟩, ⟨%d1, H1⟩, ⟨%d2, H2⟩, ⟨%d3, H3⟩⟩
      iapply (run_stay c (grid0.coords t) (ms0 m S t) (hs0 m S t) (ms1 m S t) (hs1 m S t) (ms2 m S t) (hs2 m S t) (ms3 m S t) (hs3 m S t) (tS m 0) (tV m 0) (iblk m S c (0 : Fin 4) t) (iblk m S c (1 : Fin 4) t) (iblk m S c (2 : Fin 4) t) (gateV c (V m c main_arg4) (eOf (tS m 0) n) (hOf (tS m 0) n)) (upV c (V m c main_arg4) (eOf (tS m 0) n) (hOf (tS m 0) n)) h1 _)
      isplitl [H0]; · iexact H0
      isplitl [H1]; · iexact H1
      isplitl [H2]; · iexact H2
      isplitl [H3]; · iexists _; iexact H3
      isplitl [HT0]; · iexact HT0
      isplitl [HT1]; · iexact HT1
      isplitl [HM]; · iexact HM
      iintro ⟨H0, H1, H2, H3, HT0, HT1, HM⟩
      isplitl [HT0 HT1 Hg HR HM]
      · isplitl [HT0]; · iexact HT0
        isplitl [HT1]; · iexact HT1
        isplitl [Hg]; · iexact Hg
        isplitl [HR]; · iexact HR
        iexact HM
      isplitl [HO]; · iexact HO
      isplitl [H0]; · iexact H0
      isplitl [H1]; · iexact H1
      isplitl [H2]; · iexact H2
      iexact H3

theorem defs₀_row (t : Fin (cfgA m S).N) :
    defs₀ (F := F) .tc (cfgA m S).body ((cfgA m S).bodyArgs t ((cfgA m S).slots t)) = bodyAt m S t := by
  unfold defs₀; rw [Defs.onTc_tc]

/-- The library's body obligation, at every step. -/
theorem body_obligation (c : Dev nD) : BodyObligation (dats m S 0 c) (defs₀ (F := F)) Variants.none () Set.univ := fun t => by
  rw [bigSep_W0, bigSep_W0, defs₀_row, idle3]
  exact triple_restated (sound_body m S c t) rfl .rfl fun _ => .rfl

end Cert.Kernel5.Up

end
-- ==== Proof.UpFrame.lean ====
/-
The launch: from any memory whose tables are a schedule the kernel runs to its end; its result is what the proof data say, its arguments end as they began, and every semaphore ends at zero.
-/
module

public import proofs.«01_k».proof.Proof.UpRun
public import Idealize.ShloMosaic.Lib.Pipeline.Quiescent
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Adequacy
public import Idealize.ShloMosaic.Init

@[expose] public section

set_option maxRecDepth 16384

noncomputable section

namespace Cert.Kernel5.Up

open Cert.Kernel5 Cert.Kernel5.Gen
open Cert.Kernel4.Down (slotW expertW colW opp Sched word fld begins slotOf eOf hOf names eNext hNext)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The semaphores of the two slots. -/
abbrev osem0 : Fin 2 → SemLoc sig := fun j => (![SemLoc.dma 8, SemLoc.dma 9] : Fin 2 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
/-- The weights, which the body reads itself. -/
def H0 : Finset (Ref sig .tc) := {main_arg4}
theorem H0_sub : H0 ⊆ Pipeline.restRefsP sig pre0 spec0 := by decide

variable (m : (ℓ : Loc nD τ sig) → Buf (Elt F) ℓ) (ρ : Dev nD → PrngReg)

theorem weights_eq (c : Dev nD) :
    (bigSep H0 (fun b => ((c : Thread nD τ).loc b) ↦{fullShare} V m c b) : sProp 𝕄) = wholeP c (V m c main_arg4) := by
  rw [BI.bigSep_eq_bigSepL_of_eq [main_arg4] (by decide) (by decide)]; rfl

theorem given_eq (c : Dev nD) :
    (Pipeline.ΦD osem0 spec0 H0 (V m) c : sProp 𝕄)
      = iprop(iprop((∃ d, owns (c : Thread nD τ) stageM fullShare d) ∗ (∃ d : S2x2048x1024.Idx → Elt F .bf16, (workM.view.loc (c : Thread nD τ)) ↦{fullShare} d)) ∗ (∃ r, prngReg c r) ∗ iprop(semVal ((c : Thread nD τ), SemLoc.dma 8) 0 ∗ semVal ((c : Thread nD τ), SemLoc.dma 9) 0) ∗ wholeP c (V m c main_arg4)) := by
  rw [Pipeline.ΦD_eq, scopedRest0_eq, ownSems_eq, weights_eq]; simp only [owns_whole]; try rfl

theorem prefHeld_eq (c : Dev nD) (q : Fin 2 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_arg1) ↦{q 0} v 0) ∗ (((c : Thread nD τ).loc main_arg3) ↦{q 1} v 1)) := by
  unfold Pipeline.prefHeld
  rw [show (Finset.univ : Finset (Fin 2)) = insert (0 : Fin 2) {(1 : Fin 2)} from by decide, bigSep_insert (by decide), bigSep_singleton]
  rfl

variable (S : Sched (tS m 0) (tE m 0))

theorem slotOf_zero {T : IVec S2352 32} {te : IVec S168 32} (S : Sched T te) : slotOf T 0 = 0 := by
  unfold slotOf; rw [S.slot0]; rfl

/-- Before the first step the invariant holds of what the launch hands over. -/
theorem hin (c : Dev nD) : iprop(Pipeline.ΦD osem0 spec0 H0 (V m) c ∗ Pipeline.ΦT pre0 (pf m) c) ⊢ (dats m S 0 c).Φ 0 := by
  obtain rfl : c = 0 := Subsingleton.elim c 0
  rw [given_eq, show (Pipeline.ΦT pre0 (pf m) 0 : sProp 𝕄) = Pipeline.prefHeld pre0 0 (fun _ => fullShare.right) (pf m) from rfl, prefHeld_eq,
    show (dats m S 0 0).Φ 0 = Phi m 0 0 from rfl]
  unfold Phi Ring Free
  rw [slotOf_zero S, show opp 0 = 1 from rfl]
  unfold cellP
  rw [cellR_0, cellR_1]
  iintro ⟨⟨⟨HS, HM⟩, Hg, ⟨HC1, HC2⟩, HW⟩, ⟨HT0, HT1⟩⟩
  isplitl [HT0]; · iexact HT0
  isplitl [HT1]; · iexact HT1
  isplitl [Hg]; · iexact Hg
  isplitr [HM]
  · ihave HX := (slots_in (F := F) 0) $$ HS
    icases HX with ⟨HF1, HF2⟩
    isplitl [HF1]; · iexact HF1
    isplitl [HF2]; · iexact HF2
    isplitl [HC1]; · iexact HC1
    isplitl [HC2]; · iexact HC2
    iexact HW
  icases HM with ⟨%f, HM⟩
  unfold workP
  iexists (half0 f); iexists (half1 f); iexists f
  isplitr; · ipureintro; exact ⟨rfl, rfl⟩
  iexact HM

/-- The slots and cells in either order. -/
theorem free_out (c : Dev nD) (W : WBuf (F := F) c) (σ : Fin 2) : Free c W σ ⊢ iprop(freeP c 0 ∗ freeP c 1 ∗ cellP c 0 ∗ cellP c 1 ∗ wholeP c W) := by
  unfold Free
  fin_cases σ
  · exact .rfl
  · show iprop(freeP c 1 ∗ freeP c 0 ∗ cellP c 1 ∗ cellP c 0 ∗ wholeP c W) ⊢ _
    iintro ⟨HF1, HF2, HC1, HC2, HW⟩
    isplitl [HF2]; · iexact HF2
    isplitl [HF1]; · iexact HF1
    isplitl [HC2]; · iexact HC2
    isplitl [HC1]; · iexact HC1
    iexact HW

/-- After the last step nothing is in flight: what the launch handed over goes back. -/
theorem hout (c : Dev nD) : (dats m S 0 c).Φ (Fin.last (cfgA m S).N) ⊢ Pipeline.ΦD osem0 spec0 H0 (V m) c := by
  rw [given_eq, show (dats m S 0 c).Φ (Fin.last (cfgA m S).N) = Phi m c grid0.N from rfl, N_0]
  unfold Phi
  rw [show (336 : ℕ) = 335 + 1 from rfl, Ring_succ, S.last, if_neg (by decide)]
  iintro ⟨HT0, HT1, Hg, HF, HM⟩
  ihave HX := (free_out c (V m c main_arg4) _) $$ HF
  unfold cellP
  rw [cellR_0, cellR_1]
  icases HX with ⟨HF1, HF2, HC1, HC2, HW⟩
  isplitl [HF1 HF2 HM]
  · isplitl [HF1 HF2]
    · iapply (slots_out (F := F) c)
      isplitl [HF1]; · iexact HF1
      iexact HF2
    unfold workP
    icases HM with ⟨%f, -, HM⟩
    iexists f; iexact HM
  isplitl [Hg]; · iexact Hg
  isplitl [HC1 HC2]
  · isplitl [HC1]; · iexact HC1
    iexact HC2
  iexact HW

set_option backward.isDefEq.respectTransparency.types false in
/-- The launch. -/
theorem run_main_quiescent : θ_run (defs (F := F)) (onTc (τ := τ) (main (F := F))) (s₀ m ρ) (fun r => (Pipeline.FramePost (pcs m S) (dats m S) 0 (V m)) r ∧ r.2.sem = fun _ => 0) :=
  Pipeline.θ_run_frameP_dma_shared (Q' := _) (pcfgs (F := F)) (fun _ => adm m S) (dats m S) (0 : Fin 1) launch₀0 osem0 defs₀ Variants.none ownSemFacts0 H0 H0_sub m ρ main
    (hbody := fun c => (body_obligation m S c).loose) (hq := fun _ _ _ => rfl)
    (howed := fun _ _ => rfl) (V := V m) (hmain := Pipeline.hmainP_region _ 0 defs₀ Variants.none m main fun c => (main_chain c).trans rfl) (hA := A_eq m S)
    (hpf := fun c k => by obtain rfl : c = 0 := Subsingleton.elim c 0; rfl)
    (hin := hin m S) (hout := hout m S)

/-- Every argument ends as it began, the result is what the steps wrote, and every semaphore ends at zero. -/
theorem run_values : θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = (dats m S 0 c).arrAt (3 : Fin 4) (cfgA m S).N)
      ∧ r.2.sem = fun _ => 0) :=
  (θ_run (defs (F := F)) _ _).mono (fun r h => ⟨fun c => ⟨⟨((h.1 c).1 (0 : Fin 4)).trans ((dats m S 0 c).arrAt_in (0 : Fin 4) rfl _),
      (h.1 c).2 main_arg1 (by show main_arg1 ∈ Pipeline.restRefs sig spec0; decide), (h.1 c).2 main_arg2 (by show main_arg2 ∈ Pipeline.restRefs sig spec0; decide), (h.1 c).2 main_arg3 (by show main_arg3 ∈ Pipeline.restRefs sig spec0; decide), (h.1 c).2 main_arg4 (by show main_arg4 ∈ Pipeline.restRefs sig spec0; decide),
      ((h.1 c).1 (1 : Fin 4)).trans ((dats m S 0 c).arrAt_in (1 : Fin 4) rfl _)⟩, (h.1 c).1 (3 : Fin 4)⟩, h.2⟩) (run_main_quiescent m ρ S)

include S in
/-- The frame. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run (defs (F := F)) _ _).mono (fun _ h => ⟨fun c => (h.1 c).1, h.2⟩) (run_values m ρ S)

end Cert.Kernel5.Up

end
-- ==== Proof.UpIdeal.lean ====
/-
The idealized kernel has the kernel's text, so the run at extended reals is the run of the kernel at them.
-/
module

public import proofs.«01_k».proof.Proof.UpFrame
public import proofs.«01_k».proof.Kernel5Ideal
public import proofs.«01_k».proof.Proof.Gen.Kernel5Ideal.Launch

@[expose] public section

noncomputable section

namespace Cert.Kernel5Ideal.Up

open Idealize.ShloMosaic Idealize.ShloMosaic.TcCoe Idealize.SL.Sem
open Cert.Kernel4.Down (Sched)
open Cert.Kernel5.Up (tS tE dats cfgA)

theorem defs₀_same : (Cert.Kernel5Ideal.defs₀ (F := Ideal)) = (Cert.Kernel5.defs₀ (F := Ideal)) := by
  unfold Cert.Kernel5Ideal.defs₀ Cert.Kernel5.defs₀
  refine congrArg _ (funext fun l => funext fun a => ?_)
  match l, a with
  | 0, (t, s) => with_unfolding_all rfl

/-- The two programs' functions are the same. -/
theorem defs_same : (Cert.Kernel5Ideal.defs (F := Ideal)) = (Cert.Kernel5.defs (F := Ideal)) :=
  congrArg (Pipeline.defs (Cert.Kernel5.pcfgs (F := Ideal))) defs₀_same

open Cert.Kernel5Ideal in
/-- The run of the idealized kernel: arguments as they began, the result what the steps wrote, semaphores at zero. -/
theorem run_values (m : (ℓ : Loc nD τ sig) → Buf (Elt Ideal) ℓ) (ρ : Dev nD → PrngReg) (S : Sched (tS (F := Ideal) m 0) (tE (F := Ideal) m 0)) :
    θ_run (defs (F := Ideal)) (onTc (τ := τ) (main (F := Ideal))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = (dats (F := Ideal) m S 0 c).arrAt (3 : Fin 4) (cfgA (F := Ideal) m S).N)
      ∧ r.2.sem = fun _ => 0) := by
  rw [defs_same]
  exact Cert.Kernel5.Up.run_values (F := Ideal) m ρ S

end Cert.Kernel5Ideal.Up

end
-- ==== Proof.UpMath.lean ====
/-
What the gate and up projections of the experts and their activation are at one row, and that the reference computes them at every row.
-/
module

public import proofs.«01_k».proof.Proof.Gen.Reference5Ideal.Read
public import Idealize.ShloMosaic.Lib.Pointwise
public import proofs.«01_k».proof.Proof.DownMath
public import Idealize.ShloMosaic.Lib.Routing.Ops

@[expose] public section

set_option maxRecDepth 20000

noncomputable section

namespace Cert.Up

open Cert.Reference5Ideal Cert.Reference5Ideal.Gen Cert.Reference5Ideal.Read Idealize.ShloMosaic Idealize.ShloMosaic.TcCoe Idealize.SL.Sem

open Cert.Down (proj row wrap_word)

/-- The float constants of the activation. -/
abbrev lit (w : BitVec 32) : EReal := FloatOps.ofBits (F := Ideal) .f32 w

/-- The activation of a gate and an up projection: the gate is kept at most 7 and the up projection between -7 and 7;
the result is `(up + 1) * gate * sigmoid (1.702 * gate)`. -/
def act (g u : EReal) : EReal :=
  (min (lit 0x40E00000#32) (max (lit 0xC0E00000#32) u) + lit 0x3F800000#32) * min g (lit 0x40E00000#32)
    * Ideal.div (lit 0x3F800000#32) (lit 0x3F800000#32 + Ideal.exp (-(lit 0x3FD9DB23#32 * min g (lit 0x40E00000#32))))

/-- Column `n` of the gate's half of an expert's columns, and of the up projection's. -/
abbrev gateCol (n : Fin 2048) : Fin 4096 := ⟨n.val, by omega⟩
abbrev upCol (n : Fin 2048) : Fin 4096 := ⟨2048 + n.val, by omega⟩

/-- The matrices of the tiles' experts, taken out of all the experts' matrices. -/
theorem take_matrix (x : S32x2048x4096.Idx → EReal) (idx : IVec S168x1 32) (t : Fin 168) (k : Fin 2048) (n : Fin 4096) (e : Fin 32)
    (he : idx (ix2 t 0) = BitVec.ofNat 32 e.val) :
    Host.gather gather_S32x2048x4096_S168x1_S168x2048x4096_12_0_n_n_0_1_120484096 x idx (ix3 t k n) = x (ix3 e k n) := by
  unfold Host.gather
  refine congrArg x (funext fun a => Fin.ext ?_)
  show GatherDims.start _ (ix3 t k n) idx a + GatherDims.batchCoord _ (ix3 t k n) a + GatherDims.offCoord _ (ix3 t k n) a = _
  rw [GatherDims.batchCoord_eq_zero _ _ _ List.not_mem_nil]
  have cases3 : ∀ a : Fin 3, a = 0 ∨ a = 1 ∨ a = 2 := by decide
  rcases cases3 a with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x2048x4096_S168x1_S168x2048x4096_12_0_n_n_0_1_120484096.startIndexMap from List.mem_singleton.mpr rfl)]
    have hsi : gather_S32x2048x4096_S168x1_S168x2048x4096_12_0_n_n_0_1_120484096.siIdx (ix3 t k n) ⟨List.idxOf (0 : Fin 3) gather_S32x2048x4096_S168x1_S168x2048x4096_12_0_n_n_0_1_120484096.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi, he]
    have : ∀ e : Fin 32, min (BitVec.ofNat 32 e.val).toInt.toNat (32 - 1) = e.val := by decide
    exact this e
  · unfold GatherDims.start GatherDims.offCoord
    rw [dif_neg (show ¬(1 : Fin 3) ∈ gather_S32x2048x4096_S168x1_S168x2048x4096_12_0_n_n_0_1_120484096.startIndexMap by decide),
      dif_pos (show (1 : Fin 3) ∈ gather_S32x2048x4096_S168x1_S168x2048x4096_12_0_n_n_0_1_120484096.sKept by decide)]
    simp only [Nat.zero_add]
    rfl
  · unfold GatherDims.start GatherDims.offCoord
    rw [dif_neg (show ¬(2 : Fin 3) ∈ gather_S32x2048x4096_S168x1_S168x2048x4096_12_0_n_n_0_1_120484096.startIndexMap by decide),
      dif_pos (show (2 : Fin 3) ∈ gather_S32x2048x4096_S168x1_S168x2048x4096_12_0_n_n_0_1_120484096.sKept by decide)]
    simp only [Nat.zero_add]
    rfl

/-- The biases of the tiles' experts. -/
theorem take_bias (x : S32x4096.Idx → EReal) (idx : IVec S168x1 32) (t : Fin 168) (n : Fin 4096) (e : Fin 32)
    (he : idx (ix2 t 0) = BitVec.ofNat 32 e.val) :
    Host.gather gather_S32x4096_S168x1_S168x4096_1_0_n_n_0_1_14096 x idx (ix2 t n) = x (ix2 e n) :=
  Routing.gather_row gather_S32x4096_S168x1_S168x4096_1_0_n_n_0_1_14096 rfl rfl rfl rfl rfl x idx t n e he (by decide)

variable (x0 : S43008x2048.Idx → EReal) (x2 x3 : IVec S168 32) (x4 : S32x2048x4096.Idx → EReal) (x5 : S32x1x4096.Idx → EReal)

theorem ref_rows (t : Fin 168) (r : Fin 256) (k : Fin 2048) : val_main_v0 (F := Ideal) x0 (ix3 t r k) = x0 (ix2 (row t r) k) := by
  pointwise [val_main_v0]

theorem ref_expert (t : Fin 168) (e : Fin 32) (he : x2 (ix1 t) = BitVec.ofNat 32 e.val) :
    val_main_v6 (F := Ideal) x2 (ix2 t 0) = BitVec.ofNat 32 e.val := by
  have h : val_main_v6 (F := Ideal) x2 (ix2 t 0) = Scalar.select (IntOp.cmpi .slt (x2 (ix1 t)) 0#32) (IntOp.addi (x2 (ix1 t)) 32#32) (x2 (ix1 t)) := by
    pointwise [val_main_v6, val_main_v5, val_main_v4, val_main_v3, val_main_v2, val_main_v1, val_main_c, val_main_c_0]
  rw [h, he, wrap_word]
theorem ref_expert' (t : Fin 168) (e : Fin 32) (he : x2 (ix1 t) = BitVec.ofNat 32 e.val) :
    val_main_v14 (F := Ideal) x2 (ix2 t 0) = BitVec.ofNat 32 e.val := ref_expert x2 t e he

theorem ref_matrix (t : Fin 168) (k : Fin 2048) (n : Fin 4096) (e : Fin 32) (he : x2 (ix1 t) = BitVec.ofNat 32 e.val) :
    val_main_v7 (F := Ideal) x2 x4 (ix3 t k n) = x4 (ix3 e k n) := take_matrix x4 _ t k n e (ref_expert x2 t e he)

theorem ref_bias (t : Fin 168) (n : Fin 4096) (e : Fin 32) (he : x2 (ix1 t) = BitVec.ofNat 32 e.val) :
    val_main_v15 (F := Ideal) x2 x5 (ix2 t n) = x5 (ix3 e 0 n) := by
  refine (take_bias _ _ t n e (ref_expert' x2 t e he)).trans ?_
  pointwise [val_main_v8]

/-- The reference's product with its bias. -/
theorem ref_proj (t : Fin 168) (r : Fin 256) (n : Fin 4096) (e : Fin 32) (he : x2 (ix1 t) = BitVec.ofNat 32 e.val) :
    val_main_v19 (F := Ideal) x0 x2 x4 x5 (ix3 t r n) = proj (fun k => x0 (ix2 (row t r) k)) (fun k => x4 (ix3 e k n)) (x5 (ix3 e 0 n)) := by
  have h : val_main_v19 (F := Ideal) x0 x2 x4 x5 (ix3 t r n)
      = (∑ k : Fin 2048, val_main_v0 (F := Ideal) x0 (ix3 t r k) * val_main_v7 (F := Ideal) x2 x4 (ix3 t k n)) + val_main_v15 (F := Ideal) x2 x5 (ix2 t n) := by
    pointwise [val_main_v19, val_main_v18, val_main_v17, val_main_v16]
  rw [h, ref_bias x2 x5 t n e he]
  simp only [ref_rows, ref_matrix x2 x4 t _ n e he]
  rfl

/-- The reference's activation at a row of a tile, from its products with their biases. -/
theorem ref_act (t : Fin 168) (r : Fin 256) (n : Fin 2048) :
    val_main_v36 (F := Ideal) x0 x2 x4 x5 (ix3 t r n)
      = act (val_main_v19 (F := Ideal) x0 x2 x4 x5 (ix3 t r (gateCol n))) (val_main_v19 (F := Ideal) x0 x2 x4 x5 (ix3 t r (upCol n))) := by
  have hg : val_main_v20 (F := Ideal) x0 x2 x4 x5 (ix3 t r n) = val_main_v19 (F := Ideal) x0 x2 x4 x5 (ix3 t r (gateCol n)) := by
    unfold val_main_v20
    generalize val_main_v19 (F := Ideal) x0 x2 x4 x5 = G
    pointwise
  have hu : val_main_v23 (F := Ideal) x0 x2 x4 x5 (ix3 t r n) = val_main_v19 (F := Ideal) x0 x2 x4 x5 (ix3 t r (upCol n)) := by
    unfold val_main_v23
    generalize val_main_v19 (F := Ideal) x0 x2 x4 x5 = G
    pointwise
  rw [← hg, ← hu]
  unfold act val_main_v36 val_main_v35 val_main_v34 val_main_v33 val_main_v32 val_main_v31 val_main_v30 val_main_v29 val_main_v28 val_main_v27 val_main_v26 val_main_v25 val_main_v24 val_main_call0_v4 val_main_call0_v3 val_main_call0_v2 val_main_call0_v1 val_main_call0_v0 val_main_v22 val_main_v21
  generalize val_main_v20 (F := Ideal) x0 x2 x4 x5 = G
  generalize val_main_v23 (F := Ideal) x0 x2 x4 x5 = U
  rfl

/-- The reference's result at a row of a tile: the activation of the row's projections by the tile's expert, or zero where the
tile holds no row. -/
theorem ref_up (t : Fin 168) (r : Fin 256) (n : Fin 2048) (e : Fin 32) (he : x2 (ix1 t) = BitVec.ofNat 32 e.val) :
    val_main_v42 (F := Ideal) x0 x2 x3 x4 x5 (ix2 (row t r) n)
      = if x3 (ix1 t) = 0#32 then 0
        else act (proj (fun k => x0 (ix2 (row t r) k)) (fun k => x4 (ix3 e k (gateCol n))) (x5 (ix3 e 0 (gateCol n))))
          (proj (fun k => x0 (ix2 (row t r) k)) (fun k => x4 (ix3 e k (upCol n))) (x5 (ix3 e 0 (upCol n)))) := by
  have h0 : val_main_v42 (F := Ideal) x0 x2 x3 x4 x5 (ix2 (row t r) n) = val_main_v41 (F := Ideal) x0 x2 x3 x4 x5 (ix2 (row t r) n) := by
    unfold val_main_v42
    generalize val_main_v41 (F := Ideal) x0 x2 x3 x4 x5 = G
    pointwise
  have h1 : val_main_v41 (F := Ideal) x0 x2 x3 x4 x5 (ix2 (row t r) n) = val_main_v40 (F := Ideal) x0 x2 x3 x4 x5 (ix3 t r n) := by
    rw [val_main_v41_apply]
    refine congrArg _ (funext fun a => Fin.ext ?_)
    have := t.isLt; have := r.isLt; have := n.isLt
    match a with
    | ⟨0, _⟩ => show ((t.val * 256 + r.val) * 2048 + n.val) / 524288 = t.val; omega
    | ⟨1, _⟩ => show ((t.val * 256 + r.val) * 2048 + n.val) / 2048 % 256 = r.val; omega
    | ⟨2, _⟩ => show ((t.val * 256 + r.val) * 2048 + n.val) % 2048 = n.val; omega
  have h2 : val_main_v40 (F := Ideal) x0 x2 x3 x4 x5 (ix3 t r n)
      = Scalar.select (IntOp.cmpi .ne (x3 (ix1 t)) 0#32) (val_main_v36 (F := Ideal) x0 x2 x4 x5 (ix3 t r n)) 0 := by
    have hz : id (constant (F := Ideal) S_ FTy.f32 0x00000000#32) ix0 = (0 : EReal) := Ideal.ofBits_zero_f32
    rw [← hz]
    unfold val_main_v40
    generalize val_main_v36 (F := Ideal) x0 x2 x4 x5 = G
    pointwise [val_main_call1_v2, val_main_call1_v1, val_main_call1_v0, val_main_cst_10, val_main_v39, val_main_v38, val_main_v37, val_main_c_9]
  rw [h0, h1, h2, ref_act, ref_proj x0 x2 x4 x5 t r _ e he, ref_proj x0 x2 x4 x5 t r _ e he]
  by_cases q : x3 (ix1 t) = 0#32
  · rw [if_pos q, q]; rfl
  · have : IntOp.cmpi .ne (x3 (ix1 t)) 0#32 = 1#1 := by
      show BitVec.ofBool (x3 (ix1 t) != 0#32) = 1#1
      rw [bne_iff_ne.2 q]; rfl
    rw [if_neg q, this]; rfl

end Cert.Up

end
-- ==== Proof.UpTile.lean ====
/-
What one step writes: the activation of a tile's rows projected by the tile's expert, on the step's half of the columns.
-/
module

public import proofs.«01_k».proof.Proof.UpIdeal
public import proofs.«01_k».proof.Proof.UpMath
public import proofs.«01_k».proof.Proof.DownTile

@[expose] public section

set_option maxRecDepth 20000

noncomputable section

namespace Cert.Kernel5.Up

open Cert.Kernel5 Cert.Kernel5.Gen Idealize.ShloMosaic Idealize.ShloMosaic.TcCoe Idealize.SL.Sem
open Cert.Down (proj row)
open Cert.Up (act gateCol upCol lit)
open Cert.Kernel4.Down (colOf Sched eOf hOf fld)

/-- The body's activation of the two products with their biases, at an element. -/
theorem pay3_apply (x0 : Vec Ideal S256x2048 .f32) (g : Vec Ideal S1x2048x1024 .bf16) (x1 : Vec Ideal S1x1x1024 .f32) (u : Vec Ideal S1x2048x1024 .bf16)
    (x2 : Vec Ideal S1x1x1024 .f32) (r : Fin 256) (n : Fin 1024) :
    k0_pay3 (F := Ideal) x0 g x1 u x2 (ix2 r n)
      = act (proj (fun k => x0 (ix2 r k)) (fun k => g (ix3 0 k n)) (x1 (ix3 0 0 n))) (proj (fun k => x0 (ix2 r k)) (fun k => u (ix3 0 k n)) (x2 (ix3 0 0 n))) := by
  have h1 : lit 0x3F800000#32 = 1 := Ideal.ofBits_one_f32
  unfold proj act
  rw [h1]
  unfold lit
  pointwise [k0_pay3, Ideal.logistic]

/-- What a step writes, at an element: the activation of the row's two projections, or zero where the tile holds no row. -/
theorem outv_apply (x0 : Vec Ideal S256x2048 .f32) (x1 x2 : Vec Ideal S1x1x1024 .f32) (g u : Vec Ideal S1x2048x1024 .bf16) (v : BitVec 32) (r : Fin 256) (n : Fin 1024) :
    outv (F := Ideal) x0 x1 x2 g u v (ix2 r n) = if v = 0#32 then 0
      else act (proj (fun k => x0 (ix2 r k)) (fun k => g (ix3 0 k n)) (x1 (ix3 0 0 n))) (proj (fun k => x0 (ix2 r k)) (fun k => u (ix3 0 k n)) (x2 (ix3 0 0 n))) := by
  by_cases hv : v = 0#32
  · rw [if_pos hv, outv, if_neg (by subst hv; decide)]
    exact Ideal.ofBits_zero_bf16
  · have h4 : k0_cond4 v = 1#1 := by
      have e : (v != 0#32) = true := by simpa using hv
      show BitVec.ofBool (BitVec.setWidth 32 (BitVec.ofBool (v != 0#32)) != 0#32) = 1#1
      rw [e]; decide
    rw [if_neg hv, outv, if_pos h4, pay3_apply]

/-- Reshaping a block for the working copy keeps its elements. -/
theorem pay1_apply (x : Vec Ideal S1x1x2048x1024 .f32) (k : Fin 2048) (n : Fin 1024) : k0_pay1 (F := Ideal) x (ix3 0 k n) = x (ix4 0 0 k n) := by
  pointwise [k0_pay1]
theorem pay2_apply (x : Vec Ideal S1x1x2048x1024 .f32) (k : Fin 2048) (n : Fin 1024) : k0_pay2 (F := Ideal) x (ix3 0 k n) = x (ix4 0 0 k n) := by
  pointwise [k0_pay2]

theorem shape4_apply (x : S2048x1024.Idx → EReal) (h) (k : Fin 2048) (n : Fin 1024) : shapeCast S1x1x2048x1024 x h (ix4 0 0 k n) = x (ix2 k n) := by
  pointwise

theorem shape2_apply (x : S1x2048x1024.Idx → EReal) (h) (k : Fin 2048) (n : Fin 1024) : shapeCast S2048x1024 x h (ix2 k n) = x (ix3 0 k n) := by
  pointwise

/-- An element of a block of the weights: the blocks of part 0 are the gate's columns, those of part 1 the up projection's. -/
theorem block_apply (c : Dev nD) (W : WBuf (F := Ideal) c) (e : Fin 32) (h p : Fin 2) (k : Fin 2048) (n : Fin 1024) (q : Fin 4096)
    (hq : q.val = 2048 * p.val + 1024 * h.val + n.val) :
    ((blockM e h p).view.read (Elt Ideal) W : S2048x1024.Idx → EReal) (ix2 k n) = (W : S32x2048x4096.Idx → EReal) (ix3 e k q) := by
  have h1 : ((blockM e h p).view.read (Elt Ideal) W : S2048x1024.Idx → EReal)
      = shapeCast S2048x1024 (fun j : S1x2048x1024.Idx => (W : S32x2048x4096.Idx → EReal) ((Rect.unit (s := S32x2048x4096) (blockO e h p) S1x2048x1024.size (inb_block e h p)).emb j))
          (Shape.Squeezes.numel_eq squeezes_S1x2048x1024_S2048x1024) := rfl
  rw [h1, shape2_apply]
  refine congrArg _ (funext fun a => Fin.ext ?_)
  match a with
  | ⟨0, _⟩ => rw [Rect.emb_apply]; show e.val + 1 * 0 = e.val; omega
  | ⟨1, _⟩ => rw [Rect.emb_apply]; show 0 + 1 * k.val = k.val; omega
  | ⟨2, _⟩ => rw [Rect.emb_apply]; show 2048 * p.val + 1024 * h.val + 1 * n.val = q.val; omega

/-- Elements of the working copies made of two blocks of the weights. -/
theorem gate_apply (c : Dev nD) (W : WBuf (F := Ideal) c) (e : Fin 32) (h : Fin 2) (k : Fin 2048) (n : Fin 1024) :
    gateV (F := Ideal) c W e h (ix3 0 k n) = (W : S32x2048x4096.Idx → EReal) (ix3 e k (gateCol (colOf h n))) := by
  unfold gateV blockV
  rw [pay1_apply, shape4_apply, block_apply c W e h 0 k n (gateCol (colOf h n)) (by show h.val * 1024 + n.val = 2048 * 0 + 1024 * h.val + n.val; omega)]
theorem up_apply (c : Dev nD) (W : WBuf (F := Ideal) c) (e : Fin 32) (h : Fin 2) (k : Fin 2048) (n : Fin 1024) :
    upV (F := Ideal) c W e h (ix3 0 k n) = (W : S32x2048x4096.Idx → EReal) (ix3 e k (upCol (colOf h n))) := by
  unfold upV blockV
  rw [pay2_apply, shape4_apply, block_apply c W e h 1 k n (upCol (colOf h n)) (by show 2048 + (h.val * 1024 + n.val) = 2048 * 1 + 1024 * h.val + n.val; omega)]

section Run
variable (m : (ℓ : Loc nD τ sig) → Buf (Elt Ideal) ℓ) (S : Sched (tS (F := Ideal) m 0) (tE (F := Ideal) m 0)) (c : Dev nD)

/-- The tile and the half of the columns of a step. -/
abbrev tileAt (t : Fin (cfgA (F := Ideal) m S).N) : Fin 168 := ⟨t.val % 168, by omega⟩
theorem lt_N (t : Fin (cfgA (F := Ideal) m S).N) : t.val < 336 := lt336 t
abbrev halfAt (t : Fin (cfgA (F := Ideal) m S).N) : Fin 2 := ⟨t.val / 168, by have := lt_N m S t; omega⟩

theorem pos0 : ∀ t : Fin grid0.N, cc0_transform_0 (grid0.coords t) 0 = t.val % 168 ∧ cc0_transform_0 (grid0.coords t) 1 = 0 := by decide +kernel
theorem pos3 : ∀ t : Fin grid0.N, cc0_transform_4 (grid0.coords t) 0 = t.val % 168 ∧ cc0_transform_4 (grid0.coords t) 1 = t.val / 168 := by decide +kernel

/-- The rows a step finds. -/
theorem blk0 (t : Fin (cfgA (F := Ideal) m S).N) (r : Fin 256) (k : Fin 2048) :
    (iblk (F := Ideal) m S c (0 : Fin 4) t : Vec Ideal S256x2048 .f32) (ix2 r k)
      = (m ((c : Thread nD τ).loc main_arg0) : S43008x2048.Idx → EReal) (ix2 (row (tileAt m S t) r) k) := by
  show (m ((c : Thread nD τ).loc main_arg0) : S43008x2048.Idx → EReal) ((((cfgA (F := Ideal) m S).win (0 : Fin 4)).rect t).emb (ix2 r k)) = _
  refine congrArg _ (funext fun b => Fin.ext ?_)
  match b with
  | ⟨0, _⟩ =>
    refine (((cfgA (F := Ideal) m S).win (0 : Fin 4)).rect_emb_val t (ix2 r k) 0).trans ?_
    show cc0_transform_0 (grid0.coords t) 0 * 256 + r.val = t.val % 168 * 256 + r.val
    rw [(pos0 t).1]
  | ⟨1, _⟩ =>
    refine (((cfgA (F := Ideal) m S).win (0 : Fin 4)).rect_emb_val t (ix2 r k) 1).trans ?_
    show cc0_transform_0 (grid0.coords t) 1 * 2048 + k.val = k.val
    rw [(pos0 t).2]; omega

/-- The expert of a step, as the schedule names it. -/
theorem expert_val (t : Fin (cfgA (F := Ideal) m S).N) : (fld (tS (F := Ideal) m 0) t.val 2).toNat = (eOf (tS (F := Ideal) m 0) t.val).val := by
  have h := (S.expert t.val (lt_N m S t)).2
  unfold eOf
  show _ = (fld (tS (F := Ideal) m 0) t.val 2).toNat % 32
  omega

/-- The gate's bias a step finds. -/
theorem blk1 (t : Fin (cfgA (F := Ideal) m S).N) (n : Fin 1024) :
    (iblk (F := Ideal) m S c (1 : Fin 4) t : Vec Ideal S1x1x1024 .f32) (ix3 0 0 n)
      = (m ((c : Thread nD τ).loc main_arg5) : S32x1x4096.Idx → EReal) (ix3 (eOf (tS (F := Ideal) m 0) t.val) 0 (gateCol (colOf (halfAt m S t) n))) := by
  have e1 := tr1_eq (F := Ideal) m (grid0.coords t)
  have hs : (grid0.coords t 0).val * 168 + (grid0.coords t 1).val = t.val := by rw [coords_0 t, coords_1 t]; omega
  rw [hs, expert_val m S t, coords_0 t] at e1
  show (m ((c : Thread nD τ).loc main_arg5) : S32x1x4096.Idx → EReal) ((((cfgA (F := Ideal) m S).win (1 : Fin 4)).rect t).emb (ix3 0 0 n)) = _
  refine congrArg _ (funext fun b => Fin.ext ?_)
  match b with
  | ⟨0, _⟩ =>
    refine (((cfgA (F := Ideal) m S).win (1 : Fin 4)).rect_emb_val t (ix3 0 0 n) 0).trans ?_
    show cc0_transform_1 k0_off1_inb numel1_S1 (pf (F := Ideal) m) (grid0.coords t) 0 * 1 + 0 = (eOf (tS (F := Ideal) m 0) t.val).val
    rw [e1]; show (eOf (tS (F := Ideal) m 0) t.val).val * 1 + 0 = _; omega
  | ⟨1, _⟩ =>
    refine (((cfgA (F := Ideal) m S).win (1 : Fin 4)).rect_emb_val t (ix3 0 0 n) 1).trans ?_
    show cc0_transform_1 k0_off1_inb numel1_S1 (pf (F := Ideal) m) (grid0.coords t) 1 * 1 + 0 = 0
    rw [e1]; rfl
  | ⟨2, _⟩ =>
    refine (((cfgA (F := Ideal) m S).win (1 : Fin 4)).rect_emb_val t (ix3 0 0 n) 2).trans ?_
    show cc0_transform_1 k0_off1_inb numel1_S1 (pf (F := Ideal) m) (grid0.coords t) 2 * 1024 + n.val = t.val / 168 * 1024 + n.val
    rw [e1]; rfl

/-- The up projection's bias a step finds. -/
theorem blk2 (t : Fin (cfgA (F := Ideal) m S).N) (n : Fin 1024) :
    (iblk (F := Ideal) m S c (2 : Fin 4) t : Vec Ideal S1x1x1024 .f32) (ix3 0 0 n)
      = (m ((c : Thread nD τ).loc main_arg5) : S32x1x4096.Idx → EReal) (ix3 (eOf (tS (F := Ideal) m 0) t.val) 0 (upCol (colOf (halfAt m S t) n))) := by
  have e1 := tr2_eq (F := Ideal) m (grid0.coords t)
  have hs : (grid0.coords t 0).val * 168 + (grid0.coords t 1).val = t.val := by rw [coords_0 t, coords_1 t]; omega
  rw [hs, expert_val m S t, coords_0 t] at e1
  show (m ((c : Thread nD τ).loc main_arg5) : S32x1x4096.Idx → EReal) ((((cfgA (F := Ideal) m S).win (2 : Fin 4)).rect t).emb (ix3 0 0 n)) = _
  refine congrArg _ (funext fun b => Fin.ext ?_)
  match b with
  | ⟨0, _⟩ =>
    refine (((cfgA (F := Ideal) m S).win (2 : Fin 4)).rect_emb_val t (ix3 0 0 n) 0).trans ?_
    show cc0_transform_2 k0_off1_inb numel1_S1 (pf (F := Ideal) m) (grid0.coords t) 0 * 1 + 0 = (eOf (tS (F := Ideal) m 0) t.val).val
    rw [e1]; show (eOf (tS (F := Ideal) m 0) t.val).val * 1 + 0 = _; omega
  | ⟨1, _⟩ =>
    refine (((cfgA (F := Ideal) m S).win (2 : Fin 4)).rect_emb_val t (ix3 0 0 n) 1).trans ?_
    show cc0_transform_2 k0_off1_inb numel1_S1 (pf (F := Ideal) m) (grid0.coords t) 1 * 1 + 0 = 0
    rw [e1]; rfl
  | ⟨2, _⟩ =>
    refine (((cfgA (F := Ideal) m S).win (2 : Fin 4)).rect_emb_val t (ix3 0 0 n) 2).trans ?_
    show cc0_transform_2 k0_off1_inb numel1_S1 (pf (F := Ideal) m) (grid0.coords t) 2 * 1024 + n.val = 2048 + (t.val / 168 * 1024 + n.val)
    rw [e1]; show (2 + t.val / 168) * 1024 + n.val = _; omega

/-- The half of the columns the schedule names at a step is the step's. -/
theorem half_eq (t : Fin (cfgA (F := Ideal) m S).N) : hOf (tS (F := Ideal) m 0) t.val = halfAt m S t := by
  have ht := lt_N m S t
  have hc := S.col t.val ht
  unfold hOf
  refine Fin.ext ?_
  show _ = t.val / 168
  by_cases q : t.val < 168
  · rw [if_pos (by rw [hc, if_pos q]), Nat.div_eq_of_lt q]; rfl
  · rw [if_neg (by rw [hc, if_neg q]; decide)]
    show 1 = _; omega

/-- What a step writes, at an element. -/
theorem tile_apply (t : Fin (cfgA (F := Ideal) m S).N) (r : Fin 256) (n : Fin 1024) :
    tileV (F := Ideal) m S c t (ix2 r n)
      = if (tV (F := Ideal) m 0) (ix1 (tileAt m S t)) = 0#32 then 0
        else act
          (proj (fun k => (m ((c : Thread nD τ).loc main_arg0) : S43008x2048.Idx → EReal) (ix2 (row (tileAt m S t) r) k))
            (fun k => (m ((c : Thread nD τ).loc main_arg4) : S32x2048x4096.Idx → EReal) (ix3 (eOf (tS (F := Ideal) m 0) t.val) k (gateCol (colOf (halfAt m S t) n))))
            ((m ((c : Thread nD τ).loc main_arg5) : S32x1x4096.Idx → EReal) (ix3 (eOf (tS (F := Ideal) m 0) t.val) 0 (gateCol (colOf (halfAt m S t) n)))))
          (proj (fun k => (m ((c : Thread nD τ).loc main_arg0) : S43008x2048.Idx → EReal) (ix2 (row (tileAt m S t) r) k))
            (fun k => (m ((c : Thread nD τ).loc main_arg4) : S32x2048x4096.Idx → EReal) (ix3 (eOf (tS (F := Ideal) m 0) t.val) k (upCol (colOf (halfAt m S t) n))))
            ((m ((c : Thread nD τ).loc main_arg5) : S32x1x4096.Idx → EReal) (ix3 (eOf (tS (F := Ideal) m 0) t.val) 0 (upCol (colOf (halfAt m S t) n))))) := by
  have hv : readV (F := Ideal) (tV (F := Ideal) m 0) (k0_off21 (grid0.coords t)) (k0_off21_inb (grid0.coords t)) = (tV (F := Ideal) m 0) (ix1 (tileAt m S t)) := by
    refine (readV_word _ _ _ (t.val % 168) (by omega) (off_21 t)).trans ?_
    refine congrArg (fun x : Fin 168 => (tV (F := Ideal) m 0) (ix1 x)) (Fin.ext ?_)
    show t.val % 168 % 168 = t.val % 168; omega
  unfold tileV
  rw [outv_apply, hv, half_eq m S t, blk1, blk2]
  simp only [blk0, gate_apply, up_apply]
  rfl

end Run

end Cert.Kernel5.Up

end
-- ==== Proof.UpFinal.lean ====
/-
The gate and up projections' result array after the run, and that it is the reference's.
-/
module

public import proofs.«01_k».proof.Proof.UpTile
public import proofs.«01_k».proof.Defs
public import proofs.«01_k».proof.Proof.Gen.Pre_scheduled_up
public import Idealize.ShloMosaic.Lib.Pipeline.Value

@[expose] public section

set_option maxRecDepth 20000

noncomputable section

namespace Cert.Kernel5.Up

open Cert.Kernel5 Cert.Kernel5.Gen Idealize.ShloMosaic Idealize.ShloMosaic.TcCoe Idealize.SL.Sem
open Cert.Down (proj row)
open Cert.Up (act gateCol upCol)
open Cert.Kernel4.Down (colOf Sched eOf hOf fld)

section Run
variable (m : (ℓ : Loc nD τ sig) → Buf (Elt Ideal) ℓ) (S : Sched (tS (F := Ideal) m 0) (tE (F := Ideal) m 0)) (c : Dev nD)

/-- The arguments the run finds: the rows, the tiles' experts, which tiles hold rows, the experts' matrices and biases. -/
abbrev rowsArg : S43008x2048.Idx → EReal := m ((c : Thread nD τ).loc main_arg0)
abbrev matArg : S32x2048x4096.Idx → EReal := m ((c : Thread nD τ).loc main_arg4)
abbrev biasArg : S32x1x4096.Idx → EReal := m ((c : Thread nD τ).loc main_arg5)

/-- The block of an array of the result's shape that a step's window reads. -/
theorem readOut (G : S43008x2048.Idx → EReal) (t : Fin (cfgA (F := Ideal) m S).N) (r : Fin 256) (n : Fin 1024) :
    ((((cfgA (F := Ideal) m S).win (3 : Fin 4)).blk t).view.read (Elt Ideal) G : S256x1024.Idx → EReal) (ix2 r n) = G (ix2 (row (tileAt m S t) r) (colOf (halfAt m S t) n)) := by
  show G ((((cfgA (F := Ideal) m S).win (3 : Fin 4)).rect t).emb (ix2 r n)) = _
  refine congrArg G (funext fun b => Fin.ext ?_)
  match b with
  | ⟨0, _⟩ =>
    refine (((cfgA (F := Ideal) m S).win (3 : Fin 4)).rect_emb_val t (ix2 r n) 0).trans ?_
    show cc0_transform_4 (grid0.coords t) 0 * 256 + r.val = t.val % 168 * 256 + r.val
    rw [(pos3 t).1]
  | ⟨1, _⟩ =>
    refine (((cfgA (F := Ideal) m S).win (3 : Fin 4)).rect_emb_val t (ix2 r n) 1).trans ?_
    show cc0_transform_4 (grid0.coords t) 1 * 1024 + n.val = t.val / 168 * 1024 + n.val
    rw [(pos3 t).2]

/-- An array holds the experts' activations: at every row of every tile the activation of the row's gate and up projections by the
    tile's expert, or zero where the
    tile holds no row. -/
def Holds (G : S43008x2048.Idx → EReal) : Prop :=
  ∀ (t : Fin 168) (r : Fin 256) (n : Fin 2048) (e : Fin 32), (tE (F := Ideal) m 0) (ix1 t) = BitVec.ofNat 32 e.val →
    G (ix2 (row t r) n) = if (tV (F := Ideal) m 0) (ix1 t) = 0#32 then 0 else act (proj (fun k => rowsArg m c (ix2 (row t r) k)) (fun k => matArg m c (ix3 e k (gateCol n))) (biasArg m c (ix3 e 0 (gateCol n))))
        (proj (fun k => rowsArg m c (ix2 (row t r) k)) (fun k => matArg m c (ix3 e k (upCol n))) (biasArg m c (ix3 e 0 (upCol n))))

/-- The expert of a step is the expert of its tile. -/
theorem tile_expert (t : Fin (cfgA (F := Ideal) m S).N) : (tE (F := Ideal) m 0) (ix1 (tileAt m S t)) = BitVec.ofNat 32 (eOf (tS (F := Ideal) m 0) t.val).val := by
  have h := lt_N m S t
  refine Eq.trans ?_ (((S.expert t.val h).1.symm).trans (S.e_word t.val h))
  exact congrArg (fun x : Fin 168 => (tE (F := Ideal) m 0) (ix1 x)) (Fin.ext rfl)

/-- What a step writes back is its block of any array that holds the experts' activations. -/
theorem written (G : S43008x2048.Idx → EReal) (hG : Holds m c G) (t : Fin (cfgA (F := Ideal) m S).N) :
    (dats (F := Ideal) m S 0 c).flushed (3 : Fin 4) t = (((cfgA (F := Ideal) m S).win (3 : Fin 4)).blk t).view.read (Elt Ideal) G := by
  have e : (dats (F := Ideal) m S 0 c).flushed (3 : Fin 4) t = tileV (F := Ideal) m S c t := by
    show ((cfgA (F := Ideal) m S).win (3 : Fin 4)).cut (grid0.coords t) ((dats (F := Ideal) m S 0 c).after (3 : Fin 4) t) = _
    rw [after3]; rfl
  rw [e]
  refine funext fun y => ?_
  obtain ⟨r, n, rfl⟩ : ∃ (r : Fin 256) (n : Fin 1024), y = (ix2 r n : S256x1024.Idx) := ⟨y 0, y 1, funext fun a => by match a with | ⟨0, _⟩ => rfl | ⟨1, _⟩ => rfl⟩
  refine Eq.trans ?_ (readOut m S G t r n).symm
  rw [hG _ _ _ (eOf (tS (F := Ideal) m 0) t.val) (tile_expert m S t)]
  exact tile_apply m S c t r n

/-- Every step writes its block back. -/
theorem flush3 (t : Fin (cfgA (F := Ideal) m S).N) : ((cfgA (F := Ideal) m S).win (3 : Fin 4)).flush t = true := by
  have h : ((cfgA (F := Ideal) m S).win (3 : Fin 4)).flush t = Pipeline.Window.flushOf grid0 true cc0_transform_4 t := rfl
  rw [h]
  unfold Pipeline.Window.flushOf
  rw [Bool.true_and, Bool.or_eq_true, decide_eq_true_eq, decide_eq_true_eq]
  by_cases q : t.val + 1 = grid0.N
  · exact Or.inl q
  · have hl : t.val + 1 < grid0.N := lt_of_le_of_ne t.isLt q
    refine Or.inr ⟨hl, fun e => ?_⟩
    have e0 := congrFun e 0
    rw [(pos3 ⟨t.val + 1, hl⟩).1, (pos3 t).1] at e0
    have : (t.val + 1) % 168 = t.val % 168 := e0
    omega

/-- The blocks cover the result array. -/
theorem cover (i : S43008x2048.Idx) : ∃ t : Fin (cfgA (F := Ideal) m S).N, ((cfgA (F := Ideal) m S).win (3 : Fin 4)).flush t = true
    ∧ i ∈ (((cfgA (F := Ideal) m S).win (3 : Fin 4)).blk t).view.set := by
  have h0 : (i 0 : Nat) < 43008 := (i 0).isLt
  have h1 : (i 1 : Nat) < 2048 := (i 1).isLt
  obtain ⟨t, et⟩ : ∃ t : Fin grid0.N, t.val = (i 1 : Nat) / 1024 * 168 + (i 0 : Nat) / 256 :=
    ⟨⟨(i 1 : Nat) / 1024 * 168 + (i 0 : Nat) / 256, by rw [N_0]; omega⟩, rfl⟩
  refine ⟨t, flush3 m S t, ?_⟩
  show i ∈ ((View.whole main_v0).slice (((cfgA (F := Ideal) m S).win (3 : Fin 4)).rect t)).set
  rw [View.set_slice_whole, Rect.mem_set_unit]
  intro a
  match a with
  | ⟨0, _⟩ =>
    show cc0_transform_4 (grid0.coords t) 0 * 256 ≤ (i 0 : Nat) ∧ (i 0 : Nat) < cc0_transform_4 (grid0.coords t) 0 * 256 + 256
    rw [(pos3 t).1]; omega
  | ⟨1, _⟩ =>
    show cc0_transform_4 (grid0.coords t) 1 * 1024 ≤ (i 1 : Nat) ∧ (i 1 : Nat) < cc0_transform_4 (grid0.coords t) 1 * 1024 + 1024
    rw [(pos3 t).2]; omega

/-- The result array after the run is any array that holds the experts' activations. -/
theorem final (G : S43008x2048.Idx → EReal) (hG : Holds m c G) :
    (dats (F := Ideal) m S 0 c).arrAt (3 : Fin 4) (cfgA (F := Ideal) m S).N = G :=
  (dats (F := Ideal) m S 0 c).arrAt_eq_of_cover (3 : Fin 4) G (fun t _ => written m S c G hG t) (cover m S)

end Run

/-- The reference's array holds the experts' activations. -/
theorem ref_holds (m : (ℓ : Loc nD τ sig) → Buf (Elt Ideal) ℓ) (c : Dev nD) :
    Holds m c (Cert.Reference5Ideal.Read.val_main_v42 (F := Ideal) (rowsArg m c) (tE (F := Ideal) m c) (tV (F := Ideal) m c) (matArg m c) (biasArg m c)) := by
  obtain rfl : c = 0 := Subsingleton.elim (α := Fin 1) c 0
  exact fun t r n e he => Cert.Up.ref_up (rowsArg m 0) (tE (F := Ideal) m 0) (tV (F := Ideal) m 0) (matArg m 0) (biasArg m 0) t r n e he

/-- The gate and up projection call computes the reference's array. -/
theorem agrees : Cert.algebraic_Kernel5Ideal_Reference5Ideal := by
  intro m g m' g' hpre hm
  have S : Sched (tS (F := Ideal) m 0) (tE (F := Ideal) m 0) := sched_of _ _ _ _ _ _ (hpre 0)
  refine ⟨fun c => Cert.Reference5Ideal.Read.val_main_v42 (F := Ideal) (rowsArg m c) (tE (F := Ideal) m c) (tV (F := Ideal) m c) (matArg m c) (biasArg m c), ?_, ?_⟩
  · exact (θ_run Cert.Kernel5Ideal.defs _ _).mono (fun r h c => ⟨(h.1 c).2.trans (final m S c _ (ref_holds m c)), (h.1 c).1⟩) (Cert.Kernel5Ideal.Up.run_values m g S)
  · refine (θ_run Cert.Reference5Ideal.defs _ _).mono (fun r h c => ?_) (Cert.Reference5Ideal.Value.run m' g')
    obtain ⟨a0, rest⟩ := h c
    obtain ⟨e0, _, e2, e3, e4, e5⟩ := hm c
    refine ⟨a0.trans ?_, rest⟩
    rw [Cert.Reference5Ideal.Read.val_main_v42_eq, e0, e2, e3, e4, e5]

end Cert.Kernel5.Up

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Pre_scheduled
public import proofs.«01_k».proof.Proof.Gen.Kernel4.Skeleton
public import proofs.«01_k».proof.Proof.Gen.Kernel4.Launch
public import proofs.«01_k».proof.Proof.Gen.Kernel4Ideal.Skeleton
public import proofs.«01_k».proof.Proof.Gen.Kernel4Ideal.Launch
public import proofs.«01_k».proof.Proof.Gen.Reference4Ideal.Run
public import proofs.«01_k».proof.Proof.Gen.Reference4Ideal.Read
public import proofs.«01_k».proof.Proof.Gen.Pre_scheduled_up
public import proofs.«01_k».proof.Proof.Gen.Kernel5.Skeleton
public import proofs.«01_k».proof.Proof.Gen.Kernel5.Launch
public import proofs.«01_k».proof.Proof.Gen.Kernel5Ideal.Skeleton
public import proofs.«01_k».proof.Proof.Gen.Kernel5Ideal.Launch
public import proofs.«01_k».proof.Proof.Gen.Reference5Ideal.Run
public import proofs.«01_k».proof.Proof.Gen.Reference5Ideal.Read
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Adequacy
public import proofs.«01_k».proof.Proof.Final
public import proofs.«01_k».proof.Proof.ProjFinal
public import proofs.«01_k».proof.Proof.MergeFinal
public import proofs.«01_k».proof.Proof.DownFinal
public import proofs.«01_k».proof.Proof.UpFinal
public import Idealize.ShloMosaic.Lib.Quiescent
public import Idealize.ShloMosaic.Init

@[expose] public section

noncomputable section

namespace Cert.Proof

open Idealize.ShloMosaic Idealize.SL.Sem Cert.Kernel

/-- The claims about the prompt attention, about the projections, about the merge of the branches and about the experts' down and up projections. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_scheduled.Gen.facts, Cert.Pre_scheduled_up.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2.2.2.2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2.2.2.2.2.2.2.2.2.2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2, sem_eq_zero_of_no_sems (by decide) r.2⟩) (Cert.Reference3Ideal.Value.run m ρ),
  fun m ρ h => Cert.Kernel4.Down.frame m ρ (Cert.Kernel4.Down.sched_of _ _ _ _ _ _ (h 0)),
  fun m ρ h => (θ_run Cert.Kernel4Ideal.defs _ _).mono (fun _ h => ⟨fun c => (h.1 c).1, h.2⟩)
    (Cert.Kernel4Ideal.Down.run_values m ρ (Cert.Kernel4.Down.sched_of _ _ _ _ _ _ (h 0))),
  fun m ρ _ => (θ_run Cert.Reference4Ideal.defs _ _).mono
    (fun r h => ⟨fun c => (h c).2, sem_eq_zero_of_no_sems (by decide) r.2⟩) (Cert.Reference4Ideal.Value.run m ρ),
  fun m ρ _ => (θ_run Cert.Reference4Ideal.defs _ _).mono
    (fun r h => ⟨fun c => (h c).2, sem_eq_zero_of_no_sems (by decide) r.2⟩) (Cert.Reference4Ideal.Value.run m ρ),
  fun m ρ h => Cert.Kernel5.Up.frame m ρ (Cert.Kernel5.Up.sched_of _ _ _ _ _ _ (h 0)),
  fun m ρ h => (θ_run Cert.Kernel5Ideal.defs _ _).mono (fun _ h => ⟨fun c => (h.1 c).1, h.2⟩)
    (Cert.Kernel5Ideal.Up.run_values m ρ (Cert.Kernel5.Up.sched_of _ _ _ _ _ _ (h 0))),
  fun m ρ _ => (θ_run Cert.Reference5Ideal.defs _ _).mono
    (fun r h => ⟨fun c => (h c).2, sem_eq_zero_of_no_sems (by decide) r.2⟩) (Cert.Reference5Ideal.Value.run m ρ),
  fun m ρ _ => (θ_run Cert.Reference5Ideal.defs _ _).mono
    (fun r h => ⟨fun c => (h c).2, sem_eq_zero_of_no_sems (by decide) r.2⟩) (Cert.Reference5Ideal.Value.run m ρ),
  IdealRules.named_const.statement Cert.KernelIdeal.κ "mask" .f32 0xF149F2CA#32 ⊥ rfl,
  Cert.Att.agrees,
  trivial,
  Cert.Proj.agrees,
  trivial,
  Cert.Merge.agrees,
  trivial,
  Cert.Kernel4.Down.agrees,
  trivial,
  Cert.Kernel5.Up.agrees⟩

end Cert.Proof

end
